-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixDwKernel (m : (ℓ : Loc Cert.MixDwKernel.nD Cert.MixDwKernel.τ Cert.MixDwKernel.sig) → Buf (Elt Bits) ℓ) : Prop :=
  True

def Pre_MixDwKernelIdeal (m : (ℓ : Loc Cert.MixDwKernelIdeal.nD Cert.MixDwKernelIdeal.τ Cert.MixDwKernelIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_MlaDxKernel (m : (ℓ : Loc Cert.MlaDxKernel.nD Cert.MlaDxKernel.τ Cert.MlaDxKernel.sig) → Buf (Elt Bits) ℓ) : Prop :=
  True

def Pre_MlaDxKernelIdeal (m : (ℓ : Loc Cert.MlaDxKernelIdeal.nD Cert.MlaDxKernelIdeal.τ Cert.MlaDxKernelIdeal.sig) → Buf (Elt Ideal) ℓ) : Prop :=
  True

def Pre_MlaDxReferenceIdeal (m : (ℓ : Loc Cert.MlaDxReferenceIdeal.nD Cert.MlaDxReferenceIdeal.τ Cert.MlaDxReferenceIdeal.sig) → Buf (Elt Ideal) ℓ) : Prop :=
  True

def Pre_HybDxKernel (m : (ℓ : Loc Cert.HybDxKernel.nD Cert.HybDxKernel.τ Cert.HybDxKernel.sig) → Buf (Elt Bits) ℓ) : Prop :=
  True

def Pre_HybDxKernelIdeal (m : (ℓ : Loc Cert.HybDxKernelIdeal.nD Cert.HybDxKernelIdeal.τ Cert.HybDxKernelIdeal.sig) → Buf (Elt Ideal) ℓ) : Prop :=
  True

def Pre_HybDxReferenceIdeal (m : (ℓ : Loc Cert.HybDxReferenceIdeal.nD Cert.HybDxReferenceIdeal.τ Cert.HybDxReferenceIdeal.sig) → Buf (Elt Ideal) ℓ) : Prop :=
  True

def Pre_HybKernel (m : (ℓ : Loc Cert.HybKernel.nD Cert.HybKernel.τ Cert.HybKernel.sig) → Buf (Elt Bits) ℓ) : Prop :=
  True

def Pre_HybKernelIdeal (m : (ℓ : Loc Cert.HybKernelIdeal.nD Cert.HybKernelIdeal.τ Cert.HybKernelIdeal.sig) → Buf (Elt Ideal) ℓ) : Prop :=
  True

def Pre_HybReferenceIdeal (m : (ℓ : Loc Cert.HybReferenceIdeal.nD Cert.HybReferenceIdeal.τ Cert.HybReferenceIdeal.sig) → Buf (Elt Ideal) ℓ) : Prop :=
  True

def Pre_HybDwKernel (m : (ℓ : Loc Cert.HybDwKernel.nD Cert.HybDwKernel.τ Cert.HybDwKernel.sig) → Buf (Elt Bits) ℓ) : Prop :=
  True

def Pre_HybDwKernelIdeal (m : (ℓ : Loc Cert.HybDwKernelIdeal.nD Cert.HybDwKernelIdeal.τ Cert.HybDwKernelIdeal.sig) → Buf (Elt Ideal) ℓ) : Prop :=
  True

def Pre_HybDwReferenceIdeal (m : (ℓ : Loc Cert.HybDwReferenceIdeal.nD Cert.HybDwReferenceIdeal.τ Cert.HybDwReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxKernelIdeal_dx_finite [hPre_dx_finite : Cert.Pre_dx_finite.Facts] (m : (ℓ : Loc Cert.DxKernelIdeal.nD Cert.DxKernelIdeal.τ Cert.DxKernelIdeal.sig) → Buf (Elt Ideal) ℓ) : Prop :=
  ∀ c : Dev Cert.DxKernelIdeal.nD,
    (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4)) (m ((c.tc : Thread Cert.DxKernelIdeal.nD Cert.DxKernelIdeal.τ).loc Cert.DxKernelIdeal.main_arg5))) = (fun _ => 1#1)

def Pre_DxReferenceIdeal (m : (ℓ : Loc Cert.DxReferenceIdeal.nD Cert.DxReferenceIdeal.τ Cert.DxReferenceIdeal.sig) → Buf (Elt Ideal) ℓ) : Prop :=
  True

def Pre_DxReferenceIdeal_dx_finite [hPre_dx_finite : Cert.Pre_dx_finite.Facts] (m : (ℓ : Loc Cert.DxReferenceIdeal.nD Cert.DxReferenceIdeal.τ Cert.DxReferenceIdeal.sig) → Buf (Elt Ideal) ℓ) : Prop :=
  ∀ c : Dev Cert.DxReferenceIdeal.nD,
    (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4)) (m ((c.tc : Thread Cert.DxReferenceIdeal.nD Cert.DxReferenceIdeal.τ).loc Cert.DxReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_MixDwKernel [hMixDwKernel : Cert.MixDwKernel.Facts] : Prop :=
  ∀ (m : (ℓ : Loc Cert.MixDwKernel.nD Cert.MixDwKernel.τ Cert.MixDwKernel.sig) → Buf (Elt Bits) ℓ) (g : Dev Cert.MixDwKernel.nD → PrngReg), Pre_MixDwKernel m →
    θ_run (Cert.MixDwKernel.defs (F := Bits)) (onTc (τ := Cert.MixDwKernel.τ) (Cert.MixDwKernel.main (F := Bits))) ⟨m, fun _ => 0, g⟩ (fun r => (∀ c : Dev Cert.MixDwKernel.nD,
      r.2.mem ((c.tc : Thread Cert.MixDwKernel.nD Cert.MixDwKernel.τ).loc Cert.MixDwKernel.main_arg0) = m ((c.tc : Thread Cert.MixDwKernel.nD Cert.MixDwKernel.τ).loc Cert.MixDwKernel.main_arg0)
      ∧ r.2.mem ((c.tc : Thread Cert.MixDwKernel.nD Cert.MixDwKernel.τ).loc Cert.MixDwKernel.main_arg1) = m ((c.tc : Thread Cert.MixDwKernel.nD Cert.MixDwKernel.τ).loc Cert.MixDwKernel.main_arg1))
      ∧ r.2.sem = fun _ => 0)

def quiescent_MixDwKernelIdeal [hMixDwKernelIdeal : Cert.MixDwKernelIdeal.Facts] : Prop :=
  ∀ (m : (ℓ : Loc Cert.MixDwKernelIdeal.nD Cert.MixDwKernelIdeal.τ Cert.MixDwKernelIdeal.sig) → Buf (Elt Ideal) ℓ) (g : Dev Cert.MixDwKernelIdeal.nD → PrngReg), Pre_MixDwKernelIdeal m →
    θ_run (Cert.MixDwKernelIdeal.defs (F := Ideal)) (onTc (τ := Cert.MixDwKernelIdeal.τ) (Cert.MixDwKernelIdeal.main (F := Ideal))) ⟨m, fun _ => 0, g⟩ (fun r => (∀ c : Dev Cert.MixDwKernelIdeal.nD,
      r.2.mem ((c.tc : Thread Cert.MixDwKernelIdeal.nD Cert.MixDwKernelIdeal.τ).loc Cert.MixDwKernelIdeal.main_arg0) = m ((c.tc : Thread Cert.MixDwKernelIdeal.nD Cert.MixDwKernelIdeal.τ).loc Cert.MixDwKernelIdeal.main_arg0)
      ∧ r.2.mem ((c.tc : Thread Cert.MixDwKernelIdeal.nD Cert.MixDwKernelIdeal.τ).loc Cert.MixDwKernelIdeal.main_arg1) = m ((c.tc : Thread Cert.MixDwKernelIdeal.nD Cert.MixDwKernelIdeal.τ).loc Cert.MixDwKernelIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_MlaDxKernel [hMlaDxKernel : Cert.MlaDxKernel.Facts] : Prop :=
  ∀ (m : (ℓ : Loc Cert.MlaDxKernel.nD Cert.MlaDxKernel.τ Cert.MlaDxKernel.sig) → Buf (Elt Bits) ℓ) (g : Dev Cert.MlaDxKernel.nD → PrngReg), Pre_MlaDxKernel m →
    θ_run (Cert.MlaDxKernel.defs (F := Bits)) (onTc (τ := Cert.MlaDxKernel.τ) (Cert.MlaDxKernel.main (F := Bits))) ⟨m, fun _ => 0, g⟩ (fun r => (∀ c : Dev Cert.MlaDxKernel.nD,
      r.2.mem ((c.tc : Thread Cert.MlaDxKernel.nD Cert.MlaDxKernel.τ).loc Cert.MlaDxKernel.main_arg0) = m ((c.tc : Thread Cert.MlaDxKernel.nD Cert.MlaDxKernel.τ).loc Cert.MlaDxKernel.main_arg0)
      ∧ r.2.mem ((c.tc : Thread Cert.MlaDxKernel.nD Cert.MlaDxKernel.τ).loc Cert.MlaDxKernel.main_arg1) = m ((c.tc : Thread Cert.MlaDxKernel.nD Cert.MlaDxKernel.τ).loc Cert.MlaDxKernel.main_arg1))
      ∧ r.2.sem = fun _ => 0)

def quiescent_MlaDxKernelIdeal [hMlaDxKernelIdeal : Cert.MlaDxKernelIdeal.Facts] : Prop :=
  ∀ (m : (ℓ : Loc Cert.MlaDxKernelIdeal.nD Cert.MlaDxKernelIdeal.τ Cert.MlaDxKernelIdeal.sig) → Buf (Elt Ideal) ℓ) (g : Dev Cert.MlaDxKernelIdeal.nD → PrngReg), Pre_MlaDxKernelIdeal m →
    θ_run (Cert.MlaDxKernelIdeal.defs (F := Ideal)) (onTc (τ := Cert.MlaDxKernelIdeal.τ) (Cert.MlaDxKernelIdeal.main (F := Ideal))) ⟨m, fun _ => 0, g⟩ (fun r => (∀ c : Dev Cert.MlaDxKernelIdeal.nD,
      r.2.mem ((c.tc : Thread Cert.MlaDxKernelIdeal.nD Cert.MlaDxKernelIdeal.τ).loc Cert.MlaDxKernelIdeal.main_arg0) = m ((c.tc : Thread Cert.MlaDxKernelIdeal.nD Cert.MlaDxKernelIdeal.τ).loc Cert.MlaDxKernelIdeal.main_arg0)
      ∧ r.2.mem ((c.tc : Thread Cert.MlaDxKernelIdeal.nD Cert.MlaDxKernelIdeal.τ).loc Cert.MlaDxKernelIdeal.main_arg1) = m ((c.tc : Thread Cert.MlaDxKernelIdeal.nD Cert.MlaDxKernelIdeal.τ).loc Cert.MlaDxKernelIdeal.main_arg1))
      ∧ r.2.sem = fun _ => 0)

def quiescent_MlaDxReferenceIdeal [hMlaDxReferenceIdeal : Cert.MlaDxReferenceIdeal.Facts] : Prop :=
  ∀ (m : (ℓ : Loc Cert.MlaDxReferenceIdeal.nD Cert.MlaDxReferenceIdeal.τ Cert.MlaDxReferenceIdeal.sig) → Buf (Elt Ideal) ℓ) (g : Dev Cert.MlaDxReferenceIdeal.nD → PrngReg), Pre_MlaDxReferenceIdeal m →
    θ_run (Cert.MlaDxReferenceIdeal.defs (F := Ideal)) (onTc (τ := Cert.MlaDxReferenceIdeal.τ) (Cert.MlaDxReferenceIdeal.main (F := Ideal))) ⟨m, fun _ => 0, g⟩ (fun r => (∀ c : Dev Cert.MlaDxReferenceIdeal.nD,
      r.2.mem ((c.tc : Thread Cert.MlaDxReferenceIdeal.nD Cert.MlaDxReferenceIdeal.τ).loc Cert.MlaDxReferenceIdeal.main_arg0) = m ((c.tc : Thread Cert.MlaDxReferenceIdeal.nD Cert.MlaDxReferenceIdeal.τ).loc Cert.MlaDxReferenceIdeal.main_arg0)
      ∧ r.2.mem ((c.tc : Thread Cert.MlaDxReferenceIdeal.nD Cert.MlaDxReferenceIdeal.τ).loc Cert.MlaDxReferenceIdeal.main_arg1) = m ((c.tc : Thread Cert.MlaDxReferenceIdeal.nD Cert.MlaDxReferenceIdeal.τ).loc Cert.MlaDxReferenceIdeal.main_arg1))
      ∧ r.2.sem = fun _ => 0)

def quiescent_HybDxKernel [hHybDxKernel : Cert.HybDxKernel.Facts] : Prop :=
  ∀ (m : (ℓ : Loc Cert.HybDxKernel.nD Cert.HybDxKernel.τ Cert.HybDxKernel.sig) → Buf (Elt Bits) ℓ) (g : Dev Cert.HybDxKernel.nD → PrngReg), Pre_HybDxKernel m →
    θ_run (Cert.HybDxKernel.defs (F := Bits)) (onTc (τ := Cert.HybDxKernel.τ) (Cert.HybDxKernel.main (F := Bits))) ⟨m, fun _ => 0, g⟩ (fun r => (∀ c : Dev Cert.HybDxKernel.nD,
      r.2.mem ((c.tc : Thread Cert.HybDxKernel.nD Cert.HybDxKernel.τ).loc Cert.HybDxKernel.main_arg0) = m ((c.tc : Thread Cert.HybDxKernel.nD Cert.HybDxKernel.τ).loc Cert.HybDxKernel.main_arg0)
      ∧ r.2.mem ((c.tc : Thread Cert.HybDxKernel.nD Cert.HybDxKernel.τ).loc Cert.HybDxKernel.main_arg1) = m ((c.tc : Thread Cert.HybDxKernel.nD Cert.HybDxKernel.τ).loc Cert.HybDxKernel.main_arg1))
      ∧ r.2.sem = fun _ => 0)

def quiescent_HybDxKernelIdeal [hHybDxKernelIdeal : Cert.HybDxKernelIdeal.Facts] : Prop :=
  ∀ (m : (ℓ : Loc Cert.HybDxKernelIdeal.nD Cert.HybDxKernelIdeal.τ Cert.HybDxKernelIdeal.sig) → Buf (Elt Ideal) ℓ) (g : Dev Cert.HybDxKernelIdeal.nD → PrngReg), Pre_HybDxKernelIdeal m →
    θ_run (Cert.HybDxKernelIdeal.defs (F := Ideal)) (onTc (τ := Cert.HybDxKernelIdeal.τ) (Cert.HybDxKernelIdeal.main (F := Ideal))) ⟨m, fun _ => 0, g⟩ (fun r => (∀ c : Dev Cert.HybDxKernelIdeal.nD,
      r.2.mem ((c.tc : Thread Cert.HybDxKernelIdeal.nD Cert.HybDxKernelIdeal.τ).loc Cert.HybDxKernelIdeal.main_arg0) = m ((c.tc : Thread Cert.HybDxKernelIdeal.nD Cert.HybDxKernelIdeal.τ).loc Cert.HybDxKernelIdeal.main_arg0)
      ∧ r.2.mem ((c.tc : Thread Cert.HybDxKernelIdeal.nD Cert.HybDxKernelIdeal.τ).loc Cert.HybDxKernelIdeal.main_arg1) = m ((c.tc : Thread Cert.HybDxKernelIdeal.nD Cert.HybDxKernelIdeal.τ).loc Cert.HybDxKernelIdeal.main_arg1))
      ∧ r.2.sem = fun _ => 0)

def quiescent_HybDxReferenceIdeal [hHybDxReferenceIdeal : Cert.HybDxReferenceIdeal.Facts] : Prop :=
  ∀ (m : (ℓ : Loc Cert.HybDxReferenceIdeal.nD Cert.HybDxReferenceIdeal.τ Cert.HybDxReferenceIdeal.sig) → Buf (Elt Ideal) ℓ) (g : Dev Cert.HybDxReferenceIdeal.nD → PrngReg), Pre_HybDxReferenceIdeal m →
    θ_run (Cert.HybDxReferenceIdeal.defs (F := Ideal)) (onTc (τ := Cert.HybDxReferenceIdeal.τ) (Cert.HybDxReferenceIdeal.main (F := Ideal))) ⟨m, fun _ => 0, g⟩ (fun r => (∀ c : Dev Cert.HybDxReferenceIdeal.nD,
      r.2.mem ((c.tc : Thread Cert.HybDxReferenceIdeal.nD Cert.HybDxReferenceIdeal.τ).loc Cert.HybDxReferenceIdeal.main_arg0) = m ((c.tc : Thread Cert.HybDxReferenceIdeal.nD Cert.HybDxReferenceIdeal.τ).loc Cert.HybDxReferenceIdeal.main_arg0)
      ∧ r.2.mem ((c.tc : Thread Cert.HybDxReferenceIdeal.nD Cert.HybDxReferenceIdeal.τ).loc Cert.HybDxReferenceIdeal.main_arg1) = m ((c.tc : Thread Cert.HybDxReferenceIdeal.nD Cert.HybDxReferenceIdeal.τ).loc Cert.HybDxReferenceIdeal.main_arg1))
      ∧ r.2.sem = fun _ => 0)

def quiescent_HybKernel [hHybKernel : Cert.HybKernel.Facts] : Prop :=
  ∀ (m : (ℓ : Loc Cert.HybKernel.nD Cert.HybKernel.τ Cert.HybKernel.sig) → Buf (Elt Bits) ℓ) (g : Dev Cert.HybKernel.nD → PrngReg), Pre_HybKernel m →
    θ_run (Cert.HybKernel.defs (F := Bits)) (onTc (τ := Cert.HybKernel.τ) (Cert.HybKernel.main (F := Bits))) ⟨m, fun _ => 0, g⟩ (fun r => (∀ c : Dev Cert.HybKernel.nD,
      r.2.mem ((c.tc : Thread Cert.HybKernel.nD Cert.HybKernel.τ).loc Cert.HybKernel.main_arg0) = m ((c.tc : Thread Cert.HybKernel.nD Cert.HybKernel.τ).loc Cert.HybKernel.main_arg0)
      ∧ r.2.mem ((c.tc : Thread Cert.HybKernel.nD Cert.HybKernel.τ).loc Cert.HybKernel.main_arg1) = m ((c.tc : Thread Cert.HybKernel.nD Cert.HybKernel.τ).loc Cert.HybKernel.main_arg1))
      ∧ r.2.sem = fun _ => 0)

def quiescent_HybKernelIdeal [hHybKernelIdeal : Cert.HybKernelIdeal.Facts] : Prop :=
  ∀ (m : (ℓ : Loc Cert.HybKernelIdeal.nD Cert.HybKernelIdeal.τ Cert.HybKernelIdeal.sig) → Buf (Elt Ideal) ℓ) (g : Dev Cert.HybKernelIdeal.nD → PrngReg), Pre_HybKernelIdeal m →
    θ_run (Cert.HybKernelIdeal.defs (F := Ideal)) (onTc (τ := Cert.HybKernelIdeal.τ) (Cert.HybKernelIdeal.main (F := Ideal))) ⟨m, fun _ => 0, g⟩ (fun r => (∀ c : Dev Cert.HybKernelIdeal.nD,
      r.2.mem ((c.tc : Thread Cert.HybKernelIdeal.nD Cert.HybKernelIdeal.τ).loc Cert.HybKernelIdeal.main_arg0) = m ((c.tc : Thread Cert.HybKernelIdeal.nD Cert.HybKernelIdeal.τ).loc Cert.HybKernelIdeal.main_arg0)
      ∧ r.2.mem ((c.tc : Thread Cert.HybKernelIdeal.nD Cert.HybKernelIdeal.τ).loc Cert.HybKernelIdeal.main_arg1) = m ((c.tc : Thread Cert.HybKernelIdeal.nD Cert.HybKernelIdeal.τ).loc Cert.HybKernelIdeal.main_arg1))
      ∧ r.2.sem = fun _ => 0)

def quiescent_HybReferenceIdeal [hHybReferenceIdeal : Cert.HybReferenceIdeal.Facts] : Prop :=
  ∀ (m : (ℓ : Loc Cert.HybReferenceIdeal.nD Cert.HybReferenceIdeal.τ Cert.HybReferenceIdeal.sig) → Buf (Elt Ideal) ℓ) (g : Dev Cert.HybReferenceIdeal.nD → PrngReg), Pre_HybReferenceIdeal m →
    θ_run (Cert.HybReferenceIdeal.defs (F := Ideal)) (onTc (τ := Cert.HybReferenceIdeal.τ) (Cert.HybReferenceIdeal.main (F := Ideal))) ⟨m, fun _ => 0, g⟩ (fun r => (∀ c : Dev Cert.HybReferenceIdeal.nD,
      r.2.mem ((c.tc : Thread Cert.HybReferenceIdeal.nD Cert.HybReferenceIdeal.τ).loc Cert.HybReferenceIdeal.main_arg0) = m ((c.tc : Thread Cert.HybReferenceIdeal.nD Cert.HybReferenceIdeal.τ).loc Cert.HybReferenceIdeal.main_arg0)
      ∧ r.2.mem ((c.tc : Thread Cert.HybReferenceIdeal.nD Cert.HybReferenceIdeal.τ).loc Cert.HybReferenceIdeal.main_arg1) = m ((c.tc : Thread Cert.HybReferenceIdeal.nD Cert.HybReferenceIdeal.τ).loc Cert.HybReferenceIdeal.main_arg1))
      ∧ r.2.sem = fun _ => 0)

def quiescent_HybDwKernel [hHybDwKernel : Cert.HybDwKernel.Facts] : Prop :=
  ∀ (m : (ℓ : Loc Cert.HybDwKernel.nD Cert.HybDwKernel.τ Cert.HybDwKernel.sig) → Buf (Elt Bits) ℓ) (g : Dev Cert.HybDwKernel.nD → PrngReg), Pre_HybDwKernel m →
    θ_run (Cert.HybDwKernel.defs (F := Bits)) (onTc (τ := Cert.HybDwKernel.τ) (Cert.HybDwKernel.main (F := Bits))) ⟨m, fun _ => 0, g⟩ (fun r => (∀ c : Dev Cert.HybDwKernel.nD,
      r.2.mem ((c.tc : Thread Cert.HybDwKernel.nD Cert.HybDwKernel.τ).loc Cert.HybDwKernel.main_arg0) = m ((c.tc : Thread Cert.HybDwKernel.nD Cert.HybDwKernel.τ).loc Cert.HybDwKernel.main_arg0)
      ∧ r.2.mem ((c.tc : Thread Cert.HybDwKernel.nD Cert.HybDwKernel.τ).loc Cert.HybDwKernel.main_arg1) = m ((c.tc : Thread Cert.HybDwKernel.nD Cert.HybDwKernel.τ).loc Cert.HybDwKernel.main_arg1))
      ∧ r.2.sem = fun _ => 0)

def quiescent_HybDwKernelIdeal [hHybDwKernelIdeal : Cert.HybDwKernelIdeal.Facts] : Prop :=
  ∀ (m : (ℓ : Loc Cert.HybDwKernelIdeal.nD Cert.HybDwKernelIdeal.τ Cert.HybDwKernelIdeal.sig) → Buf (Elt Ideal) ℓ) (g : Dev Cert.HybDwKernelIdeal.nD → PrngReg), Pre_HybDwKernelIdeal m →
    θ_run (Cert.HybDwKernelIdeal.defs (F := Ideal)) (onTc (τ := Cert.HybDwKernelIdeal.τ) (Cert.HybDwKernelIdeal.main (F := Ideal))) ⟨m, fun _ => 0, g⟩ (fun r => (∀ c : Dev Cert.HybDwKernelIdeal.nD,
      r.2.mem ((c.tc : Thread Cert.HybDwKernelIdeal.nD Cert.HybDwKernelIdeal.τ).loc Cert.HybDwKernelIdeal.main_arg0) = m ((c.tc : Thread Cert.HybDwKernelIdeal.nD Cert.HybDwKernelIdeal.τ).loc Cert.HybDwKernelIdeal.main_arg0)
      ∧ r.2.mem ((c.tc : Thread Cert.HybDwKernelIdeal.nD Cert.HybDwKernelIdeal.τ).loc Cert.HybDwKernelIdeal.main_arg1) = m ((c.tc : Thread Cert.HybDwKernelIdeal.nD Cert.HybDwKernelIdeal.τ).loc Cert.HybDwKernelIdeal.main_arg1))
      ∧ r.2.sem = fun _ => 0)

def quiescent_HybDwReferenceIdeal [hHybDwReferenceIdeal : Cert.HybDwReferenceIdeal.Facts] : Prop :=
  ∀ (m : (ℓ : Loc Cert.HybDwReferenceIdeal.nD Cert.HybDwReferenceIdeal.τ Cert.HybDwReferenceIdeal.sig) → Buf (Elt Ideal) ℓ) (g : Dev Cert.HybDwReferenceIdeal.nD → PrngReg), Pre_HybDwReferenceIdeal m →
    θ_run (Cert.HybDwReferenceIdeal.defs (F := Ideal)) (onTc (τ := Cert.HybDwReferenceIdeal.τ) (Cert.HybDwReferenceIdeal.main (F := Ideal))) ⟨m, fun _ => 0, g⟩ (fun r => (∀ c : Dev Cert.HybDwReferenceIdeal.nD,
      r.2.mem ((c.tc : Thread Cert.HybDwReferenceIdeal.nD Cert.HybDwReferenceIdeal.τ).loc Cert.HybDwReferenceIdeal.main_arg0) = m ((c.tc : Thread Cert.HybDwReferenceIdeal.nD Cert.HybDwReferenceIdeal.τ).loc Cert.HybDwReferenceIdeal.main_arg0)
      ∧ r.2.mem ((c.tc : Thread Cert.HybDwReferenceIdeal.nD Cert.HybDwReferenceIdeal.τ).loc Cert.HybDwReferenceIdeal.main_arg1) = m ((c.tc : Thread Cert.HybDwReferenceIdeal.nD Cert.HybDwReferenceIdeal.τ).loc Cert.HybDwReferenceIdeal.main_arg1))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4)
      ∧ r.2.mem ((c.tc : Thread Cert.DxKernel.nD Cert.DxKernel.τ).loc Cert.DxKernel.main_arg5) = m ((c.tc : Thread Cert.DxKernel.nD Cert.DxKernel.τ).loc Cert.DxKernel.main_arg5))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
      ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5))
      ∧ r.2.sem = fun _ => 0)

def quiescent_DxKernelIdeal_pre_dx_finite [hDxKernelIdeal : Cert.DxKernelIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal_dx_finite m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
      ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5))
      ∧ r.2.sem = fun _ => 0)

def quiescent_DxReferenceIdeal_pre_dx_finite [hDxReferenceIdeal : Cert.DxReferenceIdeal.Facts] [hPre_dx_finite : Cert.Pre_dx_finite.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal_dx_finite m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v0_0)) (v1 : (c : Dev Cert.FfnKernelIdeal.nD) → Buf (Elt Ideal) ((c.tc : Thread Cert.FfnKernelIdeal.nD Cert.FfnKernelIdeal.τ).loc Cert.FfnKernelIdeal.main_v0_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0_0) = v0 c
          ∧ r.2.mem ((c.tc : Thread Cert.FfnKernelIdeal.nD Cert.FfnKernelIdeal.τ).loc Cert.FfnKernelIdeal.main_v0_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v9) = v0 c
          ∧ r.2.mem ((c.tc : Thread Cert.FfnReferenceIdeal.nD Cert.FfnReferenceIdeal.τ).loc Cert.FfnReferenceIdeal.main_v10) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)) (v2 : (c : Dev Cert.UpKernelIdeal.nD) → Buf (Elt Ideal) ((c.tc : Thread Cert.UpKernelIdeal.nD Cert.UpKernelIdeal.τ).loc Cert.UpKernelIdeal.main_v0_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_v0_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_v9) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v3) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v0)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v0) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v3) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)) →
    ∃ (v0 : (c : Dev Cert.MixKernelIdeal.nD) → Buf (Elt Ideal) ((c.tc : Thread Cert.MixKernelIdeal.nD Cert.MixKernelIdeal.τ).loc Cert.MixKernelIdeal.main_v0)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v0) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v4) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_MixDwKernel_MixDwKernelIdeal : Prop :=
  True

def algebraic_MixDwKernelIdeal_MixDwReferenceIdeal [hMixDwKernelIdeal : Cert.MixDwKernelIdeal.Facts] [hMixDwReferenceIdeal : Cert.MixDwReferenceIdeal.Facts] : Prop :=
  ∀ (m : (ℓ : Loc Cert.MixDwKernelIdeal.nD Cert.MixDwKernelIdeal.τ Cert.MixDwKernelIdeal.sig) → Buf (Elt Ideal) ℓ) (g : Dev Cert.MixDwKernelIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwKernelIdeal m →
    (∀ c : Dev Cert.MixDwKernelIdeal.nD,
      m' ((c.tc : Thread Cert.MixDwReferenceIdeal.nD Cert.MixDwReferenceIdeal.τ).loc Cert.MixDwReferenceIdeal.main_arg0) = m ((c.tc : Thread Cert.MixDwKernelIdeal.nD Cert.MixDwKernelIdeal.τ).loc Cert.MixDwKernelIdeal.main_arg0)
      ∧ m' ((c.tc : Thread Cert.MixDwReferenceIdeal.nD Cert.MixDwReferenceIdeal.τ).loc Cert.MixDwReferenceIdeal.main_arg1) = m ((c.tc : Thread Cert.MixDwKernelIdeal.nD Cert.MixDwKernelIdeal.τ).loc Cert.MixDwKernelIdeal.main_arg1)) →
    ∃ (v0 : (c : Dev Cert.MixDwKernelIdeal.nD) → Buf (Elt Ideal) ((c.tc : Thread Cert.MixDwKernelIdeal.nD Cert.MixDwKernelIdeal.τ).loc Cert.MixDwKernelIdeal.main_v0)),
      θ_run (Cert.MixDwKernelIdeal.defs (F := Ideal)) (onTc (τ := Cert.MixDwKernelIdeal.τ) (Cert.MixDwKernelIdeal.main (F := Ideal))) ⟨m, fun _ => 0, g⟩ (fun r => ∀ c : Dev Cert.MixDwKernelIdeal.nD,
          r.2.mem ((c.tc : Thread Cert.MixDwKernelIdeal.nD Cert.MixDwKernelIdeal.τ).loc Cert.MixDwKernelIdeal.main_v0) = v0 c
          ∧ r.2.mem ((c.tc : Thread Cert.MixDwKernelIdeal.nD Cert.MixDwKernelIdeal.τ).loc Cert.MixDwKernelIdeal.main_arg0) = m ((c.tc : Thread Cert.MixDwKernelIdeal.nD Cert.MixDwKernelIdeal.τ).loc Cert.MixDwKernelIdeal.main_arg0)
          ∧ r.2.mem ((c.tc : Thread Cert.MixDwKernelIdeal.nD Cert.MixDwKernelIdeal.τ).loc Cert.MixDwKernelIdeal.main_arg1) = m ((c.tc : Thread Cert.MixDwKernelIdeal.nD Cert.MixDwKernelIdeal.τ).loc Cert.MixDwKernelIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v3) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def preserves_MlaDxKernel_MlaDxKernelIdeal : Prop :=
  True

def algebraic_MlaDxKernelIdeal_MlaDxReferenceIdeal [hMlaDxKernelIdeal : Cert.MlaDxKernelIdeal.Facts] [hMlaDxReferenceIdeal : Cert.MlaDxReferenceIdeal.Facts] : Prop :=
  ∀ (m : (ℓ : Loc Cert.MlaDxKernelIdeal.nD Cert.MlaDxKernelIdeal.τ Cert.MlaDxKernelIdeal.sig) → Buf (Elt Ideal) ℓ) (g : Dev Cert.MlaDxKernelIdeal.nD → PrngReg)
    (m' : (ℓ : Loc Cert.MlaDxReferenceIdeal.nD Cert.MlaDxReferenceIdeal.τ Cert.MlaDxReferenceIdeal.sig) → Buf (Elt Ideal) ℓ) (g' : Dev Cert.MlaDxReferenceIdeal.nD → PrngReg), Pre_MlaDxKernelIdeal m →
    (∀ c : Dev Cert.MlaDxKernelIdeal.nD,
      m' ((c.tc : Thread Cert.MlaDxReferenceIdeal.nD Cert.MlaDxReferenceIdeal.τ).loc Cert.MlaDxReferenceIdeal.main_arg0) = m ((c.tc : Thread Cert.MlaDxKernelIdeal.nD Cert.MlaDxKernelIdeal.τ).loc Cert.MlaDxKernelIdeal.main_arg0)
      ∧ m' ((c.tc : Thread Cert.MlaDxReferenceIdeal.nD Cert.MlaDxReferenceIdeal.τ).loc Cert.MlaDxReferenceIdeal.main_arg1) = m ((c.tc : Thread Cert.MlaDxKernelIdeal.nD Cert.MlaDxKernelIdeal.τ).loc Cert.MlaDxKernelIdeal.main_arg1)) →
    ∃ (v0 : (c : Dev Cert.MlaDxKernelIdeal.nD) → Buf (Elt Ideal) ((c.tc : Thread Cert.MlaDxKernelIdeal.nD Cert.MlaDxKernelIdeal.τ).loc Cert.MlaDxKernelIdeal.main_v0)),
      θ_run (Cert.MlaDxKernelIdeal.defs (F := Ideal)) (onTc (τ := Cert.MlaDxKernelIdeal.τ) (Cert.MlaDxKernelIdeal.main (F := Ideal))) ⟨m, fun _ => 0, g⟩ (fun r => ∀ c : Dev Cert.MlaDxKernelIdeal.nD,
          r.2.mem ((c.tc : Thread Cert.MlaDxKernelIdeal.nD Cert.MlaDxKernelIdeal.τ).loc Cert.MlaDxKernelIdeal.main_v0) = v0 c
          ∧ r.2.mem ((c.tc : Thread Cert.MlaDxKernelIdeal.nD Cert.MlaDxKernelIdeal.τ).loc Cert.MlaDxKernelIdeal.main_arg0) = m ((c.tc : Thread Cert.MlaDxKernelIdeal.nD Cert.MlaDxKernelIdeal.τ).loc Cert.MlaDxKernelIdeal.main_arg0)
          ∧ r.2.mem ((c.tc : Thread Cert.MlaDxKernelIdeal.nD Cert.MlaDxKernelIdeal.τ).loc Cert.MlaDxKernelIdeal.main_arg1) = m ((c.tc : Thread Cert.MlaDxKernelIdeal.nD Cert.MlaDxKernelIdeal.τ).loc Cert.MlaDxKernelIdeal.main_arg1))
      ∧ θ_run (Cert.MlaDxReferenceIdeal.defs (F := Ideal)) (onTc (τ := Cert.MlaDxReferenceIdeal.τ) (Cert.MlaDxReferenceIdeal.main (F := Ideal))) ⟨m', fun _ => 0, g'⟩ (fun r => ∀ c : Dev Cert.MlaDxReferenceIdeal.nD,
          r.2.mem ((c.tc : Thread Cert.MlaDxReferenceIdeal.nD Cert.MlaDxReferenceIdeal.τ).loc Cert.MlaDxReferenceIdeal.main_v3) = v0 c
          ∧ r.2.mem ((c.tc : Thread Cert.MlaDxReferenceIdeal.nD Cert.MlaDxReferenceIdeal.τ).loc Cert.MlaDxReferenceIdeal.main_arg0) = m' ((c.tc : Thread Cert.MlaDxReferenceIdeal.nD Cert.MlaDxReferenceIdeal.τ).loc Cert.MlaDxReferenceIdeal.main_arg0)
          ∧ r.2.mem ((c.tc : Thread Cert.MlaDxReferenceIdeal.nD Cert.MlaDxReferenceIdeal.τ).loc Cert.MlaDxReferenceIdeal.main_arg1) = m' ((c.tc : Thread Cert.MlaDxReferenceIdeal.nD Cert.MlaDxReferenceIdeal.τ).loc Cert.MlaDxReferenceIdeal.main_arg1))

def preserves_HybDxKernel_HybDxKernelIdeal : Prop :=
  True

def algebraic_HybDxKernelIdeal_HybDxReferenceIdeal [hHybDxKernelIdeal : Cert.HybDxKernelIdeal.Facts] [hHybDxReferenceIdeal : Cert.HybDxReferenceIdeal.Facts] : Prop :=
  ∀ (m : (ℓ : Loc Cert.HybDxKernelIdeal.nD Cert.HybDxKernelIdeal.τ Cert.HybDxKernelIdeal.sig) → Buf (Elt Ideal) ℓ) (g : Dev Cert.HybDxKernelIdeal.nD → PrngReg)
    (m' : (ℓ : Loc Cert.HybDxReferenceIdeal.nD Cert.HybDxReferenceIdeal.τ Cert.HybDxReferenceIdeal.sig) → Buf (Elt Ideal) ℓ) (g' : Dev Cert.HybDxReferenceIdeal.nD → PrngReg), Pre_HybDxKernelIdeal m →
    (∀ c : Dev Cert.HybDxKernelIdeal.nD,
      m' ((c.tc : Thread Cert.HybDxReferenceIdeal.nD Cert.HybDxReferenceIdeal.τ).loc Cert.HybDxReferenceIdeal.main_arg0) = m ((c.tc : Thread Cert.HybDxKernelIdeal.nD Cert.HybDxKernelIdeal.τ).loc Cert.HybDxKernelIdeal.main_arg0)
      ∧ m' ((c.tc : Thread Cert.HybDxReferenceIdeal.nD Cert.HybDxReferenceIdeal.τ).loc Cert.HybDxReferenceIdeal.main_arg1) = m ((c.tc : Thread Cert.HybDxKernelIdeal.nD Cert.HybDxKernelIdeal.τ).loc Cert.HybDxKernelIdeal.main_arg1)) →
    ∃ (v0 : (c : Dev Cert.HybDxKernelIdeal.nD) → Buf (Elt Ideal) ((c.tc : Thread Cert.HybDxKernelIdeal.nD Cert.HybDxKernelIdeal.τ).loc Cert.HybDxKernelIdeal.main_v0)),
      θ_run (Cert.HybDxKernelIdeal.defs (F := Ideal)) (onTc (τ := Cert.HybDxKernelIdeal.τ) (Cert.HybDxKernelIdeal.main (F := Ideal))) ⟨m, fun _ => 0, g⟩ (fun r => ∀ c : Dev Cert.HybDxKernelIdeal.nD,
          r.2.mem ((c.tc : Thread Cert.HybDxKernelIdeal.nD Cert.HybDxKernelIdeal.τ).loc Cert.HybDxKernelIdeal.main_v0) = v0 c
          ∧ r.2.mem ((c.tc : Thread Cert.HybDxKernelIdeal.nD Cert.HybDxKernelIdeal.τ).loc Cert.HybDxKernelIdeal.main_arg0) = m ((c.tc : Thread Cert.HybDxKernelIdeal.nD Cert.HybDxKernelIdeal.τ).loc Cert.HybDxKernelIdeal.main_arg0)
          ∧ r.2.mem ((c.tc : Thread Cert.HybDxKernelIdeal.nD Cert.HybDxKernelIdeal.τ).loc Cert.HybDxKernelIdeal.main_arg1) = m ((c.tc : Thread Cert.HybDxKernelIdeal.nD Cert.HybDxKernelIdeal.τ).loc Cert.HybDxKernelIdeal.main_arg1))
      ∧ θ_run (Cert.HybDxReferenceIdeal.defs (F := Ideal)) (onTc (τ := Cert.HybDxReferenceIdeal.τ) (Cert.HybDxReferenceIdeal.main (F := Ideal))) ⟨m', fun _ => 0, g'⟩ (fun r => ∀ c : Dev Cert.HybDxReferenceIdeal.nD,
          r.2.mem ((c.tc : Thread Cert.HybDxReferenceIdeal.nD Cert.HybDxReferenceIdeal.τ).loc Cert.HybDxReferenceIdeal.main_v2) = v0 c
          ∧ r.2.mem ((c.tc : Thread Cert.HybDxReferenceIdeal.nD Cert.HybDxReferenceIdeal.τ).loc Cert.HybDxReferenceIdeal.main_arg0) = m' ((c.tc : Thread Cert.HybDxReferenceIdeal.nD Cert.HybDxReferenceIdeal.τ).loc Cert.HybDxReferenceIdeal.main_arg0)
          ∧ r.2.mem ((c.tc : Thread Cert.HybDxReferenceIdeal.nD Cert.HybDxReferenceIdeal.τ).loc Cert.HybDxReferenceIdeal.main_arg1) = m' ((c.tc : Thread Cert.HybDxReferenceIdeal.nD Cert.HybDxReferenceIdeal.τ).loc Cert.HybDxReferenceIdeal.main_arg1))

def preserves_HybKernel_HybKernelIdeal : Prop :=
  True

def algebraic_HybKernelIdeal_HybReferenceIdeal [hHybKernelIdeal : Cert.HybKernelIdeal.Facts] [hHybReferenceIdeal : Cert.HybReferenceIdeal.Facts] : Prop :=
  ∀ (m : (ℓ : Loc Cert.HybKernelIdeal.nD Cert.HybKernelIdeal.τ Cert.HybKernelIdeal.sig) → Buf (Elt Ideal) ℓ) (g : Dev Cert.HybKernelIdeal.nD → PrngReg)
    (m' : (ℓ : Loc Cert.HybReferenceIdeal.nD Cert.HybReferenceIdeal.τ Cert.HybReferenceIdeal.sig) → Buf (Elt Ideal) ℓ) (g' : Dev Cert.HybReferenceIdeal.nD → PrngReg), Pre_HybKernelIdeal m →
    (∀ c : Dev Cert.HybKernelIdeal.nD,
      m' ((c.tc : Thread Cert.HybReferenceIdeal.nD Cert.HybReferenceIdeal.τ).loc Cert.HybReferenceIdeal.main_arg0) = m ((c.tc : Thread Cert.HybKernelIdeal.nD Cert.HybKernelIdeal.τ).loc Cert.HybKernelIdeal.main_arg0)
      ∧ m' ((c.tc : Thread Cert.HybReferenceIdeal.nD Cert.HybReferenceIdeal.τ).loc Cert.HybReferenceIdeal.main_arg1) = m ((c.tc : Thread Cert.HybKernelIdeal.nD Cert.HybKernelIdeal.τ).loc Cert.HybKernelIdeal.main_arg1)) →
    ∃ (v0 : (c : Dev Cert.HybKernelIdeal.nD) → Buf (Elt Ideal) ((c.tc : Thread Cert.HybKernelIdeal.nD Cert.HybKernelIdeal.τ).loc Cert.HybKernelIdeal.main_v0)),
      θ_run (Cert.HybKernelIdeal.defs (F := Ideal)) (onTc (τ := Cert.HybKernelIdeal.τ) (Cert.HybKernelIdeal.main (F := Ideal))) ⟨m, fun _ => 0, g⟩ (fun r => ∀ c : Dev Cert.HybKernelIdeal.nD,
          r.2.mem ((c.tc : Thread Cert.HybKernelIdeal.nD Cert.HybKernelIdeal.τ).loc Cert.HybKernelIdeal.main_v0) = v0 c
          ∧ r.2.mem ((c.tc : Thread Cert.HybKernelIdeal.nD Cert.HybKernelIdeal.τ).loc Cert.HybKernelIdeal.main_arg0) = m ((c.tc : Thread Cert.HybKernelIdeal.nD Cert.HybKernelIdeal.τ).loc Cert.HybKernelIdeal.main_arg0)
          ∧ r.2.mem ((c.tc : Thread Cert.HybKernelIdeal.nD Cert.HybKernelIdeal.τ).loc Cert.HybKernelIdeal.main_arg1) = m ((c.tc : Thread Cert.HybKernelIdeal.nD Cert.HybKernelIdeal.τ).loc Cert.HybKernelIdeal.main_arg1))
      ∧ θ_run (Cert.HybReferenceIdeal.defs (F := Ideal)) (onTc (τ := Cert.HybReferenceIdeal.τ) (Cert.HybReferenceIdeal.main (F := Ideal))) ⟨m', fun _ => 0, g'⟩ (fun r => ∀ c : Dev Cert.HybReferenceIdeal.nD,
          r.2.mem ((c.tc : Thread Cert.HybReferenceIdeal.nD Cert.HybReferenceIdeal.τ).loc Cert.HybReferenceIdeal.main_v4) = v0 c
          ∧ r.2.mem ((c.tc : Thread Cert.HybReferenceIdeal.nD Cert.HybReferenceIdeal.τ).loc Cert.HybReferenceIdeal.main_arg0) = m' ((c.tc : Thread Cert.HybReferenceIdeal.nD Cert.HybReferenceIdeal.τ).loc Cert.HybReferenceIdeal.main_arg0)
          ∧ r.2.mem ((c.tc : Thread Cert.HybReferenceIdeal.nD Cert.HybReferenceIdeal.τ).loc Cert.HybReferenceIdeal.main_arg1) = m' ((c.tc : Thread Cert.HybReferenceIdeal.nD Cert.HybReferenceIdeal.τ).loc Cert.HybReferenceIdeal.main_arg1))

def preserves_HybDwKernel_HybDwKernelIdeal : Prop :=
  True

def algebraic_HybDwKernelIdeal_HybDwReferenceIdeal [hHybDwKernelIdeal : Cert.HybDwKernelIdeal.Facts] [hHybDwReferenceIdeal : Cert.HybDwReferenceIdeal.Facts] : Prop :=
  ∀ (m : (ℓ : Loc Cert.HybDwKernelIdeal.nD Cert.HybDwKernelIdeal.τ Cert.HybDwKernelIdeal.sig) → Buf (Elt Ideal) ℓ) (g : Dev Cert.HybDwKernelIdeal.nD → PrngReg)
    (m' : (ℓ : Loc Cert.HybDwReferenceIdeal.nD Cert.HybDwReferenceIdeal.τ Cert.HybDwReferenceIdeal.sig) → Buf (Elt Ideal) ℓ) (g' : Dev Cert.HybDwReferenceIdeal.nD → PrngReg), Pre_HybDwKernelIdeal m →
    (∀ c : Dev Cert.HybDwKernelIdeal.nD,
      m' ((c.tc : Thread Cert.HybDwReferenceIdeal.nD Cert.HybDwReferenceIdeal.τ).loc Cert.HybDwReferenceIdeal.main_arg0) = m ((c.tc : Thread Cert.HybDwKernelIdeal.nD Cert.HybDwKernelIdeal.τ).loc Cert.HybDwKernelIdeal.main_arg0)
      ∧ m' ((c.tc : Thread Cert.HybDwReferenceIdeal.nD Cert.HybDwReferenceIdeal.τ).loc Cert.HybDwReferenceIdeal.main_arg1) = m ((c.tc : Thread Cert.HybDwKernelIdeal.nD Cert.HybDwKernelIdeal.τ).loc Cert.HybDwKernelIdeal.main_arg1)) →
    ∃ (v0 : (c : Dev Cert.HybDwKernelIdeal.nD) → Buf (Elt Ideal) ((c.tc : Thread Cert.HybDwKernelIdeal.nD Cert.HybDwKernelIdeal.τ).loc Cert.HybDwKernelIdeal.main_v0)),
      θ_run (Cert.HybDwKernelIdeal.defs (F := Ideal)) (onTc (τ := Cert.HybDwKernelIdeal.τ) (Cert.HybDwKernelIdeal.main (F := Ideal))) ⟨m, fun _ => 0, g⟩ (fun r => ∀ c : Dev Cert.HybDwKernelIdeal.nD,
          r.2.mem ((c.tc : Thread Cert.HybDwKernelIdeal.nD Cert.HybDwKernelIdeal.τ).loc Cert.HybDwKernelIdeal.main_v0) = v0 c
          ∧ r.2.mem ((c.tc : Thread Cert.HybDwKernelIdeal.nD Cert.HybDwKernelIdeal.τ).loc Cert.HybDwKernelIdeal.main_arg0) = m ((c.tc : Thread Cert.HybDwKernelIdeal.nD Cert.HybDwKernelIdeal.τ).loc Cert.HybDwKernelIdeal.main_arg0)
          ∧ r.2.mem ((c.tc : Thread Cert.HybDwKernelIdeal.nD Cert.HybDwKernelIdeal.τ).loc Cert.HybDwKernelIdeal.main_arg1) = m ((c.tc : Thread Cert.HybDwKernelIdeal.nD Cert.HybDwKernelIdeal.τ).loc Cert.HybDwKernelIdeal.main_arg1))
      ∧ θ_run (Cert.HybDwReferenceIdeal.defs (F := Ideal)) (onTc (τ := Cert.HybDwReferenceIdeal.τ) (Cert.HybDwReferenceIdeal.main (F := Ideal))) ⟨m', fun _ => 0, g'⟩ (fun r => ∀ c : Dev Cert.HybDwReferenceIdeal.nD,
          r.2.mem ((c.tc : Thread Cert.HybDwReferenceIdeal.nD Cert.HybDwReferenceIdeal.τ).loc Cert.HybDwReferenceIdeal.main_v3) = v0 c
          ∧ r.2.mem ((c.tc : Thread Cert.HybDwReferenceIdeal.nD Cert.HybDwReferenceIdeal.τ).loc Cert.HybDwReferenceIdeal.main_arg0) = m' ((c.tc : Thread Cert.HybDwReferenceIdeal.nD Cert.HybDwReferenceIdeal.τ).loc Cert.HybDwReferenceIdeal.main_arg0)
          ∧ r.2.mem ((c.tc : Thread Cert.HybDwReferenceIdeal.nD Cert.HybDwReferenceIdeal.τ).loc Cert.HybDwReferenceIdeal.main_arg1) = m' ((c.tc : Thread Cert.HybDwReferenceIdeal.nD Cert.HybDwReferenceIdeal.τ).loc Cert.HybDwReferenceIdeal.main_arg1))

def preserves_DxKernel_DxKernelIdeal : Prop :=
  True

def algebraic_DxKernelIdeal_DxReferenceIdeal_pre_dx_finite [hDxKernelIdeal : Cert.DxKernelIdeal.Facts] [hDxReferenceIdeal : Cert.DxReferenceIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal_dx_finite m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)
      ∧ m' ((c.tc : Thread Cert.DxReferenceIdeal.nD Cert.DxReferenceIdeal.τ).loc Cert.DxReferenceIdeal.main_arg5) = m ((c.tc : Thread Cert.DxKernelIdeal.nD Cert.DxKernelIdeal.τ).loc Cert.DxKernelIdeal.main_arg5)) →
    ∃ (v0 : (c : Dev Cert.DxKernelIdeal.nD) → Buf (Elt Ideal) ((c.tc : Thread Cert.DxKernelIdeal.nD Cert.DxKernelIdeal.τ).loc Cert.DxKernelIdeal.main_v0_0)) (v1 : (c : Dev Cert.DxKernelIdeal.nD) → Buf (Elt Ideal) ((c.tc : Thread Cert.DxKernelIdeal.nD Cert.DxKernelIdeal.τ).loc Cert.DxKernelIdeal.main_v0_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v0_0) = v0 c
          ∧ r.2.mem ((c.tc : Thread Cert.DxKernelIdeal.nD Cert.DxKernelIdeal.τ).loc Cert.DxKernelIdeal.main_v0_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
          ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v48) = v0 c
          ∧ r.2.mem ((c.tc : Thread Cert.DxReferenceIdeal.nD Cert.DxReferenceIdeal.τ).loc Cert.DxReferenceIdeal.main_v31) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hUpKernel : Cert.UpKernel.Facts) (hUpKernelIdeal : Cert.UpKernelIdeal.Facts) (hUpReferenceIdeal : Cert.UpReferenceIdeal.Facts) (hDwKernel : Cert.DwKernel.Facts) (hDwKernelIdeal : Cert.DwKernelIdeal.Facts) (hDwReferenceIdeal : Cert.DwReferenceIdeal.Facts) (hDownKernel : Cert.DownKernel.Facts) (hDownKernelIdeal : Cert.DownKernelIdeal.Facts) (hDownReferenceIdeal : Cert.DownReferenceIdeal.Facts) (hDownDwKernel : Cert.DownDwKernel.Facts) (hDownDwKernelIdeal : Cert.DownDwKernelIdeal.Facts) (hDownDwReferenceIdeal : Cert.DownDwReferenceIdeal.Facts) (hMixKernel : Cert.MixKernel.Facts) (hMixKernelIdeal : Cert.MixKernelIdeal.Facts) (hMixReferenceIdeal : Cert.MixReferenceIdeal.Facts) (hMixDwKernel : Cert.MixDwKernel.Facts) (hMixDwKernelIdeal : Cert.MixDwKernelIdeal.Facts) (hMixDwReferenceIdeal : Cert.MixDwReferenceIdeal.Facts) (hMlaDxKernel : Cert.MlaDxKernel.Facts) (hMlaDxKernelIdeal : Cert.MlaDxKernelIdeal.Facts) (hMlaDxReferenceIdeal : Cert.MlaDxReferenceIdeal.Facts) (hHybDxKernel : Cert.HybDxKernel.Facts) (hHybDxKernelIdeal : Cert.HybDxKernelIdeal.Facts) (hHybDxReferenceIdeal : Cert.HybDxReferenceIdeal.Facts) (hHybKernel : Cert.HybKernel.Facts) (hHybKernelIdeal : Cert.HybKernelIdeal.Facts) (hHybReferenceIdeal : Cert.HybReferenceIdeal.Facts) (hHybDwKernel : Cert.HybDwKernel.Facts) (hHybDwKernelIdeal : Cert.HybDwKernelIdeal.Facts) (hHybDwReferenceIdeal : Cert.HybDwReferenceIdeal.Facts) (hDxKernel : Cert.DxKernel.Facts) (hDxKernelIdeal : Cert.DxKernelIdeal.Facts) (hDxReferenceIdeal : Cert.DxReferenceIdeal.Facts) (hPre_finite : Cert.Pre_finite.Facts) (hPre_ffn_finite : Cert.Pre_ffn_finite.Facts) (hPre_dx_finite : Cert.Pre_dx_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_MixDwKernel (hMixDwKernel := hMixDwKernel)
    ∧ quiescent_MixDwKernelIdeal (hMixDwKernelIdeal := hMixDwKernelIdeal)
    ∧ quiescent_MixDwReferenceIdeal (hMixDwReferenceIdeal := hMixDwReferenceIdeal)
    ∧ quiescent_MlaDxKernel (hMlaDxKernel := hMlaDxKernel)
    ∧ quiescent_MlaDxKernelIdeal (hMlaDxKernelIdeal := hMlaDxKernelIdeal)
    ∧ quiescent_MlaDxReferenceIdeal (hMlaDxReferenceIdeal := hMlaDxReferenceIdeal)
    ∧ quiescent_HybDxKernel (hHybDxKernel := hHybDxKernel)
    ∧ quiescent_HybDxKernelIdeal (hHybDxKernelIdeal := hHybDxKernelIdeal)
    ∧ quiescent_HybDxReferenceIdeal (hHybDxReferenceIdeal := hHybDxReferenceIdeal)
    ∧ quiescent_HybKernel (hHybKernel := hHybKernel)
    ∧ quiescent_HybKernelIdeal (hHybKernelIdeal := hHybKernelIdeal)
    ∧ quiescent_HybReferenceIdeal (hHybReferenceIdeal := hHybReferenceIdeal)
    ∧ quiescent_HybDwKernel (hHybDwKernel := hHybDwKernel)
    ∧ quiescent_HybDwKernelIdeal (hHybDwKernelIdeal := hHybDwKernelIdeal)
    ∧ quiescent_HybDwReferenceIdeal (hHybDwReferenceIdeal := hHybDwReferenceIdeal)
    ∧ quiescent_DxKernel (hDxKernel := hDxKernel)
    ∧ quiescent_DxKernelIdeal (hDxKernelIdeal := hDxKernelIdeal)
    ∧ quiescent_DxKernelIdeal_pre_dx_finite (hDxKernelIdeal := hDxKernelIdeal) (hPre_dx_finite := hPre_dx_finite)
    ∧ quiescent_DxReferenceIdeal (hDxReferenceIdeal := hDxReferenceIdeal)
    ∧ quiescent_DxReferenceIdeal_pre_dx_finite (hDxReferenceIdeal := hDxReferenceIdeal) (hPre_dx_finite := hPre_dx_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_UpKernel_UpKernelIdeal
    ∧ algebraic_UpKernelIdeal_UpReferenceIdeal (hUpKernelIdeal := hUpKernelIdeal) (hUpReferenceIdeal := hUpReferenceIdeal)
    ∧ preserves_DwKernel_DwKernelIdeal
    ∧ algebraic_DwKernelIdeal_DwReferenceIdeal (hDwKernelIdeal := hDwKernelIdeal) (hDwReferenceIdeal := hDwReferenceIdeal)
    ∧ preserves_DownKernel_DownKernelIdeal
    ∧ algebraic_DownKernelIdeal_DownReferenceIdeal (hDownKernelIdeal := hDownKernelIdeal) (hDownReferenceIdeal := hDownReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_MixKernel_MixKernelIdeal
    ∧ algebraic_MixKernelIdeal_MixReferenceIdeal (hMixKernelIdeal := hMixKernelIdeal) (hMixReferenceIdeal := hMixReferenceIdeal)
    ∧ preserves_MixDwKernel_MixDwKernelIdeal
    ∧ algebraic_MixDwKernelIdeal_MixDwReferenceIdeal (hMixDwKernelIdeal := hMixDwKernelIdeal) (hMixDwReferenceIdeal := hMixDwReferenceIdeal)
    ∧ preserves_MlaDxKernel_MlaDxKernelIdeal
    ∧ algebraic_MlaDxKernelIdeal_MlaDxReferenceIdeal (hMlaDxKernelIdeal := hMlaDxKernelIdeal) (hMlaDxReferenceIdeal := hMlaDxReferenceIdeal)
    ∧ preserves_HybDxKernel_HybDxKernelIdeal
    ∧ algebraic_HybDxKernelIdeal_HybDxReferenceIdeal (hHybDxKernelIdeal := hHybDxKernelIdeal) (hHybDxReferenceIdeal := hHybDxReferenceIdeal)
    ∧ preserves_HybKernel_HybKernelIdeal
    ∧ algebraic_HybKernelIdeal_HybReferenceIdeal (hHybKernelIdeal := hHybKernelIdeal) (hHybReferenceIdeal := hHybReferenceIdeal)
    ∧ preserves_HybDwKernel_HybDwKernelIdeal
    ∧ algebraic_HybDwKernelIdeal_HybDwReferenceIdeal (hHybDwKernelIdeal := hHybDwKernelIdeal) (hHybDwReferenceIdeal := hHybDwReferenceIdeal)
    ∧ preserves_DxKernel_DxKernelIdeal
    ∧ algebraic_DxKernelIdeal_DxReferenceIdeal_pre_dx_finite (hDxKernelIdeal := hDxKernelIdeal) (hDxReferenceIdeal := hDxReferenceIdeal) (hPre_dx_finite := hPre_dx_finite)
-- ==== Pre_dx_finite.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S1x1024 .f32 := Host.absf main_arg5
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  main_v26

def fn {F : FTy → Type} [FloatOps F] (main_arg0 : FVec F S8192x2816 .bf16) (main_arg1 : FVec F S8192x2816 .bf16) (main_arg2 : FVec F S1024x5632 .bf16) (main_arg3 : FVec F S8192x1024 .f32) (main_arg4 : FVec F S8192x1024 .f32) (main_arg5 : FVec F S1x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S8192x2816 .f32 := (extf .f32 · bitsLt_bf16_f32) main_arg1
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_c_1 : IVec S_ 1 := constantI S_ 1 1#1
  let main_v9 : IVec S_ 1 := (fun x v => Host.reduce IntOp.andi x v reducesTo_S8192x2816_S_d0_1 h_S_) main_v8 main_c_1
  let main_v10 : IVec S_ 1 := andi main_v4 main_v9
  let main_v11 : FVec F S1024x5632 .f32 := (extf .f32 · bitsLt_bf16_f32) main_arg2
  let main_v12 : FVec F S1024x5632 .f32 := Host.absf main_v11
  let main_cst_2 : FVec F S_ .f32 := constant S_ .f32 0x7F800000#32
  let main_v13 : FVec F S1024x5632 .f32 := broadcastInDim S1024x5632 ![] bcast_S_S1024x5632 main_cst_2
  let main_v14 : IVec S1024x5632 1 := cmpf .olt main_v12 main_v13
  let main_c_3 : IVec S_ 1 := constantI S_ 1 1#1
  let main_v15 : IVec S_ 1 := (fun x v => Host.reduce IntOp.andi x v reducesTo_S1024x5632_S_d0_1 h_S_) main_v14 main_c_3
  let main_v16 : IVec S_ 1 := andi main_v10 main_v15
  let main_v17 : FVec F S8192x1024 .f32 := Host.absf main_arg3
  fn_part1 (F := F) main_arg5 main_v16 main_v17
-- ==== Pre_ffn_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v15 : IVec S_ 1) (main_v16 : FVec F S8192x2816 .f32) (main_cst_4 : FVec F S_ .f32) : IVec S_ 1 :=
  let main_v17 : FVec F S8192x2816 .f32 := broadcastInDim S8192x2816 ![] bcast_S_S8192x2816 main_cst_4
  let main_v18 : IVec S8192x2816 1 := cmpf .olt main_v16 main_v17
  let main_c_5 : IVec S_ 1 := constantI S_ 1 1#1
  let main_v19 : IVec S_ 1 := (fun x v => Host.reduce IntOp.andi x v reducesTo_S8192x2816_S_d0_1 h_S_) main_v18 main_c_5
  let main_v20 : IVec S_ 1 := andi main_v15 main_v19
  main_v20

def fn {F : FTy → Type} [FloatOps F] (main_arg0 : FVec F S8192x1024 .bf16) (main_arg1 : FVec F S2816x1024 .bf16) (main_arg2 : FVec F S8192x2816 .f32) (main_arg3 : FVec F S8192x2816 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := Host.absf main_arg2
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v10 main_v14
  let main_v16 : FVec F S8192x2816 .f32 := Host.absf main_arg3
  let main_cst_4 : FVec F S_ .f32 := constant S_ .f32 0x7F800000#32
  fn_part1 (F := F) main_v15 main_v16 main_cst_4
-- ==== Pre_finite.lean ====
abbrev S8192x16x192 : Shape := ⟨3, ![8192, 16, 192]⟩
abbrev S8192x16x128 : Shape := ⟨3, ![8192, 16, 128]⟩
abbrev S_ : Shape := ⟨0, ![]⟩

class Facts : Prop where
  bitsLt_bf16_f32 : FTy.bits .bf16 < FTy.bits .f32
  bcast_S_S8192x16x192 : S_.BroadcastsInDim S8192x16x192 (![] : Fin 0 → Fin S8192x16x192.rank)
  reducesTo_S8192x16x192_S_d0_1_2 : S8192x16x192.ReducesTo [0, 1, 2] S_
  h_S_ : 0 < S_.numel
  bcast_S_S8192x16x128 : S_.BroadcastsInDim S8192x16x128 (![] : Fin 0 → Fin S8192x16x128.rank)
  reducesTo_S8192x16x128_S_d0_1_2 : S8192x16x128.ReducesTo [0, 1, 2] S_

variable [Facts]

def fn_part1 {F : FTy → Type} [FloatOps F] (main_v16 : IVec S_ 1) (main_v17 : FVec F S8192x16x128 .f32) : IVec S_ 1 :=
  let main_v18 : FVec F S8192x16x128 .f32 := Host.absf main_v17
  let main_cst_4 : FVec F S_ .f32 := constant S_ .f32 0x7F800000#32
  let main_v19 : FVec F S8192x16x128 .f32 := broadcastInDim S8192x16x128 ![] bcast_S_S8192x16x128 main_cst_4
  let main_v20 : IVec S8192x16x128 1 := cmpf .olt main_v18 main_v19
  let main_c_5 : IVec S_ 1 := constantI S_ 1 1#1
  let main_v21 : IVec S_ 1 := (fun x v => Host.reduce IntOp.andi x v reducesTo_S8192x16x128_S_d0_1_2 h_S_) main_v20 main_c_5
  let main_v22 : IVec S_ 1 := andi main_v16 main_v21
  main_v22

def fn {F : FTy → Type} [FloatOps F] (main_arg0 : FVec F S8192x16x192 .bf16) (main_arg1 : FVec F S8192x16x192 .bf16) (main_arg2 : FVec F S8192x16x128 .bf16) (main_arg3 : FVec F S8192x16x128 .bf16) : IVec S_ 1 :=
  let main_v0 : FVec F S8192x16x192 .f32 := (extf .f32 · bitsLt_bf16_f32) main_arg0
  let main_v1 : FVec F S8192x16x192 .f32 := Host.absf main_v0
  let main_cst : FVec F S_ .f32 := constant S_ .f32 0x7F800000#32
  let main_v2 : FVec F S8192x16x192 .f32 := broadcastInDim S8192x16x192 ![] bcast_S_S8192x16x192 main_cst
  let main_v3 : IVec S8192x16x192 1 := cmpf .olt main_v1 main_v2
  let main_c : IVec S_ 1 := constantI S_ 1 1#1
  let main_v4 : IVec S_ 1 := (fun x v => Host.reduce IntOp.andi x v reducesTo_S8192x16x192_S_d0_1_2 h_S_) main_v3 main_c
  let main_v5 : FVec F S8192x16x192 .f32 := (extf .f32 · bitsLt_bf16_f32) main_arg1
  let main_v6 : FVec F S8192x16x192 .f32 := Host.absf main_v5
  let main_cst_0 : FVec F S_ .f32 := constant S_ .f32 0x7F800000#32
  let main_v7 : FVec F S8192x16x192 .f32 := broadcastInDim S8192x16x192 ![] bcast_S_S8192x16x192 main_cst_0
  let main_v8 : IVec S8192x16x192 1 := cmpf .olt main_v6 main_v7
  let main_c_1 : IVec S_ 1 := constantI S_ 1 1#1
  let main_v9 : IVec S_ 1 := (fun x v => Host.reduce IntOp.andi x v reducesTo_S8192x16x192_S_d0_1_2 h_S_) main_v8 main_c_1
  let main_v10 : IVec S_ 1 := andi main_v4 main_v9
  let main_v11 : FVec F S8192x16x128 .f32 := (extf .f32 · bitsLt_bf16_f32) main_arg2
  let main_v12 : FVec F S8192x16x128 .f32 := Host.absf main_v11
  let main_cst_2 : FVec F S_ .f32 := constant S_ .f32 0x7F800000#32
  let main_v13 : FVec F S8192x16x128 .f32 := broadcastInDim S8192x16x128 ![] bcast_S_S8192x16x128 main_cst_2
  let main_v14 : IVec S8192x16x128 1 := cmpf .olt main_v12 main_v13
  let main_c_3 : IVec S_ 1 := constantI S_ 1 1#1
  let main_v15 : IVec S_ 1 := (fun x v => Host.reduce IntOp.andi x v reducesTo_S8192x16x128_S_d0_1_2 h_S_) main_v14 main_c_3
  let main_v16 : IVec S_ 1 := andi main_v10 main_v15
  let main_v17 : FVec F S8192x16x128 .f32 := (extf .f32 · bitsLt_bf16_f32) main_arg3
  fn_part1 (F := F) main_v16 main_v17
-- ==== Kernel.lean ====
abbrev S8192x16x192 : Shape := ⟨3, ![8192, 16, 192]⟩
abbrev S8192x16x128 : Shape := ⟨3, ![8192, 16, 128]⟩
abbrev S36 : Shape := ⟨1, ![36]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16x256 : Shape := ⟨3, ![8192, 16, 256]⟩
abbrev S8192x4096 : Shape := ⟨2, ![8192, 4096]⟩
abbrev S8192x2048 : Shape := ⟨2, ![8192, 2048]⟩
abbrev S1024x256 : Shape := ⟨2, ![1024, 256]⟩
abbrev S1 : Shape := ⟨1, ![1]⟩
abbrev S1024x128 : Shape := ⟨2, ![1024, 128]⟩
abbrev S1x1024x1 : Shape := ⟨3, ![1, 1024, 1]⟩
abbrev S8192x256 : Shape := ⟨2, ![8192, 256]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x1024 : Shape := ⟨2, ![256, 1024]⟩
abbrev S1x256x1 : Shape := ⟨3, ![1, 256, 1]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩

abbrev nBuf : Space → Nat
  | .hbm => 66
  | .vmem => 20
  | .smem => 2
  | _ => 0

abbrev bufTy : (tb : Table) → Fin (tcTables nBuf tb) → BufTy
  | .hbm, ⟨0, _⟩ => ⟨S8192x16x192, .bf16⟩
  | .hbm, ⟨1, _⟩ => ⟨S8192x16x192, .bf16⟩
  | .hbm, ⟨2, _⟩ => ⟨S8192x16x128, .bf16⟩
  | .hbm, ⟨3, _⟩ => ⟨S8192x16x128, .bf16⟩
  | .hbm, ⟨4, _⟩ => ⟨S16x8192x8192, .f32⟩
  | .hbm, ⟨5, _⟩ => ⟨S16x8192x8192, .bf16⟩
  | .hbm, ⟨6, _⟩ => ⟨S16x8192x8192, .f32⟩
  | .hbm, ⟨7, _⟩ => ⟨S_, .f32⟩
  | .hbm, ⟨8, _⟩ => ⟨S16x8192x8192, .f32⟩
  | .hbm, ⟨9, _⟩ => ⟨S16x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S16x8192x8192, .i1⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192, .f32⟩
  | .hbm, ⟨23, _⟩ => ⟨S16x8192x1, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S_, .f32⟩
  | .hbm, ⟨28, _⟩ => ⟨S16x8192, .f32⟩
  | .hbm, ⟨29, _⟩ => ⟨S16x8192x1, .f32⟩
  | .hbm, ⟨30, _⟩ => ⟨S16x8192x8192, .f32⟩
  | .hbm, ⟨31, _⟩ => ⟨S16x8192x8192, .f32⟩
  | .hbm, ⟨32, _⟩ => ⟨S16x8192x8192, .bf16⟩
  | .hbm, ⟨33, _⟩ => ⟨S16x128x8192, .f32⟩
  | .hbm, ⟨34, _⟩ => ⟨S8192x16x128, .f32⟩
  | .hbm, ⟨35, _⟩ => ⟨S8192x16x128, .bf16⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x8192x1, .f32⟩
  | .hbm, ⟨41, _⟩ => ⟨S16x8192x1, .f32⟩
  | .hbm, ⟨42, _⟩ => ⟨S16x8192x1, .f32⟩
  | .hbm, ⟨43, _⟩ => ⟨S16x8192x1, .f32⟩
  | .hbm, ⟨44, _⟩ => ⟨S8192x16x192, .f32⟩
  | .hbm, ⟨45, _⟩ => ⟨S_, .f32⟩
  | .hbm, ⟨46, _⟩ => ⟨S_, .f32⟩
  | .hbm, ⟨47, _⟩ => ⟨S8192x16x192, .f32⟩
  | .hbm, ⟨48, _⟩ => ⟨S8192x16x192, .f32⟩
  | .hbm, ⟨49, _⟩ => ⟨S8192x16x192, .bf16⟩
  | .hbm, ⟨50, _⟩ => ⟨S_, .i32⟩
  | .hbm, ⟨51, _⟩ => ⟨S_, .bf16⟩
  | .hbm, ⟨52, _⟩ => ⟨S8192x16x256, .bf16⟩
  | .hbm, ⟨53, _⟩ => ⟨S8192x4096, .bf16⟩
  | .hbm, ⟨54, _⟩ => ⟨S_, .i32⟩
  | .hbm, ⟨55, _⟩ => ⟨S_, .bf16⟩
  | .hbm, ⟨56, _⟩ => ⟨S8192x16x256, .bf16⟩
  | .hbm, ⟨57, _⟩ => ⟨S8192x4096, .bf16⟩
  | .hbm, ⟨58, _⟩ => ⟨S8192x16x128, .bf16⟩
  | .hbm, ⟨59, _⟩ => ⟨S8192x16x256, .bf16⟩
  | .hbm, ⟨60, _⟩ => ⟨S8192x4096, .bf16⟩
  | .hbm, ⟨61, _⟩ => ⟨S8192x2048, .bf16⟩
  | .hbm, ⟨62, _⟩ => ⟨S8192x2048, .bf16⟩
  | .hbm, ⟨63, _⟩ => ⟨S8192x4096, .bf16⟩
  | .hbm, ⟨64, _⟩ => ⟨S8192x2048, .f32⟩
  | .hbm, ⟨65, _⟩ => ⟨S8192x4096, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1024x256, .bf16⟩
  | .local _ .vmem, ⟨13, _⟩ => ⟨S1024x256, .bf16⟩
  | .local _ .vmem, ⟨14, _⟩ => ⟨S1024x128, .f32⟩
  | .local _ .vmem, ⟨15, _⟩ => ⟨S1024x128, .f32⟩
  | .local _ .vmem, ⟨16, _⟩ => ⟨S8192x256, .f32⟩
  | .local _ .vmem, ⟨17, _⟩ => ⟨S8192x256, .f32⟩
  | .local _ .vmem, ⟨18, _⟩ => ⟨S1024x256, .f32⟩
  | .local _ .vmem, ⟨19, _⟩ => ⟨S1024x128, .f32⟩
  | .local _ .smem, ⟨0, _⟩ => ⟨S36, .i32⟩
  | .local _ .smem, ⟨1, _⟩ => ⟨S36, .i32⟩
  | _, _ => ⟨S8192x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v57 : BitVec 32 := Scalar.muli v1 c1024_i32
  let c0_i32_30 : BitVec 32 := 0#32
  let v58 : BitVec 32 := Scalar.addi v57 c0_i32_30
  v58
def k0_cond2 (v1 : BitVec 32) (v3 : BitVec 32) : BitVec 1 :=
  let v7 : BitVec 1 := Scalar.cmpi .sgt v1 v3
  let v8 : BitVec 32 := Scalar.extui v7
  let c0_i32_1 : BitVec 32 := 0#32
  let v9 : BitVec 1 := Scalar.cmpi .ne v8 c0_i32_1
  v9

def k0_off2 (v1 : BitVec 32) (c0_i32_30 : BitVec 32) : Fin 2 → Nat :=
  let c1024_i32 : BitVec 32 := 1024#32
  let v57 : BitVec 32 := Scalar.muli v1 c1024_i32
  let v58 : BitVec 32 := Scalar.addi v57 c0_i32_30
  let v59 : BitVec 32 := v58
  let v60 : Index := Scalar.indexCast v59
  let c0_31 : Index := 0#32
  ![v60.toNat, 0]
def k0_mult2 (v1 : BitVec 32) : BitVec 32 :=
  let c1024_i32_63 : BitVec 32 := 1024#32
  let v110 : BitVec 32 := Scalar.muli v1 c1024_i32_63
  let c256_i32 : BitVec 32 := 256#32
  let v111 : BitVec 32 := Scalar.addi v110 c256_i32
  v111
def k0_mult3 (v1 : BitVec 32) : BitVec 32 :=
  let c1024_i32_96 : BitVec 32 := 1024#32
  let v163 : BitVec 32 := Scalar.muli v1 c1024_i32_96
  let c512_i32 : BitVec 32 := 512#32
  let v164 : BitVec 32 := Scalar.addi v163 c512_i32
  v164
def k0_mult4 (v1 : BitVec 32) : BitVec 32 :=
  let c1024_i32_129 : BitVec 32 := 1024#32
  let v216 : BitVec 32 := Scalar.muli v1 c1024_i32_129
  let c768_i32 : BitVec 32 := 768#32
  let v217 : BitVec 32 := Scalar.addi v216 c768_i32
  v217
def k0_mult5 (v1 : BitVec 32) : BitVec 32 :=
  let c1024_i32 : BitVec 32 := 1024#32
  let v72 : BitVec 32 := Scalar.muli v1 c1024_i32
  let c0_i32_38 : BitVec 32 := 0#32
  let v73 : BitVec 32 := Scalar.addi v72 c0_i32_38
  v73
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off3 (v1 : BitVec 32) (c0_i32_38 : BitVec 32) : Fin 2 → Nat :=
  let c1024_i32 : BitVec 32 := 1024#32
  let v72 : BitVec 32 := Scalar.muli v1 c1024_i32
  let v73 : BitVec 32 := Scalar.addi v72 c0_i32_38
  let v74 : BitVec 32 := v73
  let v75 : Index := Scalar.indexCast v74
  let c0_39 : Index := 0#32
  ![v75.toNat, 0]
def k0_mult6 (v1 : BitVec 32) : BitVec 32 :=
  let c1024_i32_72 : BitVec 32 := 1024#32
  let v132 : BitVec 32 := Scalar.muli v1 c1024_i32_72
  let c256_i32_73 : BitVec 32 := 256#32
  let v133 : BitVec 32 := Scalar.addi v132 c256_i32_73
  v133
def k0_mult7 (v1 : BitVec 32) : BitVec 32 :=
  let c1024_i32_107 : BitVec 32 := 1024#32
  let v192 : BitVec 32 := Scalar.muli v1 c1024_i32_107
  let c512_i32_108 : BitVec 32 := 512#32
  let v193 : BitVec 32 := Scalar.addi v192 c512_i32_108
  v193
def k0_mult8 (v1 : BitVec 32) : BitVec 32 :=
  let c1024_i32_142 : BitVec 32 := 1024#32
  let v252 : BitVec 32 := Scalar.muli v1 c1024_i32_142
  let c768_i32_143 : BitVec 32 := 768#32
  let v253 : BitVec 32 := Scalar.addi v252 c768_i32_143
  v253

def k0_chk1 (v1 : BitVec 32) (v3 : BitVec 32) : Prop :=
  (∀ (k0_h2 : k0_cond2 v1 v3 = 1#1), 256 ∣ (k0_mult1 v1).toNat) ∧
  (∀ (k0_h2 : k0_cond2 v1 v3 = 1#1), ∀ (r : Fin 4), ∀ a, (k0_off2 v1 (BitVec.ofNat 32 (256 * r.val))) a + S256x256.size a ≤ S8192x256.size a) ∧
  (∀ (k0_h2 : k0_cond2 v1 v3 = 1#1), 256 ∣ (k0_mult2 v1).toNat) ∧
  (∀ (k0_h2 : k0_cond2 v1 v3 = 1#1), 256 ∣ (k0_mult3 v1).toNat) ∧
  (∀ (k0_h2 : k0_cond2 v1 v3 = 1#1), 256 ∣ (k0_mult4 v1).toNat) ∧
  (∀ (k0_h3 : k0_cond3 v1 v3 = 1#1), 256 ∣ (k0_mult5 v1).toNat) ∧
  (∀ (k0_h3 : k0_cond3 v1 v3 = 1#1), ∀ (r : Fin 4), ∀ a, (k0_off3 v1 (BitVec.ofNat 32 (256 * r.val))) a + S256x256.size a ≤ S8192x256.size a) ∧
  (∀ (k0_h3 : k0_cond3 v1 v3 = 1#1), 256 ∣ (k0_mult6 v1).toNat) ∧
  (∀ (k0_h3 : k0_cond3 v1 v3 = 1#1), 256 ∣ (k0_mult7 v1).toNat) ∧
  (∀ (k0_h3 : k0_cond3 v1 v3 = 1#1), 256 ∣ (k0_mult8 v1).toNat)
theorem k0_mult1_dvd : ∀ (v1 : BitVec 32) (v3 : BitVec 32) (k0_hw1 : k0_chk1 v1 v3), ∀ (k0_h2 : k0_cond2 v1 v3 = 1#1), 256 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ (r : Fin 4), ∀ a, (k0_off2 v1 (BitVec.ofNat 32 (256 * r.val))) a + S256x256.size a ≤ S8192x256.size a := fun v1 v3 k0_hw1 k0_h2 r => k0_hw1.2.1 k0_h2 r
theorem k0_mult2_dvd : ∀ (v1 : BitVec 32) (v3 : BitVec 32) (k0_hw1 : k0_chk1 v1 v3), ∀ (k0_h2 : k0_cond2 v1 v3 = 1#1), 256 ∣ (k0_mult2 v1).toNat := fun v1 v3 k0_hw1 k0_h2 => k0_hw1.2.2.1 k0_h2
theorem k0_mult3_dvd : ∀ (v1 : BitVec 32) (v3 : BitVec 32) (k0_hw1 : k0_chk1 v1 v3), ∀ (k0_h2 : k0_cond2 v1 v3 = 1#1), 256 ∣ (k0_mult3 v1).toNat := fun v1 v3 k0_hw1 k0_h2 => k0_hw1.2.2.2.1 k0_h2
theorem k0_mult4_dvd : ∀ (v1 : BitVec 32) (v3 : BitVec 32) (k0_hw1 : k0_chk1 v1 v3), ∀ (k0_h2 : k0_cond2 v1 v3 = 1#1), 256 ∣ (k0_mult4 v1).toNat := fun v1 v3 k0_hw1 k0_h2 => k0_hw1.2.2.2.2.1 k0_h2
theorem k0_mult5_dvd : ∀ (v1 : BitVec 32) (v3 : BitVec 32) (k0_hw1 : k0_chk1 v1 v3), ∀ (k0_h3 : k0_cond3 v1 v3 = 1#1), 256 ∣ (k0_mult5 v1).toNat := fun v1 v3 k0_hw1 k0_h3 => k0_hw1.2.2.2.2.2.1 k0_h3
theorem k0_off3_inb : ∀ (v1 : BitVec 32) (v3 : BitVec 32) (k0_hw1 : k0_chk1 v1 v3), ∀ (k0_h3 : k0_cond3 v1 v3 = 1#1), ∀ (r : Fin 4), ∀ a, (k0_off3 v1 (BitVec.ofNat 32 (256 * r.val))) a + S256x256.size a ≤ S8192x256.size a := fun v1 v3 k0_hw1 k0_h3 r => k0_hw1.2.2.2.2.2.2.1 k0_h3 r
theorem k0_mult6_dvd : ∀ (v1 : BitVec 32) (v3 : BitVec 32) (k0_hw1 : k0_chk1 v1 v3), ∀ (k0_h3 : k0_cond3 v1 v3 = 1#1), 256 ∣ (k0_mult6 v1).toNat := fun v1 v3 k0_hw1 k0_h3 => k0_hw1.2.2.2.2.2.2.2.1 k0_h3
theorem k0_mult7_dvd : ∀ (v1 : BitVec 32) (v3 : BitVec 32) (k0_hw1 : k0_chk1 v1 v3), ∀ (k0_h3 : k0_cond3 v1 v3 = 1#1), 256 ∣ (k0_mult7 v1).toNat := fun v1 v3 k0_hw1 k0_h3 => k0_hw1.2.2.2.2.2.2.2.2.1 k0_h3
theorem k0_mult8_dvd : ∀ (v1 : BitVec 32) (v3 : BitVec 32) (k0_hw1 : k0_chk1 v1 v3), ∀ (k0_h3 : k0_cond3 v1 v3 = 1#1), 256 ∣ (k0_mult8 v1).toNat := fun v1 v3 k0_hw1 k0_h3 => k0_hw1.2.2.2.2.2.2.2.2.2 k0_h3

def k0_cond4 (v1 : BitVec 32) : BitVec 1 :=
  let c7_i32 : BitVec 32 := 7#32
  let v13 : BitVec 1 := Scalar.cmpi .eq v1 c7_i32
  let v14 : BitVec 32 := Scalar.extui v13
  let c0_i32_3 : BitVec 32 := 0#32
  let v15 : BitVec 1 := Scalar.cmpi .ne v14 c0_i32_3
  v15

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c2_i32 : BitVec 32 := 2#32
  let v2 : BitVec 32 := Scalar.muli c2_i32 arg0
  let c1_i32 : BitVec 32 := 1#32
  let v3 : BitVec 32 := Scalar.addi v2 c1_i32
  let c0_i32 : BitVec 32 := 0#32
  ![v1.toNat, v3.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x16x192 : Shape := ⟨3, ![8192, 16, 192]⟩
abbrev S8192x16x128 : Shape := ⟨3, ![8192, 16, 128]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x192 : Shape := ⟨3, ![16, 8192, 192]⟩
abbrev S8192x16x256 : Shape := ⟨3, ![8192, 16, 256]⟩
abbrev S8192x4096 : Shape := ⟨2, ![8192, 4096]⟩
abbrev S8192x16x64 : Shape := ⟨3, ![8192, 16, 64]⟩
abbrev S8192x2048 : Shape := ⟨2, ![8192, 2048]⟩

abbrev nBuf : Space → Nat
  | .hbm => 112
  | .vmem => 0
  | .smem => 0
  | _ => 0

abbrev bufTy : (tb : Table) → Fin (tcTables nBuf tb) → BufTy
  | .hbm, ⟨0, _⟩ => ⟨S8192x16x192, .bf16⟩
  | .hbm, ⟨1, _⟩ => ⟨S8192x16x192, .bf16⟩
  | .hbm, ⟨2, _⟩ => ⟨S8192x16x128, .bf16⟩
  | .hbm, ⟨3, _⟩ => ⟨S8192x16x128, .bf16⟩
  | .hbm, ⟨4, _⟩ => ⟨S8192x16x192, .f32⟩
  | .hbm, ⟨5, _⟩ => ⟨S_, .f32⟩
  | .hbm, ⟨6, _⟩ => ⟨S8192x16x192, .f32⟩
  | .hbm, ⟨7, _⟩ => ⟨S8192x16x192, .f32⟩
  | .hbm, ⟨8, _⟩ => ⟨S8192x16x192, .f32⟩
  | .hbm, ⟨9, _⟩ => ⟨S8192x16x128, .f32⟩
  | .hbm, ⟨10, _⟩ => ⟨S16x8192x8192, .f32⟩
  | .hbm, ⟨11, _⟩ => ⟨S16x8192x8192, .bf16⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S16x8192x8192, .i1⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192x8192, .f32⟩
  | .hbm, ⟨26, _⟩ => ⟨S_, .f32⟩
  | .hbm, ⟨27, _⟩ => ⟨S16x8192, .f32⟩
  | .hbm, ⟨28, _⟩ => ⟨S16x8192x1, .f32⟩
  | .hbm, ⟨29, _⟩ => ⟨S16x8192x8192, .f32⟩
  | .hbm, ⟨30, _⟩ => ⟨S16x8192x8192, .i1⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S_, .f32⟩
  | .hbm, ⟨35, _⟩ => ⟨S16x8192, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S16x8192, .i1⟩
  | .hbm, ⟨40, _⟩ => ⟨S_, .f32⟩
  | .hbm, ⟨41, _⟩ => ⟨S16x8192, .f32⟩
  | .hbm, ⟨42, _⟩ => ⟨S16x8192, .i1⟩
  | .hbm, ⟨43, _⟩ => ⟨S_, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S16x8192, .f32⟩
  | .hbm, ⟨50, _⟩ => ⟨S16x8192, .f32⟩
  | .hbm, ⟨51, _⟩ => ⟨S16x8192x1, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S_, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x1, .f32⟩
  | .hbm, ⟨61, _⟩ => ⟨S_, .f32⟩
  | .hbm, ⟨62, _⟩ => ⟨S16x8192x1, .f32⟩
  | .hbm, ⟨63, _⟩ => ⟨S16x8192x1, .f32⟩
  | .hbm, ⟨64, _⟩ => ⟨S16x8192x8192, .bf16⟩
  | .hbm, ⟨65, _⟩ => ⟨S16x8192x8192, .f32⟩
  | .hbm, ⟨66, _⟩ => ⟨S16x128x8192, .f32⟩
  | .hbm, ⟨67, _⟩ => ⟨S8192x16x128, .f32⟩
  | .hbm, ⟨68, _⟩ => ⟨S8192x16x128, .bf16⟩
  | .hbm, ⟨69, _⟩ => ⟨S8192x16x128, .f32⟩
  | .hbm, ⟨70, _⟩ => ⟨S16x128x8192, .f32⟩
  | .hbm, ⟨71, _⟩ => ⟨S16x8192x8192, .f32⟩
  | .hbm, ⟨72, _⟩ => ⟨S16x128x8192, .f32⟩
  | .hbm, ⟨73, _⟩ => ⟨S8192x16x128, .f32⟩
  | .hbm, ⟨74, _⟩ => ⟨S16x8192x8192, .bf16⟩
  | .hbm, ⟨75, _⟩ => ⟨S16x8192x8192, .f32⟩
  | .hbm, ⟨76, _⟩ => ⟨S16x8192x8192, .f32⟩
  | .hbm, ⟨77, _⟩ => ⟨S16x8192x8192, .f32⟩
  | .hbm, ⟨78, _⟩ => ⟨S16x8192x8192, .f32⟩
  | .hbm, ⟨79, _⟩ => ⟨S_, .f32⟩
  | .hbm, ⟨80, _⟩ => ⟨S16x8192, .f32⟩
  | .hbm, ⟨81, _⟩ => ⟨S16x8192x1, .f32⟩
  | .hbm, ⟨82, _⟩ => ⟨S16x8192x1, .f32⟩
  | .hbm, ⟨83, _⟩ => ⟨S16x8192x8192, .f32⟩
  | .hbm, ⟨84, _⟩ => ⟨S16x8192x8192, .f32⟩
  | .hbm, ⟨85, _⟩ => ⟨S_, .f32⟩
  | .hbm, ⟨86, _⟩ => ⟨S16x8192, .f32⟩
  | .hbm, ⟨87, _⟩ => ⟨S16x8192x8192, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S16x8192x8192, .f32⟩
  | .hbm, ⟨92, _⟩ => ⟨S16x8192x8192, .f32⟩
  | .hbm, ⟨93, _⟩ => ⟨S16x8192x8192, .bf16⟩
  | .hbm, ⟨94, _⟩ => ⟨S16x8192x8192, .f32⟩
  | .hbm, ⟨95, _⟩ => ⟨S16x8192x192, .f32⟩
  | .hbm, ⟨96, _⟩ => ⟨S8192x16x192, .f32⟩
  | .hbm, ⟨97, _⟩ => ⟨S16x8192x192, .f32⟩
  | .hbm, ⟨98, _⟩ => ⟨S8192x16x192, .f32⟩
  | .hbm, ⟨99, _⟩ => ⟨S8192x16x128, .f32⟩
  | .hbm, ⟨100, _⟩ => ⟨S8192x16x256, .f32⟩
  | .hbm, ⟨101, _⟩ => ⟨S8192x4096, .f32⟩
  | .hbm, ⟨102, _⟩ => ⟨S8192x4096, .bf16⟩
  | .hbm, ⟨103, _⟩ => ⟨S8192x16x64, .f32⟩
  | .hbm, ⟨104, _⟩ => ⟨S_, .i32⟩
  | .hbm, ⟨105, _⟩ => ⟨S_, .f32⟩
  | .hbm, ⟨106, _⟩ => ⟨S8192x16x128, .f32⟩
  | .hbm, ⟨107, _⟩ => ⟨S8192x2048, .f32⟩
  | .hbm, ⟨108, _⟩ => ⟨S_, .i32⟩
  | .hbm, ⟨109, _⟩ => ⟨S_, .f32⟩
  | .hbm, ⟨110, _⟩ => ⟨S8192x16x256, .f32⟩
  | .hbm, ⟨111, _⟩ => ⟨S8192x4096, .f32⟩
  | _, _ => ⟨S8192x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c : Ref sig .tc := ⟨.hbm, 104, rfl⟩
abbrev main_call2_v0 : Ref sig .tc := ⟨.hbm, 105, rfl⟩
abbrev main_v79 : Ref sig .tc := ⟨.hbm, 106, rfl⟩
abbrev main_v80 : Ref sig .tc := ⟨.hbm, 107, rfl⟩
abbrev main_c_13 : Ref sig .tc := ⟨.hbm, 108, rfl⟩
abbrev main_call3_v0 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== FfnKernel.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== UpKernel.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x256 : Shape := ⟨2, ![1024, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .f32⟩
  | .hbm, ⟨3, _⟩ => ⟨S8192x2816, .f32⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== DwKernel.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownKernel.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownDwKernel.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixKernel.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixDwKernel.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwReferenceIdeal.lean ====
abbrev S8192x2048 : Shape := ⟨2, ![8192, 2048]⟩
abbrev S8192x1024 : Shape := ⟨2, ![8192, 1024]⟩
abbrev S1024x2048 : Shape := ⟨2, ![1024, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S1024x2048, .f32⟩
  | .hbm, ⟨5, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaDxKernel.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDxReferenceIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S8192x1024, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HybDxKernel.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybDxReferenceIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S8192x1024, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HybKernel.lean ====
abbrev S8192x1024 : Shape := ⟨2, ![8192, 1024]⟩
abbrev S1024x4608 : Shape := ⟨2, ![1024, 4608]⟩
abbrev S8192x4608 : Shape := ⟨2, ![8192, 4608]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybReferenceIdeal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x1024, .f32⟩
  | .hbm, ⟨3, _⟩ => ⟨S1024x4608, .f32⟩
  | .hbm, ⟨4, _⟩ => ⟨S8192x4608, .f32⟩
  | .hbm, ⟨5, _⟩ => ⟨S8192x4608, .bf16⟩
  | .hbm, ⟨6, _⟩ => ⟨S8192x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HybDwKernel.lean ====
abbrev S8192x1024 : Shape := ⟨2, ![8192, 1024]⟩
abbrev S8192x4608 : Shape := ⟨2, ![8192, 4608]⟩
abbrev S1024x4608 : Shape := ⟨2, ![1024, 4608]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybDwReferenceIdeal.lean ====
abbrev S8192x1024 : Shape := ⟨2, ![8192, 1024]⟩
abbrev S8192x4608 : Shape := ⟨2, ![8192, 4608]⟩
abbrev S4608x1024 : Shape := ⟨2, ![4608, 1024]⟩
abbrev S1024x4608 : Shape := ⟨2, ![1024, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S8192x1024, .f32⟩
  | .hbm, ⟨3, _⟩ => ⟨S8192x4608, .f32⟩
  | .hbm, ⟨4, _⟩ => ⟨S4608x1024, .f32⟩
  | .hbm, ⟨5, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxKernel.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S1024x1408 : Shape := ⟨2, ![1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_4 : BitVec 32 := 0#32
  let v15 : BitVec 1 := Scalar.cmpi .ne v14 c0_i32_4
  v15

def k0_cond5 (i : grid0.Coords) : BitVec 1 :=
  let arg0 : BitVec 32 := BitVec.ofNat 32 (i 0).val
  let c0_i32_19 : BitVec 32 := 0#32
  let v47 : BitVec 1 := Scalar.cmpi .eq arg0 c0_i32_19
  let v48 : BitVec 32 := Scalar.extui v47
  let c0_i32_20 : BitVec 32 := 0#32
  let v49 : BitVec 1 := Scalar.cmpi .ne v48 c0_i32_20
  v49

def k0_cond6 (i : grid0.Coords) : BitVec 1 :=
  let arg0 : BitVec 32 := BitVec.ofNat 32 (i 0).val
  let c0_i32_21 : BitVec 32 := 0#32
  let v50 : BitVec 1 := Scalar.cmpi .sgt arg0 c0_i32_21
  let v51 : BitVec 32 := Scalar.extui v50
  let c0_i32_22 : BitVec 32 := 0#32
  let v52 : BitVec 1 := Scalar.cmpi .ne v51 c0_i32_22
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 v2
  let c0_i32_2 : BitVec 32 := 0#32
  let c0_i32_3 : BitVec 32 := 0#32
  ![c0_i32_2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DxReferenceIdeal.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024x5632, .f32⟩
  | .hbm, ⟨7, _⟩ => ⟨S1024x2816, .f32⟩
  | .hbm, ⟨8, _⟩ => ⟨S1024x2816, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.Reals.lean ====
/- Extended reals that are real numbers: closure under sums, products and finite sums; and what the precondition "every
   element is finite" says of one element. -/
module

public import Idealize.ShloMosaic.PureOps.Ideal
public import Idealize.ShloMosaic.Lib.KernelVsHost
public import Idealize.ShloMosaic.Lib.ReduceAll

@[expose] public section

noncomputable section

namespace Cert.Reals

open Idealize.ShloMosaic
open scoped BigOperators

/-- The value is a real number. -/
def IsR (x : EReal) : Prop := ∃ r : ℝ, x = (r : EReal)

theorem IsR.coe (r : ℝ) : IsR (r : EReal) := ⟨r, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} (s : Finset ι) (f : ι → EReal) (hf : ∀ i ∈ s, IsR (f i)) : IsR (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- The pattern of the largest exponent and no significand is `+∞`. -/
theorem ofBits_top : Ideal.ofBits .f32 0x7F800000#32 = ⊤ := by simp [Ideal.ofBits, Ideal.ieee]

/-- An absolute value below `+∞` is that of a real number. -/
theorem isR_of_abs_lt (x : Ideal .f32)
    (h : FloatOps.cmpf .olt (FloatOps.hostAbsf x) (FloatOps.ofBits (F := Ideal) .f32 0x7F800000#32) = 1#1) : IsR x := by
  rw [← Ideal.xori_weird_eq_hostAbsf_olt_inf] at h
  have h' : IntOp.xori (BitVec.ofBool (decide ((x : EReal) = ⊤ ∨ (x : EReal) = ⊥))) 1#1 = 1#1 := h
  by_cases e : (x : EReal) = ⊤ ∨ (x : EReal) = ⊥
  · simp [e, IntOp.xori] at h'
  · push Not at e
    exact ⟨EReal.toReal x, (EReal.coe_toReal e.1 e.2).symm⟩

/-- `and` of two bits is one only when both are. -/
theorem andi_one : ∀ a b : BitVec 1, IntOp.andi a b = 1#1 → a = 1#1 ∧ b = 1#1 := by decide

end Cert.Reals

end
-- ==== Proof.Ffn.lean ====
/- The value of the gradient through the gated activation: block by block the kernel computes the same numbers as the whole
   arrays' reference. -/
module

public import proofs.«01_k».proof.Defs
public import proofs.«01_k».proof.Proof.Reals
public import proofs.«01_k».proof.Proof.Gen.FfnKernel.Frame
public import proofs.«01_k».proof.Proof.Gen.FfnKernelIdeal.Value
public import proofs.«01_k».proof.Proof.Gen.FfnReferenceIdeal.Run
public import proofs.«01_k».proof.Proof.Gen.Pre_ffn_finite
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.Ffn

open Cert.FfnKernelIdeal Cert.FfnKernelIdeal.Gen Idealize.ShloMosaic Idealize.ShloMosaic.TcCoe Idealize.SL.Sem
open Idealize.ShloMosaic.ValueIdx Cert.Reals
open Idealize.ShloMosaic.Pipeline (Dat)
open scoped BigOperators

theorem hz : (![0, 0] : Fin 2 → Nat) = fun _ => 0 := funext fun a => by fin_cases a <;> rfl

/-- One element of the gradient of the gated product before it reaches the activation. -/
def ds (df : S8192x1024.Idx → EReal) (w : S2816x1024.Idx → EReal) (r : Fin 8192) (c : Fin 2816) : EReal :=
  ∑ k : Fin 1024, df (ix2 r k) * w (ix2 c k)

/-- The gradient of the gate, element by element, as the kernel computes it. -/
def gateG (df : S8192x1024.Idx → EReal) (w : S2816x1024.Idx → EReal) (g u : S8192x2816.Idx → EReal) : S8192x2816.Idx → EReal := fun j =>
  ds df w (j 0) (j 1) * u j * (Ideal.logistic (g j) * (1 + g j * (1 - Ideal.logistic (g j))))

/-- The gradient of the other factor. -/
def upG (df : S8192x1024.Idx → EReal) (w : S2816x1024.Idx → EReal) (g : S8192x2816.Idx → EReal) : S8192x2816.Idx → EReal := fun j =>
  ds df w (j 0) (j 1) * (g j * Ideal.logistic (g j))

variable (m : (ℓ : Loc nD τ sig) → Buf (Elt Ideal) ℓ) (ρ : Dev nD → PrngReg)

theorem pay1_apply (x : Vec Ideal S1024x1024 .bf16) (w : Vec Ideal S256x1024 .bf16) (r : Fin 1024) (c : Fin 256) :
    k0_pay1 (F := Ideal) x w (ix2 r c) = ∑ k : Fin 1024, (x (ix2 r k) : EReal) * w (ix2 c k) := by
  show FloatOps.matmul (F := Ideal) (φ₁ := .bf16) (φ₂ := .bf16) (DotDims.transposedRhs 1024 1024 256) none x w (constant S1024x256 .f32 0x00000000#32) (ix2 r c) = _
  rw [Ideal.matmul_transposedRhs_apply]
  show Ideal.ofBits .f32 0x00000000#32 + _ = _
  rw [show Ideal.ofBits .f32 0x00000000#32 = 0 by simp [Ideal.ofBits, Ideal.ieee], zero_add]

theorem out4_apply (x0 : Vec Ideal S1024x1024 .bf16) (x1 : Vec Ideal S256x1024 .bf16) (x2 x3 : Vec Ideal S1024x256 .f32)
    (r : Fin 1024) (c : Fin 256) :
    out0_4 (F := Ideal) x0 x1 x2 x3 (ix2 r c)
      = (∑ k : Fin 1024, (x0 (ix2 r k) : EReal) * x1 (ix2 c k)) * x3 (ix2 r c)
        * (Ideal.logistic (x2 (ix2 r c)) * (1 + x2 (ix2 r c) * (1 - Ideal.logistic (x2 (ix2 r c))))) := by
  unfold out0_4
  rw [View.canon_unit_zero hz]
  simp only [View.ld_unit_zero (S := S1024x1024) hz, View.ld_unit_zero (S := S256x1024) hz, View.ld_unit_zero (S := S1024x256) hz]
  have h1 : Ideal.ofBits .f32 0x3F800000#32 = 1 := Ideal.ofBits_one_f32
  rw [← pay1_apply, ← h1]
  rfl

theorem out5_apply (x0 : Vec Ideal S1024x1024 .bf16) (x1 : Vec Ideal S256x1024 .bf16) (x2 x3 : Vec Ideal S1024x256 .f32)
    (r : Fin 1024) (c : Fin 256) :
    out0_5 (F := Ideal) x0 x1 x2 x3 (ix2 r c)
      = (∑ k : Fin 1024, (x0 (ix2 r k) : EReal) * x1 (ix2 c k)) * (x2 (ix2 r c) * Ideal.logistic (x2 (ix2 r c))) := by
  unfold out0_5
  rw [View.canon_unit_zero hz]
  simp only [View.ld_unit_zero (S := S1024x1024) hz, View.ld_unit_zero (S := S256x1024) hz, View.ld_unit_zero (S := S1024x256) hz]
  rw [← pay1_apply]
  rfl

/-- Where the windows' blocks lie: block row `t / 11`, block column `t % 11`. -/
theorem idx_facts : ∀ t : Fin grid0.N, win0_0.index t 0 = t.val / 11 ∧ win0_0.index t 1 = 0 ∧ win0_1.index t 0 = t.val % 11
    ∧ win0_1.index t 1 = 0 ∧ win0_2.index t 0 = t.val / 11 ∧ win0_2.index t 1 = t.val % 11
    ∧ win0_3.index t 0 = t.val / 11 ∧ win0_3.index t 1 = t.val % 11
    ∧ win0_4.index t 0 = t.val / 11 ∧ win0_4.index t 1 = t.val % 11
    ∧ win0_5.index t 0 = t.val / 11 ∧ win0_5.index t 1 = t.val % 11 := by decide +kernel

theorem N88 : cfg0.N = 88 := N_0

/-- The row of the whole array that row `r` of point `t`'s blocks is. -/
def row (t : Fin cfg0.N) (r : Fin 1024) : Fin 8192 := ⟨t.val / 11 * 1024 + r.val, by have := lt_of_lt_of_eq t.isLt N88; have := r.isLt; omega⟩
/-- The column. -/
def col (t : Fin cfg0.N) (c : Fin 256) : Fin 2816 := ⟨t.val % 11 * 256 + c.val, by have := c.isLt; omega⟩

theorem iblk0 (c : Dev nD) (t : Fin cfg0.N) (r k : Fin 1024) :
    iblk m c 0 t (ix2 r k) = m (c.tc.loc main_arg0) (ix2 (row t r) k) := by
  unfold iblk; rw [View.read_apply]
  show m (c.tc.loc main_arg0) _ = _
  congr 1; funext a; apply Fin.ext
  match a with
  | ⟨0, _⟩ => show win0_0.index t 0 * 1024 + 1 * r.val = t.val / 11 * 1024 + r.val; rw [(idx_facts t).1]; omega
  | ⟨1, _⟩ => show win0_0.index t 1 * 1024 + 1 * k.val = k.val; rw [(idx_facts t).2.1]; omega

theorem iblk1 (c : Dev nD) (t : Fin cfg0.N) (r : Fin 256) (k : Fin 1024) :
    iblk m c 1 t (ix2 r k) = m (c.tc.loc main_arg1) (ix2 (col t r) k) := by
  unfold iblk; rw [View.read_apply]
  show m (c.tc.loc main_arg1) _ = _
  congr 1; funext a; apply Fin.ext
  match a with
  | ⟨0, _⟩ => show win0_1.index t 0 * 256 + 1 * r.val = t.val % 11 * 256 + r.val; rw [(idx_facts t).2.2.1]; omega
  | ⟨1, _⟩ => show win0_1.index t 1 * 1024 + 1 * k.val = k.val; rw [(idx_facts t).2.2.2.1]; omega

theorem iblk2 (c : Dev nD) (t : Fin cfg0.N) (r : Fin 1024) (k : Fin 256) :
    iblk m c 2 t (ix2 r k) = m (c.tc.loc main_arg2) (ix2 (row t r) (col t k)) := by
  unfold iblk; rw [View.read_apply]
  show m (c.tc.loc main_arg2) _ = _
  congr 1; funext a; apply Fin.ext
  match a with
  | ⟨0, _⟩ => show win0_2.index t 0 * 1024 + 1 * r.val = t.val / 11 * 1024 + r.val; rw [(idx_facts t).2.2.2.2.1]; omega
  | ⟨1, _⟩ => show win0_2.index t 1 * 256 + 1 * k.val = t.val % 11 * 256 + k.val; rw [(idx_facts t).2.2.2.2.2.1]; omega

theorem iblk3 (c : Dev nD) (t : Fin cfg0.N) (r : Fin 1024) (k : Fin 256) :
    iblk m c 3 t (ix2 r k) = m (c.tc.loc main_arg3) (ix2 (row t r) (col t k)) := by
  unfold iblk; rw [View.read_apply]
  show m (c.tc.loc main_arg3) _ = _
  congr 1; funext a; apply Fin.ext
  match a with
  | ⟨0, _⟩ => show win0_3.index t 0 * 1024 + 1 * r.val = t.val / 11 * 1024 + r.val; rw [(idx_facts t).2.2.2.2.2.2.1]; omega
  | ⟨1, _⟩ => show win0_3.index t 1 * 256 + 1 * k.val = t.val % 11 * 256 + k.val; rw [(idx_facts t).2.2.2.2.2.2.2.1]; omega

/-- The two result arrays as functions of the arguments at launch. -/
abbrev res4 (c : Dev nD) : S8192x2816.Idx → EReal :=
  gateG (m (c.tc.loc main_arg0)) (m (c.tc.loc main_arg1)) (m (c.tc.loc main_arg2)) (m (c.tc.loc main_arg3))
abbrev res5 (c : Dev nD) : S8192x2816.Idx → EReal :=
  upG (m (c.tc.loc main_arg0)) (m (c.tc.loc main_arg1)) (m (c.tc.loc main_arg2))

theorem emb4 (t : Fin cfg0.N) (r : Fin 1024) (k : Fin 256) : ((cfg0.win 4).blk t).view.emb (ix2 r k) = ix2 (row t r) (col t k) := by
  funext a; apply Fin.ext
  match a with
  | ⟨0, _⟩ => show win0_4.index t 0 * 1024 + 1 * r.val = t.val / 11 * 1024 + r.val; rw [(idx_facts t).2.2.2.2.2.2.2.2.1]; omega
  | ⟨1, _⟩ => show win0_4.index t 1 * 256 + 1 * k.val = t.val % 11 * 256 + k.val; rw [(idx_facts t).2.2.2.2.2.2.2.2.2.1]; omega

theorem emb5 (t : Fin cfg0.N) (r : Fin 1024) (k : Fin 256) : ((cfg0.win 5).blk t).view.emb (ix2 r k) = ix2 (row t r) (col t k) := by
  funext a; apply Fin.ext
  match a with
  | ⟨0, _⟩ => show win0_5.index t 0 * 1024 + 1 * r.val = t.val / 11 * 1024 + r.val; rw [(idx_facts t).2.2.2.2.2.2.2.2.2.2.1]; omega
  | ⟨1, _⟩ => show win0_5.index t 1 * 256 + 1 * k.val = t.val % 11 * 256 + k.val; rw [(idx_facts t).2.2.2.2.2.2.2.2.2.2.2]; omega

theorem flushed_eq4 (c : Dev nD) (t : Fin cfg0.N) :
    (dats m 0 c).flushed 4 t = ((cfg0.win 4).blk t).view.read (Elt Ideal) (res4 m c) := by
  rw [Value.flushed4]
  funext j
  obtain ⟨r, k, rfl⟩ : ∃ (r : Fin 1024) (k : Fin 256), j = ix2 r k := ⟨j 0, j 1, eq_ix2 _⟩
  rw [View.read_apply, emb4]
  refine (out4_apply _ _ _ _ r k).trans ?_
  simp only [iblk0, iblk1, iblk2, iblk3]
  rfl

theorem flushed_eq5 (c : Dev nD) (t : Fin cfg0.N) :
    (dats m 0 c).flushed 5 t = ((cfg0.win 5).blk t).view.read (Elt Ideal) (res5 m c) := by
  rw [Value.flushed5]
  funext j
  obtain ⟨r, k, rfl⟩ : ∃ (r : Fin 1024) (k : Fin 256), j = ix2 r k := ⟨j 0, j 1, eq_ix2 _⟩
  rw [View.read_apply, emb5]
  refine (out5_apply _ _ _ _ r k).trans ?_
  simp only [iblk0, iblk1, iblk2]
  rfl

/-- Every index of a result lies in one point's block. -/
theorem cover (i : S8192x2816.Idx) : ∃ (t : Fin cfg0.N) (r : Fin 1024) (k : Fin 256), i = ix2 (row t r) (col t k) := by
  have h0 : (i 0 : Nat) < 8192 := (i 0).isLt
  have h1 : (i 1 : Nat) < 2816 := (i 1).isLt
  have hN : (i 0 : Nat) / 1024 * 11 + (i 1 : Nat) / 256 < cfg0.N := by rw [N88]; omega
  refine ⟨⟨(i 0 : Nat) / 1024 * 11 + (i 1 : Nat) / 256, hN⟩, ⟨(i 0 : Nat) % 1024, by omega⟩, ⟨(i 1 : Nat) % 256, by omega⟩, ?_⟩
  funext a; apply Fin.ext
  match a with
  | ⟨0, _⟩ => show (i 0 : Nat) = ((i 0 : Nat) / 1024 * 11 + (i 1 : Nat) / 256) / 11 * 1024 + (i 0 : Nat) % 1024; omega
  | ⟨1, _⟩ => show (i 1 : Nat) = ((i 0 : Nat) / 1024 * 11 + (i 1 : Nat) / 256) % 11 * 256 + (i 1 : Nat) % 256; omega

theorem final4 (c : Dev nD) : (dats m 0 c).arrAt 4 cfg0.N = res4 m c :=
  (dats m 0 c).arrAt_eq_of_cover 4 (res4 m c) (fun t _ => flushed_eq4 m c t) fun i => by
    obtain ⟨t, r, k, e⟩ := cover i
    exact ⟨t, flush0_4 t, by rw [e, ← emb4]; exact View.emb_mem_set _ _⟩

theorem final5 (c : Dev nD) : (dats m 0 c).arrAt 5 cfg0.N = res5 m c :=
  (dats m 0 c).arrAt_eq_of_cover 5 (res5 m c) (fun t _ => flushed_eq5 m c t) fun i => by
    obtain ⟨t, r, k, e⟩ := cover i
    exact ⟨t, flush0_5 t, by rw [e, ← emb5]; exact View.emb_mem_set _ _⟩

/-! ## The reference, element by element -/

theorem dot_apply (x : FVec Ideal Cert.FfnReferenceIdeal.S8192x1024 .f32) (w : FVec Ideal Cert.FfnReferenceIdeal.S2816x1024 .f32) (j : S8192x2816.Idx) :
    Host.dotGeneral Cert.FfnReferenceIdeal.dot_S8192x1024_S2816x1024_S8192x2816_1_1_0_0_n_n none x w j = ds x w (j 0) (j 1) := by
  rw [← matmul_zero_eq_dotGeneral]
  obtain ⟨r, k, rfl⟩ : ∃ (r : Fin 8192) (k : Fin 2816), j = ix2 r k := ⟨j 0, j 1, eq_ix2 _⟩
  show FloatOps.matmul (DotDims.transposedRhs 8192 1024 2816) none x w (constant S8192x2816 .f32 0x00000000#32) (ix2 r k) = _
  rw [Ideal.matmul_transposedRhs_apply]
  show Ideal.ofBits .f32 0x00000000#32 + _ = _
  rw [show Ideal.ofBits .f32 0x00000000#32 = 0 by simp [Ideal.ofBits, Ideal.ieee], zero_add]
  rfl

/-- The product rule: the gate's gradient collected as the kernel collects it. -/
theorem gate_eq (d u g : ℝ) :
    (d : EReal) * u * Ideal.div 1 (1 + Ideal.exp (-(g : EReal)))
      + (g : EReal) * ((d : EReal) * u) * (Ideal.div 1 (1 + Ideal.exp (-(g : EReal))) * (1 - Ideal.div 1 (1 + Ideal.exp (-(g : EReal)))))
    = (d : EReal) * u * (Ideal.logistic g * (1 + (g : EReal) * (1 - Ideal.logistic g))) := by
  have e : Ideal.div 1 (1 + Ideal.exp (-(g : EReal))) = Ideal.logistic g := rfl
  rw [e, Ideal.logistic_coe]
  generalize (1 + Real.exp (-g))⁻¹ = s
  norm_cast
  ring_nf

/-- What the precondition says of every element. -/
theorem finite_elim (h : Cert.Pre_FfnKernelIdeal_ffn_finite m) (c : Dev nD) :
    (∀ i, IsR (m (c.tc.loc main_arg0) i)) ∧ (∀ i, IsR (m (c.tc.loc main_arg1) i))
    ∧ (∀ i, IsR (m (c.tc.loc main_arg2) i)) ∧ (∀ i, IsR (m (c.tc.loc main_arg3) i)) := by
  haveI : Subsingleton Cert.Pre_ffn_finite.S_.Idx := ⟨fun a b => funext fun x => x.elim0⟩
  have h0 := congrFun (h c) (fun x => x.elim0)
  obtain ⟨h1, h3⟩ := andi_one _ _ h0
  obtain ⟨h1, h2⟩ := andi_one _ _ h1
  obtain ⟨h0, h1⟩ := andi_one _ _ h1
  exact ⟨fun i => isR_of_abs_lt _ (Host.reduce_andi_all _ _ _ _ _ h0 i), fun i => isR_of_abs_lt _ (Host.reduce_andi_all _ _ _ _ _ h1 i),
    fun i => isR_of_abs_lt _ (Host.reduce_andi_all _ _ _ _ _ h2 i), fun i => isR_of_abs_lt _ (Host.reduce_andi_all _ _ _ _ _ h3 i)⟩

theorem ds_real {df : S8192x1024.Idx → EReal} {w : S2816x1024.Idx → EReal} (h0 : ∀ i, IsR (df i)) (h1 : ∀ i, IsR (w i))
    (r : Fin 8192) (c : Fin 2816) : IsR (ds df w r c) := IsR.sum _ _ fun _ _ => (h0 _).mul (h1 _)

theorem frame_p : Cert.quiescent_FfnKernel := fun m ρ _ => Cert.FfnKernel.Gen.frame m ρ
theorem frame_pi : Cert.quiescent_FfnKernelIdeal := fun m ρ _ => Cert.FfnKernelIdeal.Gen.frame m ρ
theorem frame_pi' : Cert.quiescent_FfnKernelIdeal_pre_ffn_finite := fun m ρ _ => Cert.FfnKernelIdeal.Gen.frame m ρ
theorem frame_ri : Cert.quiescent_FfnReferenceIdeal := fun m ρ _ =>
  (θ_run Cert.FfnReferenceIdeal.defs _ _).mono (fun r h => ⟨fun c => (h c).2.2, sem_eq_zero_of_no_sems (by decide) r.2⟩)
    (Cert.FfnReferenceIdeal.Value.run (F := Ideal) m ρ)
theorem frame_ri' : Cert.quiescent_FfnReferenceIdeal_pre_ffn_finite := fun m ρ _ => frame_ri m ρ trivial

theorem preserves : Cert.preserves_FfnKernel_FfnKernelIdeal := trivial

theorem algebraic : Cert.algebraic_FfnKernelIdeal_FfnReferenceIdeal_pre_ffn_finite := by
  intro m ρ m' ρ' hpre hagree
  refine ⟨fun c => res4 m c, fun c => res5 m c, ?_, ?_⟩
  · exact (θ_run defs _ _).mono (fun r h c => ⟨(h c).1.trans (final4 m c), (h c).2.1.trans (final5 m c), (h c).2.2⟩)
      (Value.run_blocks (F := Ideal) m ρ)
  · refine (θ_run Cert.FfnReferenceIdeal.defs _ _).mono (fun r h c => ⟨(h c).1.trans ?_, (h c).2.1.trans ?_, (h c).2.2⟩)
      (Cert.FfnReferenceIdeal.Value.run (F := Ideal) m' ρ')
    · rw [(hagree c).1, (hagree c).2.1, (hagree c).2.2.1, (hagree c).2.2.2]
      obtain ⟨f0, f1, f2, f3⟩ := finite_elim m hpre c
      funext j
      obtain ⟨d, hd⟩ := ds_real f0 f1 (j 0) (j 1)
      obtain ⟨g, hg⟩ := f2 j
      obtain ⟨u, hu⟩ := f3 j
      have key := gate_eq d u g
      have h1 : Ideal.ofBits .f32 0x3F800000#32 = 1 := Ideal.ofBits_one_f32
      rw [← hd, ← hg, ← hu, ← dot_apply] at key
      rw [← h1] at key
      refine Eq.trans ?_ (key.trans ?_)
      · rfl
      · rw [dot_apply, h1]; rfl
    · rw [(hagree c).1, (hagree c).2.1, (hagree c).2.2.1]
      funext j
      have h1 : Ideal.ofBits .f32 0x3F800000#32 = 1 := Ideal.ofBits_one_f32
      show _ = ds _ _ _ _ * (_ * Ideal.div 1 (1 + Ideal.exp _))
      rw [mul_comm, ← dot_apply, ← h1]
      rfl

end Cert.Ffn

end
-- ==== Proof.AttnImports.lean ====
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Gen.KernelIdeal
public import proofs.«01_k».proof.Proof.Gen.KernelIdeal.Launch
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
-- ==== Proof.AttnOps.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle

/-! How a piece of the body of the attention gradient runs on buffers it owns: loads read the contents on a rectangle, stores
overlay one. -/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The weakest precondition of a piece of the body on core `c`. -/
abbrev W (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A load from an owned buffer reads its contents on the rectangle. -/
theorem load_owns (c : Dev nD) {sh : Shape} {e : EltTy} (m : Memref sig .tc .vmem sh e) (x : sh.Idx → Elt F e)
    (r : Rect sh) (hl : m.view.LoadsAt r.toLoadRect) (A R : sProp 𝕄)
    (h : A ⊢ iprop(owns c.tc m fullShare x ∗ R)) (h' : iprop(owns c.tc m fullShare x ∗ R) ⊢ A)
    (Q : (r.shape.Idx → Elt F e) → sProp 𝕄) (hQ : A ⊢ Q (View.ld x r)) :
    A ⊢ W c (Prog.lift (.load m r.toLoadRect hl)) Q := by
  refine h.trans ?_
  iintro ⟨H, HR⟩
  unfold owns
  icases H with ⟨%f, %hf, H⟩
  have key : (m.view.loc (c : Thread nD τ) ↦[m.view.set]{fullShare} f)
      ⊢ iprop(((m.view.loc (c : Thread nD τ) ↦[m.view.set]{fullShare} f) -∗ W c (.ret (m.view.readAt (Elt F) r.toLoadRect f)) Q)
        -∗ W c (Prog.lift (.load m r.toLoadRect hl)) Q) :=
    wp_load Variants.none (c : Thread nD τ) none Set.univ (k := .ret) (View.setOn_subset_set _ _)
  iapply key $$ H
  iintro H
  iapply (le_wp_ret _ _ _ _ _)
  rw [View.readAt_eq_ld, hf]
  iapply hQ
  iapply h'
  isplitl [H]
  · unfold owns
    iexists f; isplitr
    · ipureintro; exact hf
    iexact H
  iexact HR

theorem read_write_overlay {sh : Shape} {e : EltTy} (m : Memref sig .tc .vmem sh e) (r : Rect sh) (f : m.view.ty.Contents (Elt F))
    (w : r.shape.Idx → Elt F e) :
    m.view.read (Elt F) ((m.access r).write (Elt F) f w Finset.univ) = r.overlay (m.view.read (Elt F) f) w := by
  funext y
  by_cases hy : y ∈ r.set
  · obtain ⟨x, rfl⟩ : ∃ x, r.emb x = y := r.exists_idx_of_mem hy
    rw [Rect.overlay_emb]
    exact View.read_slice_write_emb r f w (Finset.mem_univ x)
  · rw [Rect.overlay_of_not_mem _ _ _ hy]
    exact View.read_slice_write_of_not_mem r _ _ _ (by rwa [Rect.map_emb_univ])

/-- A store into an owned buffer overlays the stored rectangle. -/
theorem store_owns (c : Dev nD) {sh : Shape} {e : EltTy} (m : Memref sig .tc .vmem sh e) (x : sh.Idx → Elt F e)
    (r : Rect sh) (w : r.shape.Idx → Elt F e) (hx : (m.access r).Stores Finset.univ) (hm : Finset.univ = Finset.univ ∨ ∀ a, r.stride a = 1) (A B R : sProp 𝕄)
    (h : A ⊢ iprop(owns c.tc m fullShare x ∗ R))
    (h' : iprop(owns c.tc m fullShare (r.overlay x w) ∗ R) ⊢ B)
    (Q : PUnit → sProp 𝕄) (hQ : B ⊢ Q ⟨⟩) :
    A ⊢ W c (Prog.lift (.store m r w Finset.univ hx hm)) Q := by
  refine h.trans ?_
  iintro ⟨H, HR⟩
  unfold owns
  icases H with ⟨%f, %hf, H⟩
  have key : (m.view.loc (c : Thread nD τ) ↦[m.view.set]{fullShare} f)
      ⊢ iprop(((m.view.loc (c : Thread nD τ) ↦[m.view.set]{fullShare} (m.access r).write (Elt F) f w Finset.univ) -∗ W c (.ret ⟨⟩) Q)
        -∗ W c (Prog.lift (.store m r w Finset.univ hx hm)) Q) :=
    wp_store Variants.none (c : Thread nD τ) none Set.univ (Q := Q) (m := m) (r := r) (w := w) (hx := hx) (hm := hm) (k := .ret) (Mk := Finset.univ) (S := m.view.set) (f := f) ((View.setOn_subset_set _ _).trans (View.set_slice_subset m.view r))
  iapply key $$ H
  iintro H
  iapply (le_wp_ret _ _ _ _ _)
  iapply hQ
  iapply h'
  isplitl [H]
  · unfold owns
    iexists ((m.access r).write (Elt F) f w Finset.univ)
    isplitr
    · ipureintro; rw [read_write_overlay, hf]
    iexact H
  iexact HR

/-- Sequencing. -/
theorem bind_W {c : Dev nD} {α β : Type} {p : Prog (TpuEff nD τ sig (Elt F) Λ₀ .tc) α} {k : α → Prog (TpuEff nD τ sig (Elt F) Λ₀ .tc) β}
    {A : sProp 𝕄} {Q : β → sProp 𝕄} (h : A ⊢ W c p fun x => W c (k x) Q) : A ⊢ W c (p >>= k) Q :=
  h.trans (Entails.of_eq (wp_bind _ _ _ p k Q).symm)

/-- Sequencing through a stated middle. -/
theorem seq_W {c : Dev nD} {β : Type} {p : Prog (TpuEff nD τ sig (Elt F) Λ₀ .tc) PUnit} {k : PUnit → Prog (TpuEff nD τ sig (Elt F) Λ₀ .tc) β}
    {A : sProp 𝕄} (B : sProp 𝕄) {Q : β → sProp 𝕄} (h : ∀ K : PUnit → sProp 𝕄, (B ⊢ K ⟨⟩) → A ⊢ W c p K) (h' : B ⊢ W c (k ⟨⟩) Q) : A ⊢ W c (p >>= k) Q :=
  bind_W (h _ h')

theorem pure_W {c : Dev nD} {α : Type} {a : α} {A : sProp 𝕄} {Q : α → sProp 𝕄} (h : A ⊢ Q a) :
    A ⊢ W c (pure a) Q := h.trans (le_wp_ret _ _ _ _ _)

/-- What a piece of the body does not touch passes by it. -/
theorem frame_W {c : Dev nD} {α : Type} {p : Prog (TpuEff nD τ sig (Elt F) Λ₀ .tc) α} {A R : sProp 𝕄} {Q : α → sProp 𝕄}
    (h : A ⊢ W c p fun x => iprop(R -∗ Q x)) : iprop(R ∗ A) ⊢ W c p Q :=
  (sep_mono_right h).trans ((wp_frame_l _ _ _).trans (wp_mono _ _ _ fun x => by
    iintro ⟨HR, H⟩; iapply H; iexact HR))

section Held

variable {c : Dev nD}
variable {a4 : Memref sig .tc .vmem S1024x256 .bf16} {q : S1024x256.Idx → Elt F .bf16}
variable {a5 : Memref sig .tc .vmem S1024x256 .bf16} {k : S1024x256.Idx → Elt F .bf16}
variable {a6 : Memref sig .tc .vmem S1024x128 .bf16} {v : S1024x128.Idx → Elt F .bf16}
variable {a7 : Memref sig .tc .vmem S1024x128 .bf16} {o : S1024x128.Idx → Elt F .bf16}
variable {a8 : Memref sig .tc .vmem S1024x128 .bf16} {d : S1024x128.Idx → Elt F .bf16}
variable {a9 : Memref sig .tc .vmem S1x1024x1 .f32} {l : S1x1024x1.Idx → Elt F .f32}
variable {a10 : Memref sig .tc .vmem S1024x256 .bf16} {g : S1024x256.Idx → Elt F .bf16}
variable {a11 : Memref sig .tc .vmem S1024x128 .f32} {gr : S1024x128.Idx → Elt F .f32}
variable {a12 : Memref sig .tc .vmem S8192x256 .f32} {dq : S8192x256.Idx → Elt F .f32}
variable {a13 : Memref sig .tc .vmem S1024x256 .f32} {sk : S1024x256.Idx → Elt F .f32}
variable {a14 : Memref sig .tc .vmem S1024x128 .f32} {sv : S1024x128.Idx → Elt F .f32}

/-- A buffer, owned at the given contents. -/
abbrev ow (c : Dev nD) {s : Shape} {e : EltTy} (m : Memref sig .tc .vmem s e) (x : s.Idx → Elt F e) : sProp 𝕄 := owns c.tc m fullShare x

/-- The eleven buffers of the body, owned at the given contents: the six input blocks, the three output blocks and the two
    accumulators. -/
def held (c : Dev nD) (a4 : Memref sig .tc .vmem S1024x256 .bf16) (a5 : Memref sig .tc .vmem S1024x256 .bf16) (a6 : Memref sig .tc .vmem S1024x128 .bf16) (a7 : Memref sig .tc .vmem S1024x128 .bf16) (a8 : Memref sig .tc .vmem S1024x128 .bf16) (a9 : Memref sig .tc .vmem S1x1024x1 .f32) (a10 : Memref sig .tc .vmem S1024x256 .bf16) (a11 : Memref sig .tc .vmem S1024x128 .f32) (a12 : Memref sig .tc .vmem S8192x256 .f32) (a13 : Memref sig .tc .vmem S1024x256 .f32) (a14 : Memref sig .tc .vmem S1024x128 .f32)
    (q : S1024x256.Idx → Elt F .bf16) (k : S1024x256.Idx → Elt F .bf16) (v : S1024x128.Idx → Elt F .bf16) (o : S1024x128.Idx → Elt F .bf16) (d : S1024x128.Idx → Elt F .bf16) (l : S1x1024x1.Idx → Elt F .f32) (g : S1024x256.Idx → Elt F .bf16) (gr : S1024x128.Idx → Elt F .f32) (dq : S8192x256.Idx → Elt F .f32) (sk : S1024x256.Idx → Elt F .f32) (sv : S1024x128.Idx → Elt F .f32) : sProp 𝕄 :=
  iprop(owns c.tc a4 fullShare q
    ∗ owns c.tc a5 fullShare k
    ∗ owns c.tc a6 fullShare v
    ∗ owns c.tc a7 fullShare o
    ∗ owns c.tc a8 fullShare d
    ∗ owns c.tc a9 fullShare l
    ∗ owns c.tc a10 fullShare g
    ∗ owns c.tc a11 fullShare gr
    ∗ owns c.tc a12 fullShare dq
    ∗ owns c.tc a13 fullShare sk
    ∗ owns c.tc a14 fullShare sv)

theorem take4 : held c a4 a5 a6 a7 a8 a9 a10 a11 a12 a13 a14 q k v o d l g gr dq sk sv ⊢ iprop(ow c a4 q ∗ ow c a5 k ∗ ow c a6 v ∗ ow c a7 o ∗ ow c a8 d ∗ ow c a9 l ∗ ow c a10 g ∗ ow c a11 gr ∗ ow c a12 dq ∗ ow c a13 sk ∗ ow c a14 sv) := .rfl

theorem give4 : iprop(ow c a4 q ∗ ow c a5 k ∗ ow c a6 v ∗ ow c a7 o ∗ ow c a8 d ∗ ow c a9 l ∗ ow c a10 g ∗ ow c a11 gr ∗ ow c a12 dq ∗ ow c a13 sk ∗ ow c a14 sv) ⊢ held c a4 a5 a6 a7 a8 a9 a10 a11 a12 a13 a14 q k v o d l g gr dq sk sv := .rfl

theorem ld4 {r : Rect S1024x256} {hl : a4.view.LoadsAt r.toLoadRect} {Q : (r.shape.Idx → Elt F .bf16) → sProp 𝕄}
    (hQ : held c a4 a5 a6 a7 a8 a9 a10 a11 a12 a13 a14 q k v o d l g gr dq sk sv ⊢ Q (View.ld q r)) : held c a4 a5 a6 a7 a8 a9 a10 a11 a12 a13 a14 q k v o d l g gr dq sk sv ⊢ W c (Prog.lift (.load a4 r.toLoadRect hl)) Q :=
  load_owns c a4 q r hl _ _ take4 give4 Q hQ

theorem take5 : held c a4 a5 a6 a7 a8 a9 a10 a11 a12 a13 a14 q k v o d l g gr dq sk sv ⊢ iprop(ow c a5 k ∗ ow c a4 q ∗ ow c a6 v ∗ ow c a7 o ∗ ow c a8 d ∗ ow c a9 l ∗ ow c a10 g ∗ ow c a11 gr ∗ ow c a12 dq ∗ ow c a13 sk ∗ ow c a14 sv) := by
  unfold held
  iintro ⟨H0, H1, H⟩
  isplitl [H1]; · iexact H1
  isplitl [H0]; · iexact H0
  iexact H

theorem give5 : iprop(ow c a5 k ∗ ow c a4 q ∗ ow c a6 v ∗ ow c a7 o ∗ ow c a8 d ∗ ow c a9 l ∗ ow c a10 g ∗ ow c a11 gr ∗ ow c a12 dq ∗ ow c a13 sk ∗ ow c a14 sv) ⊢ held c a4 a5 a6 a7 a8 a9 a10 a11 a12 a13 a14 q k v o d l g gr dq sk sv := by
  unfold held
  iintro ⟨H1, H0, H⟩
  isplitl [H0]; · iexact H0
  isplitl [H1]; · iexact H1
  iexact H

theorem ld5 {r : Rect S1024x256} {hl : a5.view.LoadsAt r.toLoadRect} {Q : (r.shape.Idx → Elt F .bf16) → sProp 𝕄}
    (hQ : held c a4 a5 a6 a7 a8 a9 a10 a11 a12 a13 a14 q k v o d l g gr dq sk sv ⊢ Q (View.ld k r)) : held c a4 a5 a6 a7 a8 a9 a10 a11 a12 a13 a14 q k v o d l g gr dq sk sv ⊢ W c (Prog.lift (.load a5 r.toLoadRect hl)) Q :=
  load_owns c a5 k r hl _ _ take5 give5 Q hQ

theorem take6 : held c a4 a5 a6 a7 a8 a9 a10 a11 a12 a13 a14 q k v o d l g gr dq sk sv ⊢ iprop(ow c a6 v ∗ ow c a4 q ∗ ow c a5 k ∗ ow c a7 o ∗ ow c a8 d ∗ ow c a9 l ∗ ow c a10 g ∗ ow c a11 gr ∗ ow c a12 dq ∗ ow c a13 sk ∗ ow c a14 sv) := by
  unfold held
  iintro ⟨H0, H1, H2, H⟩
  isplitl [H2]; · iexact H2
  isplitl [H0]; · iexact H0
  isplitl [H1]; · iexact H1
  iexact H

theorem give6 : iprop(ow c a6 v ∗ ow c a4 q ∗ ow c a5 k ∗ ow c a7 o ∗ ow c a8 d ∗ ow c a9 l ∗ ow c a10 g ∗ ow c a11 gr ∗ ow c a12 dq ∗ ow c a13 sk ∗ ow c a14 sv) ⊢ held c a4 a5 a6 a7 a8 a9 a10 a11 a12 a13 a14 q k v o d l g gr dq sk sv := by
  unfold held
  iintro ⟨H2, H0, H1, H⟩
  isplitl [H0]; · iexact H0
  isplitl [H1]; · iexact H1
  isplitl [H2]; · iexact H2
  iexact H

theorem ld6 {r : Rect S1024x128} {hl : a6.view.LoadsAt r.toLoadRect} {Q : (r.shape.Idx → Elt F .bf16) → sProp 𝕄}
    (hQ : held c a4 a5 a6 a7 a8 a9 a10 a11 a12 a13 a14 q k v o d l g gr dq sk sv ⊢ Q (View.ld v r)) : held c a4 a5 a6 a7 a8 a9 a10 a11 a12 a13 a14 q k v o d l g gr dq sk sv ⊢ W c (Prog.lift (.load a6 r.toLoadRect hl)) Q :=
  load_owns c a6 v r hl _ _ take6 give6 Q hQ

theorem take7 : held c a4 a5 a6 a7 a8 a9 a10 a11 a12 a13 a14 q k v o d l g gr dq sk sv ⊢ iprop(ow c a7 o ∗ ow c a4 q ∗ ow c a5 k ∗ ow c a6 v ∗ ow c a8 d ∗ ow c a9 l ∗ ow c a10 g ∗ ow c a11 gr ∗ ow c a12 dq ∗ ow c a13 sk ∗ ow c a14 sv) := by
  unfold held
  iintro ⟨H0, H1, H2, H3, H⟩
  isplitl [H3]; · iexact H3
  isplitl [H0]; · iexact H0
  isplitl [H1]; · iexact H1
  isplitl [H2]; · iexact H2
  iexact H

theorem give7 : iprop(ow c a7 o ∗ ow c a4 q ∗ ow c a5 k ∗ ow c a6 v ∗ ow c a8 d ∗ ow c a9 l ∗ ow c a10 g ∗ ow c a11 gr ∗ ow c a12 dq ∗ ow c a13 sk ∗ ow c a14 sv) ⊢ held c a4 a5 a6 a7 a8 a9 a10 a11 a12 a13 a14 q k v o d l g gr dq sk sv := by
  unfold held
  iintro ⟨H3, H0, H1, H2, H⟩
  isplitl [H0]; · iexact H0
  isplitl [H1]; · iexact H1
  isplitl [H2]; · iexact H2
  isplitl [H3]; · iexact H3
  iexact H

theorem ld7 {r : Rect S1024x128} {hl : a7.view.LoadsAt r.toLoadRect} {Q : (r.shape.Idx → Elt F .bf16) → sProp 𝕄}
    (hQ : held c a4 a5 a6 a7 a8 a9 a10 a11 a12 a13 a14 q k v o d l g gr dq sk sv ⊢ Q (View.ld o r)) : held c a4 a5 a6 a7 a8 a9 a10 a11 a12 a13 a14 q k v o d l g gr dq sk sv ⊢ W c (Prog.lift (.load a7 r.toLoadRect hl)) Q :=
  load_owns c a7 o r hl _ _ take7 give7 Q hQ

theorem take8 : held c a4 a5 a6 a7 a8 a9 a10 a11 a12 a13 a14 q k v o d l g gr dq sk sv ⊢ iprop(ow c a8 d ∗ ow c a4 q ∗ ow c a5 k ∗ ow c a6 v ∗ ow c a7 o ∗ ow c a9 l ∗ ow c a10 g ∗ ow c a11 gr ∗ ow c a12 dq ∗ ow c a13 sk ∗ ow c a14 sv) := by
  unfold held
  iintro ⟨H0, H1, H2, H3, H4, H⟩
  isplitl [H4]; · iexact H4
  isplitl [H0]; · iexact H0
  isplitl [H1]; · iexact H1
  isplitl [H2]; · iexact H2
  isplitl [H3]; · iexact H3
  iexact H

theorem give8 : iprop(ow c a8 d ∗ ow c a4 q ∗ ow c a5 k ∗ ow c a6 v ∗ ow c a7 o ∗ ow c a9 l ∗ ow c a10 g ∗ ow c a11 gr ∗ ow c a12 dq ∗ ow c a13 sk ∗ ow c a14 sv) ⊢ held c a4 a5 a6 a7 a8 a9 a10 a11 a12 a13 a14 q k v o d l g gr dq sk sv := by
  unfold held
  iintro ⟨H4, H0, H1, H2, H3, H⟩
  isplitl [H0]; · iexact H0
  isplitl [H1]; · iexact H1
  isplitl [H2]; · iexact H2
  isplitl [H3]; · iexact H3
  isplitl [H4]; · iexact H4
  iexact H

theorem ld8 {r : Rect S1024x128} {hl : a8.view.LoadsAt r.toLoadRect} {Q : (r.shape.Idx → Elt F .bf16) → sProp 𝕄}
    (hQ : held c a4 a5 a6 a7 a8 a9 a10 a11 a12 a13 a14 q k v o d l g gr dq sk sv ⊢ Q (View.ld d r)) : held c a4 a5 a6 a7 a8 a9 a10 a11 a12 a13 a14 q k v o d l g gr dq sk sv ⊢ W c (Prog.lift (.load a8 r.toLoadRect hl)) Q :=
  load_owns c a8 d r hl _ _ take8 give8 Q hQ

theorem take9 : held c a4 a5 a6 a7 a8 a9 a10 a11 a12 a13 a14 q k v o d l g gr dq sk sv ⊢ iprop(ow c a9 l ∗ ow c a4 q ∗ ow c a5 k ∗ ow c a6 v ∗ ow c a7 o ∗ ow c a8 d ∗ ow c a10 g ∗ ow c a11 gr ∗ ow c a12 dq ∗ ow c a13 sk ∗ ow c a14 sv) := by
  unfold held
  iintro ⟨H0, H1, H2, H3, H4, H5, H⟩
  isplitl [H5]; · iexact H5
  isplitl [H0]; · iexact H0
  isplitl [H1]; · iexact H1
  isplitl [H2]; · iexact H2
  isplitl [H3]; · iexact H3
  isplitl [H4]; · iexact H4
  iexact H

theorem give9 : iprop(ow c a9 l ∗ ow c a4 q ∗ ow c a5 k ∗ ow c a6 v ∗ ow c a7 o ∗ ow c a8 d ∗ ow c a10 g ∗ ow c a11 gr ∗ ow c a12 dq ∗ ow c a13 sk ∗ ow c a14 sv) ⊢ held c a4 a5 a6 a7 a8 a9 a10 a11 a12 a13 a14 q k v o d l g gr dq sk sv := by
  unfold held
  iintro ⟨H5, H0, H1, H2, H3, H4, H⟩
  isplitl [H0]; · iexact H0
  isplitl [H1]; · iexact H1
  isplitl [H2]; · iexact H2
  isplitl [H3]; · iexact H3
  isplitl [H4]; · iexact H4
  isplitl [H5]; · iexact H5
  iexact H

theorem ld9 {r : Rect S1x1024x1} {hl : a9.view.LoadsAt r.toLoadRect} {Q : (r.shape.Idx → Elt F .f32) → sProp 𝕄}
    (hQ : held c a4 a5 a6 a7 a8 a9 a10 a11 a12 a13 a14 q k v o d l g gr dq sk sv ⊢ Q (View.ld l r)) : held c a4 a5 a6 a7 a8 a9 a10 a11 a12 a13 a14 q k v o d l g gr dq sk sv ⊢ W c (Prog.lift (.load a9 r.toLoadRect hl)) Q :=
  load_owns c a9 l r hl _ _ take9 give9 Q hQ

theorem take10 : held c a4 a5 a6 a7 a8 a9 a10 a11 a12 a13 a14 q k v o d l g gr dq sk sv ⊢ iprop(ow c a10 g ∗ ow c a4 q ∗ ow c a5 k ∗ ow c a6 v ∗ ow c a7 o ∗ ow c a8 d ∗ ow c a9 l ∗ ow c a11 gr ∗ ow c a12 dq ∗ ow c a13 sk ∗ ow c a14 sv) := by
  unfold held
  iintro ⟨H0, H1, H2, H3, H4, H5, H6, H⟩
  isplitl [H6]; · iexact H6
  isplitl [H0]; · iexact H0
  isplitl [H1]; · iexact H1
  isplitl [H2]; · iexact H2
  isplitl [H3]; · iexact H3
  isplitl [H4]; · iexact H4
  isplitl [H5]; · iexact H5
  iexact H

theorem give10 : iprop(ow c a10 g ∗ ow c a4 q ∗ ow c a5 k ∗ ow c a6 v ∗ ow c a7 o ∗ ow c a8 d ∗ ow c a9 l ∗ ow c a11 gr ∗ ow c a12 dq ∗ ow c a13 sk ∗ ow c a14 sv) ⊢ held c a4 a5 a6 a7 a8 a9 a10 a11 a12 a13 a14 q k v o d l g gr dq sk sv := by
  unfold held
  iintro ⟨H6, H0, H1, H2, H3, H4, H5, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

theorem ld10 {r : Rect S1024x256} {hl : a10.view.LoadsAt r.toLoadRect} {Q : (r.shape.Idx → Elt F .bf16) → sProp 𝕄}
    (hQ : held c a4 a5 a6 a7 a8 a9 a10 a11 a12 a13 a14 q k v o d l g gr dq sk sv ⊢ Q (View.ld g r)) : held c a4 a5 a6 a7 a8 a9 a10 a11 a12 a13 a14 q k v o d l g gr dq sk sv ⊢ W c (Prog.lift (.load a10 r.toLoadRect hl)) Q :=
  load_owns c a10 g r hl _ _ take10 give10 Q hQ

theorem st10 {r : Rect S1024x256} {w : r.shape.Idx → Elt F .bf16} {hx : (a10.access r).Stores Finset.univ} {hm : Finset.univ = Finset.univ ∨ ∀ a, r.stride a = 1}
    {Q : PUnit → sProp 𝕄} (hQ : held c a4 a5 a6 a7 a8 a9 a10 a11 a12 a13 a14 q k v o d l (r.overlay g w) gr dq sk sv ⊢ Q ⟨⟩) :
    held c a4 a5 a6 a7 a8 a9 a10 a11 a12 a13 a14 q k v o d l g gr dq sk sv ⊢ W c (Prog.lift (.store a10 r w Finset.univ hx hm)) Q :=
  store_owns c a10 g r w hx hm _ _ _ take10 give10 Q hQ

theorem take11 : held c a4 a5 a6 a7 a8 a9 a10 a11 a12 a13 a14 q k v o d l g gr dq sk sv ⊢ iprop(ow c a11 gr ∗ ow c a4 q ∗ ow c a5 k ∗ ow c a6 v ∗ ow c a7 o ∗ ow c a8 d ∗ ow c a9 l ∗ ow c a10 g ∗ ow c a12 dq ∗ ow c a13 sk ∗ ow c a14 sv) := by
  unfold held
  iintro ⟨H0, H1, H2, H3, H4, H5, H6, H7, H⟩
  isplitl [H7]; · iexact H7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

theorem give11 : iprop(ow c a11 gr ∗ ow c a4 q ∗ ow c a5 k ∗ ow c a6 v ∗ ow c a7 o ∗ ow c a8 d ∗ ow c a9 l ∗ ow c a10 g ∗ ow c a12 dq ∗ ow c a13 sk ∗ ow c a14 sv) ⊢ held c a4 a5 a6 a7 a8 a9 a10 a11 a12 a13 a14 q k v o d l g gr dq sk sv := by
  unfold held
  iintro ⟨H7, H0, H1, H2, H3, H4, H5, H6, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H

theorem ld11 {r : Rect S1024x128} {hl : a11.view.LoadsAt r.toLoadRect} {Q : (r.shape.Idx → Elt F .f32) → sProp 𝕄}
    (hQ : held c a4 a5 a6 a7 a8 a9 a10 a11 a12 a13 a14 q k v o d l g gr dq sk sv ⊢ Q (View.ld gr r)) : held c a4 a5 a6 a7 a8 a9 a10 a11 a12 a13 a14 q k v o d l g gr dq sk sv ⊢ W c (Prog.lift (.load a11 r.toLoadRect hl)) Q :=
  load_owns c a11 gr r hl _ _ take11 give11 Q hQ

theorem st11 {r : Rect S1024x128} {w : r.shape.Idx → Elt F .f32} {hx : (a11.access r).Stores Finset.univ} {hm : Finset.univ = Finset.univ ∨ ∀ a, r.stride a = 1}
    {Q : PUnit → sProp 𝕄} (hQ : held c a4 a5 a6 a7 a8 a9 a10 a11 a12 a13 a14 q k v o d l g (r.overlay gr w) dq sk sv ⊢ Q ⟨⟩) :
    held c a4 a5 a6 a7 a8 a9 a10 a11 a12 a13 a14 q k v o d l g gr dq sk sv ⊢ W c (Prog.lift (.store a11 r w Finset.univ hx hm)) Q :=
  store_owns c a11 gr r w hx hm _ _ _ take11 give11 Q hQ

theorem take12 : held c a4 a5 a6 a7 a8 a9 a10 a11 a12 a13 a14 q k v o d l g gr dq sk sv ⊢ iprop(ow c a12 dq ∗ ow c a4 q ∗ ow c a5 k ∗ ow c a6 v ∗ ow c a7 o ∗ ow c a8 d ∗ ow c a9 l ∗ ow c a10 g ∗ ow c a11 gr ∗ ow c a13 sk ∗ ow c a14 sv) := by
  unfold held
  iintro ⟨H0, H1, H2, H3, H4, H5, H6, H7, H8, H⟩
  isplitl [H8]; · iexact H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H

theorem give12 : iprop(ow c a12 dq ∗ ow c a4 q ∗ ow c a5 k ∗ ow c a6 v ∗ ow c a7 o ∗ ow c a8 d ∗ ow c a9 l ∗ ow c a10 g ∗ ow c a11 gr ∗ ow c a13 sk ∗ ow c a14 sv) ⊢ held c a4 a5 a6 a7 a8 a9 a10 a11 a12 a13 a14 q k v o d l g gr dq sk sv := by
  unfold held
  iintro ⟨H8, H0, H1, H2, H3, H4, H5, H6, H7, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H

theorem ld12 {r : Rect S8192x256} {hl : a12.view.LoadsAt r.toLoadRect} {Q : (r.shape.Idx → Elt F .f32) → sProp 𝕄}
    (hQ : held c a4 a5 a6 a7 a8 a9 a10 a11 a12 a13 a14 q k v o d l g gr dq sk sv ⊢ Q (View.ld dq r)) : held c a4 a5 a6 a7 a8 a9 a10 a11 a12 a13 a14 q k v o d l g gr dq sk sv ⊢ W c (Prog.lift (.load a12 r.toLoadRect hl)) Q :=
  load_owns c a12 dq r hl _ _ take12 give12 Q hQ

theorem st12 {r : Rect S8192x256} {w : r.shape.Idx → Elt F .f32} {hx : (a12.access r).Stores Finset.univ} {hm : Finset.univ = Finset.univ ∨ ∀ a, r.stride a = 1}
    {Q : PUnit → sProp 𝕄} (hQ : held c a4 a5 a6 a7 a8 a9 a10 a11 a12 a13 a14 q k v o d l g gr (r.overlay dq w) sk sv ⊢ Q ⟨⟩) :
    held c a4 a5 a6 a7 a8 a9 a10 a11 a12 a13 a14 q k v o d l g gr dq sk sv ⊢ W c (Prog.lift (.store a12 r w Finset.univ hx hm)) Q :=
  store_owns c a12 dq r w hx hm _ _ _ take12 give12 Q hQ

theorem take13 : held c a4 a5 a6 a7 a8 a9 a10 a11 a12 a13 a14 q k v o d l g gr dq sk sv ⊢ iprop(ow c a13 sk ∗ ow c a4 q ∗ ow c a5 k ∗ ow c a6 v ∗ ow c a7 o ∗ ow c a8 d ∗ ow c a9 l ∗ ow c a10 g ∗ ow c a11 gr ∗ ow c a12 dq ∗ ow c a14 sv) := by
  unfold held
  iintro ⟨H0, H1, H2, H3, H4, H5, H6, H7, H8, H9, H⟩
  isplitl [H9]; · iexact H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H

theorem give13 : iprop(ow c a13 sk ∗ ow c a4 q ∗ ow c a5 k ∗ ow c a6 v ∗ ow c a7 o ∗ ow c a8 d ∗ ow c a9 l ∗ ow c a10 g ∗ ow c a11 gr ∗ ow c a12 dq ∗ ow c a14 sv) ⊢ held c a4 a5 a6 a7 a8 a9 a10 a11 a12 a13 a14 q k v o d l g gr dq sk sv := by
  unfold held
  iintro ⟨H9, H0, H1, H2, H3, H4, H5, H6, H7, H8, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H

theorem ld13 {r : Rect S1024x256} {hl : a13.view.LoadsAt r.toLoadRect} {Q : (r.shape.Idx → Elt F .f32) → sProp 𝕄}
    (hQ : held c a4 a5 a6 a7 a8 a9 a10 a11 a12 a13 a14 q k v o d l g gr dq sk sv ⊢ Q (View.ld sk r)) : held c a4 a5 a6 a7 a8 a9 a10 a11 a12 a13 a14 q k v o d l g gr dq sk sv ⊢ W c (Prog.lift (.load a13 r.toLoadRect hl)) Q :=
  load_owns c a13 sk r hl _ _ take13 give13 Q hQ

theorem st13 {r : Rect S1024x256} {w : r.shape.Idx → Elt F .f32} {hx : (a13.access r).Stores Finset.univ} {hm : Finset.univ = Finset.univ ∨ ∀ a, r.stride a = 1}
    {Q : PUnit → sProp 𝕄} (hQ : held c a4 a5 a6 a7 a8 a9 a10 a11 a12 a13 a14 q k v o d l g gr dq (r.overlay sk w) sv ⊢ Q ⟨⟩) :
    held c a4 a5 a6 a7 a8 a9 a10 a11 a12 a13 a14 q k v o d l g gr dq sk sv ⊢ W c (Prog.lift (.store a13 r w Finset.univ hx hm)) Q :=
  store_owns c a13 sk r w hx hm _ _ _ take13 give13 Q hQ

theorem take14 : held c a4 a5 a6 a7 a8 a9 a10 a11 a12 a13 a14 q k v o d l g gr dq sk sv ⊢ iprop(ow c a14 sv ∗ ow c a4 q ∗ ow c a5 k ∗ ow c a6 v ∗ ow c a7 o ∗ ow c a8 d ∗ ow c a9 l ∗ ow c a10 g ∗ ow c a11 gr ∗ ow c a12 dq ∗ ow c a13 sk) := by
  unfold held
  iintro ⟨H0, H1, H2, H3, H4, H5, H6, H7, H8, H9, H10⟩
  isplitl [H10]; · iexact H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem give14 : iprop(ow c a14 sv ∗ ow c a4 q ∗ ow c a5 k ∗ ow c a6 v ∗ ow c a7 o ∗ ow c a8 d ∗ ow c a9 l ∗ ow c a10 g ∗ ow c a11 gr ∗ ow c a12 dq ∗ ow c a13 sk) ⊢ held c a4 a5 a6 a7 a8 a9 a10 a11 a12 a13 a14 q k v o d l g gr dq sk sv := by
  unfold held
  iintro ⟨H10, H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem ld14 {r : Rect S1024x128} {hl : a14.view.LoadsAt r.toLoadRect} {Q : (r.shape.Idx → Elt F .f32) → sProp 𝕄}
    (hQ : held c a4 a5 a6 a7 a8 a9 a10 a11 a12 a13 a14 q k v o d l g gr dq sk sv ⊢ Q (View.ld sv r)) : held c a4 a5 a6 a7 a8 a9 a10 a11 a12 a13 a14 q k v o d l g gr dq sk sv ⊢ W c (Prog.lift (.load a14 r.toLoadRect hl)) Q :=
  load_owns c a14 sv r hl _ _ take14 give14 Q hQ

theorem st14 {r : Rect S1024x128} {w : r.shape.Idx → Elt F .f32} {hx : (a14.access r).Stores Finset.univ} {hm : Finset.univ = Finset.univ ∨ ∀ a, r.stride a = 1}
    {Q : PUnit → sProp 𝕄} (hQ : held c a4 a5 a6 a7 a8 a9 a10 a11 a12 a13 a14 q k v o d l g gr dq sk (r.overlay sv w) ⊢ Q ⟨⟩) :
    held c a4 a5 a6 a7 a8 a9 a10 a11 a12 a13 a14 q k v o d l g gr dq sk sv ⊢ W c (Prog.lift (.store a14 r w Finset.univ hx hm)) Q :=
  store_owns c a14 sv r w hx hm _ _ _ take14 give14 Q hQ

end Held

end Cert.Attn
-- ==== Proof.AttnBody.lean ====
module

public import proofs.«01_k».proof.Proof.AttnOps

/-! What the body of the attention gradient leaves in its buffers. A point of the grid is a pair of a query block and a key block:
    a pair off the diagonal takes four chunks of 256 queries against all 1024 keys, a pair on it takes chunk `r` against the first
    `256 (r + 1)` keys, and the last query block of a key block writes that key block's gradients out. -/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The part `dC0` of a block. -/
abbrev dC0 (x : Vec F S1024x128 .bf16) : Vec F S256x128 .bf16 := View.ld x (Rect.unit (s := S1024x128) ![0, 0] S256x128.size inb_S1024x128_S256x128_0_0)
/-- The part `dC1` of a block. -/
abbrev dC1 (x : Vec F S1024x128 .bf16) : Vec F S256x128 .bf16 := View.ld x (Rect.unit (s := S1024x128) ![256, 0] S256x128.size inb_S1024x128_S256x128_256_0)
/-- The part `dC2` of a block. -/
abbrev dC2 (x : Vec F S1024x128 .bf16) : Vec F S256x128 .bf16 := View.ld x (Rect.unit (s := S1024x128) ![512, 0] S256x128.size inb_S1024x128_S256x128_512_0)
/-- The part `dC3` of a block. -/
abbrev dC3 (x : Vec F S1024x128 .bf16) : Vec F S256x128 .bf16 := View.ld x (Rect.unit (s := S1024x128) ![768, 0] S256x128.size inb_S1024x128_S256x128_768_0)
/-- The part `kT256` of a block. -/
abbrev kT256 (x : Vec F S1024x256 .bf16) : Vec F S256x256 .bf16 := View.ld x (Rect.unit (s := S1024x256) ![0, 0] S256x256.size inb_S1024x256_S256x256_0_0)
/-- The part `kT512` of a block. -/
abbrev kT512 (x : Vec F S1024x256 .bf16) : Vec F S512x256 .bf16 := View.ld x (Rect.unit (s := S1024x256) ![0, 0] S512x256.size inb_S1024x256_S512x256_0_0)
/-- The part `kT768` of a block. -/
abbrev kT768 (x : Vec F S1024x256 .bf16) : Vec F S768x256 .bf16 := View.ld x (Rect.unit (s := S1024x256) ![0, 0] S768x256.size inb_S1024x256_S768x256_0_0)
/-- The part `lC0` of a block. -/
abbrev lC0 (x : Vec F S1x1024x1 .f32) : Vec F S1x256x1 .f32 := View.ld x (Rect.unit (s := S1x1024x1) ![0, 0, 0] S1x256x1.size inb_S1x1024x1_S1x256x1_0_0_0)
/-- The part `lC1` of a block. -/
abbrev lC1 (x : Vec F S1x1024x1 .f32) : Vec F S1x256x1 .f32 := View.ld x (Rect.unit (s := S1x1024x1) ![0, 256, 0] S1x256x1.size inb_S1x1024x1_S1x256x1_0_256_0)
/-- The part `lC2` of a block. -/
abbrev lC2 (x : Vec F S1x1024x1 .f32) : Vec F S1x256x1 .f32 := View.ld x (Rect.unit (s := S1x1024x1) ![0, 512, 0] S1x256x1.size inb_S1x1024x1_S1x256x1_0_512_0)
/-- The part `lC3` of a block. -/
abbrev lC3 (x : Vec F S1x1024x1 .f32) : Vec F S1x256x1 .f32 := View.ld x (Rect.unit (s := S1x1024x1) ![0, 768, 0] S1x256x1.size inb_S1x1024x1_S1x256x1_0_768_0)
/-- The part `oC0` of a block. -/
abbrev oC0 (x : Vec F S1024x128 .bf16) : Vec F S256x128 .bf16 := View.ld x (Rect.unit (s := S1024x128) ![0, 0] S256x128.size inb_S1024x128_S256x128_0_0)
/-- The part `oC1` of a block. -/
abbrev oC1 (x : Vec F S1024x128 .bf16) : Vec F S256x128 .bf16 := View.ld x (Rect.unit (s := S1024x128) ![256, 0] S256x128.size inb_S1024x128_S256x128_256_0)
/-- The part `oC2` of a block. -/
abbrev oC2 (x : Vec F S1024x128 .bf16) : Vec F S256x128 .bf16 := View.ld x (Rect.unit (s := S1024x128) ![512, 0] S256x128.size inb_S1024x128_S256x128_512_0)
/-- The part `oC3` of a block. -/
abbrev oC3 (x : Vec F S1024x128 .bf16) : Vec F S256x128 .bf16 := View.ld x (Rect.unit (s := S1024x128) ![768, 0] S256x128.size inb_S1024x128_S256x128_768_0)
/-- The part `qC0` of a block. -/
abbrev qC0 (x : Vec F S1024x256 .bf16) : Vec F S256x256 .bf16 := View.ld x (Rect.unit (s := S1024x256) ![0, 0] S256x256.size inb_S1024x256_S256x256_0_0)
/-- The part `qC1` of a block. -/
abbrev qC1 (x : Vec F S1024x256 .bf16) : Vec F S256x256 .bf16 := View.ld x (Rect.unit (s := S1024x256) ![256, 0] S256x256.size inb_S1024x256_S256x256_256_0)
/-- The part `qC2` of a block. -/
abbrev qC2 (x : Vec F S1024x256 .bf16) : Vec F S256x256 .bf16 := View.ld x (Rect.unit (s := S1024x256) ![512, 0] S256x256.size inb_S1024x256_S256x256_512_0)
/-- The part `qC3` of a block. -/
abbrev qC3 (x : Vec F S1024x256 .bf16) : Vec F S256x256 .bf16 := View.ld x (Rect.unit (s := S1024x256) ![768, 0] S256x256.size inb_S1024x256_S256x256_768_0)
/-- The part `vT256` of a block. -/
abbrev vT256 (x : Vec F S1024x128 .bf16) : Vec F S256x128 .bf16 := View.ld x (Rect.unit (s := S1024x128) ![0, 0] S256x128.size inb_S1024x128_S256x128_0_0)
/-- The part `vT512` of a block. -/
abbrev vT512 (x : Vec F S1024x128 .bf16) : Vec F S512x128 .bf16 := View.ld x (Rect.unit (s := S1024x128) ![0, 0] S512x128.size inb_S1024x128_S512x128_0_0)
/-- The part `vT768` of a block. -/
abbrev vT768 (x : Vec F S1024x128 .bf16) : Vec F S768x128 .bf16 := View.ld x (Rect.unit (s := S1024x128) ![0, 0] S768x128.size inb_S1024x128_S768x128_0_0)

def fSv0 (q k : Vec F S1024x256 .bf16) (v o d : Vec F S1024x128 .bf16) (l : Vec F S1x1024x1 .f32) (x : Vec F S1024x128 .f32) : Vec F S1024x128 .f32 :=
  (k0_pay8 (dC0 d) (qC0 q) k (lC0 l) x)
def fSk0 (q k : Vec F S1024x256 .bf16) (v o d : Vec F S1024x128 .bf16) (l : Vec F S1x1024x1 .f32) (x : Vec F S1024x256 .f32) : Vec F S1024x256 .f32 :=
  (k0_pay9 (k0_pay7 (dC0 d) (oC0 o) (qC0 q) k (lC0 l) v) x (qC0 q))
def fDq0 (v1 v3 : Elt F .i32) (k0_hw1 : k0_chk1 v1 v3) (k0_h2 : k0_cond2 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off2 v1 0#32) S256x256.size (k0_off2_inb v1 v3 k0_hw1 k0_h2 0)).overlay x (k0_pay10 (k0_pay7 (dC0 d) (oC0 o) (qC0 q) k (lC0 l) v) (View.ld x (Rect.unit (s := S8192x256) (k0_off2 v1 0#32) S256x256.size (k0_off2_inb v1 v3 k0_hw1 k0_h2 0))) k)
def fSv1 (q k : Vec F S1024x256 .bf16) (v o d : Vec F S1024x128 .bf16) (l : Vec F S1x1024x1 .f32) (x : Vec F S1024x128 .f32) : Vec F S1024x128 .f32 :=
  (k0_pay17 (k0_pay11 (dC1 d)) (k0_pay13 (qC1 q) k) (k0_pay14 (lC1 l)) x)
def fSk1 (q k : Vec F S1024x256 .bf16) (v o d : Vec F S1024x128 .bf16) (l : Vec F S1x1024x1 .f32) (x : Vec F S1024x256 .f32) : Vec F S1024x256 .f32 :=
  (k0_pay18 (k0_pay11 (dC1 d)) (k0_pay12 (dC1 d) (oC1 o)) (k0_pay13 (qC1 q) k) (k0_pay14 (lC1 l)) v x (qC1 q))
def fDq1 (v1 v3 : Elt F .i32) (k0_hw1 : k0_chk1 v1 v3) (k0_h2 : k0_cond2 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off2 v1 256#32) S256x256.size (k0_off2_inb v1 v3 k0_hw1 k0_h2 1)).overlay x (k0_pay19 (k0_pay11 (dC1 d)) (k0_pay12 (dC1 d) (oC1 o)) (k0_pay13 (qC1 q) k) (k0_pay14 (lC1 l)) v (View.ld x (Rect.unit (s := S8192x256) (k0_off2 v1 256#32) S256x256.size (k0_off2_inb v1 v3 k0_hw1 k0_h2 1))) k)
def fSv2 (q k : Vec F S1024x256 .bf16) (v o d : Vec F S1024x128 .bf16) (l : Vec F S1x1024x1 .f32) (x : Vec F S1024x128 .f32) : Vec F S1024x128 .f32 :=
  (k0_pay23 (dC2 d) (qC2 q) k (lC2 l) x)
def fSk2 (q k : Vec F S1024x256 .bf16) (v o d : Vec F S1024x128 .bf16) (l : Vec F S1x1024x1 .f32) (x : Vec F S1024x256 .f32) : Vec F S1024x256 .f32 :=
  (k0_pay24 (k0_pay22 (dC2 d) (oC2 o) (qC2 q) k (lC2 l) v) x (qC2 q))
def fDq2 (v1 v3 : Elt F .i32) (k0_hw1 : k0_chk1 v1 v3) (k0_h2 : k0_cond2 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off2 v1 512#32) S256x256.size (k0_off2_inb v1 v3 k0_hw1 k0_h2 2)).overlay x (k0_pay25 (k0_pay22 (dC2 d) (oC2 o) (qC2 q) k (lC2 l) v) (View.ld x (Rect.unit (s := S8192x256) (k0_off2 v1 512#32) S256x256.size (k0_off2_inb v1 v3 k0_hw1 k0_h2 2))) k)
def fSv3 (q k : Vec F S1024x256 .bf16) (v o d : Vec F S1024x128 .bf16) (l : Vec F S1x1024x1 .f32) (x : Vec F S1024x128 .f32) : Vec F S1024x128 .f32 :=
  (k0_pay31 (k0_pay26 (dC3 d)) (k0_pay28 (qC3 q) k) (lC3 l) x)
def fSk3 (q k : Vec F S1024x256 .bf16) (v o d : Vec F S1024x128 .bf16) (l : Vec F S1x1024x1 .f32) (x : Vec F S1024x256 .f32) : Vec F S1024x256 .f32 :=
  (k0_pay32 (k0_pay26 (dC3 d)) (k0_pay27 (dC3 d) (oC3 o)) (k0_pay28 (qC3 q) k) (lC3 l) v x (qC3 q))
def fDq3 (v1 v3 : Elt F .i32) (k0_hw1 : k0_chk1 v1 v3) (k0_h2 : k0_cond2 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off2 v1 768#32) S256x256.size (k0_off2_inb v1 v3 k0_hw1 k0_h2 3)).overlay x (k0_pay33 (k0_pay26 (dC3 d)) (k0_pay27 (dC3 d) (oC3 o)) (k0_pay28 (qC3 q) k) (lC3 l) v (View.ld x (Rect.unit (s := S8192x256) (k0_off2 v1 768#32) S256x256.size (k0_off2_inb v1 v3 k0_hw1 k0_h2 3))) k)
def gSv0 (q k : Vec F S1024x256 .bf16) (v o d : Vec F S1024x128 .bf16) (l : Vec F S1x1024x1 .f32) (x : Vec F S1024x128 .f32) : Vec F S1024x128 .f32 :=
  (k0_pay34 (F := F))
def gSk0 (q k : Vec F S1024x256 .bf16) (v o d : Vec F S1024x128 .bf16) (l : Vec F S1x1024x1 .f32) (x : Vec F S1024x256 .f32) : Vec F S1024x256 .f32 :=
  (k0_pay35 (F := F))
def gSv1 (q k : Vec F S1024x256 .bf16) (v o d : Vec F S1024x128 .bf16) (l : Vec F S1x1024x1 .f32) (x : Vec F S1024x128 .f32) : Vec F S1024x128 .f32 :=
  (Rect.unit (s := S1024x128) ![0, 0] S256x128.size inb_S1024x128_S256x128_0_0).overlay x (k0_pay40 (k0_pay36 (dC0 d)) (k0_pay38 (qC0 q) (kT256 k) (lC0 l)) (View.ld x (Rect.unit (s := S1024x128) ![0, 0] S256x128.size inb_S1024x128_S256x128_0_0)))
def gSk1 (q k : Vec F S1024x256 .bf16) (v o d : Vec F S1024x128 .bf16) (l : Vec F S1x1024x1 .f32) (x : Vec F S1024x256 .f32) : Vec F S1024x256 .f32 :=
  (Rect.unit (s := S1024x256) ![0, 0] S256x256.size inb_S1024x256_S256x256_0_0).overlay x (k0_pay41 (k0_pay36 (dC0 d)) (k0_pay37 (dC0 d) (oC0 o)) (k0_pay38 (qC0 q) (kT256 k) (lC0 l)) (vT256 v) (View.ld x (Rect.unit (s := S1024x256) ![0, 0] S256x256.size inb_S1024x256_S256x256_0_0)) (qC0 q))
def gDq0 (v1 v3 : Elt F .i32) (k0_hw1 : k0_chk1 v1 v3) (k0_h3 : k0_cond3 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off3 v1 0#32) S256x256.size (k0_off3_inb v1 v3 k0_hw1 k0_h3 0)).overlay x (k0_pay42 (k0_pay36 (dC0 d)) (k0_pay37 (dC0 d) (oC0 o)) (k0_pay38 (qC0 q) (kT256 k) (lC0 l)) (vT256 v) (View.ld x (Rect.unit (s := S8192x256) (k0_off3 v1 0#32) S256x256.size (k0_off3_inb v1 v3 k0_hw1 k0_h3 0))) (kT256 k))
def gSv2 (q k : Vec F S1024x256 .bf16) (v o d : Vec F S1024x128 .bf16) (l : Vec F S1x1024x1 .f32) (x : Vec F S1024x128 .f32) : Vec F S1024x128 .f32 :=
  (Rect.unit (s := S1024x128) ![0, 0] S512x128.size inb_S1024x128_S512x128_0_0).overlay x (k0_pay46 (k0_pay43 (dC1 d)) (qC1 q) (kT512 k) (lC1 l) (View.ld x (Rect.unit (s := S1024x128) ![0, 0] S512x128.size inb_S1024x128_S512x128_0_0)))
def gSk2 (q k : Vec F S1024x256 .bf16) (v o d : Vec F S1024x128 .bf16) (l : Vec F S1x1024x1 .f32) (x : Vec F S1024x256 .f32) : Vec F S1024x256 .f32 :=
  (Rect.unit (s := S1024x256) ![0, 0] S512x256.size inb_S1024x256_S512x256_0_0).overlay x (k0_pay47 (k0_pay45 (k0_pay43 (dC1 d)) (oC1 o) (qC1 q) (kT512 k) (lC1 l) (vT512 v)) (View.ld x (Rect.unit (s := S1024x256) ![0, 0] S512x256.size inb_S1024x256_S512x256_0_0)) (qC1 q))
def gDq1 (v1 v3 : Elt F .i32) (k0_hw1 : k0_chk1 v1 v3) (k0_h3 : k0_cond3 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off3 v1 256#32) S256x256.size (k0_off3_inb v1 v3 k0_hw1 k0_h3 1)).overlay x (k0_pay48 (k0_pay45 (k0_pay43 (dC1 d)) (oC1 o) (qC1 q) (kT512 k) (lC1 l) (vT512 v)) (View.ld x (Rect.unit (s := S8192x256) (k0_off3 v1 256#32) S256x256.size (k0_off3_inb v1 v3 k0_hw1 k0_h3 1))) (kT512 k))
def gSv3 (q k : Vec F S1024x256 .bf16) (v o d : Vec F S1024x128 .bf16) (l : Vec F S1x1024x1 .f32) (x : Vec F S1024x128 .f32) : Vec F S1024x128 .f32 :=
  (Rect.unit (s := S1024x128) ![0, 0] S768x128.size inb_S1024x128_S768x128_0_0).overlay x (k0_pay54 (k0_pay49 (dC2 d)) (k0_pay51 (qC2 q) (kT768 k)) (lC2 l) (View.ld x (Rect.unit (s := S1024x128) ![0, 0] S768x128.size inb_S1024x128_S768x128_0_0)))
def gSk3 (q k : Vec F S1024x256 .bf16) (v o d : Vec F S1024x128 .bf16) (l : Vec F S1x1024x1 .f32) (x : Vec F S1024x256 .f32) : Vec F S1024x256 .f32 :=
  (Rect.unit (s := S1024x256) ![0, 0] S768x256.size inb_S1024x256_S768x256_0_0).overlay x (k0_pay55 (k0_pay49 (dC2 d)) (k0_pay50 (dC2 d) (oC2 o)) (k0_pay51 (qC2 q) (kT768 k)) (lC2 l) (vT768 v) (View.ld x (Rect.unit (s := S1024x256) ![0, 0] S768x256.size inb_S1024x256_S768x256_0_0)) (qC2 q))
def gDq2 (v1 v3 : Elt F .i32) (k0_hw1 : k0_chk1 v1 v3) (k0_h3 : k0_cond3 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off3 v1 512#32) S256x256.size (k0_off3_inb v1 v3 k0_hw1 k0_h3 2)).overlay x (k0_pay56 (k0_pay53 (k0_pay49 (dC2 d)) (k0_pay50 (dC2 d) (oC2 o)) (k0_pay51 (qC2 q) (kT768 k)) (lC2 l) (vT768 v)) (View.ld x (Rect.unit (s := S8192x256) (k0_off3 v1 512#32) S256x256.size (k0_off3_inb v1 v3 k0_hw1 k0_h3 2))) (kT768 k))
def gSv4 (q k : Vec F S1024x256 .bf16) (v o d : Vec F S1024x128 .bf16) (l : Vec F S1x1024x1 .f32) (x : Vec F S1024x128 .f32) : Vec F S1024x128 .f32 :=
  (k0_pay61 (k0_pay57 (dC3 d)) (k0_pay59 (qC3 q) k (lC3 l)) x)
def gSk4 (q k : Vec F S1024x256 .bf16) (v o d : Vec F S1024x128 .bf16) (l : Vec F S1x1024x1 .f32) (x : Vec F S1024x256 .f32) : Vec F S1024x256 .f32 :=
  (k0_pay62 (k0_pay57 (dC3 d)) (k0_pay58 (dC3 d) (oC3 o)) (k0_pay59 (qC3 q) k (lC3 l)) v x (qC3 q))
def gDq3 (v1 v3 : Elt F .i32) (k0_hw1 : k0_chk1 v1 v3) (k0_h3 : k0_cond3 v1 v3 = 1#1) (q k : Vec F S1024x256 .bf16) (v o d : Vec F S1024x128 .bf16) (l : Vec F S1x1024x1 .f32) (x : Vec F S8192x256 .f32) : Vec F S8192x256 .f32 :=
  (Rect.unit (s := S8192x256) (k0_off3 v1 768#32) S256x256.size (k0_off3_inb v1 v3 k0_hw1 k0_h3 3)).overlay x (k0_pay63 (k0_pay57 (dC3 d)) (k0_pay58 (dC3 d) (oC3 o)) (k0_pay59 (qC3 q) k (lC3 l)) v (View.ld x (Rect.unit (s := S8192x256) (k0_off3 v1 768#32) S256x256.size (k0_off3_inb v1 v3 k0_hw1 k0_h3 3))) k)
/-- A whole pair off the diagonal. -/
def fDq (v1 v3 : Elt F .i32) (k0_hw1 : k0_chk1 v1 v3) (k0_h2 : k0_cond2 v1 v3 = 1#1) (q k : Vec F S1024x256 .bf16) (v o d : Vec F S1024x128 .bf16) (l : Vec F S1x1024x1 .f32) (dq : Vec F S8192x256 .f32) : Vec F S8192x256 .f32 :=
  (fDq3 v1 v3 k0_hw1 k0_h2 q k v o d l (fDq2 v1 v3 k0_hw1 k0_h2 q k v o d l (fDq1 v1 v3 k0_hw1 k0_h2 q k v o d l (fDq0 v1 v3 k0_hw1 k0_h2 q k v o d l dq))))
/-- A whole pair off the diagonal. -/
def fSk (q k : Vec F S1024x256 .bf16) (v o d : Vec F S1024x128 .bf16) (l : Vec F S1x1024x1 .f32) (sk : Vec F S1024x256 .f32) : Vec F S1024x256 .f32 :=
  (fSk3 q k v o d l (fSk2 q k v o d l (fSk1 q k v o d l (fSk0 q k v o d l sk))))
/-- A whole pair off the diagonal. -/
def fSv (q k : Vec F S1024x256 .bf16) (v o d : Vec F S1024x128 .bf16) (l : Vec F S1x1024x1 .f32) (sv : Vec F S1024x128 .f32) : Vec F S1024x128 .f32 :=
  (fSv3 q k v o d l (fSv2 q k v o d l (fSv1 q k v o d l (fSv0 q k v o d l sv))))
/-- A whole pair on the diagonal. -/
def gDq (v1 v3 : Elt F .i32) (k0_hw1 : k0_chk1 v1 v3) (k0_h3 : k0_cond3 v1 v3 = 1#1) (q k : Vec F S1024x256 .bf16) (v o d : Vec F S1024x128 .bf16) (l : Vec F S1x1024x1 .f32) (dq : Vec F S8192x256 .f32) : Vec F S8192x256 .f32 :=
  (gDq3 v1 v3 k0_hw1 k0_h3 q k v o d l (gDq2 v1 v3 k0_hw1 k0_h3 q k v o d l (gDq1 v1 v3 k0_hw1 k0_h3 q k v o d l (gDq0 v1 v3 k0_hw1 k0_h3 q k v o d l dq))))
/-- A whole pair on the diagonal. -/
def gSk (q k : Vec F S1024x256 .bf16) (v o d : Vec F S1024x128 .bf16) (l : Vec F S1x1024x1 .f32) (sk : Vec F S1024x256 .f32) : Vec F S1024x256 .f32 :=
  (gSk4 q k v o d l (gSk3 q k v o d l (gSk2 q k v o d l (gSk1 q k v o d l (gSk0 q k v o d l sk)))))
/-- A whole pair on the diagonal. -/
def gSv (q k : Vec F S1024x256 .bf16) (v o d : Vec F S1024x128 .bf16) (l : Vec F S1x1024x1 .f32) (sv : Vec F S1024x128 .f32) : Vec F S1024x128 .f32 :=
  (gSv4 q k v o d l (gSv3 q k v o d l (gSv2 q k v o d l (gSv1 q k v o d l (gSv0 q k v o d l sv)))))
/-- The gradient of a key block written out, the keys' beside the values'. -/
def wG (g : Vec F S1024x256 .bf16) (sk : Vec F S1024x256 .f32) (sv : Vec F S1024x128 .f32) : Vec F S1024x256 .bf16 :=
  ((Rect.unit (s := S1024x256) ![0, 128] S1024x128.size inb_S1024x256_S1024x128_0_128).overlay ((Rect.unit (s := S1024x256) ![0, 0] S1024x128.size inb_S1024x256_S1024x128_0_0).overlay g (k0_pay2 (View.ld sk (Rect.unit (s := S1024x256) ![0, 0] S1024x128.size inb_S1024x256_S1024x128_0_0)))) (k0_pay3 sv))
/-- The gradient of a key block's shared part written out. -/
def wGr (sk : Vec F S1024x256 .f32) : Vec F S1024x128 .f32 :=
  ((k0_pay4 (View.ld sk (Rect.unit (s := S1024x256) ![0, 128] S1024x128.size inb_S1024x256_S1024x128_0_128))))

end Cert.Attn
-- ==== Proof.AttnRun.lean ====
module

public import proofs.«01_k».proof.Proof.AttnBody
public import Idealize.ShloMosaic.Lib.Pipeline.Value

/-! The runs of the branches of the body of the attention gradient. -/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A store of the whole of a block leaves the stored value. -/
theorem overlay_unit_zero {S : Shape} {β : Type} {off : Fin S.rank → Nat} (h : off = fun _ => 0) (inb : ∀ a, off a + S.size a ≤ S.size a)
    (x w : S.Idx → β) : (Rect.unit off S.size inb).overlay x w = w := by
  subst h; funext y
  have h0 : (Rect.whole S).emb y = y := Rect.emb_whole_apply S y
  have h1 := Rect.overlay_emb (Rect.whole S) x w y
  rw [h0] at h1; exact h1

theorem hz2 : (![0, 0] : Fin 2 → ℕ) = fun _ => 0 := by funext a; fin_cases a <;> rfl

section Held

variable {c : Dev nD}
variable {a4 : Memref sig .tc .vmem S1024x256 .bf16} {q : S1024x256.Idx → Elt F .bf16}
variable {a5 : Memref sig .tc .vmem S1024x256 .bf16} {k : S1024x256.Idx → Elt F .bf16}
variable {a6 : Memref sig .tc .vmem S1024x128 .bf16} {v : S1024x128.Idx → Elt F .bf16}
variable {a7 : Memref sig .tc .vmem S1024x128 .bf16} {o : S1024x128.Idx → Elt F .bf16}
variable {a8 : Memref sig .tc .vmem S1024x128 .bf16} {d : S1024x128.Idx → Elt F .bf16}
variable {a9 : Memref sig .tc .vmem S1x1024x1 .f32} {l : S1x1024x1.Idx → Elt F .f32}
variable {a10 : Memref sig .tc .vmem S1024x256 .bf16} {g : S1024x256.Idx → Elt F .bf16}
variable {a11 : Memref sig .tc .vmem S1024x128 .f32} {gr : S1024x128.Idx → Elt F .f32}
variable {a12 : Memref sig .tc .vmem S8192x256 .f32} {dq : S8192x256.Idx → Elt F .f32}
variable {a13 : Memref sig .tc .vmem S1024x256 .f32} {sk : S1024x256.Idx → Elt F .f32}
variable {a14 : Memref sig .tc .vmem S1024x128 .f32} {sv : S1024x128.Idx → Elt F .f32}

theorem ldw5 {inb} {hl : a5.view.LoadsAt (Rect.unit (s := S1024x256) ![0, 0] S1024x256.size inb).toLoadRect} {Q : (S1024x256.Idx → Elt F .bf16) → sProp 𝕄}
    (hQ : held c a4 a5 a6 a7 a8 a9 a10 a11 a12 a13 a14 q k v o d l g gr dq sk sv ⊢ Q k) :
    held c a4 a5 a6 a7 a8 a9 a10 a11 a12 a13 a14 q k v o d l g gr dq sk sv ⊢ W c (Prog.lift (.load a5 (Rect.unit (s := S1024x256) ![0, 0] S1024x256.size inb).toLoadRect hl)) Q :=
  ld5 (by rw [View.ld_unit_zero (S := S1024x256) hz2 inb k]; exact hQ)

theorem ldw6 {inb} {hl : a6.view.LoadsAt (Rect.unit (s := S1024x128) ![0, 0] S1024x128.size inb).toLoadRect} {Q : (S1024x128.Idx → Elt F .bf16) → sProp 𝕄}
    (hQ : held c a4 a5 a6 a7 a8 a9 a10 a11 a12 a13 a14 q k v o d l g gr dq sk sv ⊢ Q v) :
    held c a4 a5 a6 a7 a8 a9 a10 a11 a12 a13 a14 q k v o d l g gr dq sk sv ⊢ W c (Prog.lift (.load a6 (Rect.unit (s := S1024x128) ![0, 0] S1024x128.size inb).toLoadRect hl)) Q :=
  ld6 (by rw [View.ld_unit_zero (S := S1024x128) hz2 inb v]; exact hQ)

theorem ldw11 {inb} {hl : a11.view.LoadsAt (Rect.unit (s := S1024x128) ![0, 0] S1024x128.size inb).toLoadRect} {Q : (S1024x128.Idx → Elt F .f32) → sProp 𝕄}
    (hQ : held c a4 a5 a6 a7 a8 a9 a10 a11 a12 a13 a14 q k v o d l g gr dq sk sv ⊢ Q gr) :
    held c a4 a5 a6 a7 a8 a9 a10 a11 a12 a13 a14 q k v o d l g gr dq sk sv ⊢ W c (Prog.lift (.load a11 (Rect.unit (s := S1024x128) ![0, 0] S1024x128.size inb).toLoadRect hl)) Q :=
  ld11 (by rw [View.ld_unit_zero (S := S1024x128) hz2 inb gr]; exact hQ)

theorem stw11 {inb} {w : S1024x128.Idx → Elt F .f32} {hx : (a11.access (Rect.unit (s := S1024x128) ![0, 0] S1024x128.size inb)).Stores Finset.univ}
    {hm : Finset.univ = Finset.univ ∨ ∀ a, (Rect.unit (s := S1024x128) ![0, 0] S1024x128.size inb).stride a = 1}
    {Q : PUnit → sProp 𝕄} (hQ : held c a4 a5 a6 a7 a8 a9 a10 a11 a12 a13 a14 q k v o d l g w dq sk sv ⊢ Q ⟨⟩) :
    held c a4 a5 a6 a7 a8 a9 a10 a11 a12 a13 a14 q k v o d l g gr dq sk sv ⊢ W c (Prog.lift (.store a11 (Rect.unit (s := S1024x128) ![0, 0] S1024x128.size inb) w Finset.univ hx hm)) Q :=
  st11 (by rw [overlay_unit_zero (S := S1024x128) hz2 inb gr w]; exact hQ)

theorem ldw12 {inb} {hl : a12.view.LoadsAt (Rect.unit (s := S8192x256) ![0, 0] S8192x256.size inb).toLoadRect} {Q : (S8192x256.Idx → Elt F .f32) → sProp 𝕄}
    (hQ : held c a4 a5 a6 a7 a8 a9 a10 a11 a12 a13 a14 q k v o d l g gr dq sk sv ⊢ Q dq) :
    held c a4 a5 a6 a7 a8 a9 a10 a11 a12 a13 a14 q k v o d l g gr dq sk sv ⊢ W c (Prog.lift (.load a12 (Rect.unit (s := S8192x256) ![0, 0] S8192x256.size inb).toLoadRect hl)) Q :=
  ld12 (by rw [View.ld_unit_zero (S := S8192x256) hz2 inb dq]; exact hQ)

theorem stw12 {inb} {w : S8192x256.Idx → Elt F .f32} {hx : (a12.access (Rect.unit (s := S8192x256) ![0, 0] S8192x256.size inb)).Stores Finset.univ}
    {hm : Finset.univ = Finset.univ ∨ ∀ a, (Rect.unit (s := S8192x256) ![0, 0] S8192x256.size inb).stride a = 1}
    {Q : PUnit → sProp 𝕄} (hQ : held c a4 a5 a6 a7 a8 a9 a10 a11 a12 a13 a14 q k v o d l g gr w sk sv ⊢ Q ⟨⟩) :
    held c a4 a5 a6 a7 a8 a9 a10 a11 a12 a13 a14 q k v o d l g gr dq sk sv ⊢ W c (Prog.lift (.store a12 (Rect.unit (s := S8192x256) ![0, 0] S8192x256.size inb) w Finset.univ hx hm)) Q :=
  st12 (by rw [overlay_unit_zero (S := S8192x256) hz2 inb dq w]; exact hQ)

theorem ldw13 {inb} {hl : a13.view.LoadsAt (Rect.unit (s := S1024x256) ![0, 0] S1024x256.size inb).toLoadRect} {Q : (S1024x256.Idx → Elt F .f32) → sProp 𝕄}
    (hQ : held c a4 a5 a6 a7 a8 a9 a10 a11 a12 a13 a14 q k v o d l g gr dq sk sv ⊢ Q sk) :
    held c a4 a5 a6 a7 a8 a9 a10 a11 a12 a13 a14 q k v o d l g gr dq sk sv ⊢ W c (Prog.lift (.load a13 (Rect.unit (s := S1024x256) ![0, 0] S1024x256.size inb).toLoadRect hl)) Q :=
  ld13 (by rw [View.ld_unit_zero (S := S1024x256) hz2 inb sk]; exact hQ)

theorem stw13 {inb} {w : S1024x256.Idx → Elt F .f32} {hx : (a13.access (Rect.unit (s := S1024x256) ![0, 0] S1024x256.size inb)).Stores Finset.univ}
    {hm : Finset.univ = Finset.univ ∨ ∀ a, (Rect.unit (s := S1024x256) ![0, 0] S1024x256.size inb).stride a = 1}
    {Q : PUnit → sProp 𝕄} (hQ : held c a4 a5 a6 a7 a8 a9 a10 a11 a12 a13 a14 q k v o d l g gr dq w sv ⊢ Q ⟨⟩) :
    held c a4 a5 a6 a7 a8 a9 a10 a11 a12 a13 a14 q k v o d l g gr dq sk sv ⊢ W c (Prog.lift (.store a13 (Rect.unit (s := S1024x256) ![0, 0] S1024x256.size inb) w Finset.univ hx hm)) Q :=
  st13 (by rw [overlay_unit_zero (S := S1024x256) hz2 inb sk w]; exact hQ)

theorem ldw14 {inb} {hl : a14.view.LoadsAt (Rect.unit (s := S1024x128) ![0, 0] S1024x128.size inb).toLoadRect} {Q : (S1024x128.Idx → Elt F .f32) → sProp 𝕄}
    (hQ : held c a4 a5 a6 a7 a8 a9 a10 a11 a12 a13 a14 q k v o d l g gr dq sk sv ⊢ Q sv) :
    held c a4 a5 a6 a7 a8 a9 a10 a11 a12 a13 a14 q k v o d l g gr dq sk sv ⊢ W c (Prog.lift (.load a14 (Rect.unit (s := S1024x128) ![0, 0] S1024x128.size inb).toLoadRect hl)) Q :=
  ld14 (by rw [View.ld_unit_zero (S := S1024x128) hz2 inb sv]; exact hQ)

theorem stw14 {inb} {w : S1024x128.Idx → Elt F .f32} {hx : (a14.access (Rect.unit (s := S1024x128) ![0, 0] S1024x128.size inb)).Stores Finset.univ}
    {hm : Finset.univ = Finset.univ ∨ ∀ a, (Rect.unit (s := S1024x128) ![0, 0] S1024x128.size inb).stride a = 1}
    {Q : PUnit → sProp 𝕄} (hQ : held c a4 a5 a6 a7 a8 a9 a10 a11 a12 a13 a14 q k v o d l g gr dq sk w ⊢ Q ⟨⟩) :
    held c a4 a5 a6 a7 a8 a9 a10 a11 a12 a13 a14 q k v o d l g gr dq sk sv ⊢ W c (Prog.lift (.store a14 (Rect.unit (s := S1024x128) ![0, 0] S1024x128.size inb) w Finset.univ hx hm)) Q :=
  st14 (by rw [overlay_unit_zero (S := S1024x128) hz2 inb sv w]; exact hQ)

end Held

set_option maxHeartbeats 4000000 in
theorem run_f (c : Dev nD) (i : grid0.Coords) (arg2 : Memref sig .tc .smem S36 .i32) (harg2 : arg2.IsWhole) (arg3 : Memref sig .tc .smem S36 .i32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1024x256 .f32) (harg13 : arg13.IsWhole) (arg14 : Memref sig .tc .vmem S1024x128 .f32) (harg14 : arg14.IsWhole)
    (v1 v3 : Elt F .i32) (k0_hw1 : k0_chk1 v1 v3) (k0_h2 : k0_cond2 v1 v3 = 1#1)
    (q k : Vec F S1024x256 .bf16) (v o d : Vec F S1024x128 .bf16) (l : Vec F S1x1024x1 .f32) (g : Vec F S1024x256 .bf16) (gr : Vec F S1024x128 .f32) (dq : Vec F S8192x256 .f32) (sk : Vec F S1024x256 .f32) (sv : Vec F S1024x128 .f32) (K : PUnit → sProp 𝕄) (kk : PUnit → Prog (TpuEff nD τ sig (Elt F) Λ₀ .tc) PUnit)
    (hK : held c arg4 arg5 arg6 arg7 arg8 arg9 arg10 arg11 arg12 arg13 arg14 q k v o d l g gr (fDq v1 v3 k0_hw1 k0_h2 q k v o d l dq) (fSk q k v o d l sk) (fSv q k v o d l sv) ⊢ W c (kk ⟨⟩) K) :
    held c arg4 arg5 arg6 arg7 arg8 arg9 arg10 arg11 arg12 arg13 arg14 q k v o d l g gr dq sk sv ⊢ W c (do
    let ⟨v41, v49⟩ : Σ' (v41 : FVec F S256x1024 .bf16), Vec F S1024x256 .f32 ← k0_part1 i arg2 harg2 arg3 harg3 arg4 harg4 arg5 harg5 arg6 harg6 arg7 harg7 arg8 harg8 arg9 harg9 arg10 harg10 arg11 harg11 arg12 harg12 arg13 harg13 arg14 harg14
    let ⟨v70, v77, v82, v84⟩ : Σ' (v70 : FVec F S256x128 .bf16) (v77 : FVec F S256x1 .f32) (v82 : FVec F S256x1024 .f32), FVec F S256x1 .f32 ← k0_part2 i arg2 harg2 arg3 harg3 arg4 harg4 arg5 harg5 arg6 harg6 arg7 harg7 arg8 harg8 arg9 harg9 arg10 harg10 arg11 harg11 arg12 harg12 arg13 harg13 arg14 harg14 v1 v3 k0_hw1 k0_h2 v41 v49
    let v119 : FVec F S256x256 .f32 ← k0_part3 i arg2 harg2 arg3 harg3 arg4 harg4 arg5 harg5 arg6 harg6 arg7 harg7 arg8 harg8 arg9 harg9 arg10 harg10 arg11 harg11 arg12 harg12 arg13 harg13 arg14 harg14 v1 v3 k0_hw1 k0_h2 v70 v77 v82 v84
    let ⟨v147, v155⟩ : Σ' (v147 : FVec F S256x1024 .bf16), Vec F S1024x256 .f32 ← k0_part4 i arg2 harg2 arg3 harg3 arg4 harg4 arg5 harg5 arg6 harg6 arg7 harg7 arg8 harg8 arg9 harg9 arg10 harg10 arg11 harg11 arg12 harg12 arg13 harg13 arg14 harg14 v1 v3 k0_hw1 k0_h2 v119
    let ⟨v176, v183, v188⟩ : Σ' (v176 : FVec F S256x128 .bf16) (v183 : FVec F S256x1 .f32), FVec F S256x1024 .f32 ← k0_part5 i arg2 harg2 arg3 harg3 arg4 harg4 arg5 harg5 arg6 harg6 arg7 harg7 arg8 harg8 arg9 harg9 arg10 harg10 arg11 harg11 arg12 harg12 arg13 harg13 arg14 harg14 v1 v3 k0_hw1 k0_h2 v147 v155
    let ⟨v218, v225⟩ : Σ' (v218 : BitVec 32), FVec F S256x256 .f32 ← k0_part6 i arg2 harg2 arg3 harg3 arg4 harg4 arg5 harg5 arg6 harg6 arg7 harg7 arg8 harg8 arg9 harg9 arg10 harg10 arg11 harg11 arg12 harg12 arg13 harg13 arg14 harg14 v1 v3 k0_hw1 k0_h2 v176 v183 v188

    let v227 : Vec F S256x256 .f32 ← Prog.lift (.load arg12 (Rect.unit (s := S8192x256) (k0_off2 v1 768#32) S256x256.size (k0_off2_inb v1 v3 k0_hw1 k0_h2 3)).toLoadRect (View.loadsAt_vmem h_S256x256))
    Prog.lift (.store arg12 (Rect.unit (s := S8192x256) (k0_off2 v1 768#32) S256x256.size (k0_off2_inb v1 v3 k0_hw1 k0_h2 3)) v225 Finset.univ (View.stores_vmem_bits_univ h_S256x256 rfl) (.inl rfl))
    kk ⟨⟩) K := by
  refine bind_W ?_
  rw [k0_part1_eq_skeleton]; unfold k0_part1_skel
  refine bind_W (ld8 ?_)
  refine bind_W (ld7 ?_)
  refine bind_W (ld4 ?_)
  refine bind_W (ldw5 ?_)
  refine bind_W (ld9 ?_)
  refine bind_W (ldw6 ?_)
  refine bind_W (ldw14 ?_)
  refine bind_W (ldw14 ?_)
  refine bind_W (stw14 ?_)
  refine bind_W (ldw13 ?_)
  refine pure_W ?_
  refine bind_W ?_
  rw [k0_part2_eq_skeleton]; unfold k0_part2_skel
  refine bind_W (ld4 ?_)
  refine bind_W (ldw13 ?_)
  refine bind_W (stw13 ?_)
  refine bind_W (ld12 ?_)
  refine bind_W (ldw5 ?_)
  refine bind_W (ld12 ?_)
  refine bind_W (st12 ?_)
  refine bind_W (ld8 ?_)
  refine bind_W (ld7 ?_)
  refine bind_W (ld4 ?_)
  refine bind_W (ldw5 ?_)
  refine bind_W (ld9 ?_)
  refine pure_W ?_
  refine bind_W ?_
  rw [k0_part3_eq_skeleton]; unfold k0_part3_skel
  refine bind_W (ldw6 ?_)
  refine bind_W (ldw14 ?_)
  refine bind_W (ldw14 ?_)
  refine bind_W (stw14 ?_)
  refine bind_W (ldw13 ?_)
  refine bind_W (ld4 ?_)
  refine bind_W (ldw13 ?_)
  refine bind_W (stw13 ?_)
  refine bind_W (ld12 ?_)
  refine bind_W (ldw5 ?_)
  refine pure_W ?_
  refine bind_W ?_
  rw [k0_part4_eq_skeleton]; unfold k0_part4_skel
  refine bind_W (ld12 ?_)
  refine bind_W (st12 ?_)
  refine bind_W (ld8 ?_)
  refine bind_W (ld7 ?_)
  refine bind_W (ld4 ?_)
  refine bind_W (ldw5 ?_)
  refine bind_W (ld9 ?_)
  refine bind_W (ldw6 ?_)
  refine bind_W (ldw14 ?_)
  refine bind_W (ldw14 ?_)
  refine bind_W (stw14 ?_)
  refine bind_W (ldw13 ?_)
  refine pure_W ?_
  refine bind_W ?_
  rw [k0_part5_eq_skeleton]; unfold k0_part5_skel
  refine bind_W (ld4 ?_)
  refine bind_W (ldw13 ?_)
  refine bind_W (stw13 ?_)
  refine bind_W (ld12 ?_)
  refine bind_W (ldw5 ?_)
  refine bind_W (ld12 ?_)
  refine bind_W (st12 ?_)
  refine bind_W (ld8 ?_)
  refine bind_W (ld7 ?_)
  refine bind_W (ld4 ?_)
  refine bind_W (ldw5 ?_)
  refine pure_W ?_
  refine bind_W ?_
  rw [k0_part6_eq_skeleton]; unfold k0_part6_skel
  refine bind_W (ld9 ?_)
  refine bind_W (ldw6 ?_)
  refine bind_W (ldw14 ?_)
  refine bind_W (ldw14 ?_)
  refine bind_W (stw14 ?_)
  refine bind_W (ldw13 ?_)
  refine bind_W (ld4 ?_)
  refine bind_W (ldw13 ?_)
  refine bind_W (stw13 ?_)
  refine bind_W (ld12 ?_)
  refine bind_W (ldw5 ?_)
  refine pure_W ?_
  refine bind_W (ld12 ?_)
  refine bind_W (st12 ?_)
  exact hK

set_option maxHeartbeats 4000000 in
theorem run_g (c : Dev nD) (i : grid0.Coords) (arg2 : Memref sig .tc .smem S36 .i32) (harg2 : arg2.IsWhole) (arg3 : Memref sig .tc .smem S36 .i32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1024x256 .f32) (harg13 : arg13.IsWhole) (arg14 : Memref sig .tc .vmem S1024x128 .f32) (harg14 : arg14.IsWhole)
    (v1 v3 : Elt F .i32) (k0_hw1 : k0_chk1 v1 v3) (k0_h3 : k0_cond3 v1 v3 = 1#1)
    (q k : Vec F S1024x256 .bf16) (v o d : Vec F S1024x128 .bf16) (l : Vec F S1x1024x1 .f32) (g : Vec F S1024x256 .bf16) (gr : Vec F S1024x128 .f32) (dq : Vec F S8192x256 .f32) (sk : Vec F S1024x256 .f32) (sv : Vec F S1024x128 .f32) (K : PUnit → sProp 𝕄) (kk : PUnit → Prog (TpuEff nD τ sig (Elt F) Λ₀ .tc) PUnit)
    (hK : held c arg4 arg5 arg6 arg7 arg8 arg9 arg10 arg11 arg12 arg13 arg14 q k v o d l g gr (gDq v1 v3 k0_hw1 k0_h3 q k v o d l dq) (gSk q k v o d l sk) (gSv q k v o d l sv) ⊢ W c (kk ⟨⟩) K) :
    held c arg4 arg5 arg6 arg7 arg8 arg9 arg10 arg11 arg12 arg13 arg14 q k v o d l g gr dq sk sv ⊢ W c (do
    let v261 : FVec F S256x256 .f32 ← k0_part13 i arg2 harg2 arg3 harg3 arg4 harg4 arg5 harg5 arg6 harg6 arg7 harg7 arg8 harg8 arg9 harg9 arg10 harg10 arg11 harg11 arg12 harg12 arg13 harg13 arg14 harg14 v1 v3 k0_hw1 k0_h3
    let v263 : Vec F S256x256 .f32 ← Prog.lift (.load arg12 (Rect.unit (s := S8192x256) (k0_off3 v1 768#32) S256x256.size (k0_off3_inb v1 v3 k0_hw1 k0_h3 3)).toLoadRect (View.loadsAt_vmem h_S256x256))
    Prog.lift (.store arg12 (Rect.unit (s := S8192x256) (k0_off3 v1 768#32) S256x256.size (k0_off3_inb v1 v3 k0_hw1 k0_h3 3)) v261 Finset.univ (View.stores_vmem_bits_univ h_S256x256 rfl) (.inl rfl))
    kk ⟨⟩) K := by
  refine bind_W ?_
  rw [k0_part13_eq_skeleton]; unfold k0_part13_skel
  refine bind_W ?_
  rw [k0_part7_eq_skeleton]; unfold k0_part7_skel
  refine bind_W (ldw14 ?_)
  refine bind_W (stw14 ?_)
  refine bind_W (ldw13 ?_)
  refine bind_W (stw13 ?_)
  refine bind_W (ld8 ?_)
  refine bind_W (ld7 ?_)
  refine bind_W (ld4 ?_)
  refine bind_W (ld5 ?_)
  refine bind_W (ld9 ?_)
  refine bind_W (ld6 ?_)
  refine pure_W ?_
  refine bind_W ?_
  rw [k0_part8_eq_skeleton]; unfold k0_part8_skel
  refine bind_W (ld14 ?_)
  refine bind_W (ld14 ?_)
  refine bind_W (st14 ?_)
  refine bind_W (ld13 ?_)
  refine bind_W (ld4 ?_)
  refine bind_W (ld13 ?_)
  refine bind_W (st13 ?_)
  refine bind_W (ld12 ?_)
  refine bind_W (ld5 ?_)
  refine bind_W (ld12 ?_)
  refine bind_W (st12 ?_)
  refine bind_W (ld8 ?_)
  refine pure_W ?_
  refine bind_W ?_
  rw [k0_part9_eq_skeleton]; unfold k0_part9_skel
  refine bind_W (ld7 ?_)
  refine bind_W (ld4 ?_)
  refine bind_W (ld5 ?_)
  refine bind_W (ld9 ?_)
  refine bind_W (ld6 ?_)
  refine bind_W (ld14 ?_)
  refine bind_W (ld14 ?_)
  refine bind_W (st14 ?_)
  refine pure_W ?_
  refine bind_W ?_
  rw [k0_part10_eq_skeleton]; unfold k0_part10_skel
  refine bind_W (ld13 ?_)
  refine bind_W (ld4 ?_)
  refine bind_W (ld13 ?_)
  refine bind_W (st13 ?_)
  refine bind_W (ld12 ?_)
  refine bind_W (ld5 ?_)
  refine bind_W (ld12 ?_)
  refine bind_W (st12 ?_)
  refine bind_W (ld8 ?_)
  refine bind_W (ld7 ?_)
  refine bind_W (ld4 ?_)
  refine bind_W (ld5 ?_)
  refine pure_W ?_
  refine bind_W ?_
  rw [k0_part11_eq_skeleton]; unfold k0_part11_skel
  refine bind_W (ld9 ?_)
  refine bind_W (ld6 ?_)
  refine bind_W (ld14 ?_)
  refine bind_W (ld14 ?_)
  refine bind_W (st14 ?_)
  refine bind_W (ld13 ?_)
  refine bind_W (ld4 ?_)
  refine bind_W (ld13 ?_)
  refine bind_W (st13 ?_)
  refine pure_W ?_
  refine bind_W ?_
  rw [k0_part12_eq_skeleton]; unfold k0_part12_skel
  refine bind_W (ld12 ?_)
  refine bind_W (ld5 ?_)
  refine bind_W (ld12 ?_)
  refine bind_W (st12 ?_)
  refine bind_W (ld8 ?_)
  refine bind_W (ld7 ?_)
  refine bind_W (ld4 ?_)
  refine bind_W (ldw5 ?_)
  refine bind_W (ld9 ?_)
  refine bind_W (ldw6 ?_)
  refine pure_W ?_
  refine bind_W (ldw14 ?_)
  refine bind_W (ldw14 ?_)
  refine bind_W (stw14 ?_)
  refine bind_W (ldw13 ?_)
  refine bind_W (ld4 ?_)
  refine bind_W (ldw13 ?_)
  refine bind_W (stw13 ?_)
  refine bind_W (ld12 ?_)
  refine bind_W (ldw5 ?_)
  refine pure_W ?_
  refine bind_W (ld12 ?_)
  refine bind_W (st12 ?_)
  exact hK

set_option maxHeartbeats 4000000 in
theorem run_w (c : Dev nD) (i : grid0.Coords) (arg2 : Memref sig .tc .smem S36 .i32) (harg2 : arg2.IsWhole) (arg3 : Memref sig .tc .smem S36 .i32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1024x256 .f32) (harg13 : arg13.IsWhole) (arg14 : Memref sig .tc .vmem S1024x128 .f32) (harg14 : arg14.IsWhole)
    (q k : Vec F S1024x256 .bf16) (v o d : Vec F S1024x128 .bf16) (l : Vec F S1x1024x1 .f32) (g : Vec F S1024x256 .bf16) (gr : Vec F S1024x128 .f32) (dq : Vec F S8192x256 .f32) (sk : Vec F S1024x256 .f32) (sv : Vec F S1024x128 .f32) (K : PUnit → sProp 𝕄) (kk : PUnit → Prog (TpuEff nD τ sig (Elt F) Λ₀ .tc) PUnit)
    (hK : held c arg4 arg5 arg6 arg7 arg8 arg9 arg10 arg11 arg12 arg13 arg14 q k v o d l (wG g sk sv) (wGr sk) dq sk sv ⊢ W c (kk ⟨⟩) K) :
    held c arg4 arg5 arg6 arg7 arg8 arg9 arg10 arg11 arg12 arg13 arg14 q k v o d l g gr dq sk sv ⊢ W c (do
    let v16 : Vec F S1024x128 .f32 ← Prog.lift (.load arg13 (Rect.unit (s := S1024x256) ![0, 0] S1024x128.size inb_S1024x256_S1024x128_0_0).toLoadRect (View.loadsAt_vmem h_S1024x128))
    let v20 : Vec F S1024x128 .bf16 ← Prog.lift (.load arg10 (Rect.unit (s := S1024x256) ![0, 0] S1024x128.size inb_S1024x256_S1024x128_0_0).toLoadRect (View.loadsAt_vmem h_S1024x128))
    Prog.lift (.store arg10 (Rect.unit (s := S1024x256) ![0, 0] S1024x128.size inb_S1024x256_S1024x128_0_0) (k0_pay2 v16) Finset.univ (View.stores_vmem h_S1024x128 (harg10.storeExact_slice rfl _ packedbf16_S1024x256_S1024x128_0_0) (fun _ => rfl)) (.inl rfl))
    let v21 : Vec F S1024x128 .f32 ← Prog.lift (.load arg14 (Rect.unit (s := S1024x128) ![0, 0] S1024x128.size inb_S1024x128_S1024x128_0_0).toLoadRect (View.loadsAt_vmem h_S1024x128))
    let v23 : Vec F S1024x128 .bf16 ← Prog.lift (.load arg10 (Rect.unit (s := S1024x256) ![0, 128] S1024x128.size inb_S1024x256_S1024x128_0_128).toLoadRect (View.loadsAt_vmem h_S1024x128))
    Prog.lift (.store arg10 (Rect.unit (s := S1024x256) ![0, 128] S1024x128.size inb_S1024x256_S1024x128_0_128) (k0_pay3 v21) Finset.univ (View.stores_vmem h_S1024x128 (harg10.storeExact_slice rfl _ packedbf16_S1024x256_S1024x128_0_128) (fun _ => rfl)) (.inl rfl))
    let v24 : Vec F S1024x128 .f32 ← Prog.lift (.load arg13 (Rect.unit (s := S1024x256) ![0, 128] S1024x128.size inb_S1024x256_S1024x128_0_128).toLoadRect (View.loadsAt_vmem h_S1024x128))
    let v27 : Vec F S1024x128 .f32 ← Prog.lift (.load arg11 (Rect.unit (s := S1024x128) ![0, 0] S1024x128.size inb_S1024x128_S1024x128_0_0).toLoadRect (View.loadsAt_vmem h_S1024x128))
    Prog.lift (.store arg11 (Rect.unit (s := S1024x128) ![0, 0] S1024x128.size inb_S1024x128_S1024x128_0_0) (k0_pay4 v24) Finset.univ (View.stores_vmem_bits_univ h_S1024x128 rfl) (.inl rfl))
    kk ⟨⟩) K := by
  refine bind_W (ld13 ?_)
  refine bind_W (ld10 ?_)
  refine bind_W (st10 ?_)
  refine bind_W (ldw14 ?_)
  refine bind_W (ld10 ?_)
  refine bind_W (st10 ?_)
  refine bind_W (ld13 ?_)
  refine bind_W (ldw11 ?_)
  refine bind_W (stw11 ?_)
  exact hK

end Cert.Attn
-- ==== Proof.AttnPoint.lean ====
module

public import proofs.«01_k».proof.Proof.AttnRun

/-! The run of the whole body of the attention gradient at one point of the grid. -/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The element of a table the body reads at a point. -/
def rdT (T : S36.Idx → BitVec 32) (i : grid0.Coords) : BitVec 32 :=
  T ((Rect.unit (s := S36) (k0_off1 i) S1.size (k0_off1_inb i)).emb (Shape.Idx.first (numel1_S1.symm ▸ Nat.one_pos)))

/-- The gradient of the queries after a point: zeroed at the head's first, then the pair's share added. -/
def nDq (i : grid0.Coords) (v1 v3 : BitVec 32) (hw : k0_chk1 v1 v3) (q k : Vec F S1024x256 .bf16) (v o d : Vec F S1024x128 .bf16) (l : Vec F S1x1024x1 .f32) (dq : Vec F S8192x256 .f32) : Vec F S8192x256 .f32 :=
  let x : Vec F S8192x256 .f32 := if k0_cond1 i = 1#1 then k0_pay1 (F := F) else dq
  let y : Vec F S8192x256 .f32 := if h : k0_cond2 v1 v3 = 1#1 then fDq v1 v3 hw h q k v o d l x else x
  if h : k0_cond3 v1 v3 = 1#1 then gDq v1 v3 hw h q k v o d l y else y

/-- The accumulator of the keys after a point. -/
def nSk (v1 v3 : BitVec 32) (q k : Vec F S1024x256 .bf16) (v o d : Vec F S1024x128 .bf16) (l : Vec F S1x1024x1 .f32) (sk : Vec F S1024x256 .f32) : Vec F S1024x256 .f32 :=
  let y : Vec F S1024x256 .f32 := if k0_cond2 v1 v3 = 1#1 then fSk q k v o d l sk else sk
  if k0_cond3 v1 v3 = 1#1 then gSk q k v o d l y else y

/-- The accumulator of the values after a point. -/
def nSv (v1 v3 : BitVec 32) (q k : Vec F S1024x256 .bf16) (v o d : Vec F S1024x128 .bf16) (l : Vec F S1x1024x1 .f32) (sv : Vec F S1024x128 .f32) : Vec F S1024x128 .f32 :=
  let y : Vec F S1024x128 .f32 := if k0_cond2 v1 v3 = 1#1 then fSv q k v o d l sv else sv
  if k0_cond3 v1 v3 = 1#1 then gSv q k v o d l y else y

/-- The block of key and value gradients after a point: written at the last query block. -/
def nG (v1 : BitVec 32) (g : Vec F S1024x256 .bf16) (sk : Vec F S1024x256 .f32) (sv : Vec F S1024x128 .f32) : Vec F S1024x256 .bf16 :=
  if k0_cond4 v1 = 1#1 then wG g sk sv else g

/-- The block of rotary key gradients after a point. -/
def nGr (v1 : BitVec 32) (gr : Vec F S1024x128 .f32) (sk : Vec F S1024x256 .f32) : Vec F S1024x128 .f32 :=
  if k0_cond4 v1 = 1#1 then wGr sk else gr

theorem read_tab0 (T : S36.Idx → BitVec 32) (i : grid0.Coords) :
    ((Memref.whole main_c).access (Rect.unit (s := S36) (k0_off1 i) S1.size (k0_off1_inb i))).read (Elt F) T (Shape.Idx.first (numel1_S1.symm ▸ Nat.one_pos)) = rdT T i := rfl

theorem read_tab1 (T : S36.Idx → BitVec 32) (i : grid0.Coords) :
    ((Memref.whole main_c_0).access (Rect.unit (s := S36) (k0_off1 i) S1.size (k0_off1_inb i))).read (Elt F) T (Shape.Idx.first (numel1_S1.symm ▸ Nat.one_pos)) = rdT T i := rfl

/-- The two tables, held for reading. -/
def tabs (c : Dev nD) (p : PosShare TreeShare) (T0 T1 : S36.Idx → BitVec 32) : sProp 𝕄 :=
  iprop(((Memref.whole main_c).view.loc (c : Thread nD τ) ↦{p} T0) ∗ ((Memref.whole main_c_0).view.loc (c : Thread nD τ) ↦{p} T1))

theorem smem_W (m : Memref sig .tc .smem S36 .i32) (c : Dev nD) (p : PosShare TreeShare) (r : Rect S36) (h1 : r.shape.numel = 1)
    (T : Buf (Elt F) ((m.access r).loc (c : Thread nD τ))) (hs : EltTy.packing .i32 = 1) (Q : BitVec 32 → sProp 𝕄) :
    ((m.access r).loc (c : Thread nD τ) ↦{p} T)
      ⊢ iprop((((m.access r).loc (c : Thread nD τ) ↦{p} T) -∗ W c (.ret ((m.access r).read (Elt F) T (Shape.Idx.first (h1.symm ▸ Nat.one_pos)))) Q)
        -∗ W c (smemLoad (Val := Elt F) m r h1 hs) Q) :=
  wp_smemLoadElt Variants.none (c : Thread nD τ) none Set.univ (k := .ret) (Finset.subset_univ _)

theorem rd0 {c : Dev nD} {p : PosShare TreeShare} {T0 T1 : S36.Idx → BitVec 32} {i : grid0.Coords} {A : sProp 𝕄} {hs} {Q : BitVec 32 → sProp 𝕄}
    (hQ : iprop(tabs c p T0 T1 ∗ A) ⊢ Q (rdT T0 i)) :
    iprop(tabs c p T0 T1 ∗ A) ⊢ W c (smemLoad (Val := Elt F) (Memref.whole main_c) (Rect.unit (s := S36) (k0_off1 i) S1.size (k0_off1_inb i)) numel1_S1 hs) Q := by
  unfold tabs
  iintro ⟨⟨H0, H1⟩, HA⟩
  have key : ((Memref.whole main_c).view.loc (c : Thread nD τ) ↦{p} T0)
      ⊢ iprop((((Memref.whole main_c).view.loc (c : Thread nD τ) ↦{p} T0) -∗ W c (.ret (rdT T0 i)) Q)
        -∗ W c (smemLoad (Val := Elt F) (Memref.whole main_c) (Rect.unit (s := S36) (k0_off1 i) S1.size (k0_off1_inb i)) numel1_S1 hs) Q) :=
    smem_W (Memref.whole main_c) c p (Rect.unit (s := S36) (k0_off1 i) S1.size (k0_off1_inb i)) numel1_S1 T0 hs Q
  iapply key $$ H0
  iintro H0
  iapply (le_wp_ret _ _ _ _ _)
  iapply hQ
  unfold tabs
  isplitl [H0 H1]
  · isplitl [H0]
    · iexact H0
    iexact H1
  iexact HA

theorem rd1 {c : Dev nD} {p : PosShare TreeShare} {T0 T1 : S36.Idx → BitVec 32} {i : grid0.Coords} {A : sProp 𝕄} {hs} {Q : BitVec 32 → sProp 𝕄}
    (hQ : iprop(tabs c p T0 T1 ∗ A) ⊢ Q (rdT T1 i)) :
    iprop(tabs c p T0 T1 ∗ A) ⊢ W c (smemLoad (Val := Elt F) (Memref.whole main_c_0) (Rect.unit (s := S36) (k0_off1 i) S1.size (k0_off1_inb i)) numel1_S1 hs) Q := by
  unfold tabs
  iintro ⟨⟨H0, H1⟩, HA⟩
  have key : ((Memref.whole main_c_0).view.loc (c : Thread nD τ) ↦{p} T1)
      ⊢ iprop((((Memref.whole main_c_0).view.loc (c : Thread nD τ) ↦{p} T1) -∗ W c (.ret (rdT T1 i)) Q)
        -∗ W c (smemLoad (Val := Elt F) (Memref.whole main_c_0) (Rect.unit (s := S36) (k0_off1 i) S1.size (k0_off1_inb i)) numel1_S1 hs) Q) :=
    smem_W (Memref.whole main_c_0) c p (Rect.unit (s := S36) (k0_off1 i) S1.size (k0_off1_inb i)) numel1_S1 T1 hs Q
  iapply key $$ H1
  iintro H1
  iapply (le_wp_ret _ _ _ _ _)
  iapply hQ
  unfold tabs
  isplitl [H0 H1]
  · isplitl [H0]
    · iexact H0
    iexact H1
  iexact HA

theorem assume_W {c : Dev nD} {P : Prop} [hd : Decidable P] {A : sProp 𝕄} {Q : PLift P → sProp 𝕄} (h : P) (hQ : A ⊢ Q ⟨h⟩) :
    A ⊢ W c (Prog.lift (TpuEff.assume P hd)) Q :=
  (hQ.trans (le_wp_ret _ _ _ _ _)).trans (wp_assume Variants.none (c : Thread nD τ) none Set.univ h)

set_option maxHeartbeats 4000000 in
/-- The whole body. -/
theorem run_body (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1024x256 .f32) (harg13 : arg13.IsWhole) (arg14 : Memref sig .tc .vmem S1024x128 .f32) (harg14 : arg14.IsWhole)
    (p : PosShare TreeShare) (T0 T1 : S36.Idx → BitVec 32) (hw : k0_chk1 (rdT T0 i) (rdT T1 i))
    (q k : Vec F S1024x256 .bf16) (v o d : Vec F S1024x128 .bf16) (l : Vec F S1x1024x1 .f32) (g : Vec F S1024x256 .bf16) (gr : Vec F S1024x128 .f32) (dq : Vec F S8192x256 .f32) (sk : Vec F S1024x256 .f32) (sv : Vec F S1024x128 .f32) (K : PUnit → sProp 𝕄)
    (hK : iprop(tabs c p T0 T1 ∗ held c arg4 arg5 arg6 arg7 arg8 arg9 arg10 arg11 arg12 arg13 arg14 q k v o d l
        (nG (rdT T0 i) g (nSk (rdT T0 i) (rdT T1 i) q k v o d l sk) (nSv (rdT T0 i) (rdT T1 i) q k v o d l sv))
        (nGr (rdT T0 i) gr (nSk (rdT T0 i) (rdT T1 i) q k v o d l sk))
        (nDq i (rdT T0 i) (rdT T1 i) hw q k v o d l dq) (nSk (rdT T0 i) (rdT T1 i) q k v o d l sk) (nSv (rdT T0 i) (rdT T1 i) q k v o d l sv)) ⊢ K ⟨⟩) :
    iprop(tabs c p T0 T1 ∗ held c arg4 arg5 arg6 arg7 arg8 arg9 arg10 arg11 arg12 arg13 arg14 q k v o d l g gr dq sk sv)
      ⊢ W c (cc0_mla_attn_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14) K := by
  rw [cc0_mla_attn_bwd_eq_skeleton]; unfold cc0_mla_attn_bwd_skel
  refine bind_W (rd0 ?_)
  refine bind_W (rd1 ?_)
  refine bind_W (assume_W hw ?_)
  generalize hv1 : rdT T0 i = v1 at *
  generalize hv3 : rdT T1 i = v3 at *
  refine frame_W ?_
  obtain ⟨KK, hKK⟩ : ∃ KK : PUnit → sProp 𝕄, KK = fun x => iprop(tabs c p T0 T1 -∗ K x) := ⟨_, rfl⟩
  rw [← hKK]
  replace hK : held c arg4 arg5 arg6 arg7 arg8 arg9 arg10 arg11 arg12 arg13 arg14 q k v o d l (nG v1 g (nSk v1 v3 q k v o d l sk) (nSv v1 v3 q k v o d l sv)) (nGr v1 gr (nSk v1 v3 q k v o d l sk))
      (nDq i v1 v3 hw q k v o d l dq) (nSk v1 v3 q k v o d l sk) (nSv v1 v3 q k v o d l sv) ⊢ KK ⟨⟩ := by
    rw [hKK]; iintro HB HR; iapply hK; isplitl [HR]
    · iexact HR
    iexact HB
  clear hKK
  dsimp (config := { iota := false, proj := false, eta := false }) only
  suffices T1 : ∀ x : Vec F S8192x256 .f32, x = (if k0_cond1 i = 1#1 then k0_pay1 (F := F) else dq) →
      held c arg4 arg5 arg6 arg7 arg8 arg9 arg10 arg11 arg12 arg13 arg14 q k v o d l g gr x sk sv ⊢ W c _ KK by
    by_cases h1 : k0_cond1 i = 1#1
    · rw [dif_pos h1]
      exact bind_W (ldw12 (bind_W (stw12 (T1 _ (if_pos h1).symm))))
    · rw [dif_neg h1]
      exact T1 _ (if_neg h1).symm
  intro x hx
  suffices T2 : ∀ (y : Vec F S8192x256 .f32) (yk : Vec F S1024x256 .f32) (yv : Vec F S1024x128 .f32),
      y = (if h : k0_cond2 v1 v3 = 1#1 then fDq v1 v3 hw h q k v o d l x else x) →
      yk = (if k0_cond2 v1 v3 = 1#1 then fSk q k v o d l sk else sk) → yv = (if k0_cond2 v1 v3 = 1#1 then fSv q k v o d l sv else sv) →
      held c arg4 arg5 arg6 arg7 arg8 arg9 arg10 arg11 arg12 arg13 arg14 q k v o d l g gr y yk yv ⊢ W c _ KK by
    by_cases h2 : k0_cond2 v1 v3 = 1#1
    · rw [dif_pos h2]
      exact run_f c i _ (Memref.isWhole_whole _) _ (Memref.isWhole_whole _) arg4 harg4 arg5 harg5 arg6 harg6 arg7 harg7 arg8 harg8 arg9 harg9 arg10 harg10 arg11 harg11 arg12 harg12 arg13 harg13 arg14 harg14 v1 v3 hw h2 q k v o d l g gr x sk sv KK (fun (_ : PUnit.{1}) => _) (T2 _ _ _ (by rw [dif_pos h2]) (if_pos h2).symm (if_pos h2).symm)
    · rw [dif_neg h2]
      exact T2 _ _ _ (by rw [dif_neg h2]) (if_neg h2).symm (if_neg h2).symm
  intro y yk yv hy hyk hyv
  suffices T3 : ∀ (z : Vec F S8192x256 .f32) (zk : Vec F S1024x256 .f32) (zv : Vec F S1024x128 .f32),
      z = (if h : k0_cond3 v1 v3 = 1#1 then gDq v1 v3 hw h q k v o d l y else y) →
      zk = (if k0_cond3 v1 v3 = 1#1 then gSk q k v o d l yk else yk) → zv = (if k0_cond3 v1 v3 = 1#1 then gSv q k v o d l yv else yv) →
      held c arg4 arg5 arg6 arg7 arg8 arg9 arg10 arg11 arg12 arg13 arg14 q k v o d l g gr z zk zv ⊢ W c _ KK by
    by_cases h3 : k0_cond3 v1 v3 = 1#1
    · rw [dif_pos h3]
      exact run_g c i _ (Memref.isWhole_whole _) _ (Memref.isWhole_whole _) arg4 harg4 arg5 harg5 arg6 harg6 arg7 harg7 arg8 harg8 arg9 harg9 arg10 harg10 arg11 harg11 arg12 harg12 arg13 harg13 arg14 harg14 v1 v3 hw h3 q k v o d l g gr y yk yv KK (fun (_ : PUnit.{1}) => _) (T3 _ _ _ (by rw [dif_pos h3]) (if_pos h3).symm (if_pos h3).symm)
    · rw [dif_neg h3]
      exact T3 _ _ _ (by rw [dif_neg h3]) (if_neg h3).symm (if_neg h3).symm
  intro z zk zv hz hzk hzv
  have ek : zk = nSk v1 v3 q k v o d l sk := by rw [hzk, hyk]; rfl
  have ev : zv = nSv v1 v3 q k v o d l sv := by rw [hzv, hyv]; rfl
  have eq' : z = nDq i v1 v3 hw q k v o d l dq := by subst hx; subst hy; rw [hz]; rfl
  rw [← ek, ← ev, ← eq'] at hK
  clear ek ev eq' hz hzk hzv hy hyk hyv hx
  unfold nG nGr at hK
  by_cases h4 : k0_cond4 v1 = 1#1
  · rw [if_pos h4, if_pos h4] at hK; rw [dif_pos h4]
    exact run_w c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 q k v o d l g gr z zk zv KK (fun (_ : PUnit.{1}) => _) (pure_W hK)
  · rw [if_neg h4, if_neg h4] at hK; rw [dif_neg h4]
    exact pure_W hK

end Cert.Attn
-- ==== Proof.AttnWords.lean ====
module

public import proofs.«01_k».proof.Proof.AttnPoint

/-! The two tables of the grid's pairs (query block, key block), and what is decided of them at every point. -/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The table of query blocks and the table of key blocks. -/
def tQ : S36.Idx → BitVec 32 := fun x => lit0 (S36.rowMajor x)
def tK : S36.Idx → BitVec 32 := fun x => lit1 (S36.rowMajor x)

/-- The words a point reads. -/
def wQ (i : grid0.Coords) : BitVec 32 := rdT tQ i
def wK (i : grid0.Coords) : BitVec 32 := rdT tK i

/-- The same as natural numbers, by the pair's position. -/
def qOf (n : ℕ) : ℕ := [0, 1, 2, 3, 4, 5, 6, 7, 1, 2, 3, 4, 5, 6, 7, 2, 3, 4, 5, 6, 7, 3, 4, 5, 6, 7, 4, 5, 6, 7, 5, 6, 7, 6, 7, 7].getD n 0
def kOf (n : ℕ) : ℕ := [0, 0, 0, 0, 0, 0, 0, 0, 1, 1, 1, 1, 1, 1, 1, 2, 2, 2, 2, 2, 2, 3, 3, 3, 3, 3, 4, 4, 4, 4, 5, 5, 5, 6, 6, 7].getD n 0

theorem wQ_eq : ∀ i : grid0.Coords, wQ i = BitVec.ofNat 32 (qOf (i 1).val) := by decide +kernel
theorem wK_eq : ∀ i : grid0.Coords, wK i = BitVec.ofNat 32 (kOf (i 1).val) := by decide +kernel

theorem chk (i : grid0.Coords) : k0_chk1 (wQ i) (wK i) := by
  have H : ∀ n : Fin 36, k0_chk1 (BitVec.ofNat 32 (qOf n.val)) (BitVec.ofNat 32 (kOf n.val)) := by decide +kernel
  rw [wQ_eq, wK_eq]; exact H (i 1)

theorem coords0 : ∀ t : Fin grid0.N, ((grid0.coords t) 0).val = t.val / 36 := by decide +kernel
theorem coords1 : ∀ t : Fin grid0.N, ((grid0.coords t) 1).val = t.val % 36 := by decide +kernel

set_option backward.proofsInPublic true in
/-- The tables' contents. -/
def pfN : pre0.Contents (Elt F) := fun | ⟨0, _⟩ => tQ | ⟨1, _⟩ => tK | ⟨_ + 2, h⟩ => absurd h (by simp)

theorem tr0 (i : grid0.Coords) : cc0_transform_0 k0_off1_inb numel1_S1 (pfN (F := F)) i = ![(wQ i).toNat, (BitVec.ofNat 32 (i 0).val).toNat] := rfl
theorem tr1 (i : grid0.Coords) : cc0_transform_1 k0_off1_inb numel1_S1 (pfN (F := F)) i = ![(wK i).toNat, (BitVec.ofNat 32 (i 0).val).toNat] := rfl
theorem tr2 (i : grid0.Coords) : cc0_transform_2 k0_off1_inb numel1_S1 (pfN (F := F)) i = ![(wK i).toNat, (Scalar.addi (Scalar.muli 2#32 (BitVec.ofNat 32 (i 0).val)) 1#32).toNat] := rfl
theorem tr3 (i : grid0.Coords) : cc0_transform_3 k0_off1_inb numel1_S1 (pfN (F := F)) i = ![(wQ i).toNat, (BitVec.ofNat 32 (i 0).val).toNat] := rfl
theorem tr4 (i : grid0.Coords) : cc0_transform_4 k0_off1_inb numel1_S1 (pfN (F := F)) i = ![(wQ i).toNat, (BitVec.ofNat 32 (i 0).val).toNat] := rfl
theorem tr5 (i : grid0.Coords) : cc0_transform_5 k0_off1_inb numel1_S1 (pfN (F := F)) i = ![(BitVec.ofNat 32 (i 0).val).toNat, (wQ i).toNat, (0#32).toNat] := rfl
theorem tr6 (i : grid0.Coords) : cc0_transform_6 k0_off1_inb numel1_S1 (pfN (F := F)) i = ![(wK i).toNat, (BitVec.ofNat 32 (i 0).val).toNat] := rfl
theorem tr7 (i : grid0.Coords) : cc0_transform_7 k0_off1_inb numel1_S1 (pfN (F := F)) i = ![(wK i).toNat, (BitVec.ofNat 32 (i 0).val).toNat] := rfl

theorem inb0 : ∀ i : grid0.Coords, ∀ a, ((![(wQ i).toNat, (BitVec.ofNat 32 (i 0).val).toNat] : Fin 2 → ℕ) a + 1) * S1024x256.size a ≤ S8192x4096.size a := by decide +kernel
theorem inb1 : ∀ i : grid0.Coords, ∀ a, ((![(wK i).toNat, (BitVec.ofNat 32 (i 0).val).toNat] : Fin 2 → ℕ) a + 1) * S1024x256.size a ≤ S8192x4096.size a := by decide +kernel
theorem inb2 : ∀ i : grid0.Coords, ∀ a, ((![(wK i).toNat, (Scalar.addi (Scalar.muli 2#32 (BitVec.ofNat 32 (i 0).val)) 1#32).toNat] : Fin 2 → ℕ) a + 1) * S1024x128.size a ≤ S8192x4096.size a := by decide +kernel
theorem inb3 : ∀ i : grid0.Coords, ∀ a, ((![(wQ i).toNat, (BitVec.ofNat 32 (i 0).val).toNat] : Fin 2 → ℕ) a + 1) * S1024x128.size a ≤ S8192x2048.size a := by decide +kernel
theorem inb5 : ∀ i : grid0.Coords, ∀ a, ((![(BitVec.ofNat 32 (i 0).val).toNat, (wQ i).toNat, (0#32).toNat] : Fin 3 → ℕ) a + 1) * S1x1024x1.size a ≤ S16x8192x1.size a := by decide +kernel
theorem inb7 : ∀ i : grid0.Coords, ∀ a, ((![(wK i).toNat, (BitVec.ofNat 32 (i 0).val).toNat] : Fin 2 → ℕ) a + 1) * S1024x128.size a ≤ S8192x2048.size a := by decide +kernel

theorem ok_pfN : ok0 (F := F) pfN :=
  ⟨fun i => ⟨inb0 i, .inr (Affine.block_words_dvd (s := S8192x4096) (p := EltTy.packing .bf16) (by decide) (by decide))⟩,
    fun i => ⟨inb1 i, .inr (Affine.block_words_dvd (s := S8192x4096) (p := EltTy.packing .bf16) (by decide) (by decide))⟩,
    fun i => ⟨inb2 i, .inr (Affine.block_words_dvd (s := S8192x4096) (p := EltTy.packing .bf16) (by decide) (by decide))⟩,
    fun i => ⟨inb3 i, .inr (Affine.block_words_dvd (s := S8192x2048) (p := EltTy.packing .bf16) (by decide) (by decide))⟩,
    fun i => ⟨inb3 i, .inr (Affine.block_words_dvd (s := S8192x2048) (p := EltTy.packing .bf16) (by decide) (by decide))⟩,
    fun i => ⟨inb5 i, .inl rfl⟩,
    fun i => ⟨inb1 i, .inr (Affine.block_words_dvd (s := S8192x4096) (p := EltTy.packing .bf16) (by decide) (by decide))⟩,
    fun i => ⟨inb7 i, .inl rfl⟩⟩

def adm : (pcfg0 (F := F)).Adm := ⟨pfN, ok_pfN⟩
abbrev cfgA : Pipeline.Cfg sig Λ₀ := cfg0 (F := F) adm
abbrev pcs : Fin 1 → Pipeline.Cfg sig Λ₀ := Pipeline.pin (pcfgs (F := F)) fun _ => adm

/-- A block of keys is left at the last query block of its column of pairs. -/
def fl6 (t : Fin grid0.N) : Bool :=
  true && (t.val + 1 = grid0.N || decide (∃ h : t.val + 1 < grid0.N,
    (![(wK (grid0.coords ⟨t.val + 1, h⟩)).toNat, (BitVec.ofNat 32 ((grid0.coords ⟨t.val + 1, h⟩) 0).val).toNat] : Fin 2 → ℕ)
      ≠ ![(wK (grid0.coords t)).toNat, (BitVec.ofNat 32 ((grid0.coords t) 0).val).toNat]))

def fl8 (t : Fin grid0.N) : Bool :=
  true && (t.val + 1 = grid0.N || decide (∃ h : t.val + 1 < grid0.N, cc0_transform_8 (grid0.coords ⟨t.val + 1, h⟩) ≠ cc0_transform_8 (grid0.coords t)))

theorem flush6 (t : Fin (cfgA (F := F)).N) : ((cfgA (F := F)).win (6 : Fin 9)).flush t = fl6 t := rfl
theorem flush7 (t : Fin (cfgA (F := F)).N) : ((cfgA (F := F)).win (7 : Fin 9)).flush t = fl6 t := rfl
theorem flush8 (t : Fin (cfgA (F := F)).N) : ((cfgA (F := F)).win (8 : Fin 9)).flush t = fl8 t := rfl

theorem atD0 (i : grid0.Coords) : (pfN (F := F)).atD 0 (k0_off1 i) = wQ i := by
  unfold Pipeline.Prefetch.Contents.atD
  refine (dif_pos fun a => (show ∀ a : Fin 1, k0_off1 i a + 1 ≤ S36.size a from fun a => by fin_cases a; exact k0_off1_inb i 0) a).trans ?_
  refine congrArg tQ ?_
  funext a; fin_cases a; rfl
theorem atD1 (i : grid0.Coords) : (pfN (F := F)).atD 1 (k0_off1 i) = wK i := by
  unfold Pipeline.Prefetch.Contents.atD
  refine (dif_pos fun a => (show ∀ a : Fin 1, k0_off1 i a + 1 ≤ S36.size a from fun a => by fin_cases a; exact k0_off1_inb i 0) a).trans ?_
  refine congrArg tK ?_
  funext a; fin_cases a; rfl

theorem idle6 (i : grid0.Coords) : (cfgA (F := F)).idle (6 : Fin 9) i = !(k0_cond4 (wQ i) == 1#1) := by
  show (!(k0_cond4 ((pfN (F := F)).atD 0 (k0_off1 i)) == 1#1)) = _
  rw [atD0]
theorem idle7 (i : grid0.Coords) : (cfgA (F := F)).idle (7 : Fin 9) i = !(k0_cond4 (wQ i) == 1#1) := by
  show (!(k0_cond4 ((pfN (F := F)).atD 0 (k0_off1 i)) == 1#1)) = _
  rw [atD0]

theorem idle8 (i : grid0.Coords) : (cfgA (F := F)).idle (8 : Fin 9) i = (!(k0_cond1 i == 1#1) && !(k0_cond2 (wQ i) (wK i) == 1#1) && !(k0_cond3 (wQ i) (wK i) == 1#1)) := by
  show (!(k0_cond1 i == 1#1) && !(k0_cond2 ((pfN (F := F)).atD 0 (k0_off1 i)) ((pfN (F := F)).atD 1 (k0_off1 i)) == 1#1) && !(k0_cond3 ((pfN (F := F)).atD 0 (k0_off1 i)) ((pfN (F := F)).atD 1 (k0_off1 i)) == 1#1)) = _
  rw [atD0, atD1]

/-- The query gradient's block is written at every point; -/
theorem live8 : ∀ i : grid0.Coords, (!(k0_cond1 i == 1#1) && !(k0_cond2 (wQ i) (wK i) == 1#1) && !(k0_cond3 (wQ i) (wK i) == 1#1)) = false := by decide +kernel
/-- it stays in place from a point to the next but at a head's first; -/
theorem stay8 : ∀ t : Fin grid0.N, ¬(k0_cond1 (grid0.coords t) = 1#1) → t.val ≠ 0 ∧ fl8 ⟨t.val - 1, lt_of_le_of_lt (Nat.sub_le _ _) t.isLt⟩ = false := by decide +kernel
/-- a block of keys is left only where it is written. -/
theorem left6 : ∀ t : Fin grid0.N, ¬(k0_cond4 (wQ (grid0.coords t)) = 1#1) → fl6 t = false := by decide +kernel

end Cert.Attn
-- ==== Proof.AttnFrame.lean ====
module

public import proofs.«01_k».proof.Proof.AttnWords
public import Idealize.ShloMosaic.Lib.Pipeline.Frame

/-! The run of the attention's gradient: what the host prepares, what each point leaves, and the whole launch. -/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the host prepares -/

abbrev opss : List (List (HloOp τ sig (Elt F))) := [hostOps0, hostOps0_1, hostOps0_2, hostOps0_3, hostOps0_4, hostOps0_5, hostOps0_6]

/-- The buffers when the grid starts. -/
def V (c : Dev nD) (b : Ref sig .tc) : Buf (Elt F) ((c : Thread nD τ).loc b) :=
  StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss (F := F)).Forall fun ops => ops.Forall fun op => op.fresh = ∅ :=
  ⟨StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl⟩

theorem hmain : Pipeline.HMainP (Ix := Unit) (Name := ℕ) (U := UR sig nD τ) (Lvl := ℕ) (pcfgs (F := F)) 0 (defs₀ (F := F)) Variants.none m (main (F := F)) (V m) :=
  Pipeline.hmainP_prefixes pcfgs 0 defs₀ Variants.none m main opss opss_sub opss_fresh fun c => main_chain c

/-- What the host writes, in order. -/
abbrev written : List (Ref sig .tc) := [main_c, main_c_0, main_v0, main_v1, main_v2, main_cst, main_v3, main_v4, main_v5, main_v6, main_v7, main_v8, main_v9, main_v10, main_cst_1, main_call0_v0, main_call0_v1, main_call0_v2, main_v11, main_cst_2, main_v12, main_v13, main_v14, main_v15, main_v16, main_cst_3, main_v17, main_v18, main_v19, main_v20, main_v21, main_v22, main_v23, main_v24, main_cst_4, main_v25, main_cst_5, main_v26, main_v27, main_v28, main_v29, main_v30, main_v31, main_cst_6, main_v32, main_v33, main_v34, main_v35, main_c_7, main_call1_v0, main_v36, main_v37, main_c_8, main_call2_v0, main_v38, main_v39, main_v40, main_v41, main_v42, main_v43, main_v44]

theorem opss_writes : ((opss (F := F)).flatten).Forall fun op => op.writes ⊆ (written.map (Proc.devRef (τ := τ) .tc)).toFinset :=
  StableHlo.forall_writes_sub_of_map rfl

theorem V_of (c : Dev nD) (b : Ref sig .tc) (h : b ∉ written) : V m c b = m ((c : Thread nD τ).loc b) :=
  StableHlo.after_of_writes_sub _ _ opss_writes h

/-! ## What each point leaves -/

/-- Window `w`'s block at point `t`. -/
def iblk (c : Dev nD) (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

abbrev bq (c : Dev nD) (t : Fin (cfgA (F := F)).N) : Vec F S1024x256 .bf16 := iblk m c (0 : Fin 9) t
abbrev bk (c : Dev nD) (t : Fin (cfgA (F := F)).N) : Vec F S1024x256 .bf16 := iblk m c (1 : Fin 9) t
abbrev bv (c : Dev nD) (t : Fin (cfgA (F := F)).N) : Vec F S1024x128 .bf16 := iblk m c (2 : Fin 9) t
abbrev bo (c : Dev nD) (t : Fin (cfgA (F := F)).N) : Vec F S1024x128 .bf16 := iblk m c (3 : Fin 9) t
abbrev bd (c : Dev nD) (t : Fin (cfgA (F := F)).N) : Vec F S1024x128 .bf16 := iblk m c (4 : Fin 9) t
abbrev bl (c : Dev nD) (t : Fin (cfgA (F := F)).N) : Vec F S1x1024x1 .f32 := iblk m c (5 : Fin 9) t

abbrev crd (t : Fin (cfgA (F := F)).N) : grid0.Coords := grid0.coords t

/-- The two accumulators and the gradient of the queries. -/
abbrev St (F : FTy → Type) [FloatOps F] := Vec F S1024x256 .f32 × Vec F S1024x128 .f32 × Vec F S8192x256 .f32

/-- What a point makes of them. -/
def step (c : Dev nD) (t : Fin (cfgA (F := F)).N) (s : St F) : St F :=
  (nSk (wQ (crd t)) (wK (crd t)) (bq m c t) (bk m c t) (bv m c t) (bo m c t) (bd m c t) (bl m c t) s.1,
   nSv (wQ (crd t)) (wK (crd t)) (bq m c t) (bk m c t) (bv m c t) (bo m c t) (bd m c t) (bl m c t) s.2.1,
   nDq (crd t) (wQ (crd t)) (wK (crd t)) (chk (crd t)) (bq m c t) (bk m c t) (bv m c t) (bo m c t) (bd m c t) (bl m c t) s.2.2)

/-- What they hold before point `n`. -/
def st (c : Dev nD) : ℕ → St F
  | 0 => (k0_pay35 (F := F), k0_pay34 (F := F), k0_pay1 (F := F))
  | n + 1 => if h : n < (cfgA (F := F)).N then step m c ⟨n, h⟩ (st c n) else st c n

theorem st_succ (c : Dev nD) (t : Fin (cfgA (F := F)).N) : st m c (t.val + 1) = step m c t (st m c t.val) := by
  rw [st, dif_pos t.isLt]

/-- A block written whole does not depend on what was there. -/
theorem wG_ind (g g' : Vec F S1024x256 .bf16) (sk : Vec F S1024x256 .f32) (sv : Vec F S1024x128 .f32) : wG g sk sv = wG g' sk sv := by
  unfold wG
  funext y
  by_cases h1 : y ∈ (Rect.unit (s := S1024x256) ![0, 128] S1024x128.size inb_S1024x256_S1024x128_0_128).set
  · obtain ⟨z, hz⟩ : ∃ z, (Rect.unit (s := S1024x256) ![0, 128] S1024x128.size inb_S1024x256_S1024x128_0_128).emb z = y := LoadRect.exists_idx_of_mem _ h1
    rw [← hz]
    rw [Rect.overlay_emb, Rect.overlay_emb]
  · rw [Rect.overlay_of_not_mem _ _ _ h1, Rect.overlay_of_not_mem _ _ _ h1]
    by_cases h0 : y ∈ (Rect.unit (s := S1024x256) ![0, 0] S1024x128.size inb_S1024x256_S1024x128_0_0).set
    · obtain ⟨z, hz⟩ : ∃ z, (Rect.unit (s := S1024x256) ![0, 0] S1024x128.size inb_S1024x256_S1024x128_0_0).emb z = y := LoadRect.exists_idx_of_mem _ h0
      rw [← hz]
      rw [Rect.overlay_emb, Rect.overlay_emb]
    · exfalso
      rw [Rect.mem_set_unit] at h0 h1
      by_cases hy : (y 1).val < 128
      · exact h0 fun a => by
          fin_cases a
          · exact ⟨Nat.zero_le _, lt_of_lt_of_eq (y 0).isLt rfl⟩
          · exact ⟨Nat.zero_le _, hy⟩
      · exact h1 fun a => by
          fin_cases a
          · exact ⟨Nat.zero_le _, lt_of_lt_of_eq (y 0).isLt rfl⟩
          · exact ⟨Nat.not_lt.mp hy, lt_of_lt_of_eq (y 1).isLt rfl⟩

theorem cond3_first : ∀ t : Fin grid0.N, t.val = 0 → k0_cond3 (wQ (grid0.coords t)) (wK (grid0.coords t)) = 1#1 := by decide +kernel

theorem nSk_first (c : Dev nD) (t : Fin (cfgA (F := F)).N) (h : t.val = 0) (q k : Vec F S1024x256 .bf16) (v o d : Vec F S1024x128 .bf16) (l : Vec F S1x1024x1 .f32) (a b : Vec F S1024x256 .f32) :
    nSk (wQ (crd t)) (wK (crd t)) q k v o d l a = nSk (wQ (crd t)) (wK (crd t)) q k v o d l b := by
  unfold nSk; rw [if_pos (cond3_first t h), if_pos (cond3_first t h)]; rfl

theorem nSv_first (c : Dev nD) (t : Fin (cfgA (F := F)).N) (h : t.val = 0) (q k : Vec F S1024x256 .bf16) (v o d : Vec F S1024x128 .bf16) (l : Vec F S1x1024x1 .f32) (a b : Vec F S1024x128 .f32) :
    nSv (wQ (crd t)) (wK (crd t)) q k v o d l a = nSv (wQ (crd t)) (wK (crd t)) q k v o d l b := by
  unfold nSv; rw [if_pos (cond3_first t h), if_pos (cond3_first t h)]; rfl

theorem nDq_first (i : grid0.Coords) (h : k0_cond1 i = 1#1) (v1 v3 : BitVec 32) (hw : k0_chk1 v1 v3) (q k : Vec F S1024x256 .bf16) (v o d : Vec F S1024x128 .bf16) (l : Vec F S1x1024x1 .f32) (a b : Vec F S8192x256 .f32) :
    nDq i v1 v3 hw q k v o d l a = nDq i v1 v3 hw q k v o d l b := by
  unfold nDq; rw [if_pos h, if_pos h]

/-! ## The pipeline's data -/

/-- Between the points: the accumulators at what the points so far left, the tables, the random register. -/
def Phi (c : Dev nD) (n : ℕ) : sProp 𝕄 :=
  iprop(∃ a0 : Vec F S1024x256 .f32, ∃ a1 : Vec F S1024x128 .f32, ⌜n ≠ 0 → a0 = (st m c n).1 ∧ a1 = (st m c n).2.1⌝
    ∗ (owns (c : Thread nD τ) (Memref.whole cc0_scratch0) fullShare a0) ∗ (owns (c : Thread nD τ) (Memref.whole cc0_scratch1) fullShare a1)
    ∗ tabs c fullShare.right tQ tK ∗ ∃ r, prngReg c r)

def dats (_ : Fin 1) (c : Dev nD) : Dat τ (Elt F) Unit ℕ (UR sig nD τ) ℕ (cfgA (F := F)) c where
  A w := V m c (Pipeline.arrRef spec0 w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => wG (bq m c t) (st m c (t.val + 1)).1 (st m c (t.val + 1)).2.1
    | ⟨7, _⟩ => wGr (st m c (t.val + 1)).1
    | ⟨8, _⟩ => (st m c (t.val + 1)).2.2
  Φ t := Phi m c t.val
  q _ := fullShare
  owed _ := 0

abbrev D (c : Dev nD) := dats m (0 : Fin 1) c

theorem before0 (c : Dev nD) (t : Fin (cfgA (F := F)).N) (d) : (dats m 0 c).before (0 : Fin 9) t d = bq m c t :=
  ((dats m 0 c).before_in_eq_fetched (0 : Fin 9) rfl (fun _ => rfl) (fun _ _ _ => rfl) (fun t => rfl) t d).trans rfl
theorem before1 (c : Dev nD) (t : Fin (cfgA (F := F)).N) (d) : (dats m 0 c).before (1 : Fin 9) t d = bk m c t :=
  ((dats m 0 c).before_in_eq_fetched (1 : Fin 9) rfl (fun _ => rfl) (fun _ _ _ => rfl) (fun t => rfl) t d).trans rfl
theorem before2 (c : Dev nD) (t : Fin (cfgA (F := F)).N) (d) : (dats m 0 c).before (2 : Fin 9) t d = bv m c t :=
  ((dats m 0 c).before_in_eq_fetched (2 : Fin 9) rfl (fun _ => rfl) (fun _ _ _ => rfl) (fun t => rfl) t d).trans rfl
theorem before3 (c : Dev nD) (t : Fin (cfgA (F := F)).N) (d) : (dats m 0 c).before (3 : Fin 9) t d = bo m c t :=
  ((dats m 0 c).before_in_eq_fetched (3 : Fin 9) rfl (fun _ => rfl) (fun _ _ _ => rfl) (fun t => rfl) t d).trans rfl
theorem before4 (c : Dev nD) (t : Fin (cfgA (F := F)).N) (d) : (dats m 0 c).before (4 : Fin 9) t d = bd m c t :=
  ((dats m 0 c).before_in_eq_fetched (4 : Fin 9) rfl (fun _ => rfl) (fun _ _ _ => rfl) (fun t => rfl) t d).trans rfl
theorem before5 (c : Dev nD) (t : Fin (cfgA (F := F)).N) (d) : (dats m 0 c).before (5 : Fin 9) t d = bl m c t :=
  ((dats m 0 c).before_in_eq_fetched (5 : Fin 9) rfl (fun _ => rfl) (fun _ _ _ => rfl) (fun t => rfl) t d).trans rfl

/-- The queries' gradient is found as the point before left it, but at a head's first point. -/
theorem before8 (c : Dev nD) (t : Fin (cfgA (F := F)).N) (h : ¬(k0_cond1 (crd t) = 1#1)) (d) : (dats m 0 c).before (8 : Fin 9) t d = (st m c t.val).2.2 := by
  obtain ⟨h0, hf⟩ := stay8 t h
  rw [(dats m 0 c).before_of_pos (8 : Fin 9) t h0 rfl d, flush8, hf, if_neg Bool.false_ne_true]
  unfold Dat.left
  rw [show (cfgA (F := F)).idle (8 : Fin 9) ((cfgA (F := F)).grid.coords ⟨t.val - 1, lt_of_le_of_lt (Nat.sub_le _ _) t.isLt⟩) = false from (idle8 _).trans (live8 _)]
  show (dats m 0 c).kept (8 : Fin 9) _ d = _
  have e : t.val - 1 + 1 = t.val := by omega
  refine Eq.trans (b := (st m c (t.val - 1 + 1)).2.2) ?_ (by rw [e])
  rfl

/-- What a point leaves of the queries' gradient, from what it found. -/
theorem after8 (c : Dev nD) (t : Fin (cfgA (F := F)).N) (d) :
    nDq (crd t) (wQ (crd t)) (wK (crd t)) (chk (crd t)) (bq m c t) (bk m c t) (bv m c t) (bo m c t) (bd m c t) (bl m c t) ((dats m 0 c).before (8 : Fin 9) t d)
      = (dats m 0 c).after (8 : Fin 9) t := by
  show _ = (st m c (t.val + 1)).2.2
  rw [st_succ]
  by_cases h : k0_cond1 (crd t) = 1#1
  · exact nDq_first _ h _ _ _ _ _ _ _ _ _ _ _
  · rw [before8 m c t h]; rfl

theorem after6 (c : Dev nD) (t : Fin (cfgA (F := F)).N) (g : Vec F S1024x256 .bf16) :
    wG g (st m c (t.val + 1)).1 (st m c (t.val + 1)).2.1 = (dats m 0 c).after (6 : Fin 9) t := wG_ind _ _ _ _

/-- One point's accumulators after it, from what they hold before it. -/
theorem nSk_st (c : Dev nD) (t : Fin (cfgA (F := F)).N) (a : Vec F S1024x256 .f32) (h : t.val ≠ 0 → a = (st m c t.val).1) :
    nSk (wQ (crd t)) (wK (crd t)) (bq m c t) (bk m c t) (bv m c t) (bo m c t) (bd m c t) (bl m c t) a = (st m c (t.val + 1)).1 := by
  rw [st_succ]
  by_cases h0 : t.val = 0
  · exact nSk_first c t h0 _ _ _ _ _ _ _ _
  · rw [h h0]; rfl
theorem nSv_st (c : Dev nD) (t : Fin (cfgA (F := F)).N) (a : Vec F S1024x128 .f32) (h : t.val ≠ 0 → a = (st m c t.val).2.1) :
    nSv (wQ (crd t)) (wK (crd t)) (bq m c t) (bk m c t) (bv m c t) (bo m c t) (bd m c t) (bl m c t) a = (st m c (t.val + 1)).2.1 := by
  rw [st_succ]
  by_cases h0 : t.val = 0
  · exact nSv_first c t h0 _ _ _ _ _ _ _ _
  · rw [h h0]; rfl

abbrev ms0 (t : Fin (cfgA (F := F)).N) : Memref sig .tc .vmem S1024x256 .bf16 := spec0_0.stage (cfgA.slots t (0 : Fin 9))
abbrev ms1 (t : Fin (cfgA (F := F)).N) : Memref sig .tc .vmem S1024x256 .bf16 := spec0_1.stage (cfgA.slots t (1 : Fin 9))
abbrev ms2 (t : Fin (cfgA (F := F)).N) : Memref sig .tc .vmem S1024x128 .bf16 := spec0_2.stage (cfgA.slots t (2 : Fin 9))
abbrev ms3 (t : Fin (cfgA (F := F)).N) : Memref sig .tc .vmem S1024x128 .bf16 := spec0_3.stage (cfgA.slots t (3 : Fin 9))
abbrev ms4 (t : Fin (cfgA (F := F)).N) : Memref sig .tc .vmem S1024x128 .bf16 := spec0_4.stage (cfgA.slots t (4 : Fin 9))
abbrev ms5 (t : Fin (cfgA (F := F)).N) : Memref sig .tc .vmem S1x1024x1 .f32 := spec0_5.stage (cfgA.slots t (5 : Fin 9))
abbrev ms6 (t : Fin (cfgA (F := F)).N) : Memref sig .tc .vmem S1024x256 .bf16 := spec0_6.stage (cfgA.slots t (6 : Fin 9))
abbrev ms7 (t : Fin (cfgA (F := F)).N) : Memref sig .tc .vmem S1024x128 .f32 := spec0_7.stage (cfgA.slots t (7 : Fin 9))
abbrev ms8 (t : Fin (cfgA (F := F)).N) : Memref sig .tc .vmem S8192x256 .f32 := spec0_8.stage (cfgA.slots t (8 : Fin 9))
abbrev hs0 (t : Fin (cfgA (F := F)).N) := hstage0_0 ((cfgA.slots t (0 : Fin 9)).cast nbuf0_0)
abbrev hs1 (t : Fin (cfgA (F := F)).N) := hstage0_1 ((cfgA.slots t (1 : Fin 9)).cast nbuf0_1)
abbrev hs2 (t : Fin (cfgA (F := F)).N) := hstage0_2 ((cfgA.slots t (2 : Fin 9)).cast nbuf0_2)
abbrev hs3 (t : Fin (cfgA (F := F)).N) := hstage0_3 ((cfgA.slots t (3 : Fin 9)).cast nbuf0_3)
abbrev hs4 (t : Fin (cfgA (F := F)).N) := hstage0_4 ((cfgA.slots t (4 : Fin 9)).cast nbuf0_4)
abbrev hs5 (t : Fin (cfgA (F := F)).N) := hstage0_5 ((cfgA.slots t (5 : Fin 9)).cast nbuf0_5)
abbrev hs6 (t : Fin (cfgA (F := F)).N) := hstage0_6 ((cfgA.slots t (6 : Fin 9)).cast nbuf0_6)
abbrev hs7 (t : Fin (cfgA (F := F)).N) := hstage0_7 ((cfgA.slots t (7 : Fin 9)).cast nbuf0_7)
abbrev hs8 (t : Fin (cfgA (F := F)).N) := hstage0_8 ((cfgA.slots t (8 : Fin 9)).cast nbuf0_8)

/-- The body at point `t`. -/
abbrev bodyAt (t : Fin (cfgA (F := F)).N) : Prog (TpuEff nD τ sig (Elt F) Λ₀ .tc) PUnit :=
  cc0_mla_attn_bwd (crd t) (Memref.whole main_c) (Memref.isWhole_whole _) (Memref.whole main_c_0) (Memref.isWhole_whole _)
    (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (Memref.whole cc0_scratch0) (Memref.isWhole_whole _) (Memref.whole cc0_scratch1) (Memref.isWhole_whole _)

/-- What the body is given at a point, and what it hands back. -/
def given (c : Dev nD) (t : Fin (cfgA (F := F)).N) : sProp 𝕄 :=
  iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))

def due (c : Dev nD) (t : Fin (cfgA (F := F)).N) (w : Fin 9) : sProp 𝕄 :=
  match (cfgA (F := F)).idle w ((cfgA (F := F)).grid.coords t) with
  | true =>
    match ((cfgA (F := F)).win w).flush t with
    | false => iprop(∃ d, owns (c : Thread nD τ) (((cfgA (F := F)).win w).stage ((cfgA (F := F)).slots t w)) fullShare ((dats m 0 c).before w t d))
    | true => owns (c : Thread nD τ) (((cfgA (F := F)).win w).stage ((cfgA (F := F)).slots t w)) fullShare ((dats m 0 c).after w t)
  | false => owns (c : Thread nD τ) (((cfgA (F := F)).win w).stage ((cfgA (F := F)).slots t w)) fullShare ((dats m 0 c).after w t)

theorem due_live (c : Dev nD) (t : Fin (cfgA (F := F)).N) (w : Fin 9) (h : (cfgA (F := F)).idle w ((cfgA (F := F)).grid.coords t) = false) :
    due m c t w = owns (c : Thread nD τ) (((cfgA (F := F)).win w).stage ((cfgA (F := F)).slots t w)) fullShare ((dats m 0 c).after w t) := by
  unfold due; rw [h]

theorem due_idle (c : Dev nD) (t : Fin (cfgA (F := F)).N) (w : Fin 9) (h : (cfgA (F := F)).idle w ((cfgA (F := F)).grid.coords t) = true) (h' : ((cfgA (F := F)).win w).flush t = false) :
    due m c t w = iprop(∃ d, owns (c : Thread nD τ) (((cfgA (F := F)).win w).stage ((cfgA (F := F)).slots t w)) fullShare ((dats m 0 c).before w t d)) := by
  unfold due; rw [h]; simp only [h']

/-- What the body leaves in the two blocks written last is due. -/
theorem due6 (c : Dev nD) (t : Fin (cfgA (F := F)).N) (d) :
    owns (c : Thread nD τ) (ms6 t) fullShare (nG (wQ (crd t)) ((dats m 0 c).before (6 : Fin 9) t d) (st m c (t.val + 1)).1 (st m c (t.val + 1)).2.1) ⊢ due m c t (6 : Fin 9) := by
  unfold nG
  by_cases h : k0_cond4 (wQ (crd t)) = 1#1
  · rw [if_pos h, due_live m c t _ ((idle6 _).trans (by rw [h]; rfl)), after6]
  · rw [if_neg h, due_idle m c t _ ((idle6 _).trans (by rw [beq_eq_false_iff_ne.mpr h]; rfl)) ((flush6 t).trans (left6 t h))]
    iintro H; iexists d; iexact H

theorem due7 (c : Dev nD) (t : Fin (cfgA (F := F)).N) (d) :
    owns (c : Thread nD τ) (ms7 t) fullShare (nGr (wQ (crd t)) ((dats m 0 c).before (7 : Fin 9) t d) (st m c (t.val + 1)).1) ⊢ due m c t (7 : Fin 9) := by
  unfold nGr
  by_cases h : k0_cond4 (wQ (crd t)) = 1#1
  · rw [if_pos h, due_live m c t _ ((idle7 _).trans (by rw [h]; rfl))]; exact .rfl
  · rw [if_neg h, due_idle m c t _ ((idle7 _).trans (by rw [beq_eq_false_iff_ne.mpr h]; rfl)) ((flush7 t).trans (left6 t h))]
    iintro H; iexists d; iexact H

theorem due8 (c : Dev nD) (t : Fin (cfgA (F := F)).N) : due m c t (8 : Fin 9) = owns (c : Thread nD τ) (ms8 t) fullShare ((dats m 0 c).after (8 : Fin 9) t) :=
  due_live m c t (8 : Fin 9) (by have h := idle8 (F := F) (crd t); rw [live8 (crd t)] at h; exact h)

theorem due0 (c : Dev nD) (t : Fin (cfgA (F := F)).N) : due m c t (0 : Fin 9) = owns (c : Thread nD τ) (ms0 t) fullShare (bq m c t) := rfl
theorem due1 (c : Dev nD) (t : Fin (cfgA (F := F)).N) : due m c t (1 : Fin 9) = owns (c : Thread nD τ) (ms1 t) fullShare (bk m c t) := rfl
theorem due2 (c : Dev nD) (t : Fin (cfgA (F := F)).N) : due m c t (2 : Fin 9) = owns (c : Thread nD τ) (ms2 t) fullShare (bv m c t) := rfl
theorem due3 (c : Dev nD) (t : Fin (cfgA (F := F)).N) : due m c t (3 : Fin 9) = owns (c : Thread nD τ) (ms3 t) fullShare (bo m c t) := rfl
theorem due4 (c : Dev nD) (t : Fin (cfgA (F := F)).N) : due m c t (4 : Fin 9) = owns (c : Thread nD τ) (ms4 t) fullShare (bd m c t) := rfl
theorem due5 (c : Dev nD) (t : Fin (cfgA (F := F)).N) : due m c t (5 : Fin 9) = owns (c : Thread nD τ) (ms5 t) fullShare (bl m c t) := rfl

/-- What is due after a point. -/
def post (c : Dev nD) (t : Fin (cfgA (F := F)).N) : sProp 𝕄 :=
  iprop((dats m 0 c).Φ t.succ ∗ (dats m 0 c).owesAt () t.succ ∗ bigSep Finset.univ (due m c t))

set_option maxHeartbeats 4000000 in
theorem phi_cast (c : Dev nD) (t : Fin (cfgA (F := F)).N) : (dats m 0 c).Φ t.castSucc = Phi m c t.val := by
  show Phi m c t.castSucc.val = _
  rw [Fin.val_castSucc]
set_option maxHeartbeats 4000000 in
theorem phi_next (c : Dev nD) (t : Fin (cfgA (F := F)).N) : (dats m 0 c).Φ t.succ = Phi m c (t.val + 1) := by
  show Phi m c t.succ.val = _
  rw [Fin.val_succ]
set_option maxHeartbeats 4000000 in
theorem owes_next (c : Dev nD) (t : Fin (cfgA (F := F)).N) : (dats m 0 c).owesAt () t.succ = (dats m 0 c).owesAt () t.castSucc := rfl

set_option maxHeartbeats 4000000 in
theorem sound_body (c : Dev nD) (t : Fin (cfgA (F := F)).N) :
    given m c t ⊢ wp frame (wpE (defs₀ (F := F)) Variants.none c none) Set.univ (bodyAt t) fun _ => post m c t := by
  unfold given
  simp only [before0, before1, before2, before3, before4, before5]
  rw [phi_cast]
  unfold Phi
  iintro ⟨⟨%a0, %a1, %ha, HS0, HS1, HT, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ek : nSk (rdT tQ (crd t)) (rdT tK (crd t)) (bq m c t) (bk m c t) (bv m c t) (bo m c t) (bd m c t) (bl m c t) a0 = _ := nSk_st m c t a0 fun h => (ha h).1
  have ev : nSv (rdT tQ (crd t)) (rdT tK (crd t)) (bq m c t) (bk m c t) (bv m c t) (bo m c t) (bd m c t) (bl m c t) a1 = _ := nSv_st m c t a1 fun h => (ha h).2
  have eq : nDq (crd t) (rdT tQ (crd t)) (rdT tK (crd t)) (chk (crd t)) (bq m c t) (bk m c t) (bv m c t) (bo m c t) (bd m c t) (bl m c t) ((dats m 0 c).before (8 : Fin 9) t d8) = _ := after8 m c t d8
  have e6 : owns (c : Thread nD τ) (ms6 t) fullShare (nG (rdT tQ (crd t)) ((dats m 0 c).before (6 : Fin 9) t d6) (st m c (t.val + 1)).1 (st m c (t.val + 1)).2.1) ⊢ due m c t (6 : Fin 9) := due6 m c t d6
  have e7 : owns (c : Thread nD τ) (ms7 t) fullShare (nGr (rdT tQ (crd t)) ((dats m 0 c).before (7 : Fin 9) t d7) (st m c (t.val + 1)).1) ⊢ due m c t (7 : Fin 9) := due7 m c t d7
  have hrun := frame_W (c := c) (R := iprop((dats m 0 c).owesAt () t.castSucc ∗ ∃ r, prngReg c r)) (run_body (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (Memref.whole cc0_scratch0) (Memref.isWhole_whole _) (Memref.whole cc0_scratch1) (Memref.isWhole_whole _) fullShare.right tQ tK (chk (crd t))
    (bq m c t) (bk m c t) (bv m c t) (bo m c t) (bd m c t) (bl m c t) ((dats m 0 c).before (6 : Fin 9) t d6) ((dats m 0 c).before (7 : Fin 9) t d7) ((dats m 0 c).before (8 : Fin 9) t d8) a0 a1
    (fun _ => iprop((iprop((dats m 0 c).owesAt () t.castSucc ∗ ∃ r, prngReg c r)) -∗ post m c t)) (by
      rw [ek, ev, eq]
      unfold held post
      rw [bigSep_W0, due0, due1, due2, due3, due4, due5, due8, phi_next, owes_next]
      unfold Phi
      iintro ⟨HT, H0, H1, H2, H3, H4, H5, H6, H7, H8, HS0, HS1⟩ ⟨Ho, HP⟩
      isplitl [HS0 HS1 HT HP]
      · iexists _; iexists _
        isplitr
        · ipureintro; exact fun _ => ⟨rfl, rfl⟩
        isplitl [HS0]; · iexact HS0
        isplitl [HS1]; · iexact HS1
        isplitl [HT]; · iexact HT
        iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply e6; iexact H6
      isplitl [H7]; · iapply e7; iexact H7
      iexact H8))
  iapply hrun
  isplitl [Ho HP]
  · isplitl [Ho]; · iexact Ho
    iexact HP
  isplitl [HT]; · iexact HT
  unfold held
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  iexact HS1

theorem body_obligation (c : Dev nD) : BodyObligation (dats m 0 c) (defs₀ (F := F)) Variants.none () Set.univ := fun t => by
  rw [bigSep_W0]; exact sound_body m c t

end Cert.Attn
-- ==== Proof.AttnLaunch.lean ====
module

public import proofs.«01_k».proof.Proof.AttnFrame

/-! The launch of the attention's gradient. -/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host's operations after the two tables. -/
abbrev rest : List (HloOp τ sig (Elt F)) := ((opss (F := F)).flatten).tail.tail

theorem rest_writes : (rest (F := F)).Forall fun op => op.writes ⊆ ((written.tail.tail).map (Proc.devRef (τ := τ) .tc)).toFinset :=
  StableHlo.forall_writes_sub_of_map rfl

/-- The buffers once the two tables are there. -/
abbrev V2 (c : Dev nD) : Valuation τ sig (Elt F) :=
  StableHlo.after [StableHlo.nullary main_c (fun i => lit0 (S36.rowMajor i)), StableHlo.nullary main_c_0 (fun i => lit1 (S36.rowMajor i))] (fun b => m (c, b))

set_option maxHeartbeats 4000000 in
theorem V_eq_rest (c : Dev nD) (b : Ref sig .tc) : V m c b = StableHlo.after (rest (F := F)) (V2 m c) b := rfl

theorem V_c (c : Dev nD) : V m c main_c = (tQ : S36.Idx → BitVec 32) := by
  rw [V_eq_rest, StableHlo.after_of_writes_sub _ _ rest_writes (by decide)]
  rfl
theorem V_c0 (c : Dev nD) : V m c main_c_0 = (tK : S36.Idx → BitVec 32) := by
  rw [V_eq_rest, StableHlo.after_of_writes_sub _ _ rest_writes (by decide)]
  rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA spec0 c ∗ Pipeline.ΦT pre0 (adm (F := F)).1 c) ⊢ (dats m 0 c).Φ 0 := by
  rw [show (dats m 0 c).Φ 0 = Phi m c 0 from rfl]
  unfold Pipeline.ΦA Pipeline.ΦT Phi tabs
  rw [scopedRest0_eq, prefHeld_eq]
  iintro ⟨⟨⟨⟨%a0, HS0⟩, ⟨%a1, HS1⟩⟩, HP⟩, HT0, HT1⟩
  iexists a0; iexists a1
  isplitr
  · ipureintro; exact fun h => absurd rfl h
  isplitl [HS0]
  · rw [owns_whole]; iexact HS0
  isplitl [HS1]
  · rw [owns_whole]; iexact HS1
  isplitl [HT0 HT1]
  · isplitl [HT0]
    · iexact HT0
    iexact HT1
  iexact HP

theorem phi_out (c : Dev nD) : (dats m 0 c).Φ (Fin.last (cfgA (F := F)).N) ⊢ (Pipeline.ΦA spec0 c : sProp 𝕄) := by
  rw [show (dats m 0 c).Φ (Fin.last (cfgA (F := F)).N) = Phi m c (cfgA (F := F)).N from rfl]
  unfold Pipeline.ΦA Phi
  rw [scopedRest0_eq]
  iintro ⟨%a0, %a1, -, HS0, HS1, -, HP⟩
  isplitl [HS0 HS1]
  · isplitl [HS0]
    · iexists a0; iapply (Entails.of_eq (owns_whole c cc0_scratch0 fullShare a0)); iexact HS0
    iexists a1; iapply (Entails.of_eq (owns_whole c cc0_scratch1 fullShare a1)); iexact HS1
  iexact HP

theorem share_full (c : Dev nD) (w : Fin (cfgA (F := F)).W) : (dats m 0 c).share w = fullShare := by
  unfold Dat.share; split <;> rfl

/-- A buffer that is no window's array and not of the kernel ends as the host left it. -/
theorem kept_arg (r : PUnit × MemSt nD τ sig (Elt F)) (h : Pipeline.FramePost (Pipeline.pin (pcfgs (F := F)) fun _ => adm) (dats m) 0 (V m) r) (c : Dev nD) (b : Ref sig .tc)
    (hs : b.isScoped = false) (ha : ∀ w, (spec0 w).arr.view.ref ≠ b) (hw : b ∉ written) : r.2.mem ((c : Thread nD τ).loc b) = m ((c : Thread nD τ).loc b) :=
  ((h c).2 b (Pipeline.mem_restRefs_of b hs ha)).trans (V_of m c b hw)

/-- The launch: every window's array ends as the points leave it, the arguments end unchanged. -/
theorem run_main : θ_run (defs (F := F)) (onTc (τ := τ) (main (F := F))) (s₀ m ρ) fun r =>
    Pipeline.FramePost (Pipeline.pin (pcfgs (F := F)) fun _ => adm) (dats m) 0 (V m) r ∧ r.2.sem = fun _ => 0 :=
  Pipeline.θ_run_frameP_track pcfgs (fun _ => adm) (dats m) 0 launch0 (defs₀ (F := F)) Variants.none m ρ main
    (hbody := fun c => (body_obligation m c).loose)
    (hshare := fun c w => share_full m c w) (howed := fun _ _ => rfl) (V := V m) (hmain := hmain m) (hA := fun _ _ => rfl)
    (hpf := fun c k => by
      fin_cases k
      · exact V_c m c
      · exact V_c0 m c)
    (hin := phi_in m) (hout := phi_out m) (Q' := _) (hQ' := fun _ h => h)

/-- The launch of the kernel over the extended reals changes no argument and leaves no signal. -/
theorem run_args : θ_run (defs (F := F)) (onTc (τ := τ) (main (F := F))) (s₀ m ρ) fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨fun c => ⟨kept_arg m r h.1 c main_arg0 rfl (by decide) (by decide), kept_arg m r h.1 c main_arg1 rfl (by decide) (by decide),
    kept_arg m r h.1 c main_arg2 rfl (by decide) (by decide), kept_arg m r h.1 c main_arg3 rfl (by decide) (by decide)⟩, h.2⟩) (run_main m ρ)

end Cert.Attn
-- ==== Proof.AttnClaims.lean ====
module

public import proofs.«01_k».proof.Defs
public import proofs.«01_k».proof.Proof.AttnLaunch
public import proofs.«01_k».proof.Proof.WordLaunch
public import proofs.«01_k».proof.Proof.AttnImports

/-! The frames of the attention's gradient, and what its named constants are. -/

@[expose] public section

set_option maxRecDepth 16384

noncomputable section

namespace Cert.Attn

open Idealize.ShloMosaic Idealize.SL.Sem

theorem frame_pi : Cert.quiescent_KernelIdeal := fun m ρ _ => run_args m ρ
theorem frame_pi' : Cert.quiescent_KernelIdeal_pre_finite := fun m ρ _ => run_args m ρ

theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_ri' : Cert.quiescent_ReferenceIdeal_pre_finite := fun m ρ _ => frame_ri m ρ trivial

theorem frame_p : Cert.quiescent_Kernel := fun m ρ _ => Cert.AttnK.run_args (F := Bits) m ρ

theorem preserves : Cert.preserves_Kernel_KernelIdeal :=
  IdealRules.named_const.statement Cert.KernelIdeal.κ "ln2" .f32 0x3F317218#32 ((Real.log 2 : ℝ) : EReal) rfl

end Cert.Attn
-- ==== Proof.Soft.lean ====
/- The softmax of one row over the reals, and its gradient: what a masked row of scores, its maximum taken off, its
   logarithm of the sum kept, or its reciprocal squared, comes to. The maximum enters only as some real number. -/
module

public import proofs.«01_k».proof.Proof.Reals
public import Idealize.ShloMosaic.PureOps.Ideal.Laws

@[expose] public section

noncomputable section

namespace Cert.Soft

open Idealize.ShloMosaic Cert.Reals
open scoped BigOperators

variable {N : ℕ} (s : Fin N → ℝ) (p : Fin N → Prop) [DecidablePred p]

/-- A row of scores under a mask. -/
def msk (u : Fin N) : EReal := if p u then ((s u : ℝ) : EReal) else ⊥
/-- The weights under the mask and their sum. -/
def wt (u : Fin N) : ℝ := if p u then Real.exp (s u) else 0
def tot : ℝ := ∑ u, wt s p u
/-- The probabilities. -/
def prob (u : Fin N) : ℝ := wt s p u / tot s p

theorem wt_nonneg (u : Fin N) : 0 ≤ wt s p u := by unfold wt; split <;> [exact (Real.exp_pos _).le; exact le_rfl]
theorem tot_pos (h : ∃ u, p u) : 0 < tot s p := by
  obtain ⟨u, hu⟩ := h
  refine lt_of_lt_of_le ?_ (Finset.single_le_sum (fun v _ => wt_nonneg s p v) (Finset.mem_univ u))
  unfold wt; rw [if_pos hu]; exact Real.exp_pos _

/-- The maximum of a masked row is a real number. -/
theorem max_real (h : ∃ u, p u) : ∃ μ : ℝ, (Finset.univ : Finset (Fin N)).fold max (⊥ : EReal) (msk s p) = ((μ : ℝ) : EReal) := by
  obtain ⟨u, hu⟩ := h
  have h1 : (Finset.univ : Finset (Fin N)).fold max (⊥ : EReal) (msk s p) < ⊤ := by
    rw [Finset.fold_max_lt]
    refine ⟨bot_lt_top, fun x _ => ?_⟩
    unfold msk; split
    · exact EReal.coe_lt_top _
    · exact bot_lt_top
  have h2 : ⊥ < (Finset.univ : Finset (Fin N)).fold max (⊥ : EReal) (msk s p) := by
    rw [Finset.lt_fold_max]
    refine Or.inr ⟨u, Finset.mem_univ u, ?_⟩
    unfold msk; rw [if_pos hu]; exact EReal.bot_lt_coe _
  exact ⟨_, (EReal.coe_toReal h1.ne h2.ne').symm⟩

variable (μ : ℝ)

theorem exp_msk (u : Fin N) : Ideal.exp (msk s p u - ((μ : ℝ) : EReal)) = ((Real.exp (-μ) * wt s p u : ℝ) : EReal) := by
  unfold msk wt
  split
  · rw [← EReal.coe_sub, Ideal.exp_coe, ← Real.exp_add]; congr 2; ring
  · rw [EReal.bot_sub, Ideal.exp_bot, mul_zero]; rfl

theorem sum_exp : ∑ u, Ideal.exp (msk s p u - ((μ : ℝ) : EReal)) = ((Real.exp (-μ) * tot s p : ℝ) : EReal) := by
  simp only [exp_msk]
  rw [← coe_sum]; unfold tot; rw [Finset.mul_sum]

theorem len_pos (h : ∃ u, p u) : 0 < Real.exp (-μ) * tot s p := mul_pos (Real.exp_pos _) (tot_pos s p h)

theorem div_real (a b : ℝ) (hb : b ≠ 0) : Ideal.div ((a : ℝ) : EReal) ((b : ℝ) : EReal) = ((a / b : ℝ) : EReal) := by
  rw [Ideal.div_coe hb, ← EReal.coe_mul]; congr 1; field_simp

theorem div_exp (h : ∃ u, p u) (u : Fin N) :
    Ideal.div (Ideal.exp (msk s p u - ((μ : ℝ) : EReal))) ((Real.exp (-μ) * tot s p : ℝ) : EReal) = ((prob s p u : ℝ) : EReal) := by
  rw [exp_msk, div_real _ _ (len_pos s p μ h).ne']
  unfold prob
  rw [mul_div_mul_left _ _ (Real.exp_pos _).ne']

/-- From the logarithm of the sum, in powers of two. -/
theorem exp2_lse (h : ∃ u, p u) (u : Fin N) (hu : p u) :
    Ideal.exp2 (((s u * (1 / Real.log 2) : ℝ) : EReal)
      - (((μ : ℝ) : EReal) + Ideal.log ((Real.exp (-μ) * tot s p : ℝ) : EReal)) * ((1 / Real.log 2 : ℝ) : EReal)) = ((prob s p u : ℝ) : EReal) := by
  have h0 := tot_pos s p h
  rw [Ideal.log_coe, if_neg (not_le.2 (len_pos s p μ h)), ← EReal.coe_add, ← EReal.coe_mul, ← EReal.coe_sub, Ideal.exp2_coe]
  have hl : (0 : ℝ) < Real.log 2 := Real.log_pos one_lt_two
  have e : Real.log (Real.exp (-μ) * tot s p) = -μ + Real.log (tot s p) := by
    rw [Real.log_mul (Real.exp_pos _).ne' h0.ne', Real.log_exp]
  rw [e]
  congr 1
  show (2 : ℝ) ^ (s u * (1 / Real.log 2) - (μ + (-μ + Real.log (tot s p))) * (1 / Real.log 2)) = prob s p u
  rw [Real.rpow_def_of_pos two_pos]
  have e2 : Real.log 2 * (s u * (1 / Real.log 2) - (μ + (-μ + Real.log (tot s p))) * (1 / Real.log 2)) = s u - Real.log (tot s p) := by
    field_simp; ring
  rw [e2, Real.exp_sub, Real.exp_log h0]
  unfold prob wt; rw [if_pos hu]

theorem prob_zero (u : Fin N) (hu : ¬ p u) : prob s p u = 0 := by unfold prob wt; rw [if_neg hu, zero_div]

/-- The gradient of a score, from the gradient of its probability. -/
def dsc (d : Fin N → ℝ) (u : Fin N) : ℝ := prob s p u * (d u - ∑ v, prob s p v * d v)

/-- The same as the derivative of the quotient writes it. -/
theorem ds_ref (h : ∃ u, p u) (d : Fin N → ℝ) (u : Fin N) :
    (Ideal.div ((d u : ℝ) : EReal) ((Real.exp (-μ) * tot s p : ℝ) : EReal)
      + -(∑ v, ((d v : ℝ) : EReal) * Ideal.div 1 (((Real.exp (-μ) * tot s p : ℝ) : EReal) * ((Real.exp (-μ) * tot s p : ℝ) : EReal))
          * Ideal.exp (msk s p v - ((μ : ℝ) : EReal))))
      * Ideal.exp (msk s p u - ((μ : ℝ) : EReal)) = ((dsc s p d u : ℝ) : EReal) := by
  have hL := len_pos s p μ h
  have h0 := tot_pos s p h
  have he := Real.exp_pos (-μ)
  have e1 : Ideal.div 1 (((Real.exp (-μ) * tot s p : ℝ) : EReal) * ((Real.exp (-μ) * tot s p : ℝ) : EReal))
      = ((1 / ((Real.exp (-μ) * tot s p) * (Real.exp (-μ) * tot s p)) : ℝ) : EReal) := by
    rw [← EReal.coe_mul]; exact div_real 1 _ (mul_pos hL hL).ne'
  rw [e1, div_real _ _ hL.ne']
  simp only [exp_msk, ← EReal.coe_mul]
  rw [← coe_sum, ← EReal.coe_neg, ← EReal.coe_add, ← EReal.coe_mul]
  congr 1
  unfold dsc
  have e2 : ∑ v, d v * (1 / ((Real.exp (-μ) * tot s p) * (Real.exp (-μ) * tot s p))) * (Real.exp (-μ) * wt s p v)
      = (∑ v, prob s p v * d v) / (Real.exp (-μ) * tot s p) := by
    rw [Finset.sum_div]
    refine Finset.sum_congr rfl fun v _ => ?_
    unfold prob; field_simp
  rw [e2]
  generalize (∑ v, prob s p v * d v) = A
  unfold prob; field_simp; ring

end Cert.Soft
-- ==== Proof.AttnRef.lean ====
/- The reference's results as functions of the arguments, in named steps. -/
module

public import proofs.«01_k».proof.Proof.Gen.ReferenceIdeal.Run
public import proofs.«01_k».proof.Proof.Soft
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Pipeline.Value

@[expose] public section

set_option maxRecDepth 16384

noncomputable section

namespace Cert.AttnRef

open Cert.ReferenceIdeal Cert.ReferenceIdeal.Gen Idealize.ShloMosaic Idealize.ShloMosaic.TcCoe Idealize.ShloMosaic.StableHlo

abbrev A192 := FVec Ideal S8192x16x192 .bf16
abbrev A128 := FVec Ideal S8192x16x128 .bf16
abbrev F192 := FVec Ideal S8192x16x192 .f32
abbrev SC := FVec Ideal S16x8192x8192 .f32

/-- The scaled query, the scores, the mask, the masked scores, the maximum, the weights, their sum. -/
def rQ (q : A192) : F192 :=
  mulf (extf .f32 q bitsLt_bf16_f32) (broadcastInDim S8192x16x192 ![] bcast_S_S8192x16x192 (constant S_ .f32 0x3D93CD3A#32))
def rS (q k : A192) : SC :=
  Host.dotGeneral dot_S8192x16x192_S8192x16x192_S16x8192x8192_2_2_0_0_1_1 none (rQ q) (extf .f32 k bitsLt_bf16_f32)
def rM : S16x8192x8192.Idx → BitVec 1 :=
  broadcastInDim S16x8192x8192 ![1, 2] bcast_S8192x8192_S16x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
def rMs (q k : A192) : SC :=
  select rM (rS q k) (broadcastInDim S16x8192x8192 ![] bcast_S_S16x8192x8192 (id (constant S_ .f32 0xFF800000#32)))
def rMx (q k : A192) : FVec Ideal S16x8192 .f32 :=
  maximumf (broadcastInDim S16x8192 ![] bcast_S_S16x8192 (constant S_ .f32 0xFF800000#32))
    (Host.reduce FloatOps.maximumf (rMs q k) (constant S_ .f32 0xFF800000#32) reducesTo_S16x8192x8192_S16x8192_d2 h_S_)
def rE (q k : A192) : SC :=
  Host.exp (subf (rMs q k) (broadcastInDim S16x8192x8192 ![0, 1, 2] bcast_S16x8192x1_S16x8192x8192_0_1_2
    (broadcastInDim S16x8192x1 ![0, 1] bcast_S16x8192_S16x8192x1_0_1 (rMx q k))))
def rL (q k : A192) : FVec Ideal S16x8192x1 .f32 :=
  broadcastInDim S16x8192x1 ![0, 1] bcast_S16x8192_S16x8192x1_0_1
    (Host.reduceAdd (rE q k) (constant S_ .f32 0x00000000#32) reducesTo_S16x8192x8192_S16x8192_d2 h_S_)
def rLb (q k : A192) : SC :=
  broadcastInDim S16x8192x8192 ![0, 1, 2] bcast_S16x8192x1_S16x8192x8192_0_1_2 (rL q k)
/-- The softmax. -/
def rP (q k : A192) : SC := Host.divf (rE q k) (rLb q k)
/-- The gradient of the softmax's result. -/
def rDt (d : A128) : FVec Ideal S16x128x8192 .f32 :=
  transpose S16x128x8192 [1, 2, 0] (extf .f32 d bitsLt_bf16_f32) transposes_S8192x16x128_S16x128x8192_1_2_0
def rDp (v d : A128) : SC :=
  Host.dotGeneral dot_S16x128x8192_S8192x16x128_S16x8192x8192_1_2_2_0_0_1 none (rDt d) (extf .f32 v bitsLt_bf16_f32)
/-- The part of it that goes through the sum of the weights. -/
def rIn (q k : A192) : FVec Ideal S16x8192x1 .f32 :=
  Host.divf (broadcastInDim S16x8192x1 ![] bcast_S_S16x8192x1 (constant S_ .f32 0x3F800000#32)) (mulf (rL q k) (rL q k))
def rT (q k : A192) (v d : A128) : SC :=
  mulf (mulf (rDp v d) (broadcastInDim S16x8192x8192 ![0, 1, 2] bcast_S16x8192x1_S16x8192x8192_0_1_2 (rIn q k))) (rE q k)
def rTs (q k : A192) (v d : A128) : FVec Ideal S16x8192 .f32 :=
  Host.reduceAdd (rT q k v d) (constant S_ .f32 0x00000000#32) reducesTo_S16x8192x8192_S16x8192_d2 h_S_
def rNg (q k : A192) (v d : A128) : FVec Ideal S16x8192 .f32 :=
  Host.reduceAdd (Host.negf (shapeCast S16x8192x1 (rTs q k v d) shapeCasts_S16x8192_S16x8192x1)) (constant S_ .f32 0x00000000#32) reducesTo_S16x8192x1_S16x8192_d2 h_S_
/-- The gradient of the scores. -/
def rDs (q k : A192) (v d : A128) : SC :=
  select rM (mulf (addf (Host.divf (rDp v d) (rLb q k)) (broadcastInDim S16x8192x8192 ![0, 1] bcast_S16x8192_S16x8192x8192_0_1 (rNg q k v d))) (rE q k))
    (broadcastInDim S16x8192x8192 ![] bcast_S_S16x8192x8192 (constant S_ .f32 0x00000000#32))
def rGq (q k : A192) (v d : A128) : F192 :=
  transpose S8192x16x192 [1, 0, 2] (Host.dotGeneral dot_S16x8192x8192_S8192x16x192_S16x8192x192_2_0_1_2_0_1 none (rDs q k v d) (extf .f32 k bitsLt_bf16_f32))
    transposes_S16x8192x192_S8192x16x192_1_0_2
def rGk (q k : A192) (v d : A128) : F192 :=
  transpose S8192x16x192 [1, 0, 2] (Host.dotGeneral dot_S16x8192x8192_S8192x16x192_S16x8192x192_1_0_2_2_0_1 none (rDs q k v d) (rQ q))
    transposes_S16x8192x192_S8192x16x192_1_0_2
def rGv (q k : A192) (d : A128) : FVec Ideal S8192x16x128 .f32 :=
  transpose S8192x16x128 [2, 0, 1] (Host.dotGeneral dot_S16x128x8192_S16x8192x8192_S16x128x8192_2_1_1_2_0_0 none (rDt d) (rP q k))
    transposes_S16x128x8192_S8192x16x128_2_0_1
def rOut2 (q k : A192) (v d : A128) : FVec Ideal S8192x4096 .f32 :=
  shapeCast S8192x4096 (pad S8192x16x256 ![0, 0, 0] ![0, 0, 64] ![0, 0, 0] (rGq q k v d) (sitofp (F := Ideal) .f32 (constantI S_ 32 0#32) : FVec Ideal S_ .f32)
    pads_S8192x16x192_S8192x16x256_000_000_0640 h_S_) shapeCasts_S8192x16x256_S8192x4096
def rOut1 (q k : A192) (v d : A128) : FVec Ideal S8192x2048 .f32 :=
  shapeCast S8192x2048 (pad S8192x16x128 ![0, 0, 0] ![0, 0, 64] ![0, 0, 0] (extractStridedSlice S8192x16x64 ![0, 0, 128] (rGk q k v d) slices_S8192x16x192_S8192x16x64_0_0_128)
    (sitofp (F := Ideal) .f32 (constantI S_ 32 0#32) : FVec Ideal S_ .f32) pads_S8192x16x64_S8192x16x128_000_000_0640 h_S_) shapeCasts_S8192x16x128_S8192x2048
def rOut0 (q k : A192) (v d : A128) : FVec Ideal S8192x4096 .bf16 :=
  truncf .bf16 (shapeCast S8192x4096 (concatenate S8192x16x256 2 [⟨S8192x16x128, extractStridedSlice S8192x16x128 ![0, 0, 0] (rGk q k v d) slices_S8192x16x192_S8192x16x128_0_0_0⟩, ⟨S8192x16x128, rGv q k d⟩]
    concatenates_S8192x16x128_S8192x16x128_S8192x16x256_d2) shapeCasts_S8192x16x256_S8192x4096) bitsLt_bf16_f32

variable (m : (ℓ : Loc nD τ sig) → Buf (Elt Ideal) ℓ) (c : Dev nD)

abbrev bq : A192 := m ((c.tc : Thread nD τ).loc main_arg0)
abbrev bk : A192 := m ((c.tc : Thread nD τ).loc main_arg1)
abbrev bv : A128 := m ((c.tc : Thread nD τ).loc main_arg2)
abbrev bd : A128 := m ((c.tc : Thread nD τ).loc main_arg3)

set_option maxHeartbeats 4000000 in
theorem out2 : Cert.ReferenceIdeal.Value.res_main_v82 m c = rOut2 (bq m c) (bk m c) (bv m c) (bd m c) := rfl
set_option maxHeartbeats 4000000 in
theorem out1 : Cert.ReferenceIdeal.Value.res_main_v80 m c = rOut1 (bq m c) (bk m c) (bv m c) (bd m c) := rfl
set_option maxHeartbeats 4000000 in
theorem out0 : Cert.ReferenceIdeal.Value.res_main_v77 m c = rOut0 (bq m c) (bk m c) (bv m c) (bd m c) := rfl

end Cert.AttnRef
-- ==== Proof.AttnReal.lean ====
/- The numbers both programs compute, over the reals: scores, masked softmax, the gradients; and the readings of the
   host operations both share. -/
module

public import proofs.«01_k».proof.Proof.Soft
public import Idealize.ShloMosaic.Lib.Pointwise
public import Idealize.ShloMosaic.Lib.IdealHost
public import Idealize.ShloMosaic.Lib.StableHlo.Run

@[expose] public section

noncomputable section

namespace Cert.AttnReal

open Idealize.ShloMosaic Cert.Reals
open scoped BigOperators

/-- The scale of the scores: the word both programs write. -/
def c1 : ℝ := (Ideal.ofBits .f32 0x3D93CD3A#32).toReal
theorem c1_eq : Ideal.ofBits .f32 0x3D93CD3A#32 = ((c1 : ℝ) : EReal) := by
  have h : ∃ r : ℝ, Ideal.ofBits .f32 0x3D93CD3A#32 = ((r : ℝ) : EReal) := by
    simp [Ideal.ofBits, Ideal.ieee]
    exact ⟨_, rfl⟩
  obtain ⟨r, hr⟩ := h
  unfold c1; rw [hr, EReal.toReal_coe]

theorem one_eq : Ideal.ofBits .f32 0x3F800000#32 = ((1 : ℝ) : EReal) := by
  simp [Ideal.ofBits, Ideal.ieee]
  rw [← EReal.coe_mul]; norm_num
theorem two_eq : Ideal.ofBits .f32 0x40000000#32 = ((2 : ℝ) : EReal) := by
  simp [Ideal.ofBits, Ideal.ieee]
  rw [← EReal.coe_mul]; norm_num
theorem bot_eq : Ideal.ofBits .f32 0xFF800000#32 = ⊥ := by simp [Ideal.ofBits, Ideal.ieee]

theorem toInt_small (n : Fin 8192) : (BitVec.ofNat 32 n.val).toInt = n.val := by
  have hn := n.isLt
  have e : (BitVec.ofNat 32 n.val).toNat = n.val := by rw [BitVec.toNat_ofNat]; omega
  rw [BitVec.toInt_eq_toNat_of_lt (by rw [e]; omega), e]

/-- A comparison of two places below 8192, as words, selects as the places compare. -/
theorem sel_le (u x : Fin 8192) (a b : EReal) :
    Scalar.select (IntOp.cmpi .sle (BitVec.ofNat 32 u.val) (BitVec.ofNat 32 x.val)) a b = if u.val ≤ x.val then a else b := by
  have h : IntOp.cmpi .sle (BitVec.ofNat 32 u.val) (BitVec.ofNat 32 x.val) = BitVec.ofBool (decide (u.val ≤ x.val)) := by
    show BitVec.ofBool ((BitVec.ofNat 32 u.val).sle (BitVec.ofNat 32 x.val)) = _
    congr 1
    have hu := u.isLt
    have hx := x.isLt
    have e1 : (BitVec.ofNat 32 u.val).toInt = u.val := toInt_small _
    have e2 : (BitVec.ofNat 32 x.val).toInt = x.val := toInt_small _
    rw [BitVec.sle_eq_decide, e1, e2]
    simp
  rw [h]
  unfold Scalar.select
  by_cases g : u.val ≤ x.val <;> simp [g]

/-- A row's maximum from −∞. -/
theorem max_row (f : FVec Ideal ⟨3, ![16, 8192, 8192]⟩ .f32) (h' : (⟨3, ![16, 8192, 8192]⟩ : Shape).ReducesTo [2] ⟨2, ![16, 8192]⟩)
    (hu : 0 < (⟨0, ![]⟩ : Shape).numel) (h : Fin 16) (x : Fin 8192) :
    Host.reduce FloatOps.maximumf f (constant ⟨0, ![]⟩ .f32 0xFF800000#32) h' hu (ix2 h x)
      = (Finset.univ : Finset (Fin 8192)).fold max (⊥ : EReal) (fun u => f (ix3 h x u)) := by
  have hr : (⟨3, ![16, 8192, 8192]⟩ : Shape).Reduces [2] ⟨2, ![16, 8192]⟩ := by decide
  refine (Host.reduce_eq_fold_single (FloatOps.maximumf (F := Ideal) (φ := .f32)) f _ h' hr hu (ix2 h x)).trans ?_
  rw [show constant (F := Ideal) ⟨0, ![]⟩ .f32 0xFF800000#32 (Shape.Idx.first hu) = (⊥ : EReal) from bot_eq]
  refine congrArg (fun g => (Finset.univ : Finset (Fin 8192)).fold max (⊥ : EReal) g) (funext fun u => congrArg f ?_)
  funext a
  match a with
  | ⟨0, _⟩ => rfl
  | ⟨1, _⟩ => rfl
  | ⟨2, _⟩ => rfl

variable (q k : Fin 8192 → Fin 16 → Fin 192 → ℝ) (v d : Fin 8192 → Fin 16 → Fin 128 → ℝ)

/-- The score of a key at a query. -/
def sc (h : Fin 16) (x u : Fin 8192) : ℝ := ∑ e : Fin 192, q x h e * c1 * k u h e
/-- The keys a query sees. -/
abbrev sees (x u : Fin 8192) : Prop := u.val ≤ x.val
/-- The probability of a key at a query. -/
def pr (h : Fin 16) (x u : Fin 8192) : ℝ := Soft.prob (sc q k h x) (sees x) u
/-- The gradient of a probability. -/
def dp (h : Fin 16) (x u : Fin 8192) : ℝ := ∑ e : Fin 128, d x h e * v u h e
/-- The gradient of a score. -/
def ds (h : Fin 16) (x u : Fin 8192) : ℝ := Soft.dsc (sc q k h x) (sees x) (dp v d h x) u

theorem sees_some (x : Fin 8192) : ∃ u, sees x u := ⟨x, le_rfl⟩

/-- The three gradients. -/
def gv (h : Fin 16) (u : Fin 8192) (e : Fin 128) : ℝ := ∑ x, pr q k h x u * d x h e
def gk (h : Fin 16) (u : Fin 8192) (e : Fin 192) : ℝ := ∑ x, ds q k v d h x u * (q x h e * c1)
def gq (h : Fin 16) (x : Fin 8192) (e : Fin 192) : ℝ := ∑ u, ds q k v d h x u * k u h e

end Cert.AttnReal
-- ==== Proof.AttnFlat.lean ====
/- Heads padded, or set side by side, and their lanes laid in one row: which element stands at a column. -/
module

public import Idealize.ShloMosaic.Lib.Pointwise
public import Idealize.ShloMosaic.Lib.IdealHost
public import Idealize.ShloMosaic.Lib.StableHlo.Run

@[expose] public section

noncomputable section

namespace Cert.AttnFlat

open Idealize.ShloMosaic

/-- Heads of 192 lanes padded to 256. -/
theorem pad256 {φ : FTy} (x : FVec Ideal ⟨3, ![8192, 16, 192]⟩ φ) (z : FVec Ideal ⟨0, ![]⟩ φ)
    (hp : (⟨3, ![8192, 16, 192]⟩ : Shape).Pads (![0, 0, 0] : Fin 3 → ℕ) ![0, 0, 64] ![0, 0, 0] ⟨3, ![8192, 16, 256]⟩)
    (hu : 0 < (⟨0, ![]⟩ : Shape).numel) (hs : (⟨3, ![8192, 16, 256]⟩ : Shape).ShapeCasts ⟨2, ![8192, 4096]⟩) (R : Fin 8192) (C : Fin 4096) :
    shapeCast ⟨2, ![8192, 4096]⟩ (pad ⟨3, ![8192, 16, 256]⟩ ![0, 0, 0] ![0, 0, 64] ![0, 0, 0] x z hp hu) hs (ix2 R C)
      = if g : C.val % 256 < 192 then x (ix3 R ⟨C.val / 256, by omega⟩ ⟨C.val % 256, g⟩) else z ix0 := by
  simp only [pointwise]
  by_cases g : C.val % 256 < 192
  · rw [dif_pos g, dif_pos]
    · refine congrArg x ?_
      funext a
      match a with
      | ⟨0, _⟩ => exact Fin.ext (by show (R.val - 0) / (0 + 1) = R.val; omega)
      | ⟨1, _⟩ => exact Fin.ext (by show (C.val / 256 - 0) / (0 + 1) = C.val / 256; omega)
      | ⟨2, _⟩ => exact Fin.ext (by show (C.val % 256 - 0) / (0 + 1) = C.val % 256; omega)
    · intro a
      match a with
      | ⟨0, _⟩ => exact ⟨Nat.zero_le _, Nat.mod_one _, by have := R.isLt; show (R.val - 0) / (0 + 1) < 8192; omega⟩
      | ⟨1, _⟩ => exact ⟨Nat.zero_le _, Nat.mod_one _, by have := C.isLt; show (C.val / 256 - 0) / (0 + 1) < 16; omega⟩
      | ⟨2, _⟩ => exact ⟨Nat.zero_le _, Nat.mod_one _, by show (C.val % 256 - 0) / (0 + 1) < 192; omega⟩
  · rw [dif_neg g, dif_neg]
    · exact congrArg z (funext fun a => a.elim0)
    · intro h
      have h2 : (C.val % 256 - 0) / (0 + 1) < 192 := (h 2).2.2
      omega

/-- Heads of 64 lanes padded to 128. -/
theorem pad128 {φ : FTy} (x : FVec Ideal ⟨3, ![8192, 16, 64]⟩ φ) (z : FVec Ideal ⟨0, ![]⟩ φ)
    (hp : (⟨3, ![8192, 16, 64]⟩ : Shape).Pads (![0, 0, 0] : Fin 3 → ℕ) ![0, 0, 64] ![0, 0, 0] ⟨3, ![8192, 16, 128]⟩)
    (hu : 0 < (⟨0, ![]⟩ : Shape).numel) (hs : (⟨3, ![8192, 16, 128]⟩ : Shape).ShapeCasts ⟨2, ![8192, 2048]⟩) (R : Fin 8192) (C : Fin 2048) :
    shapeCast ⟨2, ![8192, 2048]⟩ (pad ⟨3, ![8192, 16, 128]⟩ ![0, 0, 0] ![0, 0, 64] ![0, 0, 0] x z hp hu) hs (ix2 R C)
      = if g : C.val % 128 < 64 then x (ix3 R ⟨C.val / 128, by omega⟩ ⟨C.val % 128, g⟩) else z ix0 := by
  simp only [pointwise]
  by_cases g : C.val % 128 < 64
  · rw [dif_pos g, dif_pos]
    · refine congrArg x ?_
      funext a
      match a with
      | ⟨0, _⟩ => exact Fin.ext (by show (R.val - 0) / (0 + 1) = R.val; omega)
      | ⟨1, _⟩ => exact Fin.ext (by show (C.val / 128 - 0) / (0 + 1) = C.val / 128; omega)
      | ⟨2, _⟩ => exact Fin.ext (by show (C.val % 128 - 0) / (0 + 1) = C.val % 128; omega)
    · intro a
      match a with
      | ⟨0, _⟩ => exact ⟨Nat.zero_le _, Nat.mod_one _, by have := R.isLt; show (R.val - 0) / (0 + 1) < 8192; omega⟩
      | ⟨1, _⟩ => exact ⟨Nat.zero_le _, Nat.mod_one _, by have := C.isLt; show (C.val / 128 - 0) / (0 + 1) < 16; omega⟩
      | ⟨2, _⟩ => exact ⟨Nat.zero_le _, Nat.mod_one _, by show (C.val % 128 - 0) / (0 + 1) < 64; omega⟩
  · rw [dif_neg g, dif_neg]
    · exact congrArg z (funext fun a => a.elim0)
    · intro h
      have h2 : (C.val % 128 - 0) / (0 + 1) < 64 := (h 2).2.2
      omega

/-- Heads of 128 lanes beside heads of 128 lanes, the first the leading lanes of heads of 192. -/
theorem cat256 {φ : FTy} (x : FVec Ideal ⟨3, ![8192, 16, 192]⟩ φ) (y : FVec Ideal ⟨3, ![8192, 16, 128]⟩ φ)
    (hx : (⟨3, ![8192, 16, 192]⟩ : Shape).Slices (![0, 0, 0] : Fin 3 → ℕ) ⟨3, ![8192, 16, 128]⟩)
    (hc : Shape.Concatenates [⟨3, ![8192, 16, 128]⟩, ⟨3, ![8192, 16, 128]⟩] ⟨3, ![8192, 16, 256]⟩ 2) (hs : (⟨3, ![8192, 16, 256]⟩ : Shape).ShapeCasts ⟨2, ![8192, 4096]⟩) (R : Fin 8192) (C : Fin 4096) :
    shapeCast ⟨2, ![8192, 4096]⟩ (concatenate ⟨3, ![8192, 16, 256]⟩ 2
        [⟨⟨3, ![8192, 16, 128]⟩, extractStridedSlice ⟨3, ![8192, 16, 128]⟩ ![0, 0, 0] x hx⟩, ⟨⟨3, ![8192, 16, 128]⟩, y⟩] hc) hs (ix2 R C)
      = if g : C.val % 256 < 128 then x (ix3 R ⟨C.val / 256, by omega⟩ ⟨C.val % 256, by omega⟩)
        else y (ix3 R ⟨C.val / 256, by omega⟩ ⟨C.val % 256 - 128, by omega⟩) := by
  simp only [pointwise]
  by_cases g : C.val % 256 < 128
  · rw [dif_pos g, dif_pos g]
    refine congrArg x ?_
    funext a
    match a with
    | ⟨0, _⟩ => exact Fin.ext (by show 0 + R.val = R.val; omega)
    | ⟨1, _⟩ => exact Fin.ext (by show 0 + C.val / 256 = C.val / 256; omega)
    | ⟨2, _⟩ => exact Fin.ext (by show 0 + C.val % 256 = C.val % 256; omega)
  · rw [dif_neg g, dif_neg g]
    refine congrArg y ?_
    funext a
    match a with
    | ⟨0, _⟩ => rfl
    | ⟨1, _⟩ => rfl
    | ⟨2, _⟩ => rfl

/-- Heads of 128 lanes in one row. -/
theorem flat128 {φ : FTy} (x : FVec Ideal ⟨3, ![8192, 16, 128]⟩ φ) (hs : (⟨3, ![8192, 16, 128]⟩ : Shape).ShapeCasts ⟨2, ![8192, 2048]⟩)
    (R : Fin 8192) (C : Fin 2048) :
    shapeCast ⟨2, ![8192, 2048]⟩ x hs (ix2 R C) = x (ix3 R ⟨C.val / 128, by omega⟩ ⟨C.val % 128, by omega⟩) := by
  simp only [pointwise]

end Cert.AttnFlat
-- ==== Proof.AttnRefVal.lean ====
/- The reference's results index by index, its arguments being real numbers. -/
module

public import proofs.«01_k».proof.Proof.AttnRef
public import proofs.«01_k».proof.Proof.AttnReal
public import proofs.«01_k».proof.Proof.AttnFlat

@[expose] public section

set_option maxRecDepth 16384

noncomputable section

namespace Cert.AttnRef

open Cert.ReferenceIdeal Cert.ReferenceIdeal.Gen Cert.AttnReal Cert.Reals Idealize.ShloMosaic Idealize.ShloMosaic.TcCoe Idealize.ShloMosaic.StableHlo
open scoped BigOperators

variable (q k : A192) (v d : A128) (qr kr : Fin 8192 → Fin 16 → Fin 192 → ℝ) (vr dr : Fin 8192 → Fin 16 → Fin 128 → ℝ)
variable (h : Fin 16) (x u : Fin 8192) (μ : ℝ)

/-- The array is these real numbers. -/
abbrev Is192 (q : A192) (qr : Fin 8192 → Fin 16 → Fin 192 → ℝ) : Prop := ∀ x h e, q (ix3 x h e) = ((qr x h e : ℝ) : EReal)
abbrev Is128 (v : A128) (vr : Fin 8192 → Fin 16 → Fin 128 → ℝ) : Prop := ∀ x h e, v (ix3 x h e) = ((vr x h e : ℝ) : EReal)

theorem max_apply (A B : FVec Ideal S16x8192 .f32) (j : S16x8192.Idx) : maximumf A B j = max (A j : EReal) (B j) := rfl

section
variable (hq : Is192 q qr) (hk : Is192 k kr)
include hq
theorem rQ_apply (f : Fin 192) : rQ q (ix3 x h f) = ((qr x h f * c1 : ℝ) : EReal) := by
  unfold rQ; simp only [pointwise]; rw [hq, c1_eq, ← EReal.coe_mul]
include hk
theorem rS_apply : rS q k (ix3 h x u) = ((sc qr kr h x u : ℝ) : EReal) := by
  unfold rS; simp only [pointwise]; rw [zero_add]
  simp only [rQ_apply q qr _ _ hq, hk _ _ _, ← EReal.coe_mul]
  rw [← coe_sum]; rfl
theorem rMs_apply : rMs q k (ix3 h x u) = Soft.msk (sc qr kr h x) (sees x) u := by
  unfold rMs rM; simp only [pointwise]
  refine (sel_le u x _ _).trans ?_
  exact if_congr Iff.rfl (rS_apply q k qr kr h x u hq hk) bot_eq
theorem rMx_apply : rMx q k (ix2 h x) = (Finset.univ : Finset (Fin 8192)).fold max (⊥ : EReal) (Soft.msk (sc qr kr h x) (sees x)) := by
  have e := max_row (rMs q k) reducesTo_S16x8192x8192_S16x8192_d2 h_S_ h x
  rw [show (fun u => rMs q k (ix3 h x u)) = Soft.msk (sc qr kr h x) (sees x) from funext fun u => rMs_apply q k qr kr h x u hq hk] at e
  unfold rMx
  generalize (Finset.univ : Finset (Fin 8192)).fold max (⊥ : EReal) (Soft.msk (sc qr kr h x) (sees x)) = B at e ⊢
  generalize Host.reduce FloatOps.maximumf (rMs q k) (constant S_ .f32 0xFF800000#32) reducesTo_S16x8192x8192_S16x8192_d2 h_S_ = R at e ⊢
  refine (max_apply _ R _).trans ?_
  rw [e]
  exact (congrArg (max · B) bot_eq).trans (max_eq_right bot_le)

variable (hμ : (Finset.univ : Finset (Fin 8192)).fold max (⊥ : EReal) (Soft.msk (sc qr kr h x) (sees x)) = ((μ : ℝ) : EReal))
include hμ
theorem rE_apply : rE q k (ix3 h x u) = Ideal.exp (Soft.msk (sc qr kr h x) (sees x) u - ((μ : ℝ) : EReal)) := by
  unfold rE; simp only [pointwise]
  exact congrArg Ideal.exp (congrArg₂ (· - ·) (rMs_apply q k qr kr h x u hq hk) ((rMx_apply q k qr kr h x hq hk).trans hμ))
theorem rL_apply : rL q k (ix3 h x 0) = ((Real.exp (-μ) * Soft.tot (sc qr kr h x) (sees x) : ℝ) : EReal) := by
  unfold rL; simp only [pointwise]; rw [zero_add]
  exact (Finset.sum_congr rfl fun u _ => rE_apply q k qr kr h x u μ hq hk hμ).trans (Soft.sum_exp _ _ _)
theorem rLb_apply : rLb q k (ix3 h x u) = ((Real.exp (-μ) * Soft.tot (sc qr kr h x) (sees x) : ℝ) : EReal) := by
  unfold rLb; simp only [pointwise]
  exact rL_apply q k qr kr h x μ hq hk hμ
theorem rP_of : rP q k (ix3 h x u) = ((pr qr kr h x u : ℝ) : EReal) := by
  unfold rP; simp only [pointwise]
  rw [rE_apply q k qr kr h x u μ hq hk hμ, rLb_apply q k qr kr h x u μ hq hk hμ]
  exact Soft.div_exp _ _ μ (sees_some x) u
theorem rIn_apply : rIn q k (ix3 h x 0) = Ideal.div 1 (((Real.exp (-μ) * Soft.tot (sc qr kr h x) (sees x) : ℝ) : EReal)
    * ((Real.exp (-μ) * Soft.tot (sc qr kr h x) (sees x) : ℝ) : EReal)) := by
  unfold rIn; simp only [pointwise]
  rw [rL_apply q k qr kr h x μ hq hk hμ]
end

theorem rP_apply (hq : Is192 q qr) (hk : Is192 k kr) : rP q k (ix3 h x u) = ((pr qr kr h x u : ℝ) : EReal) := by
  obtain ⟨μ, hμ⟩ := Soft.max_real (sc qr kr h x) (sees x) (sees_some x)
  exact rP_of q k qr kr h x u μ hq hk hμ

theorem rDp_apply (hv : Is128 v vr) (hd : Is128 d dr) : rDp v d (ix3 h x u) = ((dp vr dr h x u : ℝ) : EReal) := by
  unfold rDp rDt; simp only [pointwise]; rw [zero_add]
  simp only [hv _ _ _, hd _ _ _, ← EReal.coe_mul]
  rw [← coe_sum]; rfl

section
variable (hq : Is192 q qr) (hk : Is192 k kr) (hv : Is128 v vr) (hd : Is128 d dr)
include hq hk hv hd

theorem rT_apply (hμ : (Finset.univ : Finset (Fin 8192)).fold max (⊥ : EReal) (Soft.msk (sc qr kr h x) (sees x)) = ((μ : ℝ) : EReal)) :
    rT q k v d (ix3 h x u) = ((dp vr dr h x u : ℝ) : EReal)
      * Ideal.div 1 (((Real.exp (-μ) * Soft.tot (sc qr kr h x) (sees x) : ℝ) : EReal) * ((Real.exp (-μ) * Soft.tot (sc qr kr h x) (sees x) : ℝ) : EReal))
      * Ideal.exp (Soft.msk (sc qr kr h x) (sees x) u - ((μ : ℝ) : EReal)) := by
  unfold rT; simp only [pointwise]
  exact congrArg₂ (· * ·) (congrArg₂ (· * ·) (rDp_apply v d vr dr h x u hv hd) (rIn_apply q k qr kr h x μ hq hk hμ)) (rE_apply q k qr kr h x u μ hq hk hμ)

theorem rNg_apply (hμ : (Finset.univ : Finset (Fin 8192)).fold max (⊥ : EReal) (Soft.msk (sc qr kr h x) (sees x)) = ((μ : ℝ) : EReal)) :
    rNg q k v d (ix2 h x) = -(∑ u, ((dp vr dr h x u : ℝ) : EReal)
      * Ideal.div 1 (((Real.exp (-μ) * Soft.tot (sc qr kr h x) (sees x) : ℝ) : EReal) * ((Real.exp (-μ) * Soft.tot (sc qr kr h x) (sees x) : ℝ) : EReal))
      * Ideal.exp (Soft.msk (sc qr kr h x) (sees x) u - ((μ : ℝ) : EReal))) := by
  have hT : rTs q k v d (ix2 h x) = ∑ u, ((dp vr dr h x u : ℝ) : EReal)
      * Ideal.div 1 (((Real.exp (-μ) * Soft.tot (sc qr kr h x) (sees x) : ℝ) : EReal) * ((Real.exp (-μ) * Soft.tot (sc qr kr h x) (sees x) : ℝ) : EReal))
      * Ideal.exp (Soft.msk (sc qr kr h x) (sees x) u - ((μ : ℝ) : EReal)) := by
    unfold rTs; simp only [pointwise]; rw [zero_add]
    exact Finset.sum_congr rfl fun u _ => rT_apply q k v d qr kr vr dr h x u μ hq hk hv hd hμ
  rw [← hT]
  unfold rNg; simp only [pointwise]; rw [zero_add]
  exact Fin.sum_univ_one _

theorem rDs_apply : rDs q k v d (ix3 h x u) = ((ds qr kr vr dr h x u : ℝ) : EReal) := by
  obtain ⟨μ, hμ⟩ := Soft.max_real (sc qr kr h x) (sees x) (sees_some x)
  unfold rDs rM; simp only [pointwise]
  refine (sel_le u x _ _).trans ?_
  by_cases g : u.val ≤ x.val
  · rw [if_pos g]
    refine Eq.trans ?_ (Soft.ds_ref (sc qr kr h x) (sees x) μ (sees_some x) (dp vr dr h x) u)
    exact congrArg₂ (· * ·) (congrArg₂ (· + ·) (congrArg₂ Ideal.div (rDp_apply v d vr dr h x u hv hd) (rLb_apply q k qr kr h x u μ hq hk hμ))
      (rNg_apply q k v d qr kr vr dr h x μ hq hk hv hd hμ)) (rE_apply q k qr kr h x u μ hq hk hμ)
  · rw [if_neg g]
    unfold ds Soft.dsc
    rw [Soft.prob_zero _ _ u g, zero_mul]; rfl

theorem rGq_apply (f : Fin 192) : rGq q k v d (ix3 x h f) = ((gq qr kr vr dr h x f : ℝ) : EReal) := by
  unfold rGq; simp only [pointwise]; rw [zero_add]
  simp only [rDs_apply q k v d qr kr vr dr _ _ _ hq hk hv hd, hk _ _ _, ← EReal.coe_mul]
  rw [← coe_sum]; rfl
theorem rGk_apply (f : Fin 192) : rGk q k v d (ix3 x h f) = ((gk qr kr vr dr h x f : ℝ) : EReal) := by
  unfold rGk; simp only [pointwise]; rw [zero_add]
  simp only [rDs_apply q k v d qr kr vr dr _ _ _ hq hk hv hd, rQ_apply q qr _ _ hq, ← EReal.coe_mul]
  rw [← coe_sum]; rfl
omit hv in
theorem rGv_apply (e : Fin 128) : rGv q k d (ix3 x h e) = ((gv qr kr dr h x e : ℝ) : EReal) := by
  unfold rGv rDt; simp only [pointwise]; rw [zero_add]
  simp only [rP_apply q k qr kr _ _ _ hq hk, hd _ _ _, ← EReal.coe_mul]
  rw [← coe_sum]
  unfold gv
  exact congrArg _ (Finset.sum_congr rfl fun u _ => mul_comm _ _)

/-- The gradient of the scaled query, heads padded to 256 lanes. -/
theorem rOut2_apply (C : Fin 4096) : rOut2 q k v d (ix2 x C)
    = if g : C.val % 256 < 192 then ((gq qr kr vr dr ⟨C.val / 256, by omega⟩ x ⟨C.val % 256, g⟩ : ℝ) : EReal) else 0 := by
  unfold rOut2
  refine (AttnFlat.pad256 _ _ _ _ _ x C).trans ?_
  refine dite_congr rfl (fun g => rGq_apply q k v d qr kr vr dr _ _ hq hk hv hd _) (fun _ => ?_)
  exact sitofp_zero
/-- The gradient of the keys' last 64 lanes, padded to 128. -/
theorem rOut1_apply (C : Fin 2048) : rOut1 q k v d (ix2 x C)
    = if g : C.val % 128 < 64 then ((gk qr kr vr dr ⟨C.val / 128, by omega⟩ x ⟨128 + C.val % 128, by omega⟩ : ℝ) : EReal) else 0 := by
  unfold rOut1
  refine (AttnFlat.pad128 _ _ _ _ _ x C).trans ?_
  refine dite_congr rfl (fun g => ?_) (fun _ => sitofp_zero)
  refine Eq.trans ?_ (rGk_apply q k v d qr kr vr dr ⟨C.val / 128, by omega⟩ x hq hk hv hd ⟨128 + C.val % 128, by omega⟩)
  refine congrArg (rGk q k v d) ?_
  funext a
  match a with
  | ⟨0, _⟩ => exact Fin.ext (by show 0 + x.val = x.val; omega)
  | ⟨1, _⟩ => exact Fin.ext (by show 0 + C.val / 128 = C.val / 128; omega)
  | ⟨2, _⟩ => rfl
/-- The gradients of the keys' first 128 lanes and of the values. -/
theorem rOut0_apply (C : Fin 4096) : rOut0 q k v d (ix2 x C)
    = if g : C.val % 256 < 128 then ((gk qr kr vr dr ⟨C.val / 256, by omega⟩ x ⟨C.val % 256, by omega⟩ : ℝ) : EReal)
      else ((gv qr kr dr ⟨C.val / 256, by omega⟩ x ⟨C.val % 256 - 128, by omega⟩ : ℝ) : EReal) := by
  unfold rOut0
  refine (AttnFlat.cat256 _ _ _ concatenates_S8192x16x128_S8192x16x128_S8192x16x256_d2 _ x C).trans ?_
  exact dite_congr rfl (fun g => rGk_apply q k v d qr kr vr dr _ _ hq hk hv hd _) (fun _ => rGv_apply q k d qr kr dr _ _ hq hk hd _)
end

end Cert.AttnRef
-- ==== Proof.AttnHost.lean ====
/- What the host prepares before the grid starts, as functions of the arguments. -/
module

public import proofs.«01_k».proof.Proof.AttnFrame

@[expose] public section

set_option maxRecDepth 16384

noncomputable section

namespace Cert.AttnHost

open Cert.KernelIdeal Cert.KernelIdeal.Gen Cert.Attn Idealize.ShloMosaic Idealize.ShloMosaic.TcCoe Idealize.ShloMosaic.StableHlo

abbrev A192 := FVec Ideal S8192x16x192 .bf16
abbrev A128 := FVec Ideal S8192x16x128 .bf16

/-- The scores, the mask, the masked scores, their maximum, the weights, their sum. -/
def kS (q k : A192) : FVec Ideal S16x8192x8192 .f32 :=
  mulf (extf .f32 (truncf .bf16 (Host.dotGeneral dot_S8192x16x192_S8192x16x192_S16x8192x8192_2_2_0_0_1_1 none q k) bitsLt_bf16_f32) bitsLt_bf16_f32)
    (broadcastInDim S16x8192x8192 ![] bcast_S_S16x8192x8192 (constant S_ .f32 0x3D93CD3A#32))
def kM : S16x8192x8192.Idx → BitVec 1 :=
  broadcastInDim S16x8192x8192 ![1, 2] bcast_S8192x8192_S16x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
def kMs (q k : A192) : FVec Ideal S16x8192x8192 .f32 :=
  select kM (kS q k) (broadcastInDim S16x8192x8192 ![] bcast_S_S16x8192x8192 (id (constant S_ .f32 0xFF800000#32)))
def kMx (q k : A192) : FVec Ideal S16x8192 .f32 :=
  Host.reduce FloatOps.maximumf (kMs q k) (constant S_ .f32 0xFF800000#32) reducesTo_S16x8192x8192_S16x8192_d2 h_S_
def kMx1 (q k : A192) : FVec Ideal S16x8192x1 .f32 := broadcastInDim S16x8192x1 ![0, 1] bcast_S16x8192_S16x8192x1_0_1 (kMx q k)
def kE (q k : A192) : FVec Ideal S16x8192x8192 .f32 :=
  Host.exp (subf (kMs q k) (broadcastInDim S16x8192x8192 ![0, 1, 2] bcast_S16x8192x1_S16x8192x8192_0_1_2 (kMx1 q k)))
def kL1 (q k : A192) : FVec Ideal S16x8192x1 .f32 :=
  broadcastInDim S16x8192x1 ![0, 1] bcast_S16x8192_S16x8192x1_0_1
    (Host.reduceAdd (kE q k) (constant S_ .f32 0x00000000#32) reducesTo_S16x8192x8192_S16x8192_d2 h_S_)
def kPr (q k : A192) : FVec Ideal S16x8192x8192 .f32 :=
  Host.divf (kE q k) (broadcastInDim S16x8192x8192 ![0, 1, 2] bcast_S16x8192x1_S16x8192x8192_0_1_2 (kL1 q k))
/-- The weighted values. -/
def kO (q k : A192) (v : A128) : A128 :=
  truncf .bf16 (transpose S8192x16x128 [2, 0, 1]
    (Host.dotGeneral (φ₁ := .bf16) (φ₂ := .bf16) dot_S8192x16x128_S16x8192x8192_S16x128x8192_0_2_2_1_1_0 none v (truncf .bf16 (kPr q k) bitsLt_bf16_f32))
    transposes_S16x128x8192_S8192x16x128_2_0_1) bitsLt_bf16_f32
/-- The reciprocal of the logarithm of two. -/
def kC : FVec Ideal S_ .f32 := Host.divf (constant S_ .f32 0x3F800000#32) (Host.log (constant S_ .f32 0x40000000#32))
def kLse (q k : A192) : FVec Ideal S16x8192x1 .f32 :=
  mulf (addf (kMx1 q k) (Host.log (kL1 q k))) (broadcastInDim S16x8192x1 ![] bcast_S_S16x8192x1 kC)
def kQs (q : A192) : A192 :=
  truncf .bf16 (mulf (extf .f32 q bitsLt_bf16_f32) (broadcastInDim S8192x16x192 ![] bcast_S_S8192x16x192 (mulf (constant S_ .f32 0x3D93CD3A#32) kC))) bitsLt_bf16_f32
def kPad (x : A192) : FVec Ideal S8192x4096 .bf16 :=
  shapeCast S8192x4096 (pad S8192x16x256 ![0, 0, 0] ![0, 0, 64] ![0, 0, 0] x (sitofp (F := Ideal) .bf16 (constantI S_ 32 0#32) : FVec Ideal S_ .bf16)
    pads_S8192x16x192_S8192x16x256_000_000_0640 h_S_) shapeCasts_S8192x16x256_S8192x4096
def kKv (k : A192) (v : A128) : FVec Ideal S8192x4096 .bf16 :=
  shapeCast S8192x4096 (concatenate S8192x16x256 2 [⟨S8192x16x128, extractStridedSlice S8192x16x128 ![0, 0, 0] k slices_S8192x16x192_S8192x16x128_0_0_0⟩, ⟨S8192x16x128, v⟩]
    concatenates_S8192x16x128_S8192x16x128_S8192x16x256_d2) shapeCasts_S8192x16x256_S8192x4096
def kFlat (x : A128) : FVec Ideal S8192x2048 .bf16 := shapeCast S8192x2048 x shapeCasts_S8192x16x128_S8192x2048

variable (m : (ℓ : Loc nD τ sig) → Buf (Elt Ideal) ℓ) (c : Dev nD)

abbrev aq : A192 := m ((c : Thread nD τ).loc main_arg0)
abbrev ak : A192 := m ((c : Thread nD τ).loc main_arg1)
abbrev av : A128 := m ((c : Thread nD τ).loc main_arg2)
abbrev ad : A128 := m ((c : Thread nD τ).loc main_arg3)

set_option maxHeartbeats 4000000 in
theorem V_q : V m c main_v37 = kPad (kQs (aq m c)) := by
  unfold V
  simp only [opss, hostOps0, hostOps0_1, hostOps0_2, hostOps0_3, hostOps0_4, hostOps0_5, hostOps0_6, List.flatten_cons, List.flatten_nil, List.cons_append, List.nil_append,
    TRef.binary, TRef.nullary, TRef.ternary, TRef.unary, TRef.toBuf, TRef.ofBuf, cast_eq]
  after_results_simp <;> rfl

set_option maxHeartbeats 4000000 in
theorem V_k : V m c main_v39 = kPad (ak m c) := by
  unfold V
  simp only [opss, hostOps0, hostOps0_1, hostOps0_2, hostOps0_3, hostOps0_4, hostOps0_5, hostOps0_6, List.flatten_cons, List.flatten_nil, List.cons_append, List.nil_append,
    TRef.binary, TRef.nullary, TRef.ternary, TRef.unary, TRef.toBuf, TRef.ofBuf, cast_eq]
  after_results_simp <;> rfl

set_option maxHeartbeats 4000000 in
theorem V_v : V m c main_v42 = kKv (ak m c) (av m c) := by
  unfold V
  simp only [opss, hostOps0, hostOps0_1, hostOps0_2, hostOps0_3, hostOps0_4, hostOps0_5, hostOps0_6, List.flatten_cons, List.flatten_nil, List.cons_append, List.nil_append,
    TRef.binary, TRef.nullary, TRef.ternary, TRef.unary, TRef.toBuf, TRef.ofBuf, cast_eq]
  after_results_simp <;> rfl

set_option maxHeartbeats 4000000 in
theorem V_o : V m c main_v43 = kFlat (kO (aq m c) (ak m c) (av m c)) := by
  unfold V
  simp only [opss, hostOps0, hostOps0_1, hostOps0_2, hostOps0_3, hostOps0_4, hostOps0_5, hostOps0_6, List.flatten_cons, List.flatten_nil, List.cons_append, List.nil_append,
    TRef.binary, TRef.nullary, TRef.ternary, TRef.unary, TRef.toBuf, TRef.ofBuf, cast_eq]
  after_results_simp <;> rfl

set_option maxHeartbeats 4000000 in
theorem V_d : V m c main_v44 = kFlat (ad m c) := by
  unfold V
  simp only [opss, hostOps0, hostOps0_1, hostOps0_2, hostOps0_3, hostOps0_4, hostOps0_5, hostOps0_6, List.flatten_cons, List.flatten_nil, List.cons_append, List.nil_append,
    TRef.binary, TRef.nullary, TRef.ternary, TRef.unary, TRef.toBuf, TRef.ofBuf, cast_eq]
  after_results_simp <;> rfl

set_option maxHeartbeats 4000000 in
theorem V_l : V m c main_v30 = kLse (aq m c) (ak m c) := by
  unfold V
  simp only [opss, hostOps0, hostOps0_1, hostOps0_2, hostOps0_3, hostOps0_4, hostOps0_5, hostOps0_6, List.flatten_cons, List.flatten_nil, List.cons_append, List.nil_append,
    TRef.binary, TRef.nullary, TRef.ternary, TRef.unary, TRef.toBuf, TRef.ofBuf, cast_eq]
  after_results_simp <;> rfl

end Cert.AttnHost
-- ==== Proof.AttnHostVal.lean ====
/- What the host prepares, element by element, the arguments being real numbers. -/
module

public import proofs.«01_k».proof.Proof.AttnHost
public import proofs.«01_k».proof.Proof.AttnReal
public import proofs.«01_k».proof.Proof.AttnFlat

@[expose] public section

set_option maxRecDepth 16384

noncomputable section

namespace Cert.AttnHost

open Cert.KernelIdeal Cert.KernelIdeal.Gen Cert.AttnReal Cert.Reals Idealize.ShloMosaic Idealize.ShloMosaic.TcCoe Idealize.ShloMosaic.StableHlo
open scoped BigOperators

variable (q k : A192) (v d : A128) (qr kr : Fin 8192 → Fin 16 → Fin 192 → ℝ) (vr dr : Fin 8192 → Fin 16 → Fin 128 → ℝ)
variable (h : Fin 16) (x u : Fin 8192) (μ : ℝ)

/-- The array is these real numbers. -/
abbrev Is192 (q : A192) (qr : Fin 8192 → Fin 16 → Fin 192 → ℝ) : Prop := ∀ x h e, q (ix3 x h e) = ((qr x h e : ℝ) : EReal)
abbrev Is128 (v : A128) (vr : Fin 8192 → Fin 16 → Fin 128 → ℝ) : Prop := ∀ x h e, v (ix3 x h e) = ((vr x h e : ℝ) : EReal)

theorem log2_pos : (0 : ℝ) < Real.log 2 := Real.log_pos one_lt_two

theorem div_log : Ideal.div 1 (Ideal.log (Ideal.ofBits .f32 0x40000000#32)) = ((1 / Real.log 2 : ℝ) : EReal) := by
  rw [two_eq, Ideal.log_coe, if_neg (by norm_num)]
  exact Soft.div_real 1 _ log2_pos.ne'
theorem kC_apply (j : S_.Idx) : kC j = ((1 / Real.log 2 : ℝ) : EReal) := by
  unfold kC; simp only [pointwise]; exact div_log

theorem kQs_apply (hq : Is192 q qr) (f : Fin 192) : kQs q (ix3 x h f) = ((qr x h f * (c1 * (1 / Real.log 2)) : ℝ) : EReal) := by
  unfold kQs; simp only [pointwise]
  rw [hq, kC_apply, c1_eq, ← EReal.coe_mul, ← EReal.coe_mul]

theorem lse_parts (A B : FVec Ideal S16x8192x1 .f32) (D : FVec Ideal S_ .f32) (j : S16x8192x1.Idx) (z : EReal) (hD : ∀ i, D i = z) :
    mulf (addf A (Host.log B)) (broadcastInDim S16x8192x1 ![] bcast_S_S16x8192x1 D) j = (A j + Ideal.log (B j) : EReal) * z :=
  congrArg (fun y : EReal => (A j + Ideal.log (B j) : EReal) * y) (hD _)
theorem kLse_parts (j : S16x8192x1.Idx) : kLse q k j = (kMx1 q k j + Ideal.log (kL1 q k j) : EReal) * ((1 / Real.log 2 : ℝ) : EReal) :=
  lse_parts _ _ _ j _ kC_apply

section
variable (hq : Is192 q qr) (hk : Is192 k kr)
include hq hk
theorem kS_apply : kS q k (ix3 h x u) = ((sc qr kr h x u : ℝ) : EReal) := by
  unfold kS; simp only [pointwise]; rw [zero_add, c1_eq]
  simp only [hq _ _ _, hk _ _ _, ← EReal.coe_mul]
  rw [← coe_sum, ← EReal.coe_mul]
  unfold sc
  rw [Finset.sum_mul]
  exact congrArg _ (Finset.sum_congr rfl fun e _ => by ring)
theorem kMs_apply : kMs q k (ix3 h x u) = Soft.msk (sc qr kr h x) (sees x) u := by
  unfold kMs kM; simp only [pointwise]
  refine (sel_le u x _ _).trans ?_
  exact if_congr Iff.rfl (kS_apply q k qr kr h x u hq hk) bot_eq
theorem kMx_apply : kMx q k (ix2 h x) = (Finset.univ : Finset (Fin 8192)).fold max (⊥ : EReal) (Soft.msk (sc qr kr h x) (sees x)) := by
  have e := max_row (kMs q k) reducesTo_S16x8192x8192_S16x8192_d2 h_S_ h x
  rw [show (fun u => kMs q k (ix3 h x u)) = Soft.msk (sc qr kr h x) (sees x) from funext fun u => kMs_apply q k qr kr h x u hq hk] at e
  exact e

variable (hμ : (Finset.univ : Finset (Fin 8192)).fold max (⊥ : EReal) (Soft.msk (sc qr kr h x) (sees x)) = ((μ : ℝ) : EReal))
include hμ
theorem kMx1_apply : kMx1 q k (ix3 h x 0) = ((μ : ℝ) : EReal) := by
  unfold kMx1
  have e := (kMx_apply q k qr kr h x hq hk).trans hμ
  generalize kMx q k = M at e ⊢
  simp only [pointwise]
  exact e
theorem kE_apply : kE q k (ix3 h x u) = Ideal.exp (Soft.msk (sc qr kr h x) (sees x) u - ((μ : ℝ) : EReal)) := by
  unfold kE; simp only [pointwise]
  exact congrArg Ideal.exp (congrArg₂ (· - ·) (kMs_apply q k qr kr h x u hq hk) (kMx1_apply q k qr kr h x μ hq hk hμ))
theorem kL1_apply : kL1 q k (ix3 h x 0) = ((Real.exp (-μ) * Soft.tot (sc qr kr h x) (sees x) : ℝ) : EReal) := by
  unfold kL1; simp only [pointwise]; rw [zero_add]
  exact (Finset.sum_congr rfl fun u _ => kE_apply q k qr kr h x u μ hq hk hμ).trans (Soft.sum_exp _ _ _)
theorem kPr_of : kPr q k (ix3 h x u) = ((pr qr kr h x u : ℝ) : EReal) := by
  unfold kPr; simp only [pointwise]
  refine (congrArg₂ Ideal.div (kE_apply q k qr kr h x u μ hq hk hμ) (kL1_apply q k qr kr h x μ hq hk hμ)).trans ?_
  exact Soft.div_exp _ _ μ (sees_some x) u
theorem kLse_apply : kLse q k (ix3 h x 0) = (((μ : ℝ) : EReal) + Ideal.log ((Real.exp (-μ) * Soft.tot (sc qr kr h x) (sees x) : ℝ) : EReal))
    * ((1 / Real.log 2 : ℝ) : EReal) := by
  have e1 := kMx1_apply q k qr kr h x μ hq hk hμ
  have e2 := kL1_apply q k qr kr h x μ hq hk hμ
  rw [kLse_parts, e1, e2]
end

theorem kPr_apply (hq : Is192 q qr) (hk : Is192 k kr) : kPr q k (ix3 h x u) = ((pr qr kr h x u : ℝ) : EReal) := by
  obtain ⟨μ, hμ⟩ := Soft.max_real (sc qr kr h x) (sees x) (sees_some x)
  exact kPr_of q k qr kr h x u μ hq hk hμ

theorem kO_apply (hq : Is192 q qr) (hk : Is192 k kr) (hv : Is128 v vr) (e : Fin 128) :
    kO q k v (ix3 x h e) = ((∑ u, vr u h e * pr qr kr h x u : ℝ) : EReal) := by
  unfold kO; simp only [pointwise]; rw [zero_add]
  simp only [hv _ _ _, kPr_apply q k qr kr _ _ _ hq hk, ← EReal.coe_mul]
  rw [← coe_sum]

theorem kPad_apply (w : A192) (C : Fin 4096) :
    kPad w (ix2 x C) = if g : C.val % 256 < 192 then w (ix3 x ⟨C.val / 256, by omega⟩ ⟨C.val % 256, g⟩) else (0 : EReal) := by
  unfold kPad
  exact (AttnFlat.pad256 w _ _ _ _ x C).trans (dite_congr rfl (fun _ => rfl) (fun _ => sitofp_zero))
theorem kKv_apply (C : Fin 4096) (g : ¬ C.val % 256 < 128) :
    kKv k v (ix2 x C) = v (ix3 x ⟨C.val / 256, by omega⟩ ⟨C.val % 256 - 128, by omega⟩) := by
  unfold kKv
  exact (AttnFlat.cat256 k v _ concatenates_S8192x16x128_S8192x16x128_S8192x16x256_d2 _ x C).trans (dif_neg g)
theorem kFlat_apply (C : Fin 2048) : kFlat d (ix2 x C) = d (ix3 x ⟨C.val / 128, by omega⟩ ⟨C.val % 128, by omega⟩) := by
  unfold kFlat
  exact AttnFlat.flat128 d _ x C

end Cert.AttnHost
-- ==== Proof.AttnChunk.lean ====
/- One chunk of 256 queries against a run of keys, read element by element over the extended reals: the scores, the
   probabilities, the gradient of the scores, and the three products added to the accumulators. -/
module

public import proofs.«01_k».proof.Proof.AttnBody
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Pipeline.Value

@[expose] public section

set_option synthInstance.maxHeartbeats 200000
set_option maxHeartbeats 1000000

noncomputable section

namespace Cert.AttnVal

open Cert.KernelIdeal Cert.KernelIdeal.Gen Idealize.ShloMosaic Idealize.ShloMosaic.TcCoe
open Idealize.ShloMosaic.ValueIdx
open scoped BigOperators

/-- A matrix shape. -/
abbrev M2 (a b : ℕ) : Shape := ⟨2, ![a, b]⟩

/-- The pattern of no bits is zero. -/
theorem zero_bits : Ideal.ofBits .f32 0x00000000#32 = 0 := by simp [Ideal.ofBits, Ideal.ieee]

/-- A product contracting both first coordinates, read at an element. -/
theorem matT_apply {K M N : ℕ} (wf : DotDims.WF (M2 K M) (M2 K N) (M2 M N) [0] [0] [1] [1] [] []) {φ₁ φ₂ : FTy}
    (lhs : FVec Ideal (M2 K M) φ₁) (rhs : FVec Ideal (M2 K N) φ₂) (acc : FVec Ideal (M2 M N) .f32) (r : Fin M) (c : Fin N) :
    FloatOps.matmul (F := Ideal) (⟨[0], [0], [1], [1], [], [], wf⟩ : DotDims (M2 K M) (M2 K N) (M2 M N)) none lhs rhs acc (ix2 r c)
      = acc (ix2 r c) + ∑ k : Fin K, lhs (ix2 k r) * rhs (ix2 k c) := by
  generalize hD : (⟨[0], [0], [1], [1], [], [], wf⟩ : DotDims (M2 K M) (M2 K N) (M2 M N)) = D
  have hr : D.contr.rank = 1 := by subst hD; rfl
  have hs : D.contr.size ⟨0, by omega⟩ = K := by subst hD; rfl
  rw [Ideal.matmul_apply, ← Equiv.sum_comp (contrEquiv1 D K hr hs).symm]
  refine congrArg (acc (ix2 r c) + ·) (Finset.sum_congr rfl fun k _ => ?_)
  have hk := contrEquiv1_symm_val D K hr hs k
  have el : D.lhsIdx (ix2 r c) ((contrEquiv1 D K hr hs).symm k) = ix2 k r := by
    subst hD
    funext a; apply Fin.ext
    match a with
    | ⟨0, _⟩ => exact hk
    | ⟨1, _⟩ => rfl
  have er : D.rhsIdx (ix2 r c) ((contrEquiv1 D K hr hs).symm k) = ix2 k c := by
    subst hD
    funext a; apply Fin.ext
    match a with
    | ⟨0, _⟩ => exact hk
    | ⟨1, _⟩ => rfl
  rw [el, er]

/-- Rows against rows. -/
def gS (N K : ℕ) (q : FVec Ideal (M2 256 K) .bf16) (k : FVec Ideal (M2 N K) .bf16) (h1 : (M2 256 K).ShapeCasts (M2 256 K))
    (h2 : (M2 N K).ShapeCasts (M2 N K)) : FVec Ideal (M2 256 N) .f32 :=
  matmul (F := Ideal) (φ₁ := .bf16) (φ₂ := .bf16) (DotDims.transposedRhs 256 K N) none (shapeCast (M2 256 K) q h1) (shapeCast (M2 N K) k h2) (constant (M2 256 N) .f32 0x00000000#32)

theorem gS_apply (N K : ℕ) (q : FVec Ideal (M2 256 K) .bf16) (k : FVec Ideal (M2 N K) .bf16) (h1 : (M2 256 K).ShapeCasts (M2 256 K))
    (h2 : (M2 N K).ShapeCasts (M2 N K)) (x : Fin 256) (u : Fin N) :
    gS N K q k h1 h2 (ix2 x u) = ∑ e : Fin K, (q (ix2 x e) : EReal) * k (ix2 u e) := by
  unfold gS
  rw [shapeCast_self, shapeCast_self]
  show FloatOps.matmul (F := Ideal) (φ₁ := .bf16) (φ₂ := .bf16) (DotDims.transposedRhs 256 K N) none q k (constant (M2 256 N) .f32 0x00000000#32) (ix2 x u) = _
  rw [Ideal.matmul_transposedRhs_apply]
  show Ideal.ofBits .f32 0x00000000#32 + _ = _
  rw [zero_bits, zero_add]

/-- A column spread over a row. -/
theorem col_apply (N : ℕ) (l : FVec Ideal ⟨3, ![1, 256, 1]⟩ .f32) (h : (⟨3, ![1, 256, 1]⟩ : Shape).ShapeCasts (M2 256 1))
    (hb : (M2 256 1).Broadcasts (M2 256 N)) (x : Fin 256) (u : Fin N) :
    broadcastTo (M2 256 N) (shapeCast (M2 256 1) l h) hb (ix2 x u) = l (ix3 0 x 0) := by
  rw [broadcastTo_apply _ hb (ix2 x u) (ix2 x 0) (by intro a; fin_cases a <;> rfl)]
  exact shapeCast_apply l h _ _ (by
    rw [Shape.rowMajor_val_three, Shape.rowMajor_val_two]
    show (0 * 256 + x.val) * 1 + 0 = x.val * 1 + 0
    omega)

/-- A row's sum spread over a row. -/
theorem rowsum_apply (N : ℕ) (y : FVec Ideal (M2 256 128) .f32) (hr : (M2 256 128).Reduces [1] ⟨1, ![256]⟩)
    (hf : FKind.Formats .f32) (ha : (0x00000000#32 : BitVec (FTy.f32).bits) = FKind.add.neutral .f32 hf) (h : (⟨1, ![256]⟩ : Shape).ShapeCasts (M2 256 1))
    (hb : (M2 256 1).Broadcasts (M2 256 N)) (x : Fin 256) (u : Fin N) :
    broadcastTo (M2 256 N) (shapeCast (M2 256 1) (multiReduction (F := Ideal) .add [1] ⟨1, ![256]⟩ y 0x00000000#32 hr hf ha) h) hb (ix2 x u)
      = ∑ c : Fin 128, (y (ix2 x c) : EReal) := by
  rw [broadcastTo_apply _ hb (ix2 x u) (ix2 x 0) (by intro a; fin_cases a <;> rfl)]
  rw [shapeCast_apply _ h _ (ix1 x) (by rw [Shape.rowMajor_val_one, Shape.rowMajor_val_two]; show x.val = x.val * 1 + 0; omega)]
  rw [Ideal.multiReduction_add_single]
  refine Finset.sum_congr rfl fun c _ => congrArg y ?_
  funext a; fin_cases a <;> rfl

/-- The probabilities of a chunk whose keys are all allowed. -/
def fP (N : ℕ) (s : FVec Ideal (M2 256 N) .f32) (l : FVec Ideal ⟨3, ![1, 256, 1]⟩ .f32) (h : (⟨3, ![1, 256, 1]⟩ : Shape).ShapeCasts (M2 256 1))
    (hb : (M2 256 1).Broadcasts (M2 256 N)) : FVec Ideal (M2 256 N) .f32 :=
  exp2 (subf s (broadcastTo (M2 256 N) (shapeCast (M2 256 1) l h) hb))

theorem fP_apply (N : ℕ) (s : FVec Ideal (M2 256 N) .f32) (l : FVec Ideal ⟨3, ![1, 256, 1]⟩ .f32) (h : (⟨3, ![1, 256, 1]⟩ : Shape).ShapeCasts (M2 256 1))
    (hb : (M2 256 1).Broadcasts (M2 256 N)) (x : Fin 256) (u : Fin N) :
    fP N s l h hb (ix2 x u) = Ideal.exp2 ((s (ix2 x u) : EReal) - l (ix3 0 x 0)) := by
  show Ideal.exp2 ((s (ix2 x u) : EReal) - broadcastTo (M2 256 N) (shapeCast (M2 256 1) l h) hb (ix2 x u)) = _
  rw [col_apply]

/-- The probabilities of a chunk on the diagonal: zero at the keys after the query. -/
def gP (N : ℕ) (b : BitVec 32) (s : FVec Ideal (M2 256 N) .f32) (l : FVec Ideal ⟨3, ![1, 256, 1]⟩ .f32) (h : (⟨3, ![1, 256, 1]⟩ : Shape).ShapeCasts (M2 256 1))
    (hb : (M2 256 1).Broadcasts (M2 256 N)) (h1 : (M2 256 N).Iotas .tc 32 [1]) (h0 : (M2 256 N).Iotas .tc 32 [0]) : FVec Ideal (M2 256 N) .f32 :=
  select (cmpi .sle (iota .tc (M2 256 N) 32 [1] h1) (addi (broadcast (M2 256 N) b) (iota .tc (M2 256 N) 32 [0] h0)))
    (fP N s l h hb) (broadcast (M2 256 N) (Scalar.ofBits (F := Ideal) .f32 0x00000000#32))

theorem gP_apply (N : ℕ) (hN : N ≤ 1024) (r : ℕ) (hr : r < 4) (s : FVec Ideal (M2 256 N) .f32) (l : FVec Ideal ⟨3, ![1, 256, 1]⟩ .f32) (h : (⟨3, ![1, 256, 1]⟩ : Shape).ShapeCasts (M2 256 1))
    (hb : (M2 256 1).Broadcasts (M2 256 N)) (h1 : (M2 256 N).Iotas .tc 32 [1]) (h0 : (M2 256 N).Iotas .tc 32 [0]) (x : Fin 256) (u : Fin N) :
    gP N (BitVec.ofNat 32 (256 * r)) s l h hb h1 h0 (ix2 x u)
      = if u.val ≤ 256 * r + x.val then Ideal.exp2 ((s (ix2 x u) : EReal) - l (ix3 0 x 0)) else 0 := by
  have hx := x.isLt; have hu := u.isLt
  show Scalar.select (IntOp.cmpi .sle (BitVec.ofNat 32 (0 * _ + u.val)) (BitVec.ofNat 32 (256 * r) + BitVec.ofNat 32 (0 * _ + x.val)))
    (fP N s l h hb (ix2 x u)) (Ideal.ofBits .f32 0x00000000#32) = _
  rw [fP_apply, zero_bits]
  have hc : (BitVec.ofNat 32 (0 * (M2 256 N).size 1 + u.val)).sle (BitVec.ofNat 32 (256 * r) + BitVec.ofNat 32 (0 * (M2 256 N).size 0 + x.val))
      = decide (u.val ≤ 256 * r + x.val) := by
    rw [← BitVec.ofNat_add, zero_mul, zero_add, zero_mul, zero_add, BitVec.sle]
    refine decide_eq_decide.2 ?_
    rw [BitVec.toInt_eq_toNat_of_lt (by rw [BitVec.toNat_ofNat, Nat.mod_eq_of_lt (by omega)]; omega),
      BitVec.toInt_eq_toNat_of_lt (by rw [BitVec.toNat_ofNat, Nat.mod_eq_of_lt (by omega)]; omega),
      BitVec.toNat_ofNat, BitVec.toNat_ofNat, Nat.mod_eq_of_lt (by omega), Nat.mod_eq_of_lt (by omega)]
    omega
  show (if BitVec.ofBool ((BitVec.ofNat 32 (0 * (M2 256 N).size 1 + u.val)).sle (BitVec.ofNat 32 (256 * r) + BitVec.ofNat 32 (0 * (M2 256 N).size 0 + x.val))) = 1 then _ else _) = _
  rw [hc]
  by_cases hle : u.val ≤ 256 * r + x.val
  · rw [if_pos hle, if_pos (by simp [hle])]
  · rw [if_neg hle, if_neg (by simp [hle])]

/-- The gradient of the scores of a chunk. -/
def gD (N : ℕ) (p : FVec Ideal (M2 256 N) .f32) (d o : FVec Ideal (M2 256 128) .bf16) (v : FVec Ideal (M2 N 128) .bf16)
    (h1 : (M2 256 128).ShapeCasts (M2 256 128)) (h2 : (M2 N 128).ShapeCasts (M2 N 128)) (hr : (M2 256 128).Reduces [1] ⟨1, ![256]⟩)
    (hf : FKind.Formats .f32) (ha : (0x00000000#32 : BitVec (FTy.f32).bits) = FKind.add.neutral .f32 hf) (h : (⟨1, ![256]⟩ : Shape).ShapeCasts (M2 256 1))
    (hb : (M2 256 1).Broadcasts (M2 256 N)) (hw : (FTy.bf16).bits < (FTy.f32).bits) : FVec Ideal (M2 256 N) .bf16 :=
  truncf .bf16 (mulf p (subf (gS N 128 d v h1 h2)
    (broadcastTo (M2 256 N) (shapeCast (M2 256 1) (multiReduction (F := Ideal) .add [1] ⟨1, ![256]⟩
      (mulf (extf .f32 (shapeCast (M2 256 128) d h1) hw) (extf .f32 (shapeCast (M2 256 128) o h1) hw)) 0x00000000#32 hr hf ha) h) hb))) hw

theorem gD_apply (N : ℕ) (p : FVec Ideal (M2 256 N) .f32) (d o : FVec Ideal (M2 256 128) .bf16) (v : FVec Ideal (M2 N 128) .bf16)
    (h1 : (M2 256 128).ShapeCasts (M2 256 128)) (h2 : (M2 N 128).ShapeCasts (M2 N 128)) (hr : (M2 256 128).Reduces [1] ⟨1, ![256]⟩)
    (hf : FKind.Formats .f32) (ha : (0x00000000#32 : BitVec (FTy.f32).bits) = FKind.add.neutral .f32 hf) (h : (⟨1, ![256]⟩ : Shape).ShapeCasts (M2 256 1))
    (hb : (M2 256 1).Broadcasts (M2 256 N)) (hw : (FTy.bf16).bits < (FTy.f32).bits) (x : Fin 256) (u : Fin N) :
    gD N p d o v h1 h2 hr hf ha h hb hw (ix2 x u)
      = (p (ix2 x u) : EReal) * ((∑ c : Fin 128, (d (ix2 x c) : EReal) * v (ix2 u c)) - ∑ c : Fin 128, (d (ix2 x c) : EReal) * o (ix2 x c)) := by
  show (p (ix2 x u) : EReal) * (gS N 128 d v h1 h2 (ix2 x u) - broadcastTo (M2 256 N) _ hb (ix2 x u)) = _
  rw [gS_apply, rowsum_apply, shapeCast_self, shapeCast_self]
  rfl

/-- A chunk's columns against its rows, added to an accumulator. -/
def aT (N C : ℕ) (p : FVec Ideal (M2 256 N) .bf16) (y : FVec Ideal (M2 256 C) .bf16) (X : FVec Ideal (M2 N C) .f32)
    (wf : DotDims.WF (M2 256 N) (M2 256 C) (M2 N C) [0] [0] [1] [1] [] []) (h1 : (M2 256 C).ShapeCasts (M2 256 C)) (h2 : (M2 N C).ShapeCasts (M2 N C)) : FVec Ideal (M2 N C) .f32 :=
  shapeCast (M2 N C) (addf X (matmul (F := Ideal) (φ₁ := .bf16) (φ₂ := .bf16) (⟨[0], [0], [1], [1], [], [], wf⟩ : DotDims (M2 256 N) (M2 256 C) (M2 N C)) none p (shapeCast (M2 256 C) y h1) (constant (M2 N C) .f32 0x00000000#32))) h2

theorem aT_apply (N C : ℕ) (p : FVec Ideal (M2 256 N) .bf16) (y : FVec Ideal (M2 256 C) .bf16) (X : FVec Ideal (M2 N C) .f32)
    (wf : DotDims.WF (M2 256 N) (M2 256 C) (M2 N C) [0] [0] [1] [1] [] []) (h1 : (M2 256 C).ShapeCasts (M2 256 C)) (h2 : (M2 N C).ShapeCasts (M2 N C)) (u : Fin N) (c : Fin C) :
    aT N C p y X wf h1 h2 (ix2 u c) = (X (ix2 u c) : EReal) + ∑ x : Fin 256, (p (ix2 x u) : EReal) * y (ix2 x c) := by
  unfold aT
  rw [shapeCast_self, shapeCast_self]
  show (X (ix2 u c) : EReal) + FloatOps.matmul (F := Ideal) (φ₁ := .bf16) (φ₂ := .bf16) (⟨[0], [0], [1], [1], [], [], wf⟩ : DotDims (M2 256 N) (M2 256 C) (M2 N C)) none p y (constant (M2 N C) .f32 0x00000000#32) (ix2 u c) = _
  rw [matT_apply]
  show _ + (Ideal.ofBits .f32 0x00000000#32 + _) = _
  rw [zero_bits, zero_add]

/-- A chunk's rows against columns, added to an accumulator. -/
def aP (N : ℕ) (p : FVec Ideal (M2 256 N) .bf16) (k : FVec Ideal (M2 N 256) .bf16) (X : FVec Ideal (M2 256 256) .f32)
    (h1 : (M2 N 256).ShapeCasts (M2 N 256)) (h2 : (M2 256 256).ShapeCasts (M2 256 256)) : FVec Ideal (M2 256 256) .f32 :=
  addf (shapeCast (M2 256 256) X h2) (matmul (F := Ideal) (φ₁ := .bf16) (φ₂ := .bf16) (DotDims.plain 256 N 256) none p (shapeCast (M2 N 256) k h1) (constant (M2 256 256) .f32 0x00000000#32))

theorem aP_apply (N : ℕ) (p : FVec Ideal (M2 256 N) .bf16) (k : FVec Ideal (M2 N 256) .bf16) (X : FVec Ideal (M2 256 256) .f32)
    (h1 : (M2 N 256).ShapeCasts (M2 N 256)) (h2 : (M2 256 256).ShapeCasts (M2 256 256)) (x : Fin 256) (e : Fin 256) :
    aP N p k X h1 h2 (ix2 x e) = (X (ix2 x e) : EReal) + ∑ u : Fin N, (p (ix2 x u) : EReal) * k (ix2 u e) := by
  unfold aP
  rw [shapeCast_self, shapeCast_self]
  show (X (ix2 x e) : EReal) + FloatOps.matmul (F := Ideal) (φ₁ := .bf16) (φ₂ := .bf16) (DotDims.plain 256 N 256) none p k (constant (M2 256 256) .f32 0x00000000#32) (ix2 x e) = _
  rw [Ideal.matmul_plain_apply]
  show _ + (Ideal.ofBits .f32 0x00000000#32 + _) = _
  rw [zero_bits, zero_add]

end Cert.AttnVal
-- ==== Proof.AttnPair.lean ====
/- One pair of a query block and a key block, read element by element over the extended reals: what each of the three
   accumulators gains, off the diagonal and on it. -/
module

public import proofs.«01_k».proof.Proof.AttnChunk

@[expose] public section

set_option synthInstance.maxHeartbeats 200000
set_option maxHeartbeats 1000000

noncomputable section

namespace Cert.AttnVal

open Cert.KernelIdeal Cert.KernelIdeal.Gen Cert.Attn Idealize.ShloMosaic Idealize.ShloMosaic.TcCoe
open Idealize.ShloMosaic.ValueIdx
open scoped BigOperators

/-- Row `x` of chunk `r`. -/
def cx (r : Fin 4) (x : Fin 256) : Fin 1024 := ⟨256 * r.val + x.val, by omega⟩

theorem sum_cx {β : Type} [AddCommMonoid β] (f : Fin 1024 → β) : ∑ x, f x = ∑ r : Fin 4, ∑ x : Fin 256, f (cx r x) := by
  rw [← Finset.sum_product', Finset.univ_product_univ]
  refine (Fintype.sum_bijective (fun p : Fin 4 × Fin 256 => cx p.1 p.2) ?_ _ _ (fun _ => rfl)).symm
  refine ⟨fun a b h => ?_, fun y => ⟨(⟨y.val / 256, by omega⟩, ⟨y.val % 256, by omega⟩), Fin.ext ?_⟩⟩
  · have h' : 256 * a.1.val + a.2.val = 256 * b.1.val + b.2.val := congrArg Fin.val h
    have := a.2.isLt; have := b.2.isLt
    exact Prod.ext (Fin.ext (by omega)) (Fin.ext (by omega))
  · show 256 * (y.val / 256) + y.val % 256 = y.val
    omega

/-- The rows of a block from one offset on. -/
theorem ld_rows {A B C : ℕ} {e : EltTy} (X : Vec Ideal (M2 A C) e) (o : Fin 2 → ℕ) (off : ℕ) (ho : o = ![off, 0])
    (inb : ∀ a, o a + (M2 B C).size a ≤ (M2 A C).size a) (x : Fin B) (c : Fin C) (h : off + x.val < A) :
    View.ld X (Rect.unit (s := M2 A C) o (M2 B C).size inb) (ix2 x c) = X (ix2 ⟨off + x.val, h⟩ c) := by
  subst ho
  show X ((Rect.unit (s := M2 A C) ![off, 0] (M2 B C).size inb).idx (ix2 x c)) = _
  congr 1
  funext a; apply Fin.ext
  match a with
  | ⟨0, _⟩ => show off + 1 * x.val = off + x.val; omega
  | ⟨1, _⟩ => show 0 + 1 * c.val = c.val; omega

/-- Rows written over a block from one offset on. -/
theorem ov_rows {A B C : ℕ} {e : EltTy} (X : Vec Ideal (M2 A C) e) (o : Fin 2 → ℕ) (off : ℕ) (ho : o = ![off, 0])
    (inb : ∀ a, o a + (M2 B C).size a ≤ (M2 A C).size a) (G : Vec Ideal (M2 B C) e) (a : Fin A) (c : Fin C) :
    (Rect.unit (s := M2 A C) o (M2 B C).size inb).overlay X G (ix2 a c)
      = if h : off ≤ a.val ∧ a.val < off + B then G (ix2 ⟨a.val - off, by omega⟩ c) else X (ix2 a c) := by
  subst ho
  split
  · rename_i h
    have e1 : (ix2 a c : (M2 A C).Idx) = (Rect.unit (s := M2 A C) ![off, 0] (M2 B C).size inb).emb (ix2 ⟨a.val - off, by omega⟩ c) := by
      funext b; apply Fin.ext
      match b with
      | ⟨0, _⟩ => show a.val = off + 1 * (a.val - off); omega
      | ⟨1, _⟩ => show c.val = 0 + 1 * c.val; omega
    rw [e1]; exact Rect.overlay_emb _ _ _ _
  · rename_i h
    refine Rect.overlay_of_not_mem _ _ _ fun hm => h ?_
    have h0 : off ≤ a.val ∧ a.val < off + B := Rect.mem_set_unit.1 hm 0
    exact h0

section Chunk
variable (q k : Vec Ideal S1024x256 .bf16) (v o d : Vec Ideal S1024x128 .bf16) (l : Vec Ideal S1x1024x1 .f32)

/-- The probability of a key at a query, before the mask. -/
def bP (x u : Fin 1024) : EReal := Ideal.exp2 ((∑ e : Fin 256, (q (ix2 x e) : EReal) * k (ix2 u e)) - l (ix3 0 x 0))

/-- The gradient of a probability, less the query's mean of it. -/
def bE (x u : Fin 1024) : EReal := (∑ c : Fin 128, (d (ix2 x c) : EReal) * v (ix2 u c)) - ∑ c : Fin 128, (d (ix2 x c) : EReal) * o (ix2 x c)

/-- The probability under the mask of a block on the diagonal. -/
def bM (x u : Fin 1024) : EReal := if u.val ≤ x.val then bP q k l x u else 0

/-- The chunk of a block of queries that starts at row `256 r`. -/
structure Chunk (r : Fin 4) (qr : FVec Ideal (M2 256 256) .bf16) (dr or' : FVec Ideal (M2 256 128) .bf16) (lr : FVec Ideal ⟨3, ![1, 256, 1]⟩ .f32) : Prop where
  q : ∀ x e, qr (ix2 x e) = q (ix2 (cx r x) e)
  d : ∀ x c, dr (ix2 x c) = d (ix2 (cx r x) c)
  o : ∀ x c, or' (ix2 x c) = o (ix2 (cx r x) c)
  l : ∀ x, lr (ix3 0 x 0) = l (ix3 0 (cx r x) 0)

theorem ld_col (r : Fin 4) (inb : ∀ a, (![0, 256 * r.val, 0] : Fin 3 → ℕ) a + S1x256x1.size a ≤ S1x1024x1.size a) (x : Fin 256) :
    View.ld l (Rect.unit (s := S1x1024x1) ![0, 256 * r.val, 0] S1x256x1.size inb) (ix3 0 x 0) = l (ix3 0 (cx r x) 0) := by
  show l ((Rect.unit (s := S1x1024x1) ![0, 256 * r.val, 0] S1x256x1.size inb).idx (ix3 0 x 0)) = _
  congr 1
  funext a; apply Fin.ext
  match a with
  | ⟨0, _⟩ => rfl
  | ⟨1, _⟩ => show 256 * r.val + 1 * x.val = 256 * r.val + x.val; omega
  | ⟨2, _⟩ => rfl

theorem chunk0 : Chunk q o d l 0 (qC0 q) (dC0 d) (oC0 o) (lC0 l) :=
  ⟨fun x e => ld_rows q _ 0 rfl _ x e _, fun x e => ld_rows d _ 0 rfl _ x e _, fun x e => ld_rows o _ 0 rfl _ x e _, fun x => ld_col l 0 _ x⟩
theorem chunk1 : Chunk q o d l 1 (qC1 q) (dC1 d) (oC1 o) (lC1 l) :=
  ⟨fun x e => ld_rows q _ 256 rfl _ x e _, fun x e => ld_rows d _ 256 rfl _ x e _, fun x e => ld_rows o _ 256 rfl _ x e _, fun x => ld_col l 1 _ x⟩
theorem chunk2 : Chunk q o d l 2 (qC2 q) (dC2 d) (oC2 o) (lC2 l) :=
  ⟨fun x e => ld_rows q _ 512 rfl _ x e _, fun x e => ld_rows d _ 512 rfl _ x e _, fun x e => ld_rows o _ 512 rfl _ x e _, fun x => ld_col l 2 _ x⟩
theorem chunk3 : Chunk q o d l 3 (qC3 q) (dC3 d) (oC3 o) (lC3 l) :=
  ⟨fun x e => ld_rows q _ 768 rfl _ x e _, fun x e => ld_rows d _ 768 rfl _ x e _, fun x e => ld_rows o _ 768 rfl _ x e _, fun x => ld_col l 3 _ x⟩

variable {q k v o d l}
variable {r : Fin 4} {qr : FVec Ideal (M2 256 256) .bf16} {dr or' : FVec Ideal (M2 256 128) .bf16} {lr : FVec Ideal ⟨3, ![1, 256, 1]⟩ .f32}

/-- The chunk's probabilities, every key allowed. -/
theorem fP_chunk (h : Chunk q o d l r qr dr or' lr) (h1 h2 h3 hb) (x : Fin 256) (u : Fin 1024) :
    fP 1024 (gS 1024 256 qr k h1 h2) lr h3 hb (ix2 x u) = bP q k l (cx r x) u := by
  rw [fP_apply, gS_apply, h.l]
  simp only [h.q]; rfl

/-- The chunk's probabilities on the diagonal, of the first `N` keys. -/
theorem gP_chunk (h : Chunk q o d l r qr dr or' lr) (N : ℕ) (hN : N ≤ 1024) (kr : FVec Ideal (M2 N 256) .bf16)
    (hk : ∀ (u : Fin N) e, kr (ix2 u e) = k (ix2 (u.castLE hN) e)) (h1 h2 h3 hb hi1 hi0) (x : Fin 256) (u : Fin N) :
    gP N (BitVec.ofNat 32 (256 * r.val)) (gS N 256 qr kr h1 h2) lr h3 hb hi1 hi0 (ix2 x u) = bM q k l (cx r x) (u.castLE hN) := by
  rw [gP_apply N hN r.val r.isLt, gS_apply, h.l]
  simp only [h.q, hk]; rfl

/-- The gradient of the chunk's scores. -/
theorem gD_chunk (h : Chunk q o d l r qr dr or' lr) (N : ℕ) (hN : N ≤ 1024) (vr : FVec Ideal (M2 N 128) .bf16)
    (hv : ∀ (u : Fin N) e, vr (ix2 u e) = v (ix2 (u.castLE hN) e)) (p : FVec Ideal (M2 256 N) .f32) (g : Fin 1024 → Fin 1024 → EReal)
    (hp : ∀ x u, p (ix2 x u) = g (cx r x) (u.castLE hN)) (h1 h2 hr hf ha h5 hb hw) (x : Fin 256) (u : Fin N) :
    gD N p dr or' vr h1 h2 hr hf ha h5 hb hw (ix2 x u) = g (cx r x) (u.castLE hN) * bE v o d (cx r x) (u.castLE hN) := by
  rw [gD_apply, hp]
  simp only [h.d, h.o, hv]; rfl

/-- A sum over the keys that vanishes past the first `N`. -/
theorem sum_castLE (N : ℕ) (hN : N ≤ 1024) (f : Fin 1024 → EReal) (hf : ∀ u : Fin 1024, N ≤ u.val → f u = 0) :
    ∑ u : Fin N, f (u.castLE hN) = ∑ u, f u := by
  refine Fintype.sum_of_injective (Fin.castLE hN) (Fin.castLE_injective hN) _ _ (fun u hu => hf u ?_) (fun _ => rfl)
  by_contra hlt
  exact hu ⟨⟨u.val, by omega⟩, rfl⟩

/-- A product added to the first `N` rows of an accumulator, as a product added to all of them. -/
theorem aT_rows (N C : ℕ) (hN : N ≤ 1024) (p : FVec Ideal (M2 256 N) .bf16) (y : FVec Ideal (M2 256 C) .bf16) (X : Vec Ideal (M2 1024 C) .f32)
    (wf h1 h2) (oo : Fin 2 → ℕ) (ho : oo = ![0, 0]) (inb : ∀ a, oo a + (M2 N C).size a ≤ (M2 1024 C).size a)
    (g : Fin 256 → Fin 1024 → EReal) (hp : ∀ x u, p (ix2 x u) = g x (u.castLE hN)) (hg : ∀ x (u : Fin 1024), N ≤ u.val → g x u = 0) (u : Fin 1024) (c : Fin C) :
    (Rect.unit (s := M2 1024 C) oo (M2 N C).size inb).overlay X
        (aT N C p y (View.ld X (Rect.unit (s := M2 1024 C) oo (M2 N C).size inb)) wf h1 h2) (ix2 u c)
      = (X (ix2 u c) : EReal) + ∑ x : Fin 256, g x u * y (ix2 x c) := by
  rw [ov_rows X oo 0 ho]
  split
  · rename_i h
    rw [aT_apply, ld_rows X oo 0 ho inb _ _ (by show 0 + (u.val - 0) < 1024; omega)]
    congr 1
    · congr 1; congr 1; apply Fin.ext; show 0 + (u.val - 0) = u.val; omega
    · refine Finset.sum_congr rfl fun x _ => ?_
      rw [hp]; rfl
  · rename_i h
    have hu : N ≤ u.val := by omega
    rw [Finset.sum_eq_zero (fun x _ => by rw [hg x u hu, zero_mul]), add_zero]

/-- The row of the query block that a row of the whole array is. -/
def rl (R : Fin 8192) : Fin 1024 := ⟨R.val % 1024, by omega⟩

/-- A product added to the rows of one chunk of the whole array of query gradients. -/
theorem aP_rows (N : ℕ) (hN : N ≤ 1024) (i : ℕ) (p : FVec Ideal (M2 256 N) .bf16) (kr : FVec Ideal (M2 N 256) .bf16) (X : Vec Ideal (M2 8192 256) .f32)
    (hk : ∀ (u : Fin N) e, kr (ix2 u e) = k (ix2 (u.castLE hN) e))
    (h1 h2) (oo : Fin 2 → ℕ) (ho : oo = ![1024 * i + 256 * r.val, 0]) (inb : ∀ a, oo a + (M2 256 256).size a ≤ (M2 8192 256).size a)
    (g : Fin 1024 → Fin 1024 → EReal) (hp : ∀ x u, p (ix2 x u) = g (cx r x) (u.castLE hN)) (hg : ∀ x (u : Fin 1024), N ≤ u.val → g (cx r x) u = 0)
    (R : Fin 8192) (c : Fin 256) :
    (Rect.unit (s := M2 8192 256) oo (M2 256 256).size inb).overlay X
        (aP N p kr (View.ld X (Rect.unit (s := M2 8192 256) oo (M2 256 256).size inb)) h1 h2) (ix2 R c)
      = (X (ix2 R c) : EReal) + (if R.val / 256 = 4 * i + r.val then ∑ u : Fin 1024, g (rl R) u * k (ix2 u c) else 0) := by
  have hr := r.isLt
  rw [ov_rows X oo _ ho]
  split
  · rename_i h
    rw [if_pos (by omega), aP_apply, ld_rows X oo _ ho inb _ _ (by show 1024 * i + 256 * r.val + (R.val - (1024 * i + 256 * r.val)) < 8192; omega)]
    have ec : cx r ⟨R.val - (1024 * i + 256 * r.val), by omega⟩ = rl R := Fin.ext (by show 256 * r.val + (R.val - (1024 * i + 256 * r.val)) = R.val % 1024; omega)
    congr 1
    · congr 1; congr 1; apply Fin.ext; show 1024 * i + 256 * r.val + (R.val - (1024 * i + 256 * r.val)) = R.val; omega
    · rw [← sum_castLE N hN (fun u => g (rl R) u * k (ix2 u c)) (fun u hu => by rw [← ec, hg _ u hu, zero_mul])]
      refine Finset.sum_congr rfl fun u _ => ?_
      rw [hp, hk, ec]
  · rename_i h
    rw [if_neg (by omega), add_zero]

end Chunk

end Cert.AttnVal
-- ==== Proof.AttnPairSum.lean ====
/- One pair of a query block and a key block as a whole: each of the three accumulators gains one sum over the pair's
   queries or keys, with every key allowed off the diagonal and under the mask on it. -/
module

public import proofs.«01_k».proof.Proof.AttnPair

@[expose] public section

set_option synthInstance.maxHeartbeats 200000
set_option maxHeartbeats 4000000

noncomputable section

namespace Cert.AttnVal

open Cert.KernelIdeal Cert.KernelIdeal.Gen Cert.Attn Idealize.ShloMosaic Idealize.ShloMosaic.TcCoe
open Idealize.ShloMosaic.ValueIdx
open scoped BigOperators

theorem h1024 : 1024 ≤ 1024 := le_refl _
theorem h768 : 768 ≤ 1024 := by decide
theorem h512 : 512 ≤ 1024 := by decide
theorem h256 : 256 ≤ 1024 := by decide

section
variable (q k : Vec Ideal S1024x256 .bf16) (v o d : Vec Ideal S1024x128 .bf16) (l : Vec Ideal S1x1024x1 .f32)

/-- The gradient of a score, before the mask. -/
def bD (x u : Fin 1024) : EReal := bP q k l x u * bE v o d x u
/-- The gradient of a score under the mask of a block on the diagonal. -/
def bN (x u : Fin 1024) : EReal := bM q k l x u * bE v o d x u

theorem bM_zero (r : Fin 4) (x : Fin 256) (u : Fin 1024) (h : 256 * (r.val + 1) ≤ u.val) : bM q k l (cx r x) u = 0 := by
  unfold bM
  rw [if_neg]
  show ¬ u.val ≤ 256 * r.val + x.val
  have := x.isLt; omega

theorem bN_zero (r : Fin 4) (x : Fin 256) (u : Fin 1024) (h : 256 * (r.val + 1) ≤ u.val) : bN q k v o d l (cx r x) u = 0 := by
  unfold bN; rw [bM_zero q k l r x u h, zero_mul]

theorem kT256_apply (u : Fin 256) (e : Fin 256) : kT256 k (ix2 u e) = k (ix2 (u.castLE h256) e) := by
  refine (ld_rows k _ 0 rfl _ u e (by have := u.isLt; omega)).trans ?_
  congr 2; apply Fin.ext; exact Nat.zero_add _
theorem kT512_apply (u : Fin 512) (e : Fin 256) : kT512 k (ix2 u e) = k (ix2 (u.castLE h512) e) := by
  refine (ld_rows k _ 0 rfl _ u e (by have := u.isLt; omega)).trans ?_
  congr 2; apply Fin.ext; exact Nat.zero_add _
theorem kT768_apply (u : Fin 768) (e : Fin 256) : kT768 k (ix2 u e) = k (ix2 (u.castLE h768) e) := by
  refine (ld_rows k _ 0 rfl _ u e (by have := u.isLt; omega)).trans ?_
  congr 2; apply Fin.ext; exact Nat.zero_add _
theorem vT256_apply (u : Fin 256) (e : Fin 128) : vT256 v (ix2 u e) = v (ix2 (u.castLE h256) e) := by
  refine (ld_rows v _ 0 rfl _ u e (by have := u.isLt; omega)).trans ?_
  congr 2; apply Fin.ext; exact Nat.zero_add _
theorem vT512_apply (u : Fin 512) (e : Fin 128) : vT512 v (ix2 u e) = v (ix2 (u.castLE h512) e) := by
  refine (ld_rows v _ 0 rfl _ u e (by have := u.isLt; omega)).trans ?_
  congr 2; apply Fin.ext; exact Nat.zero_add _
theorem vT768_apply (u : Fin 768) (e : Fin 128) : vT768 v (ix2 u e) = v (ix2 (u.castLE h768) e) := by
  refine (ld_rows v _ 0 rfl _ u e (by have := u.isLt; omega)).trans ?_
  congr 2; apply Fin.ext; exact Nat.zero_add _

theorem fSv0_apply (X : Vec Ideal S1024x128 .f32) (u : Fin 1024) (c : Fin 128) :
    fSv0 q k v o d l X (ix2 u c) = (X (ix2 u c) : EReal) + ∑ x : Fin 256, bP q k l (cx 0 x) u * d (ix2 (cx 0 x) c) := by
  have h := chunk0 q o d l
  refine (aT_apply 1024 128 (truncf .bf16 (fP 1024 (gS 1024 256 (qC0 q) k shapeCasts_S256x256_S256x256 shapeCasts_S1024x256_S1024x256) (lC0 l) shapeCasts_S1x256x1_S256x1 broadcasts_S256x1_S256x1024) bitsLt_bf16_f32) (dC0 d) X dot_S256x1024_S256x128_S1024x128_0_0_1_1_n_n.wf shapeCasts_S256x128_S256x128 shapeCasts_S1024x128_S1024x128 u c).trans ?_
  refine congrArg (X (ix2 u c) + ·) (Finset.sum_congr rfl fun x _ => ?_)
  rw [h.d]
  exact congrArg (· * d (ix2 (cx 0 x) c)) (fP_chunk h _ _ _ _ x u)

theorem fD0_apply (x : Fin 256) (u : Fin 1024) : (gD 1024 (fP 1024 (gS 1024 256 (qC0 q) k shapeCasts_S256x256_S256x256 shapeCasts_S1024x256_S1024x256) (lC0 l) shapeCasts_S1x256x1_S256x1 broadcasts_S256x1_S256x1024) (dC0 d) (oC0 o) v shapeCasts_S256x128_S256x128 shapeCasts_S1024x128_S1024x128 reduces_S256x128_S256 (.inl rfl) rfl shapeCasts_S256_S256x1 broadcasts_S256x1_S256x1024 bitsLt_bf16_f32) (ix2 x u) = bD q k v o d l (cx 0 x) u :=
  gD_chunk (chunk0 q o d l) 1024 h1024 v (fun _ _ => rfl) (fP 1024 (gS 1024 256 (qC0 q) k shapeCasts_S256x256_S256x256 shapeCasts_S1024x256_S1024x256) (lC0 l) shapeCasts_S1x256x1_S256x1 broadcasts_S256x1_S256x1024) (bP q k l) (fun x u => fP_chunk (chunk0 q o d l) _ _ _ _ x u) _ _ _ _ _ _ _ _ x u

theorem fSk0_apply (X : Vec Ideal S1024x256 .f32) (u : Fin 1024) (e : Fin 256) :
    fSk0 q k v o d l X (ix2 u e) = (X (ix2 u e) : EReal) + ∑ x : Fin 256, bD q k v o d l (cx 0 x) u * q (ix2 (cx 0 x) e) := by
  have h := chunk0 q o d l
  refine (aT_apply 1024 256 (gD 1024 (fP 1024 (gS 1024 256 (qC0 q) k shapeCasts_S256x256_S256x256 shapeCasts_S1024x256_S1024x256) (lC0 l) shapeCasts_S1x256x1_S256x1 broadcasts_S256x1_S256x1024) (dC0 d) (oC0 o) v shapeCasts_S256x128_S256x128 shapeCasts_S1024x128_S1024x128 reduces_S256x128_S256 (.inl rfl) rfl shapeCasts_S256_S256x1 broadcasts_S256x1_S256x1024 bitsLt_bf16_f32) (qC0 q) X dot_S256x1024_S256x256_S1024x256_0_0_1_1_n_n.wf shapeCasts_S256x256_S256x256 shapeCasts_S1024x256_S1024x256 u e).trans ?_
  refine congrArg (X (ix2 u e) + ·) (Finset.sum_congr rfl fun x _ => ?_)
  rw [h.q, fD0_apply q k v o d l x u]

theorem fDq0_apply (v1 v3 : Elt Ideal .i32) (hw1 : k0_chk1 v1 v3) (h2 : k0_cond2 v1 v3 = 1#1) (i : ℕ) (hi : k0_off2 v1 0#32 = ![1024 * i + 0, 0])
    (X : Vec Ideal S8192x256 .f32) (R : Fin 8192) (e : Fin 256) :
    fDq0 v1 v3 hw1 h2 q k v o d l X (ix2 R e) = (X (ix2 R e) : EReal) + (if R.val / 256 = 4 * i + 0 then ∑ u : Fin 1024, bD q k v o d l (rl R) u * k (ix2 u e) else 0) :=
  aP_rows (k := k) (r := 0) 1024 h1024 i (gD 1024 (fP 1024 (gS 1024 256 (qC0 q) k shapeCasts_S256x256_S256x256 shapeCasts_S1024x256_S1024x256) (lC0 l) shapeCasts_S1x256x1_S256x1 broadcasts_S256x1_S256x1024) (dC0 d) (oC0 o) v shapeCasts_S256x128_S256x128 shapeCasts_S1024x128_S1024x128 reduces_S256x128_S256 (.inl rfl) rfl shapeCasts_S256_S256x1 broadcasts_S256x1_S256x1024 bitsLt_bf16_f32) k X (fun _ _ => rfl) shapeCasts_S1024x256_S1024x256 shapeCasts_S256x256_S256x256 (k0_off2 v1 0#32) hi (k0_off2_inb v1 v3 hw1 h2 0) (bD q k v o d l)
    (fun x u => fD0_apply q k v o d l x u) (fun _ u hu => absurd u.isLt (by omega)) R e

theorem fSv1_apply (X : Vec Ideal S1024x128 .f32) (u : Fin 1024) (c : Fin 128) :
    fSv1 q k v o d l X (ix2 u c) = (X (ix2 u c) : EReal) + ∑ x : Fin 256, bP q k l (cx 1 x) u * d (ix2 (cx 1 x) c) := by
  have h := chunk1 q o d l
  refine (aT_apply 1024 128 (truncf .bf16 (fP 1024 (gS 1024 256 (qC1 q) k shapeCasts_S256x256_S256x256 shapeCasts_S1024x256_S1024x256) (lC1 l) shapeCasts_S1x256x1_S256x1 broadcasts_S256x1_S256x1024) bitsLt_bf16_f32) (dC1 d) X dot_S256x1024_S256x128_S1024x128_0_0_1_1_n_n.wf shapeCasts_S256x128_S256x128 shapeCasts_S1024x128_S1024x128 u c).trans ?_
  refine congrArg (X (ix2 u c) + ·) (Finset.sum_congr rfl fun x _ => ?_)
  rw [h.d]
  exact congrArg (· * d (ix2 (cx 1 x) c)) (fP_chunk h _ _ _ _ x u)

theorem fD1_apply (x : Fin 256) (u : Fin 1024) : (gD 1024 (fP 1024 (gS 1024 256 (qC1 q) k shapeCasts_S256x256_S256x256 shapeCasts_S1024x256_S1024x256) (lC1 l) shapeCasts_S1x256x1_S256x1 broadcasts_S256x1_S256x1024) (dC1 d) (oC1 o) v shapeCasts_S256x128_S256x128 shapeCasts_S1024x128_S1024x128 reduces_S256x128_S256 (.inl rfl) rfl shapeCasts_S256_S256x1 broadcasts_S256x1_S256x1024 bitsLt_bf16_f32) (ix2 x u) = bD q k v o d l (cx 1 x) u :=
  gD_chunk (chunk1 q o d l) 1024 h1024 v (fun _ _ => rfl) (fP 1024 (gS 1024 256 (qC1 q) k shapeCasts_S256x256_S256x256 shapeCasts_S1024x256_S1024x256) (lC1 l) shapeCasts_S1x256x1_S256x1 broadcasts_S256x1_S256x1024) (bP q k l) (fun x u => fP_chunk (chunk1 q o d l) _ _ _ _ x u) _ _ _ _ _ _ _ _ x u

theorem fSk1_apply (X : Vec Ideal S1024x256 .f32) (u : Fin 1024) (e : Fin 256) :
    fSk1 q k v o d l X (ix2 u e) = (X (ix2 u e) : EReal) + ∑ x : Fin 256, bD q k v o d l (cx 1 x) u * q (ix2 (cx 1 x) e) := by
  have h := chunk1 q o d l
  refine (aT_apply 1024 256 (gD 1024 (fP 1024 (gS 1024 256 (qC1 q) k shapeCasts_S256x256_S256x256 shapeCasts_S1024x256_S1024x256) (lC1 l) shapeCasts_S1x256x1_S256x1 broadcasts_S256x1_S256x1024) (dC1 d) (oC1 o) v shapeCasts_S256x128_S256x128 shapeCasts_S1024x128_S1024x128 reduces_S256x128_S256 (.inl rfl) rfl shapeCasts_S256_S256x1 broadcasts_S256x1_S256x1024 bitsLt_bf16_f32) (qC1 q) X dot_S256x1024_S256x256_S1024x256_0_0_1_1_n_n.wf shapeCasts_S256x256_S256x256 shapeCasts_S1024x256_S1024x256 u e).trans ?_
  refine congrArg (X (ix2 u e) + ·) (Finset.sum_congr rfl fun x _ => ?_)
  rw [h.q, fD1_apply q k v o d l x u]

theorem fDq1_apply (v1 v3 : Elt Ideal .i32) (hw1 : k0_chk1 v1 v3) (h2 : k0_cond2 v1 v3 = 1#1) (i : ℕ) (hi : k0_off2 v1 256#32 = ![1024 * i + 256, 0])
    (X : Vec Ideal S8192x256 .f32) (R : Fin 8192) (e : Fin 256) :
    fDq1 v1 v3 hw1 h2 q k v o d l X (ix2 R e) = (X (ix2 R e) : EReal) + (if R.val / 256 = 4 * i + 1 then ∑ u : Fin 1024, bD q k v o d l (rl R) u * k (ix2 u e) else 0) :=
  aP_rows (k := k) (r := 1) 1024 h1024 i (gD 1024 (fP 1024 (gS 1024 256 (qC1 q) k shapeCasts_S256x256_S256x256 shapeCasts_S1024x256_S1024x256) (lC1 l) shapeCasts_S1x256x1_S256x1 broadcasts_S256x1_S256x1024) (dC1 d) (oC1 o) v shapeCasts_S256x128_S256x128 shapeCasts_S1024x128_S1024x128 reduces_S256x128_S256 (.inl rfl) rfl shapeCasts_S256_S256x1 broadcasts_S256x1_S256x1024 bitsLt_bf16_f32) k X (fun _ _ => rfl) shapeCasts_S1024x256_S1024x256 shapeCasts_S256x256_S256x256 (k0_off2 v1 256#32) hi (k0_off2_inb v1 v3 hw1 h2 1) (bD q k v o d l)
    (fun x u => fD1_apply q k v o d l x u) (fun _ u hu => absurd u.isLt (by omega)) R e

theorem fSv2_apply (X : Vec Ideal S1024x128 .f32) (u : Fin 1024) (c : Fin 128) :
    fSv2 q k v o d l X (ix2 u c) = (X (ix2 u c) : EReal) + ∑ x : Fin 256, bP q k l (cx 2 x) u * d (ix2 (cx 2 x) c) := by
  have h := chunk2 q o d l
  refine (aT_apply 1024 128 (truncf .bf16 (fP 1024 (gS 1024 256 (qC2 q) k shapeCasts_S256x256_S256x256 shapeCasts_S1024x256_S1024x256) (lC2 l) shapeCasts_S1x256x1_S256x1 broadcasts_S256x1_S256x1024) bitsLt_bf16_f32) (dC2 d) X dot_S256x1024_S256x128_S1024x128_0_0_1_1_n_n.wf shapeCasts_S256x128_S256x128 shapeCasts_S1024x128_S1024x128 u c).trans ?_
  refine congrArg (X (ix2 u c) + ·) (Finset.sum_congr rfl fun x _ => ?_)
  rw [h.d]
  exact congrArg (· * d (ix2 (cx 2 x) c)) (fP_chunk h _ _ _ _ x u)

theorem fD2_apply (x : Fin 256) (u : Fin 1024) : (gD 1024 (fP 1024 (gS 1024 256 (qC2 q) k shapeCasts_S256x256_S256x256 shapeCasts_S1024x256_S1024x256) (lC2 l) shapeCasts_S1x256x1_S256x1 broadcasts_S256x1_S256x1024) (dC2 d) (oC2 o) v shapeCasts_S256x128_S256x128 shapeCasts_S1024x128_S1024x128 reduces_S256x128_S256 (.inl rfl) rfl shapeCasts_S256_S256x1 broadcasts_S256x1_S256x1024 bitsLt_bf16_f32) (ix2 x u) = bD q k v o d l (cx 2 x) u :=
  gD_chunk (chunk2 q o d l) 1024 h1024 v (fun _ _ => rfl) (fP 1024 (gS 1024 256 (qC2 q) k shapeCasts_S256x256_S256x256 shapeCasts_S1024x256_S1024x256) (lC2 l) shapeCasts_S1x256x1_S256x1 broadcasts_S256x1_S256x1024) (bP q k l) (fun x u => fP_chunk (chunk2 q o d l) _ _ _ _ x u) _ _ _ _ _ _ _ _ x u

theorem fSk2_apply (X : Vec Ideal S1024x256 .f32) (u : Fin 1024) (e : Fin 256) :
    fSk2 q k v o d l X (ix2 u e) = (X (ix2 u e) : EReal) + ∑ x : Fin 256, bD q k v o d l (cx 2 x) u * q (ix2 (cx 2 x) e) := by
  have h := chunk2 q o d l
  refine (aT_apply 1024 256 (gD 1024 (fP 1024 (gS 1024 256 (qC2 q) k shapeCasts_S256x256_S256x256 shapeCasts_S1024x256_S1024x256) (lC2 l) shapeCasts_S1x256x1_S256x1 broadcasts_S256x1_S256x1024) (dC2 d) (oC2 o) v shapeCasts_S256x128_S256x128 shapeCasts_S1024x128_S1024x128 reduces_S256x128_S256 (.inl rfl) rfl shapeCasts_S256_S256x1 broadcasts_S256x1_S256x1024 bitsLt_bf16_f32) (qC2 q) X dot_S256x1024_S256x256_S1024x256_0_0_1_1_n_n.wf shapeCasts_S256x256_S256x256 shapeCasts_S1024x256_S1024x256 u e).trans ?_
  refine congrArg (X (ix2 u e) + ·) (Finset.sum_congr rfl fun x _ => ?_)
  rw [h.q, fD2_apply q k v o d l x u]

theorem fDq2_apply (v1 v3 : Elt Ideal .i32) (hw1 : k0_chk1 v1 v3) (h2 : k0_cond2 v1 v3 = 1#1) (i : ℕ) (hi : k0_off2 v1 512#32 = ![1024 * i + 512, 0])
    (X : Vec Ideal S8192x256 .f32) (R : Fin 8192) (e : Fin 256) :
    fDq2 v1 v3 hw1 h2 q k v o d l X (ix2 R e) = (X (ix2 R e) : EReal) + (if R.val / 256 = 4 * i + 2 then ∑ u : Fin 1024, bD q k v o d l (rl R) u * k (ix2 u e) else 0) :=
  aP_rows (k := k) (r := 2) 1024 h1024 i (gD 1024 (fP 1024 (gS 1024 256 (qC2 q) k shapeCasts_S256x256_S256x256 shapeCasts_S1024x256_S1024x256) (lC2 l) shapeCasts_S1x256x1_S256x1 broadcasts_S256x1_S256x1024) (dC2 d) (oC2 o) v shapeCasts_S256x128_S256x128 shapeCasts_S1024x128_S1024x128 reduces_S256x128_S256 (.inl rfl) rfl shapeCasts_S256_S256x1 broadcasts_S256x1_S256x1024 bitsLt_bf16_f32) k X (fun _ _ => rfl) shapeCasts_S1024x256_S1024x256 shapeCasts_S256x256_S256x256 (k0_off2 v1 512#32) hi (k0_off2_inb v1 v3 hw1 h2 2) (bD q k v o d l)
    (fun x u => fD2_apply q k v o d l x u) (fun _ u hu => absurd u.isLt (by omega)) R e

theorem fSv3_apply (X : Vec Ideal S1024x128 .f32) (u : Fin 1024) (c : Fin 128) :
    fSv3 q k v o d l X (ix2 u c) = (X (ix2 u c) : EReal) + ∑ x : Fin 256, bP q k l (cx 3 x) u * d (ix2 (cx 3 x) c) := by
  have h := chunk3 q o d l
  refine (aT_apply 1024 128 (truncf .bf16 (fP 1024 (gS 1024 256 (qC3 q) k shapeCasts_S256x256_S256x256 shapeCasts_S1024x256_S1024x256) (lC3 l) shapeCasts_S1x256x1_S256x1 broadcasts_S256x1_S256x1024) bitsLt_bf16_f32) (dC3 d) X dot_S256x1024_S256x128_S1024x128_0_0_1_1_n_n.wf shapeCasts_S256x128_S256x128 shapeCasts_S1024x128_S1024x128 u c).trans ?_
  refine congrArg (X (ix2 u c) + ·) (Finset.sum_congr rfl fun x _ => ?_)
  rw [h.d]
  exact congrArg (· * d (ix2 (cx 3 x) c)) (fP_chunk h _ _ _ _ x u)

theorem fD3_apply (x : Fin 256) (u : Fin 1024) : (gD 1024 (fP 1024 (gS 1024 256 (qC3 q) k shapeCasts_S256x256_S256x256 shapeCasts_S1024x256_S1024x256) (lC3 l) shapeCasts_S1x256x1_S256x1 broadcasts_S256x1_S256x1024) (dC3 d) (oC3 o) v shapeCasts_S256x128_S256x128 shapeCasts_S1024x128_S1024x128 reduces_S256x128_S256 (.inl rfl) rfl shapeCasts_S256_S256x1 broadcasts_S256x1_S256x1024 bitsLt_bf16_f32) (ix2 x u) = bD q k v o d l (cx 3 x) u :=
  gD_chunk (chunk3 q o d l) 1024 h1024 v (fun _ _ => rfl) (fP 1024 (gS 1024 256 (qC3 q) k shapeCasts_S256x256_S256x256 shapeCasts_S1024x256_S1024x256) (lC3 l) shapeCasts_S1x256x1_S256x1 broadcasts_S256x1_S256x1024) (bP q k l) (fun x u => fP_chunk (chunk3 q o d l) _ _ _ _ x u) _ _ _ _ _ _ _ _ x u

theorem fSk3_apply (X : Vec Ideal S1024x256 .f32) (u : Fin 1024) (e : Fin 256) :
    fSk3 q k v o d l X (ix2 u e) = (X (ix2 u e) : EReal) + ∑ x : Fin 256, bD q k v o d l (cx 3 x) u * q (ix2 (cx 3 x) e) := by
  have h := chunk3 q o d l
  refine (aT_apply 1024 256 (gD 1024 (fP 1024 (gS 1024 256 (qC3 q) k shapeCasts_S256x256_S256x256 shapeCasts_S1024x256_S1024x256) (lC3 l) shapeCasts_S1x256x1_S256x1 broadcasts_S256x1_S256x1024) (dC3 d) (oC3 o) v shapeCasts_S256x128_S256x128 shapeCasts_S1024x128_S1024x128 reduces_S256x128_S256 (.inl rfl) rfl shapeCasts_S256_S256x1 broadcasts_S256x1_S256x1024 bitsLt_bf16_f32) (qC3 q) X dot_S256x1024_S256x256_S1024x256_0_0_1_1_n_n.wf shapeCasts_S256x256_S256x256 shapeCasts_S1024x256_S1024x256 u e).trans ?_
  refine congrArg (X (ix2 u e) + ·) (Finset.sum_congr rfl fun x _ => ?_)
  rw [h.q, fD3_apply q k v o d l x u]

theorem fDq3_apply (v1 v3 : Elt Ideal .i32) (hw1 : k0_chk1 v1 v3) (h2 : k0_cond2 v1 v3 = 1#1) (i : ℕ) (hi : k0_off2 v1 768#32 = ![1024 * i + 768, 0])
    (X : Vec Ideal S8192x256 .f32) (R : Fin 8192) (e : Fin 256) :
    fDq3 v1 v3 hw1 h2 q k v o d l X (ix2 R e) = (X (ix2 R e) : EReal) + (if R.val / 256 = 4 * i + 3 then ∑ u : Fin 1024, bD q k v o d l (rl R) u * k (ix2 u e) else 0) :=
  aP_rows (k := k) (r := 3) 1024 h1024 i (gD 1024 (fP 1024 (gS 1024 256 (qC3 q) k shapeCasts_S256x256_S256x256 shapeCasts_S1024x256_S1024x256) (lC3 l) shapeCasts_S1x256x1_S256x1 broadcasts_S256x1_S256x1024) (dC3 d) (oC3 o) v shapeCasts_S256x128_S256x128 shapeCasts_S1024x128_S1024x128 reduces_S256x128_S256 (.inl rfl) rfl shapeCasts_S256_S256x1 broadcasts_S256x1_S256x1024 bitsLt_bf16_f32) k X (fun _ _ => rfl) shapeCasts_S1024x256_S1024x256 shapeCasts_S256x256_S256x256 (k0_off2 v1 768#32) hi (k0_off2_inb v1 v3 hw1 h2 3) (bD q k v o d l)
    (fun x u => fD3_apply q k v o d l x u) (fun _ u hu => absurd u.isLt (by omega)) R e

include o d in
theorem gP0_apply (x : Fin 256) (u : Fin 256) : (gP 256 (BitVec.ofNat 32 (256 * ((0 : Fin 4)).val)) (gS 256 256 (qC0 q) (kT256 k) shapeCasts_S256x256_S256x256 shapeCasts_S256x256_S256x256) (lC0 l) shapeCasts_S1x256x1_S256x1 broadcasts_S256x1_S256x256 iota_S256x256_d1_w32 iota_S256x256_d0_w32) (ix2 x u) = bM q k l (cx 0 x) (u.castLE h256) :=
  gP_chunk (o := o) (d := d) (chunk0 q o d l) 256 h256 (kT256 k) (kT256_apply k) _ _ _ _ _ _ x u

theorem gD0_apply (x : Fin 256) (u : Fin 256) : (gD 256 (gP 256 (BitVec.ofNat 32 (256 * ((0 : Fin 4)).val)) (gS 256 256 (qC0 q) (kT256 k) shapeCasts_S256x256_S256x256 shapeCasts_S256x256_S256x256) (lC0 l) shapeCasts_S1x256x1_S256x1 broadcasts_S256x1_S256x256 iota_S256x256_d1_w32 iota_S256x256_d0_w32) (dC0 d) (oC0 o) (vT256 v) shapeCasts_S256x128_S256x128 shapeCasts_S256x128_S256x128 reduces_S256x128_S256 (.inl rfl) rfl shapeCasts_S256_S256x1 broadcasts_S256x1_S256x256 bitsLt_bf16_f32) (ix2 x u) = bN q k v o d l (cx 0 x) (u.castLE h256) :=
  gD_chunk (chunk0 q o d l) 256 h256 (vT256 v) (vT256_apply v) (gP 256 (BitVec.ofNat 32 (256 * ((0 : Fin 4)).val)) (gS 256 256 (qC0 q) (kT256 k) shapeCasts_S256x256_S256x256 shapeCasts_S256x256_S256x256) (lC0 l) shapeCasts_S1x256x1_S256x1 broadcasts_S256x1_S256x256 iota_S256x256_d1_w32 iota_S256x256_d0_w32) (bM q k l) (gP0_apply q k o d l) _ _ _ _ _ _ _ _ x u

theorem gDq0_apply (v1 v3 : Elt Ideal .i32) (hw1 : k0_chk1 v1 v3) (h3 : k0_cond3 v1 v3 = 1#1) (i : ℕ) (hi : k0_off3 v1 0#32 = ![1024 * i + 0, 0])
    (X : Vec Ideal S8192x256 .f32) (R : Fin 8192) (e : Fin 256) :
    gDq0 v1 v3 hw1 h3 q k v o d l X (ix2 R e) = (X (ix2 R e) : EReal) + (if R.val / 256 = 4 * i + 0 then ∑ u : Fin 1024, bN q k v o d l (rl R) u * k (ix2 u e) else 0) :=
  aP_rows (k := k) (r := 0) 256 h256 i (gD 256 (gP 256 (BitVec.ofNat 32 (256 * ((0 : Fin 4)).val)) (gS 256 256 (qC0 q) (kT256 k) shapeCasts_S256x256_S256x256 shapeCasts_S256x256_S256x256) (lC0 l) shapeCasts_S1x256x1_S256x1 broadcasts_S256x1_S256x256 iota_S256x256_d1_w32 iota_S256x256_d0_w32) (dC0 d) (oC0 o) (vT256 v) shapeCasts_S256x128_S256x128 shapeCasts_S256x128_S256x128 reduces_S256x128_S256 (.inl rfl) rfl shapeCasts_S256_S256x1 broadcasts_S256x1_S256x256 bitsLt_bf16_f32) (kT256 k) X (kT256_apply k) shapeCasts_S256x256_S256x256 shapeCasts_S256x256_S256x256 (k0_off3 v1 0#32) hi (k0_off3_inb v1 v3 hw1 h3 0) (bN q k v o d l)
    (fun x u => gD0_apply q k v o d l x u) (fun x u hu => bN_zero q k v o d l 0 x u hu) R e

theorem gSv1_apply (X : Vec Ideal S1024x128 .f32) (u : Fin 1024) (c : Fin 128) :
    gSv1 q k v o d l X (ix2 u c) = (X (ix2 u c) : EReal) + ∑ x : Fin 256, bM q k l (cx 0 x) u * d (ix2 (cx 0 x) c) := by
  refine (aT_rows 256 128 h256 (truncf .bf16 (gP 256 (BitVec.ofNat 32 (256 * ((0 : Fin 4)).val)) (gS 256 256 (qC0 q) (kT256 k) shapeCasts_S256x256_S256x256 shapeCasts_S256x256_S256x256) (lC0 l) shapeCasts_S1x256x1_S256x1 broadcasts_S256x1_S256x256 iota_S256x256_d1_w32 iota_S256x256_d0_w32) bitsLt_bf16_f32) (dC0 d) X dot_S256x256_S256x128_S256x128_0_0_1_1_n_n.wf shapeCasts_S256x128_S256x128 shapeCasts_S256x128_S256x128 ![0, 0] rfl inb_S1024x128_S256x128_0_0
    (fun x u => bM q k l (cx 0 x) u) (gP0_apply q k o d l) (fun x u hu => bM_zero q k l 0 x u hu) u c).trans ?_
  refine congrArg (X (ix2 u c) + ·) (Finset.sum_congr rfl fun x _ => ?_)
  rw [(chunk0 q o d l).d]

theorem gSk1_apply (X : Vec Ideal S1024x256 .f32) (u : Fin 1024) (e : Fin 256) :
    gSk1 q k v o d l X (ix2 u e) = (X (ix2 u e) : EReal) + ∑ x : Fin 256, bN q k v o d l (cx 0 x) u * q (ix2 (cx 0 x) e) := by
  refine (aT_rows 256 256 h256 (gD 256 (gP 256 (BitVec.ofNat 32 (256 * ((0 : Fin 4)).val)) (gS 256 256 (qC0 q) (kT256 k) shapeCasts_S256x256_S256x256 shapeCasts_S256x256_S256x256) (lC0 l) shapeCasts_S1x256x1_S256x1 broadcasts_S256x1_S256x256 iota_S256x256_d1_w32 iota_S256x256_d0_w32) (dC0 d) (oC0 o) (vT256 v) shapeCasts_S256x128_S256x128 shapeCasts_S256x128_S256x128 reduces_S256x128_S256 (.inl rfl) rfl shapeCasts_S256_S256x1 broadcasts_S256x1_S256x256 bitsLt_bf16_f32) (qC0 q) X dot_S256x256_S256x256_S256x256_0_0_1_1_n_n.wf shapeCasts_S256x256_S256x256 shapeCasts_S256x256_S256x256 ![0, 0] rfl inb_S1024x256_S256x256_0_0
    (fun x u => bN q k v o d l (cx 0 x) u) (gD0_apply q k v o d l) (fun x u hu => bN_zero q k v o d l 0 x u hu) u e).trans ?_
  refine congrArg (X (ix2 u e) + ·) (Finset.sum_congr rfl fun x _ => ?_)
  rw [(chunk0 q o d l).q]

include o d in
theorem gP1_apply (x : Fin 256) (u : Fin 512) : (gP 512 (BitVec.ofNat 32 (256 * ((1 : Fin 4)).val)) (gS 512 256 (qC1 q) (kT512 k) shapeCasts_S256x256_S256x256 shapeCasts_S512x256_S512x256) (lC1 l) shapeCasts_S1x256x1_S256x1 broadcasts_S256x1_S256x512 iota_S256x512_d1_w32 iota_S256x512_d0_w32) (ix2 x u) = bM q k l (cx 1 x) (u.castLE h512) :=
  gP_chunk (o := o) (d := d) (chunk1 q o d l) 512 h512 (kT512 k) (kT512_apply k) _ _ _ _ _ _ x u

theorem gD1_apply (x : Fin 256) (u : Fin 512) : (gD 512 (gP 512 (BitVec.ofNat 32 (256 * ((1 : Fin 4)).val)) (gS 512 256 (qC1 q) (kT512 k) shapeCasts_S256x256_S256x256 shapeCasts_S512x256_S512x256) (lC1 l) shapeCasts_S1x256x1_S256x1 broadcasts_S256x1_S256x512 iota_S256x512_d1_w32 iota_S256x512_d0_w32) (dC1 d) (oC1 o) (vT512 v) shapeCasts_S256x128_S256x128 shapeCasts_S512x128_S512x128 reduces_S256x128_S256 (.inl rfl) rfl shapeCasts_S256_S256x1 broadcasts_S256x1_S256x512 bitsLt_bf16_f32) (ix2 x u) = bN q k v o d l (cx 1 x) (u.castLE h512) :=
  gD_chunk (chunk1 q o d l) 512 h512 (vT512 v) (vT512_apply v) (gP 512 (BitVec.ofNat 32 (256 * ((1 : Fin 4)).val)) (gS 512 256 (qC1 q) (kT512 k) shapeCasts_S256x256_S256x256 shapeCasts_S512x256_S512x256) (lC1 l) shapeCasts_S1x256x1_S256x1 broadcasts_S256x1_S256x512 iota_S256x512_d1_w32 iota_S256x512_d0_w32) (bM q k l) (gP1_apply q k o d l) _ _ _ _ _ _ _ _ x u

theorem gDq1_apply (v1 v3 : Elt Ideal .i32) (hw1 : k0_chk1 v1 v3) (h3 : k0_cond3 v1 v3 = 1#1) (i : ℕ) (hi : k0_off3 v1 256#32 = ![1024 * i + 256, 0])
    (X : Vec Ideal S8192x256 .f32) (R : Fin 8192) (e : Fin 256) :
    gDq1 v1 v3 hw1 h3 q k v o d l X (ix2 R e) = (X (ix2 R e) : EReal) + (if R.val / 256 = 4 * i + 1 then ∑ u : Fin 1024, bN q k v o d l (rl R) u * k (ix2 u e) else 0) :=
  aP_rows (k := k) (r := 1) 512 h512 i (gD 512 (gP 512 (BitVec.ofNat 32 (256 * ((1 : Fin 4)).val)) (gS 512 256 (qC1 q) (kT512 k) shapeCasts_S256x256_S256x256 shapeCasts_S512x256_S512x256) (lC1 l) shapeCasts_S1x256x1_S256x1 broadcasts_S256x1_S256x512 iota_S256x512_d1_w32 iota_S256x512_d0_w32) (dC1 d) (oC1 o) (vT512 v) shapeCasts_S256x128_S256x128 shapeCasts_S512x128_S512x128 reduces_S256x128_S256 (.inl rfl) rfl shapeCasts_S256_S256x1 broadcasts_S256x1_S256x512 bitsLt_bf16_f32) (kT512 k) X (kT512_apply k) shapeCasts_S512x256_S512x256 shapeCasts_S256x256_S256x256 (k0_off3 v1 256#32) hi (k0_off3_inb v1 v3 hw1 h3 1) (bN q k v o d l)
    (fun x u => gD1_apply q k v o d l x u) (fun x u hu => bN_zero q k v o d l 1 x u hu) R e

theorem gSv2_apply (X : Vec Ideal S1024x128 .f32) (u : Fin 1024) (c : Fin 128) :
    gSv2 q k v o d l X (ix2 u c) = (X (ix2 u c) : EReal) + ∑ x : Fin 256, bM q k l (cx 1 x) u * d (ix2 (cx 1 x) c) := by
  refine (aT_rows 512 128 h512 (truncf .bf16 (gP 512 (BitVec.ofNat 32 (256 * ((1 : Fin 4)).val)) (gS 512 256 (qC1 q) (kT512 k) shapeCasts_S256x256_S256x256 shapeCasts_S512x256_S512x256) (lC1 l) shapeCasts_S1x256x1_S256x1 broadcasts_S256x1_S256x512 iota_S256x512_d1_w32 iota_S256x512_d0_w32) bitsLt_bf16_f32) (dC1 d) X dot_S256x512_S256x128_S512x128_0_0_1_1_n_n.wf shapeCasts_S256x128_S256x128 shapeCasts_S512x128_S512x128 ![0, 0] rfl inb_S1024x128_S512x128_0_0
    (fun x u => bM q k l (cx 1 x) u) (gP1_apply q k o d l) (fun x u hu => bM_zero q k l 1 x u hu) u c).trans ?_
  refine congrArg (X (ix2 u c) + ·) (Finset.sum_congr rfl fun x _ => ?_)
  rw [(chunk1 q o d l).d]

theorem gSk2_apply (X : Vec Ideal S1024x256 .f32) (u : Fin 1024) (e : Fin 256) :
    gSk2 q k v o d l X (ix2 u e) = (X (ix2 u e) : EReal) + ∑ x : Fin 256, bN q k v o d l (cx 1 x) u * q (ix2 (cx 1 x) e) := by
  refine (aT_rows 512 256 h512 (gD 512 (gP 512 (BitVec.ofNat 32 (256 * ((1 : Fin 4)).val)) (gS 512 256 (qC1 q) (kT512 k) shapeCasts_S256x256_S256x256 shapeCasts_S512x256_S512x256) (lC1 l) shapeCasts_S1x256x1_S256x1 broadcasts_S256x1_S256x512 iota_S256x512_d1_w32 iota_S256x512_d0_w32) (dC1 d) (oC1 o) (vT512 v) shapeCasts_S256x128_S256x128 shapeCasts_S512x128_S512x128 reduces_S256x128_S256 (.inl rfl) rfl shapeCasts_S256_S256x1 broadcasts_S256x1_S256x512 bitsLt_bf16_f32) (qC1 q) X dot_S256x512_S256x256_S512x256_0_0_1_1_n_n.wf shapeCasts_S256x256_S256x256 shapeCasts_S512x256_S512x256 ![0, 0] rfl inb_S1024x256_S512x256_0_0
    (fun x u => bN q k v o d l (cx 1 x) u) (gD1_apply q k v o d l) (fun x u hu => bN_zero q k v o d l 1 x u hu) u e).trans ?_
  refine congrArg (X (ix2 u e) + ·) (Finset.sum_congr rfl fun x _ => ?_)
  rw [(chunk1 q o d l).q]

include o d in
theorem gP2_apply (x : Fin 256) (u : Fin 768) : (gP 768 (BitVec.ofNat 32 (256 * ((2 : Fin 4)).val)) (gS 768 256 (qC2 q) (kT768 k) shapeCasts_S256x256_S256x256 shapeCasts_S768x256_S768x256) (lC2 l) shapeCasts_S1x256x1_S256x1 broadcasts_S256x1_S256x768 iota_S256x768_d1_w32 iota_S256x768_d0_w32) (ix2 x u) = bM q k l (cx 2 x) (u.castLE h768) :=
  gP_chunk (o := o) (d := d) (chunk2 q o d l) 768 h768 (kT768 k) (kT768_apply k) _ _ _ _ _ _ x u

theorem gD2_apply (x : Fin 256) (u : Fin 768) : (gD 768 (gP 768 (BitVec.ofNat 32 (256 * ((2 : Fin 4)).val)) (gS 768 256 (qC2 q) (kT768 k) shapeCasts_S256x256_S256x256 shapeCasts_S768x256_S768x256) (lC2 l) shapeCasts_S1x256x1_S256x1 broadcasts_S256x1_S256x768 iota_S256x768_d1_w32 iota_S256x768_d0_w32) (dC2 d) (oC2 o) (vT768 v) shapeCasts_S256x128_S256x128 shapeCasts_S768x128_S768x128 reduces_S256x128_S256 (.inl rfl) rfl shapeCasts_S256_S256x1 broadcasts_S256x1_S256x768 bitsLt_bf16_f32) (ix2 x u) = bN q k v o d l (cx 2 x) (u.castLE h768) :=
  gD_chunk (chunk2 q o d l) 768 h768 (vT768 v) (vT768_apply v) (gP 768 (BitVec.ofNat 32 (256 * ((2 : Fin 4)).val)) (gS 768 256 (qC2 q) (kT768 k) shapeCasts_S256x256_S256x256 shapeCasts_S768x256_S768x256) (lC2 l) shapeCasts_S1x256x1_S256x1 broadcasts_S256x1_S256x768 iota_S256x768_d1_w32 iota_S256x768_d0_w32) (bM q k l) (gP2_apply q k o d l) _ _ _ _ _ _ _ _ x u

theorem gDq2_apply (v1 v3 : Elt Ideal .i32) (hw1 : k0_chk1 v1 v3) (h3 : k0_cond3 v1 v3 = 1#1) (i : ℕ) (hi : k0_off3 v1 512#32 = ![1024 * i + 512, 0])
    (X : Vec Ideal S8192x256 .f32) (R : Fin 8192) (e : Fin 256) :
    gDq2 v1 v3 hw1 h3 q k v o d l X (ix2 R e) = (X (ix2 R e) : EReal) + (if R.val / 256 = 4 * i + 2 then ∑ u : Fin 1024, bN q k v o d l (rl R) u * k (ix2 u e) else 0) :=
  aP_rows (k := k) (r := 2) 768 h768 i (gD 768 (gP 768 (BitVec.ofNat 32 (256 * ((2 : Fin 4)).val)) (gS 768 256 (qC2 q) (kT768 k) shapeCasts_S256x256_S256x256 shapeCasts_S768x256_S768x256) (lC2 l) shapeCasts_S1x256x1_S256x1 broadcasts_S256x1_S256x768 iota_S256x768_d1_w32 iota_S256x768_d0_w32) (dC2 d) (oC2 o) (vT768 v) shapeCasts_S256x128_S256x128 shapeCasts_S768x128_S768x128 reduces_S256x128_S256 (.inl rfl) rfl shapeCasts_S256_S256x1 broadcasts_S256x1_S256x768 bitsLt_bf16_f32) (kT768 k) X (kT768_apply k) shapeCasts_S768x256_S768x256 shapeCasts_S256x256_S256x256 (k0_off3 v1 512#32) hi (k0_off3_inb v1 v3 hw1 h3 2) (bN q k v o d l)
    (fun x u => gD2_apply q k v o d l x u) (fun x u hu => bN_zero q k v o d l 2 x u hu) R e

theorem gSv3_apply (X : Vec Ideal S1024x128 .f32) (u : Fin 1024) (c : Fin 128) :
    gSv3 q k v o d l X (ix2 u c) = (X (ix2 u c) : EReal) + ∑ x : Fin 256, bM q k l (cx 2 x) u * d (ix2 (cx 2 x) c) := by
  refine (aT_rows 768 128 h768 (truncf .bf16 (gP 768 (BitVec.ofNat 32 (256 * ((2 : Fin 4)).val)) (gS 768 256 (qC2 q) (kT768 k) shapeCasts_S256x256_S256x256 shapeCasts_S768x256_S768x256) (lC2 l) shapeCasts_S1x256x1_S256x1 broadcasts_S256x1_S256x768 iota_S256x768_d1_w32 iota_S256x768_d0_w32) bitsLt_bf16_f32) (dC2 d) X dot_S256x768_S256x128_S768x128_0_0_1_1_n_n.wf shapeCasts_S256x128_S256x128 shapeCasts_S768x128_S768x128 ![0, 0] rfl inb_S1024x128_S768x128_0_0
    (fun x u => bM q k l (cx 2 x) u) (gP2_apply q k o d l) (fun x u hu => bM_zero q k l 2 x u hu) u c).trans ?_
  refine congrArg (X (ix2 u c) + ·) (Finset.sum_congr rfl fun x _ => ?_)
  rw [(chunk2 q o d l).d]

theorem gSk3_apply (X : Vec Ideal S1024x256 .f32) (u : Fin 1024) (e : Fin 256) :
    gSk3 q k v o d l X (ix2 u e) = (X (ix2 u e) : EReal) + ∑ x : Fin 256, bN q k v o d l (cx 2 x) u * q (ix2 (cx 2 x) e) := by
  refine (aT_rows 768 256 h768 (gD 768 (gP 768 (BitVec.ofNat 32 (256 * ((2 : Fin 4)).val)) (gS 768 256 (qC2 q) (kT768 k) shapeCasts_S256x256_S256x256 shapeCasts_S768x256_S768x256) (lC2 l) shapeCasts_S1x256x1_S256x1 broadcasts_S256x1_S256x768 iota_S256x768_d1_w32 iota_S256x768_d0_w32) (dC2 d) (oC2 o) (vT768 v) shapeCasts_S256x128_S256x128 shapeCasts_S768x128_S768x128 reduces_S256x128_S256 (.inl rfl) rfl shapeCasts_S256_S256x1 broadcasts_S256x1_S256x768 bitsLt_bf16_f32) (qC2 q) X dot_S256x768_S256x256_S768x256_0_0_1_1_n_n.wf shapeCasts_S256x256_S256x256 shapeCasts_S768x256_S768x256 ![0, 0] rfl inb_S1024x256_S768x256_0_0
    (fun x u => bN q k v o d l (cx 2 x) u) (gD2_apply q k v o d l) (fun x u hu => bN_zero q k v o d l 2 x u hu) u e).trans ?_
  refine congrArg (X (ix2 u e) + ·) (Finset.sum_congr rfl fun x _ => ?_)
  rw [(chunk2 q o d l).q]

include o d in
theorem gP3_apply (x : Fin 256) (u : Fin 1024) : (gP 1024 (BitVec.ofNat 32 (256 * ((3 : Fin 4)).val)) (gS 1024 256 (qC3 q) k shapeCasts_S256x256_S256x256 shapeCasts_S1024x256_S1024x256) (lC3 l) shapeCasts_S1x256x1_S256x1 broadcasts_S256x1_S256x1024 iota_S256x1024_d1_w32 iota_S256x1024_d0_w32) (ix2 x u) = bM q k l (cx 3 x) (u.castLE h1024) :=
  gP_chunk (o := o) (d := d) (chunk3 q o d l) 1024 h1024 k (fun _ _ => rfl) _ _ _ _ _ _ x u

theorem gD3_apply (x : Fin 256) (u : Fin 1024) : (gD 1024 (gP 1024 (BitVec.ofNat 32 (256 * ((3 : Fin 4)).val)) (gS 1024 256 (qC3 q) k shapeCasts_S256x256_S256x256 shapeCasts_S1024x256_S1024x256) (lC3 l) shapeCasts_S1x256x1_S256x1 broadcasts_S256x1_S256x1024 iota_S256x1024_d1_w32 iota_S256x1024_d0_w32) (dC3 d) (oC3 o) v shapeCasts_S256x128_S256x128 shapeCasts_S1024x128_S1024x128 reduces_S256x128_S256 (.inl rfl) rfl shapeCasts_S256_S256x1 broadcasts_S256x1_S256x1024 bitsLt_bf16_f32) (ix2 x u) = bN q k v o d l (cx 3 x) (u.castLE h1024) :=
  gD_chunk (chunk3 q o d l) 1024 h1024 v (fun _ _ => rfl) (gP 1024 (BitVec.ofNat 32 (256 * ((3 : Fin 4)).val)) (gS 1024 256 (qC3 q) k shapeCasts_S256x256_S256x256 shapeCasts_S1024x256_S1024x256) (lC3 l) shapeCasts_S1x256x1_S256x1 broadcasts_S256x1_S256x1024 iota_S256x1024_d1_w32 iota_S256x1024_d0_w32) (bM q k l) (gP3_apply q k o d l) _ _ _ _ _ _ _ _ x u

theorem gDq3_apply (v1 v3 : Elt Ideal .i32) (hw1 : k0_chk1 v1 v3) (h3 : k0_cond3 v1 v3 = 1#1) (i : ℕ) (hi : k0_off3 v1 768#32 = ![1024 * i + 768, 0])
    (X : Vec Ideal S8192x256 .f32) (R : Fin 8192) (e : Fin 256) :
    gDq3 v1 v3 hw1 h3 q k v o d l X (ix2 R e) = (X (ix2 R e) : EReal) + (if R.val / 256 = 4 * i + 3 then ∑ u : Fin 1024, bN q k v o d l (rl R) u * k (ix2 u e) else 0) :=
  aP_rows (k := k) (r := 3) 1024 h1024 i (gD 1024 (gP 1024 (BitVec.ofNat 32 (256 * ((3 : Fin 4)).val)) (gS 1024 256 (qC3 q) k shapeCasts_S256x256_S256x256 shapeCasts_S1024x256_S1024x256) (lC3 l) shapeCasts_S1x256x1_S256x1 broadcasts_S256x1_S256x1024 iota_S256x1024_d1_w32 iota_S256x1024_d0_w32) (dC3 d) (oC3 o) v shapeCasts_S256x128_S256x128 shapeCasts_S1024x128_S1024x128 reduces_S256x128_S256 (.inl rfl) rfl shapeCasts_S256_S256x1 broadcasts_S256x1_S256x1024 bitsLt_bf16_f32) k X (fun _ _ => rfl) shapeCasts_S1024x256_S1024x256 shapeCasts_S256x256_S256x256 (k0_off3 v1 768#32) hi (k0_off3_inb v1 v3 hw1 h3 3) (bN q k v o d l)
    (fun x u => gD3_apply q k v o d l x u) (fun x u hu => bN_zero q k v o d l 3 x u hu) R e

theorem gSv4_apply (X : Vec Ideal S1024x128 .f32) (u : Fin 1024) (c : Fin 128) :
    gSv4 q k v o d l X (ix2 u c) = (X (ix2 u c) : EReal) + ∑ x : Fin 256, bM q k l (cx 3 x) u * d (ix2 (cx 3 x) c) := by
  refine (aT_apply 1024 128 (truncf .bf16 (gP 1024 (BitVec.ofNat 32 (256 * ((3 : Fin 4)).val)) (gS 1024 256 (qC3 q) k shapeCasts_S256x256_S256x256 shapeCasts_S1024x256_S1024x256) (lC3 l) shapeCasts_S1x256x1_S256x1 broadcasts_S256x1_S256x1024 iota_S256x1024_d1_w32 iota_S256x1024_d0_w32) bitsLt_bf16_f32) (dC3 d) X dot_S256x1024_S256x128_S1024x128_0_0_1_1_n_n.wf shapeCasts_S256x128_S256x128 shapeCasts_S1024x128_S1024x128 u c).trans ?_
  refine congrArg (X (ix2 u c) + ·) (Finset.sum_congr rfl fun x _ => ?_)
  rw [(chunk3 q o d l).d]
  exact congrArg (· * d (ix2 (cx 3 x) c)) (gP3_apply q k o d l x u)

theorem gSk4_apply (X : Vec Ideal S1024x256 .f32) (u : Fin 1024) (e : Fin 256) :
    gSk4 q k v o d l X (ix2 u e) = (X (ix2 u e) : EReal) + ∑ x : Fin 256, bN q k v o d l (cx 3 x) u * q (ix2 (cx 3 x) e) := by
  refine (aT_apply 1024 256 (gD 1024 (gP 1024 (BitVec.ofNat 32 (256 * ((3 : Fin 4)).val)) (gS 1024 256 (qC3 q) k shapeCasts_S256x256_S256x256 shapeCasts_S1024x256_S1024x256) (lC3 l) shapeCasts_S1x256x1_S256x1 broadcasts_S256x1_S256x1024 iota_S256x1024_d1_w32 iota_S256x1024_d0_w32) (dC3 d) (oC3 o) v shapeCasts_S256x128_S256x128 shapeCasts_S1024x128_S1024x128 reduces_S256x128_S256 (.inl rfl) rfl shapeCasts_S256_S256x1 broadcasts_S256x1_S256x1024 bitsLt_bf16_f32) (qC3 q) X dot_S256x1024_S256x256_S1024x256_0_0_1_1_n_n.wf shapeCasts_S256x256_S256x256 shapeCasts_S1024x256_S1024x256 u e).trans ?_
  refine congrArg (X (ix2 u e) + ·) (Finset.sum_congr rfl fun x _ => ?_)
  rw [(chunk3 q o d l).q]
  exact congrArg (· * q (ix2 (cx 3 x) e)) (gD3_apply q k v o d l x u)

theorem gSv0_apply (X : Vec Ideal S1024x128 .f32) (u : Fin 1024) (c : Fin 128) : gSv0 q k v o d l X (ix2 u c) = (0 : EReal) := zero_bits
theorem gSk0_apply (X : Vec Ideal S1024x256 .f32) (u : Fin 1024) (e : Fin 256) : gSk0 q k v o d l X (ix2 u e) = (0 : EReal) := zero_bits

/-- Off the diagonal the values' accumulator gains the probabilities' columns against the gradient of the output. -/
theorem fSv_apply (X : Vec Ideal S1024x128 .f32) (u : Fin 1024) (c : Fin 128) :
    fSv q k v o d l X (ix2 u c) = (X (ix2 u c) : EReal) + ∑ x : Fin 1024, bP q k l x u * d (ix2 x c) := by
  unfold fSv
  rw [fSv3_apply, fSv2_apply, fSv1_apply, fSv0_apply, sum_cx, Fin.sum_univ_four]
  simp only [add_assoc]

theorem fSk_apply (X : Vec Ideal S1024x256 .f32) (u : Fin 1024) (e : Fin 256) :
    fSk q k v o d l X (ix2 u e) = (X (ix2 u e) : EReal) + ∑ x : Fin 1024, bD q k v o d l x u * q (ix2 x e) := by
  unfold fSk
  rw [fSk3_apply, fSk2_apply, fSk1_apply, fSk0_apply, sum_cx, Fin.sum_univ_four]
  simp only [add_assoc]

/-- On the diagonal the accumulators start anew. -/
theorem gSv_apply (X : Vec Ideal S1024x128 .f32) (u : Fin 1024) (c : Fin 128) :
    gSv q k v o d l X (ix2 u c) = ∑ x : Fin 1024, bM q k l x u * d (ix2 x c) := by
  unfold gSv
  rw [gSv4_apply, gSv3_apply, gSv2_apply, gSv1_apply, gSv0_apply, sum_cx, Fin.sum_univ_four]
  simp only [add_assoc, zero_add]

theorem gSk_apply (X : Vec Ideal S1024x256 .f32) (u : Fin 1024) (e : Fin 256) :
    gSk q k v o d l X (ix2 u e) = ∑ x : Fin 1024, bN q k v o d l x u * q (ix2 x e) := by
  unfold gSk
  rw [gSk4_apply, gSk3_apply, gSk2_apply, gSk1_apply, gSk0_apply, sum_cx, Fin.sum_univ_four]
  simp only [add_assoc, zero_add]

/-- Four chunks' shares of a row, of which at most one is the row's. -/
theorem four (R i : ℕ) (X S : EReal) :
    X + (if R / 256 = 4 * i + 0 then S else 0) + (if R / 256 = 4 * i + 1 then S else 0) + (if R / 256 = 4 * i + 2 then S else 0) + (if R / 256 = 4 * i + 3 then S else 0)
      = X + (if R / 1024 = i then S else 0) := by
  by_cases h : R / 1024 = i
  · rw [if_pos h]
    have : R / 256 = 4 * i + 0 ∨ R / 256 = 4 * i + 1 ∨ R / 256 = 4 * i + 2 ∨ R / 256 = 4 * i + 3 := by omega
    rcases this with e | e | e | e <;> rw [e] <;> simp
  · rw [if_neg h, if_neg (by omega), if_neg (by omega), if_neg (by omega), if_neg (by omega)]
    simp only [add_zero]

theorem fDq_apply (v1 v3 : Elt Ideal .i32) (hw1 : k0_chk1 v1 v3) (h2 : k0_cond2 v1 v3 = 1#1) (i : ℕ) (hi : ∀ r : Fin 4, k0_off2 v1 (BitVec.ofNat 32 (256 * r.val)) = ![1024 * i + 256 * r.val, 0])
    (X : Vec Ideal S8192x256 .f32) (R : Fin 8192) (e : Fin 256) :
    fDq v1 v3 hw1 h2 q k v o d l X (ix2 R e) = (X (ix2 R e) : EReal) + (if R.val / 1024 = i then ∑ u : Fin 1024, bD q k v o d l (rl R) u * k (ix2 u e) else 0) := by
  unfold fDq
  rw [fDq3_apply q k v o d l v1 v3 hw1 h2 i (hi 3), fDq2_apply q k v o d l v1 v3 hw1 h2 i (hi 2), fDq1_apply q k v o d l v1 v3 hw1 h2 i (hi 1), fDq0_apply q k v o d l v1 v3 hw1 h2 i (hi 0)]
  exact four _ _ _ _

theorem gDq_apply (v1 v3 : Elt Ideal .i32) (hw1 : k0_chk1 v1 v3) (h3 : k0_cond3 v1 v3 = 1#1) (i : ℕ) (hi : ∀ r : Fin 4, k0_off3 v1 (BitVec.ofNat 32 (256 * r.val)) = ![1024 * i + 256 * r.val, 0])
    (X : Vec Ideal S8192x256 .f32) (R : Fin 8192) (e : Fin 256) :
    gDq v1 v3 hw1 h3 q k v o d l X (ix2 R e) = (X (ix2 R e) : EReal) + (if R.val / 1024 = i then ∑ u : Fin 1024, bN q k v o d l (rl R) u * k (ix2 u e) else 0) := by
  unfold gDq
  rw [gDq3_apply q k v o d l v1 v3 hw1 h3 i (hi 3), gDq2_apply q k v o d l v1 v3 hw1 h3 i (hi 2), gDq1_apply q k v o d l v1 v3 hw1 h3 i (hi 1), gDq0_apply q k v o d l v1 v3 hw1 h3 i (hi 0)]
  exact four _ _ _ _

end

end Cert.AttnVal
-- ==== Proof.AttnTrace.lean ====
/- What the accumulators hold after each pair, as sums over the rows of the whole arrays: the keys' and values' over the
   query blocks seen so far, the queries' over the key blocks seen so far. -/
module

public import proofs.«01_k».proof.Proof.AttnFrame
public import proofs.«01_k».proof.Proof.AttnPairSum

@[expose] public section

set_option synthInstance.maxHeartbeats 200000
set_option maxHeartbeats 4000000

noncomputable section

namespace Cert.AttnVal

open Cert.KernelIdeal Cert.KernelIdeal.Gen Cert.Attn Idealize.ShloMosaic Idealize.ShloMosaic.TcCoe
open Idealize.ShloMosaic.ValueIdx
open scoped BigOperators

variable (m : (ℓ : Loc nD τ sig) → Buf (Elt Ideal) ℓ) (c : Dev nD)

abbrev cfgI : Pipeline.Cfg sig Λ₀ := cfgA (F := Ideal)

theorem N576 : (cfgI).N = 576 := by decide +kernel

theorem qOf_lt : ∀ n : Fin 36, qOf n.val < 8 := by decide
theorem kOf_lt : ∀ n : Fin 36, kOf n.val < 8 := by decide
theorem kOf_le : ∀ n : Fin 36, kOf n.val ≤ qOf n.val := by decide

/-- The head, the query block and the key block of a point. -/
def hh (t : Fin (cfgI).N) : Fin 16 := ⟨t.val / 36, by have := lt_of_lt_of_eq t.isLt N576; omega⟩
def iq (t : Fin (cfgI).N) : Fin 8 := ⟨qOf (t.val % 36), qOf_lt ⟨t.val % 36, Nat.mod_lt _ (by decide)⟩⟩
def jk (t : Fin (cfgI).N) : Fin 8 := ⟨kOf (t.val % 36), kOf_lt ⟨t.val % 36, Nat.mod_lt _ (by decide)⟩⟩

theorem jk_le (t : Fin (cfgI).N) : (jk t).val ≤ (iq t).val := kOf_le ⟨t.val % 36, Nat.mod_lt _ (by decide)⟩

/-- Row `x` of block `i`. -/
def row (i : Fin 8) (x : Fin 1024) : Fin 8192 := ⟨1024 * i.val + x.val, by omega⟩
/-- Lane `e` of head `h` among lanes padded to 256, among the values' and among those of 128. -/
def cq (h : Fin 16) (e : Fin 256) : Fin 4096 := ⟨256 * h.val + e.val, by omega⟩
def cv (h : Fin 16) (e : Fin 128) : Fin 4096 := ⟨256 * h.val + 128 + e.val, by omega⟩
def co (h : Fin 16) (e : Fin 128) : Fin 2048 := ⟨128 * h.val + e.val, by omega⟩

abbrev Aq : S8192x4096.Idx → EReal := V m c main_v37
abbrev Ak : S8192x4096.Idx → EReal := V m c main_v39
abbrev Av : S8192x4096.Idx → EReal := V m c main_v42
abbrev Ao : S8192x2048.Idx → EReal := V m c main_v43
abbrev Ad : S8192x2048.Idx → EReal := V m c main_v44
abbrev Al : S16x8192x1.Idx → EReal := V m c main_v30

theorem wQ_nat (t : Fin (cfgI).N) : (wQ (crd (F := Ideal) t)).toNat = (iq t).val := by
  have h8 := (iq t).isLt
  rw [wQ_eq, coords1]
  show (BitVec.ofNat 32 (iq t).val).toNat = (iq t).val
  rw [BitVec.toNat_ofNat, Nat.mod_eq_of_lt (by omega)]
theorem wK_nat (t : Fin (cfgI).N) : (wK (crd (F := Ideal) t)).toNat = (jk t).val := by
  have h8 := (jk t).isLt
  rw [wK_eq, coords1]
  show (BitVec.ofNat 32 (jk t).val).toNat = (jk t).val
  rw [BitVec.toNat_ofNat, Nat.mod_eq_of_lt (by omega)]
theorem wH_nat (t : Fin (cfgI).N) : (BitVec.ofNat 32 ((crd (F := Ideal) t) 0).val).toNat = (hh t).val := by
  have h8 := (hh t).isLt
  rw [coords0]
  show (BitVec.ofNat 32 (hh t).val).toNat = (hh t).val
  rw [BitVec.toNat_ofNat, Nat.mod_eq_of_lt (by omega)]
theorem wV_nat (t : Fin (cfgI).N) : (Scalar.addi (Scalar.muli 2#32 (BitVec.ofNat 32 ((crd (F := Ideal) t) 0).val)) 1#32).toNat = 2 * (hh t).val + 1 := by
  have h8 := (hh t).isLt
  rw [coords0]
  show (2#32 * BitVec.ofNat 32 (hh t).val + 1#32).toNat = _
  rw [BitVec.toNat_add, BitVec.toNat_mul, BitVec.toNat_ofNat]
  show (2 * ((hh t).val % 2 ^ 32) % 2 ^ 32 + 1) % 2 ^ 32 = _
  omega

theorem bq_apply (t : Fin (cfgI).N) (x : Fin 1024) (e : Fin 256) : bq m c t (ix2 x e) = Aq m c (ix2 (row (iq t) x) (cq (hh t) e)) := by
  unfold bq iblk; rw [View.read_apply]
  show V m c main_v37 _ = V m c main_v37 _
  congr 1; funext a; apply Fin.ext
  match a with
  | ⟨0, _⟩ => show (wQ (crd (F := Ideal) t)).toNat * 1024 + 1 * x.val = 1024 * (iq t).val + x.val; rw [wQ_nat]; omega
  | ⟨1, _⟩ => show (BitVec.ofNat 32 ((crd (F := Ideal) t) 0).val).toNat * 256 + 1 * e.val = 256 * (hh t).val + e.val; rw [wH_nat]; omega

theorem bk_apply (t : Fin (cfgI).N) (x : Fin 1024) (e : Fin 256) : bk m c t (ix2 x e) = Ak m c (ix2 (row (jk t) x) (cq (hh t) e)) := by
  unfold bk iblk; rw [View.read_apply]
  show V m c main_v39 _ = V m c main_v39 _
  congr 1; funext a; apply Fin.ext
  match a with
  | ⟨0, _⟩ => show (wK (crd (F := Ideal) t)).toNat * 1024 + 1 * x.val = 1024 * (jk t).val + x.val; rw [wK_nat]; omega
  | ⟨1, _⟩ => show (BitVec.ofNat 32 ((crd (F := Ideal) t) 0).val).toNat * 256 + 1 * e.val = 256 * (hh t).val + e.val; rw [wH_nat]; omega

theorem bv_apply (t : Fin (cfgI).N) (x : Fin 1024) (e : Fin 128) : bv m c t (ix2 x e) = Av m c (ix2 (row (jk t) x) (cv (hh t) e)) := by
  unfold bv iblk; rw [View.read_apply]
  show V m c main_v42 _ = V m c main_v42 _
  congr 1; funext a; apply Fin.ext
  match a with
  | ⟨0, _⟩ => show (wK (crd (F := Ideal) t)).toNat * 1024 + 1 * x.val = 1024 * (jk t).val + x.val; rw [wK_nat]; omega
  | ⟨1, _⟩ => show (Scalar.addi (Scalar.muli 2#32 (BitVec.ofNat 32 ((crd (F := Ideal) t) 0).val)) 1#32).toNat * 128 + 1 * e.val = 256 * (hh t).val + 128 + e.val; rw [wV_nat]; omega

theorem bo_apply (t : Fin (cfgI).N) (x : Fin 1024) (e : Fin 128) : bo m c t (ix2 x e) = Ao m c (ix2 (row (iq t) x) (co (hh t) e)) := by
  unfold bo iblk; rw [View.read_apply]
  show V m c main_v43 _ = V m c main_v43 _
  congr 1; funext a; apply Fin.ext
  match a with
  | ⟨0, _⟩ => show (wQ (crd (F := Ideal) t)).toNat * 1024 + 1 * x.val = 1024 * (iq t).val + x.val; rw [wQ_nat]; omega
  | ⟨1, _⟩ => show (BitVec.ofNat 32 ((crd (F := Ideal) t) 0).val).toNat * 128 + 1 * e.val = 128 * (hh t).val + e.val; rw [wH_nat]; omega

theorem bd_apply (t : Fin (cfgI).N) (x : Fin 1024) (e : Fin 128) : bd m c t (ix2 x e) = Ad m c (ix2 (row (iq t) x) (co (hh t) e)) := by
  unfold bd iblk; rw [View.read_apply]
  show V m c main_v44 _ = V m c main_v44 _
  congr 1; funext a; apply Fin.ext
  match a with
  | ⟨0, _⟩ => show (wQ (crd (F := Ideal) t)).toNat * 1024 + 1 * x.val = 1024 * (iq t).val + x.val; rw [wQ_nat]; omega
  | ⟨1, _⟩ => show (BitVec.ofNat 32 ((crd (F := Ideal) t) 0).val).toNat * 128 + 1 * e.val = 128 * (hh t).val + e.val; rw [wH_nat]; omega

theorem place0 (i s y h : ℕ) (hi : i = h) (hs : s = 1) (hy : y = 0) : i * s + y = h := by subst hi hs hy; omega
theorem emb5_0 (t : Fin (cfgI).N) (x : Fin 1024) : ((((cfgI).win (5 : Fin 9)).blk t).view.emb (ix3 0 x 0) 0).val = (hh t).val :=
  (Pipeline.Window.rect_emb_val ((cfgI).win (5 : Fin 9)) t (ix3 0 x 0) 0).trans
    (place0 _ _ _ _ ((congrFun (tr5 (F := Ideal) (crd (F := Ideal) t)) 0).trans (wH_nat t)) rfl rfl)
theorem emb5_1 (t : Fin (cfgI).N) (x : Fin 1024) : ((((cfgI).win (5 : Fin 9)).blk t).view.emb (ix3 0 x 0) 1).val = (row (iq t) x).val := by
  show (wQ (crd (F := Ideal) t)).toNat * 1024 + 1 * x.val = 1024 * (iq t).val + x.val; rw [wQ_nat]; omega
theorem emb5_2 (t : Fin (cfgI).N) (x : Fin 1024) : (((cfgI).win (5 : Fin 9)).blk t).view.emb (ix3 0 x 0) 2 = (0 : Fin 1) :=
  Subsingleton.elim (α := Fin 1) _ _
theorem emb5 (t : Fin (cfgI).N) (x : Fin 1024) :
    (((cfgI).win (5 : Fin 9)).blk t).view.emb (ix3 0 x 0) = (ix3 (hh t) (row (iq t) x) 0 : S16x8192x1.Idx) := by
  funext a
  match a with
  | ⟨0, _⟩ => exact Fin.ext (emb5_0 t x)
  | ⟨1, _⟩ => exact Fin.ext (emb5_1 t x)
  | ⟨2, _⟩ => exact emb5_2 t x

theorem bl_apply (t : Fin (cfgI).N) (x : Fin 1024) : bl m c t (ix3 0 x 0) = Al m c (ix3 (hh t) (row (iq t) x) 0) := by
  unfold bl iblk; rw [View.read_apply]
  refine (cast_eq _ _).trans ?_
  exact congrArg (V m c main_v30) (emb5 t x)

/-! ## The same numbers over the whole arrays -/

/-- The probability of a key at a query, before the mask. -/
def wP (h : Fin 16) (x u : Fin 8192) : EReal := Ideal.exp2 ((∑ e : Fin 256, Aq m c (ix2 x (cq h e)) * Ak m c (ix2 u (cq h e))) - Al m c (ix3 h x 0))
/-- The gradient of a probability, less the query's mean of it. -/
def wE (h : Fin 16) (x u : Fin 8192) : EReal :=
  (∑ e : Fin 128, Ad m c (ix2 x (co h e)) * Av m c (ix2 u (cv h e))) - ∑ e : Fin 128, Ad m c (ix2 x (co h e)) * Ao m c (ix2 x (co h e))
/-- The probability under the mask. -/
def mP (h : Fin 16) (x u : Fin 8192) : EReal := if u.val ≤ x.val then wP m c h x u else 0
/-- The gradient of a score under the mask. -/
def mD (h : Fin 16) (x u : Fin 8192) : EReal := mP m c h x u * wE m c h x u

theorem bP_eq (t : Fin (cfgI).N) (x u : Fin 1024) :
    bP (bq m c t) (bk m c t) (bl m c t) x u = wP m c (hh t) (row (iq t) x) (row (jk t) u) := by
  unfold bP wP
  rw [bl_apply]
  simp only [bq_apply, bk_apply]

theorem bE_eq (t : Fin (cfgI).N) (x u : Fin 1024) :
    bE (bv m c t) (bo m c t) (bd m c t) x u = wE m c (hh t) (row (iq t) x) (row (jk t) u) := by
  unfold bE wE
  simp only [bd_apply, bv_apply, bo_apply]

theorem bP_mP (t : Fin (cfgI).N) (h : (jk t).val < (iq t).val) (x u : Fin 1024) :
    bP (bq m c t) (bk m c t) (bl m c t) x u = mP m c (hh t) (row (iq t) x) (row (jk t) u) := by
  unfold mP
  rw [bP_eq, if_pos]
  show 1024 * (jk t).val + u.val ≤ 1024 * (iq t).val + x.val
  have := u.isLt; omega

theorem bM_mP (t : Fin (cfgI).N) (h : (jk t).val = (iq t).val) (x u : Fin 1024) :
    bM (bq m c t) (bk m c t) (bl m c t) x u = mP m c (hh t) (row (iq t) x) (row (jk t) u) := by
  unfold bM mP
  rw [bP_eq]
  refine if_congr ?_ rfl rfl
  show _ ↔ 1024 * (jk t).val + u.val ≤ 1024 * (iq t).val + x.val
  omega

/-- One pair's share of the three gradients. -/
def shV (h : Fin 16) (i j : Fin 8) (u : Fin 1024) (e : Fin 128) : EReal := ∑ x : Fin 1024, mP m c h (row i x) (row j u) * Ad m c (ix2 (row i x) (co h e))
def shK (h : Fin 16) (i j : Fin 8) (u : Fin 1024) (e : Fin 256) : EReal := ∑ x : Fin 1024, mD m c h (row i x) (row j u) * Aq m c (ix2 (row i x) (cq h e))
def shQ (h : Fin 16) (j : Fin 8) (R : Fin 8192) (e : Fin 256) : EReal := ∑ u : Fin 1024, mD m c h R (row j u) * Ak m c (ix2 (row j u) (cq h e))

theorem cond2_iff : ∀ i : grid0.Coords, k0_cond2 (wQ i) (wK i) = 1#1 ↔ kOf (i 1).val < qOf (i 1).val := by decide +kernel
theorem cond3_iff : ∀ i : grid0.Coords, k0_cond3 (wQ i) (wK i) = 1#1 ↔ kOf (i 1).val = qOf (i 1).val := by decide +kernel
theorem cond1_iff : ∀ i : grid0.Coords, k0_cond1 i = 1#1 ↔ (i 1).val = 0 := by decide +kernel
theorem cond2_t (t : Fin (cfgI).N) : k0_cond2 (wQ (crd (F := Ideal) t)) (wK (crd (F := Ideal) t)) = 1#1 ↔ (jk t).val < (iq t).val := by
  rw [cond2_iff, coords1]; rfl
theorem cond3_t (t : Fin (cfgI).N) : k0_cond3 (wQ (crd (F := Ideal) t)) (wK (crd (F := Ideal) t)) = 1#1 ↔ (jk t).val = (iq t).val := by
  rw [cond3_iff, coords1]; rfl
theorem cond1_t (t : Fin (cfgI).N) : k0_cond1 (crd (F := Ideal) t) = 1#1 ↔ t.val % 36 = 0 := by
  rw [cond1_iff, coords1]

/-- One point's accumulator of the values. -/
theorem sv_step (t : Fin (cfgI).N) (u : Fin 1024) (e : Fin 128) :
    (st m c (t.val + 1)).2.1 (ix2 u e)
      = (if (jk t).val = (iq t).val then 0 else ((st m c t.val).2.1 (ix2 u e) : EReal)) + shV m c (hh t) (iq t) (jk t) u e := by
  rw [st_succ]
  show nSv (wQ (crd (F := Ideal) t)) (wK (crd (F := Ideal) t)) _ _ _ _ _ _ _ (ix2 u e) = _
  unfold nSv shV
  by_cases h : (jk t).val = (iq t).val
  · rw [if_pos h, if_pos ((cond3_t t).2 h), gSv_apply, zero_add]
    simp only [bM_mP m c t h, bd_apply]
  · have h2 : (jk t).val < (iq t).val := lt_of_le_of_ne (jk_le t) h
    rw [if_neg h, if_neg (fun k => h ((cond3_t t).1 k)), if_pos ((cond2_t t).2 h2), fSv_apply]
    simp only [bP_mP m c t h2, bd_apply]

theorem bD_mD (t : Fin (cfgI).N) (h : (jk t).val < (iq t).val) (x u : Fin 1024) :
    bD (bq m c t) (bk m c t) (bv m c t) (bo m c t) (bd m c t) (bl m c t) x u = mD m c (hh t) (row (iq t) x) (row (jk t) u) := by
  unfold bD mD; rw [bP_mP m c t h, bE_eq]
theorem bN_mD (t : Fin (cfgI).N) (h : (jk t).val = (iq t).val) (x u : Fin 1024) :
    bN (bq m c t) (bk m c t) (bv m c t) (bo m c t) (bd m c t) (bl m c t) x u = mD m c (hh t) (row (iq t) x) (row (jk t) u) := by
  unfold bN mD; rw [bM_mP m c t h, bE_eq]

/-- One point's accumulator of the keys. -/
theorem sk_step (t : Fin (cfgI).N) (u : Fin 1024) (e : Fin 256) :
    (st m c (t.val + 1)).1 (ix2 u e)
      = (if (jk t).val = (iq t).val then 0 else ((st m c t.val).1 (ix2 u e) : EReal)) + shK m c (hh t) (iq t) (jk t) u e := by
  rw [st_succ]
  show nSk (wQ (crd (F := Ideal) t)) (wK (crd (F := Ideal) t)) _ _ _ _ _ _ _ (ix2 u e) = _
  unfold nSk shK
  by_cases h : (jk t).val = (iq t).val
  · rw [if_pos h, if_pos ((cond3_t t).2 h), gSk_apply, zero_add]
    simp only [bN_mD m c t h, bq_apply]
  · have h2 : (jk t).val < (iq t).val := lt_of_le_of_ne (jk_le t) h
    rw [if_neg h, if_neg (fun k => h ((cond3_t t).1 k)), if_pos ((cond2_t t).2 h2), fSk_apply]
    simp only [bD_mD m c t h2, bq_apply]

theorem off2_eq : ∀ (i : grid0.Coords) (r : Fin 4), k0_off2 (wQ i) (BitVec.ofNat 32 (256 * r.val)) 0 = 1024 * qOf (i 1).val + 256 * r.val := by decide +kernel
theorem off3_eq : ∀ (i : grid0.Coords) (r : Fin 4), k0_off3 (wQ i) (BitVec.ofNat 32 (256 * r.val)) 0 = 1024 * qOf (i 1).val + 256 * r.val := by decide +kernel
theorem off2_t (t : Fin (cfgI).N) (r : Fin 4) : k0_off2 (wQ (crd (F := Ideal) t)) (BitVec.ofNat 32 (256 * r.val)) = ![1024 * (iq t).val + 256 * r.val, 0] := by
  funext a
  match a with
  | ⟨0, _⟩ => refine (off2_eq (crd (F := Ideal) t) r).trans ?_; rw [coords1]; rfl
  | ⟨1, _⟩ => rfl
theorem off3_t (t : Fin (cfgI).N) (r : Fin 4) : k0_off3 (wQ (crd (F := Ideal) t)) (BitVec.ofNat 32 (256 * r.val)) = ![1024 * (iq t).val + 256 * r.val, 0] := by
  funext a
  match a with
  | ⟨0, _⟩ => refine (off3_eq (crd (F := Ideal) t) r).trans ?_; rw [coords1]; rfl
  | ⟨1, _⟩ => rfl

theorem row_rl (i : Fin 8) (R : Fin 8192) (h : R.val / 1024 = i.val) : row i (rl R) = R :=
  Fin.ext (by show 1024 * i.val + R.val % 1024 = R.val; omega)

/-- One point's gradient of the queries. -/
theorem dq_step (t : Fin (cfgI).N) (R : Fin 8192) (e : Fin 256) :
    (st m c (t.val + 1)).2.2 (ix2 R e)
      = (if t.val % 36 = 0 then 0 else ((st m c t.val).2.2 (ix2 R e) : EReal)) + (if R.val / 1024 = (iq t).val then shQ m c (hh t) (jk t) R e else 0) := by
  rw [st_succ]
  show nDq (crd (F := Ideal) t) (wQ (crd (F := Ideal) t)) (wK (crd (F := Ideal) t)) _ _ _ _ _ _ _ _ (ix2 R e) = _
  unfold nDq
  have hx : (if k0_cond1 (crd (F := Ideal) t) = 1#1 then k0_pay1 (F := Ideal) else (st m c t.val).2.2) (ix2 R e)
      = (if t.val % 36 = 0 then 0 else ((st m c t.val).2.2 (ix2 R e) : EReal)) := by
    by_cases h0 : t.val % 36 = 0
    · rw [if_pos h0, if_pos ((cond1_t t).2 h0)]; exact zero_bits
    · rw [if_neg h0, if_neg (fun k => h0 ((cond1_t t).1 k))]
  rw [← hx]
  by_cases h : (jk t).val = (iq t).val
  · have h2 : ¬ k0_cond2 (wQ (crd (F := Ideal) t)) (wK (crd (F := Ideal) t)) = 1#1 := fun k => absurd ((cond2_t t).1 k) (by omega)
    have h3 := (cond3_t t).2 h
    simp only [dif_pos h3, dif_neg h2]
    rw [gDq_apply _ _ _ _ _ _ _ _ _ h3 (iq t).val (off3_t t)]
    refine congrArg (_ + ·) (ite_congr rfl (fun hR => ?_) (fun _ => rfl))
    unfold shQ
    simp only [bN_mD m c t h, bk_apply, row_rl (iq t) R hR]
  · have hlt : (jk t).val < (iq t).val := lt_of_le_of_ne (jk_le t) h
    have h3 : ¬ k0_cond3 (wQ (crd (F := Ideal) t)) (wK (crd (F := Ideal) t)) = 1#1 := fun k => h ((cond3_t t).1 k)
    have h2 := (cond2_t t).2 hlt
    simp only [dif_neg h3, dif_pos h2]
    rw [fDq_apply _ _ _ _ _ _ _ _ _ h2 (iq t).val (off2_t t)]
    refine congrArg (_ + ·) (ite_congr rfl (fun hR => ?_) (fun _ => rfl))
    unfold shQ
    simp only [bD_mD m c t hlt, bk_apply, row_rl (iq t) R hR]

end Cert.AttnVal
-- ==== Proof.AttnSum.lean ====
/- The accumulators' recurrences closed: a key block's sums over all queries, a head's gradient of the queries over all keys. -/
module

public import proofs.«01_k».proof.Proof.AttnTrace

@[expose] public section

set_option synthInstance.maxHeartbeats 200000
set_option maxHeartbeats 4000000

noncomputable section

namespace Cert.AttnVal

open Cert.KernelIdeal Cert.KernelIdeal.Gen Cert.Attn Idealize.ShloMosaic Idealize.ShloMosaic.TcCoe
open Idealize.ShloMosaic.ValueIdx
open scoped BigOperators

variable (m : (ℓ : Loc nD τ sig) → Buf (Elt Ideal) ℓ) (c : Dev nD)

theorem prev_off : ∀ n : Fin 36, kOf n.val < qOf n.val → n.val ≠ 0 ∧ kOf (n.val - 1) = kOf n.val ∧ qOf (n.val - 1) + 1 = qOf n.val := by decide
theorem prev_dia : ∀ n : Fin 36, kOf n.val = qOf n.val → n.val ≠ 0 → kOf (n.val - 1) + 1 = kOf n.val ∧ qOf (n.val - 1) = 7 := by decide

/-- The point before. -/
def pv (t : Fin (cfgI).N) : Fin (cfgI).N := ⟨t.val - 1, lt_of_le_of_lt (Nat.sub_le _ _) t.isLt⟩

theorem pv_mod (t : Fin (cfgI).N) (h : t.val % 36 ≠ 0) : (pv t).val % 36 = t.val % 36 - 1 := by show (t.val - 1) % 36 = _; omega
theorem pv_succ (t : Fin (cfgI).N) (h : t.val % 36 ≠ 0) : (pv t).val + 1 = t.val := by show t.val - 1 + 1 = _; omega
theorem pv_hh (t : Fin (cfgI).N) (h : t.val % 36 ≠ 0) : hh (pv t) = hh t := Fin.ext (by show (t.val - 1) / 36 = t.val / 36; omega)

theorem pv_off (t : Fin (cfgI).N) (h : (jk t).val < (iq t).val) : t.val % 36 ≠ 0 ∧ jk (pv t) = jk t ∧ (iq (pv t)).val + 1 = (iq t).val := by
  obtain ⟨h0, hk, hq⟩ := prev_off ⟨t.val % 36, Nat.mod_lt _ (by decide)⟩ h
  refine ⟨h0, Fin.ext ?_, ?_⟩
  · show kOf ((pv t).val % 36) = kOf (t.val % 36); rw [pv_mod t h0]; exact hk
  · show qOf ((pv t).val % 36) + 1 = qOf (t.val % 36); rw [pv_mod t h0]; exact hq
theorem pv_dia (t : Fin (cfgI).N) (h : (jk t).val = (iq t).val) (h0 : t.val % 36 ≠ 0) : (jk (pv t)).val + 1 = (jk t).val ∧ (iq (pv t)).val = 7 := by
  obtain ⟨hk, hq⟩ := prev_dia ⟨t.val % 36, Nat.mod_lt _ (by decide)⟩ h h0
  constructor
  · show kOf ((pv t).val % 36) + 1 = kOf (t.val % 36); rw [pv_mod t h0]; exact hk
  · show qOf ((pv t).val % 36) = 7; rw [pv_mod t h0]; exact hq

theorem mP_zero (h : Fin 16) (i j : Fin 8) (hij : i.val < j.val) (x u : Fin 1024) : mP m c h (row i x) (row j u) = 0 := by
  unfold mP; rw [if_neg]
  show ¬ 1024 * j.val + u.val ≤ 1024 * i.val + x.val
  have := x.isLt; omega
theorem shV_zero (h : Fin 16) (i j : Fin 8) (hij : i.val < j.val) (u : Fin 1024) (e : Fin 128) : shV m c h i j u e = 0 := by
  unfold shV; refine Finset.sum_eq_zero fun x _ => ?_; rw [mP_zero m c h i j hij, zero_mul]
theorem shK_zero (h : Fin 16) (i j : Fin 8) (hij : i.val < j.val) (u : Fin 1024) (e : Fin 256) : shK m c h i j u e = 0 := by
  unfold shK mD; refine Finset.sum_eq_zero fun x _ => ?_; rw [mP_zero m c h i j hij, zero_mul, zero_mul]
theorem shQ_zero (h : Fin 16) (j : Fin 8) (R : Fin 8192) (hj : R.val / 1024 < j.val) (e : Fin 256) : shQ m c h j R e = 0 := by
  unfold shQ mD; refine Finset.sum_eq_zero fun u _ => ?_
  have : mP m c h R (row j u) = 0 := by
    unfold mP; rw [if_neg]
    show ¬ 1024 * j.val + u.val ≤ R.val
    omega
  rw [this, zero_mul, zero_mul]

/-- A block's number as a natural number, nothing beyond the eighth. -/
def nat8 (f : Fin 8 → EReal) (n : ℕ) : EReal := if h : n < 8 then f ⟨n, h⟩ else 0
theorem nat8_val (f : Fin 8 → EReal) (i : Fin 8) : nat8 f i.val = f i := dif_pos i.isLt
theorem sum_nat8 (f : Fin 8 → EReal) : ∑ n ∈ Finset.range 8, nat8 f n = ∑ i, f i := by
  rw [Finset.sum_range]; exact Finset.sum_congr rfl fun i _ => nat8_val f i

/-- A sum restarted on the diagonal and added to below it. -/
theorem restart (f : Fin 8 → EReal) (i : Fin 8) (h : ∀ i' : Fin 8, i'.val < i.val → f i' = 0) :
    ∑ n ∈ Finset.range (i.val + 1), nat8 f n = f i := by
  rw [Finset.sum_range_succ, nat8_val, Finset.sum_eq_zero, zero_add]
  intro n hn
  have hn := Finset.mem_range.1 hn
  unfold nat8
  rw [dif_pos (by omega)]
  exact h _ hn

theorem sv_sum (n : ℕ) : ∀ (hn : n < (cfgI).N) (u : Fin 1024) (e : Fin 128), (st m c (n + 1)).2.1 (ix2 u e)
    = ∑ k ∈ Finset.range ((iq ⟨n, hn⟩).val + 1), nat8 (fun i => shV m c (hh ⟨n, hn⟩) i (jk ⟨n, hn⟩) u e) k := by
  induction n with
  | zero =>
    intro hn u e
    have hd : (jk ⟨0, hn⟩).val = (iq ⟨0, hn⟩).val := rfl
    rw [restart _ _ fun i' hi => shV_zero m c _ _ _ (by omega) u e]
    refine (sv_step m c ⟨0, hn⟩ u e).trans ?_
    rw [if_pos hd, zero_add]
  | succ n ih =>
    intro hn u e
    refine (sv_step m c ⟨n + 1, hn⟩ u e).trans ?_
    by_cases hd : (jk ⟨n + 1, hn⟩).val = (iq ⟨n + 1, hn⟩).val
    · rw [restart _ _ fun i' hi => shV_zero m c _ _ _ (by omega) u e, if_pos hd, zero_add]
    · obtain ⟨h0, hk, hq⟩ := pv_off ⟨n + 1, hn⟩ (lt_of_le_of_ne (jk_le _) hd)
      rw [if_neg hd, Finset.sum_range_succ, nat8_val, ← hq, ← hk, ← pv_hh ⟨n + 1, hn⟩ h0]
      exact congrArg (· + _) (ih (Nat.lt_of_succ_lt hn) u e)

theorem sk_sum (n : ℕ) : ∀ (hn : n < (cfgI).N) (u : Fin 1024) (e : Fin 256), (st m c (n + 1)).1 (ix2 u e)
    = ∑ k ∈ Finset.range ((iq ⟨n, hn⟩).val + 1), nat8 (fun i => shK m c (hh ⟨n, hn⟩) i (jk ⟨n, hn⟩) u e) k := by
  induction n with
  | zero =>
    intro hn u e
    have hd : (jk ⟨0, hn⟩).val = (iq ⟨0, hn⟩).val := rfl
    rw [restart _ _ fun i' hi => shK_zero m c _ _ _ (by omega) u e]
    refine (sk_step m c ⟨0, hn⟩ u e).trans ?_
    rw [if_pos hd, zero_add]
  | succ n ih =>
    intro hn u e
    refine (sk_step m c ⟨n + 1, hn⟩ u e).trans ?_
    by_cases hd : (jk ⟨n + 1, hn⟩).val = (iq ⟨n + 1, hn⟩).val
    · rw [restart _ _ fun i' hi => shK_zero m c _ _ _ (by omega) u e, if_pos hd, zero_add]
    · obtain ⟨h0, hk, hq⟩ := pv_off ⟨n + 1, hn⟩ (lt_of_le_of_ne (jk_le _) hd)
      rw [if_neg hd, Finset.sum_range_succ, nat8_val, ← hq, ← hk, ← pv_hh ⟨n + 1, hn⟩ h0]
      exact congrArg (· + _) (ih (Nat.lt_of_succ_lt hn) u e)

/-- How many key blocks a row of query block `r` has met when pair `(i, j)` is done. -/
def met (i j r : ℕ) : ℕ := if r ≤ i then j + 1 else j

theorem met_first (f : Fin 8 → EReal) (r i : ℕ) (j : Fin 8) (hi : i = 0) (hj : j.val = 0) :
    (if r = i then f j else 0) = ∑ k ∈ Finset.range (met i j.val r), nat8 f k := by
  have hj' : j = (0 : Fin 8) := Fin.ext hj
  subst hi hj'
  unfold met
  by_cases hR : r = 0
  · rw [if_pos hR, if_pos (by omega)]
    show _ = ∑ k ∈ Finset.range (0 + 1), _
    rw [Finset.sum_range_one]; exact (nat8_val _ (0 : Fin 8)).symm
  · rw [if_neg hR, if_neg (by omega)]; rfl
theorem met_off (f : Fin 8 → EReal) (r i i' j' : ℕ) (j : Fin 8) (hk : j' = j.val) (hq : i' + 1 = i) :
    ∑ k ∈ Finset.range (met i' j' r), nat8 f k + (if r = i then f j else 0) = ∑ k ∈ Finset.range (met i j.val r), nat8 f k := by
  by_cases hR : r = i
  · have e1 : met i' j' r = j.val := by unfold met; rw [if_neg (by omega), hk]
    have e2 : met i j.val r = j.val + 1 := by unfold met; rw [if_pos (by omega)]
    rw [e1, e2, if_pos hR, Finset.sum_range_succ, nat8_val]
  · have e2 : met i' j' r = met i j.val r := by
      unfold met; rw [hk]; exact if_congr (by omega) rfl rfl
    rw [if_neg hR, add_zero, e2]
theorem met_dia (f : Fin 8 → EReal) (r i i' j' : ℕ) (j : Fin 8) (hd : j.val = i) (hr : r < 8) (hk : j' + 1 = j.val) (hq : i' = 7)
    (hf : r < j.val → f j = 0) :
    ∑ k ∈ Finset.range (met i' j' r), nat8 f k + (if r = i then f j else 0) = ∑ k ∈ Finset.range (met i j.val r), nat8 f k := by
  have e1 : met i' j' r = j.val := by unfold met; rw [if_pos (by omega), hk]
  rw [e1]
  by_cases hR : r = i
  · have e2 : met i j.val r = j.val + 1 := by unfold met; rw [if_pos (by omega)]
    rw [e2, if_pos hR, Finset.sum_range_succ, nat8_val]
  · rw [if_neg hR, add_zero]
    by_cases hlt : r < i
    · have e2 : met i j.val r = j.val + 1 := by unfold met; rw [if_pos (by omega)]
      rw [e2, Finset.sum_range_succ, nat8_val, hf (by omega), add_zero]
    · have e2 : met i j.val r = j.val := by unfold met; rw [if_neg (by omega)]
      rw [e2]

theorem blk_lt (R : Fin 8192) : R.val / 1024 < 8 := by have := R.isLt; omega
theorem iq_first (t : Fin (cfgI).N) (h0 : t.val % 36 = 0) : (iq t).val = 0 := by show qOf (t.val % 36) = 0; rw [h0]; rfl
theorem jk_first (t : Fin (cfgI).N) (h0 : t.val % 36 = 0) : (jk t).val = 0 := by show kOf (t.val % 36) = 0; rw [h0]; rfl

theorem dq_sum (n : ℕ) : ∀ (hn : n < (cfgI).N) (R : Fin 8192) (e : Fin 256), (st m c (n + 1)).2.2 (ix2 R e)
    = ∑ k ∈ Finset.range (met (iq ⟨n, hn⟩).val (jk ⟨n, hn⟩).val (R.val / 1024)), nat8 (fun j => shQ m c (hh ⟨n, hn⟩) j R e) k := by
  induction n with
  | zero =>
    intro hn R e
    refine (dq_step m c ⟨0, hn⟩ R e).trans ?_
    rw [if_pos (Nat.zero_mod 36), zero_add]
    exact met_first (fun j => shQ m c (hh ⟨0, hn⟩) j R e) _ _ _ (iq_first _ (Nat.zero_mod 36)) (jk_first _ (Nat.zero_mod 36))
  | succ n ih =>
    intro hn R e
    refine (dq_step m c ⟨n + 1, hn⟩ R e).trans ?_
    have ih' : (st m c (n + 1)).2.2 (ix2 R e) = ∑ k ∈ Finset.range (met (iq (pv ⟨n + 1, hn⟩)).val (jk (pv ⟨n + 1, hn⟩)).val (R.val / 1024)), nat8 (fun j => shQ m c (hh (pv ⟨n + 1, hn⟩)) j R e) k :=
      ih (Nat.lt_of_succ_lt hn) R e
    clear ih
    by_cases h0 : (n + 1) % 36 = 0
    · rw [if_pos h0, zero_add]
      exact met_first (fun j => shQ m c (hh ⟨n + 1, hn⟩) j R e) _ _ _ (iq_first _ h0) (jk_first _ h0)
    rw [if_neg h0]
    refine (congrArg (· + _) ih').trans ?_
    rw [pv_hh ⟨n + 1, hn⟩ h0]
    by_cases hd : (jk ⟨n + 1, hn⟩).val = (iq ⟨n + 1, hn⟩).val
    · obtain ⟨hk, hq⟩ := pv_dia ⟨n + 1, hn⟩ hd h0
      exact met_dia (fun j => shQ m c (hh ⟨n + 1, hn⟩) j R e) _ _ _ _ _ hd (blk_lt R) hk hq (fun hlt => shQ_zero m c _ _ R hlt e)
    · obtain ⟨_, hk, hq⟩ := pv_off ⟨n + 1, hn⟩ (lt_of_le_of_ne (jk_le _) hd)
      exact met_off (fun j => shQ m c (hh ⟨n + 1, hn⟩) j R e) _ _ _ _ _ (congrArg Fin.val hk) hq

/-- A sum over all rows, block by block. -/
theorem sum_rows (f : Fin 8192 → EReal) : ∑ x, f x = ∑ i : Fin 8, ∑ x : Fin 1024, f (row i x) := by
  rw [← Finset.sum_product', Finset.univ_product_univ]
  refine (Fintype.sum_equiv (finProdFinEquiv (m := 8) (n := 1024)) _ f fun p => congrArg f (Fin.ext ?_)).symm
  show 1024 * p.1.val + p.2.val = p.2.val + 1024 * p.1.val
  omega

/-- The three gradients over all rows. -/
def GV (h : Fin 16) (U : Fin 8192) (e : Fin 128) : EReal := ∑ x : Fin 8192, mP m c h x U * Ad m c (ix2 x (co h e))
def GK (h : Fin 16) (U : Fin 8192) (e : Fin 256) : EReal := ∑ x : Fin 8192, mD m c h x U * Aq m c (ix2 x (cq h e))
def GQ (h : Fin 16) (R : Fin 8192) (e : Fin 256) : EReal := ∑ u : Fin 8192, mD m c h R u * Ak m c (ix2 u (cq h e))

theorem GV_blocks (h : Fin 16) (j : Fin 8) (u : Fin 1024) (e : Fin 128) : ∑ i, shV m c h i j u e = GV m c h (row j u) e :=
  (sum_rows fun x => mP m c h x (row j u) * Ad m c (ix2 x (co h e))).symm
theorem GK_blocks (h : Fin 16) (j : Fin 8) (u : Fin 1024) (e : Fin 256) : ∑ i, shK m c h i j u e = GK m c h (row j u) e :=
  (sum_rows fun x => mD m c h x (row j u) * Aq m c (ix2 x (cq h e))).symm
theorem GQ_blocks (h : Fin 16) (R : Fin 8192) (e : Fin 256) : ∑ j, shQ m c h j R e = GQ m c h R e :=
  (sum_rows fun u => mD m c h R u * Ak m c (ix2 u (cq h e))).symm

theorem range_last (f : Fin 8 → EReal) (n : ℕ) (h : n = 8) : ∑ k ∈ Finset.range n, nat8 f k = ∑ i, f i := by rw [h, sum_nat8]

theorem sv_last (t : Fin (cfgI).N) (h : (iq t).val = 7) (u : Fin 1024) (e : Fin 128) : (st m c (t.val + 1)).2.1 (ix2 u e) = GV m c (hh t) (row (jk t) u) e :=
  ((sv_sum m c t.val t.isLt u e).trans (range_last (fun i => shV m c (hh t) i (jk t) u e) _ (congrArg (· + 1) h))).trans (GV_blocks m c (hh t) (jk t) u e)
theorem sk_last (t : Fin (cfgI).N) (h : (iq t).val = 7) (u : Fin 1024) (e : Fin 256) : (st m c (t.val + 1)).1 (ix2 u e) = GK m c (hh t) (row (jk t) u) e :=
  ((sk_sum m c t.val t.isLt u e).trans (range_last (fun i => shK m c (hh t) i (jk t) u e) _ (congrArg (· + 1) h))).trans (GK_blocks m c (hh t) (jk t) u e)
theorem met_last (t : Fin (cfgI).N) (h : t.val % 36 = 35) (r : ℕ) (hr : r < 8) : met (iq t).val (jk t).val r = 8 := by
  have hi : (iq t).val = 7 := by show qOf (t.val % 36) = 7; rw [h]; rfl
  have hj : (jk t).val = 7 := by show kOf (t.val % 36) = 7; rw [h]; rfl
  rw [hi, hj]; exact if_pos (Nat.le_of_lt_succ hr)
theorem dq_last (t : Fin (cfgI).N) (h : t.val % 36 = 35) (R : Fin 8192) (e : Fin 256) : (st m c (t.val + 1)).2.2 (ix2 R e) = GQ m c (hh t) R e :=
  ((dq_sum m c t.val t.isLt R e).trans (range_last (fun j => shQ m c (hh t) j R e) _ (met_last t h _ (blk_lt R)))).trans (GQ_blocks m c (hh t) R e)

end Cert.AttnVal
-- ==== Proof.AttnArr.lean ====
/- The three results after the run, index by index: what the last point of each block has written out. -/
module

public import proofs.«01_k».proof.Proof.AttnSum
public import Idealize.ShloMosaic.Lib.Pipeline.ValueKit.Geometry

@[expose] public section

set_option synthInstance.maxHeartbeats 200000
set_option maxHeartbeats 4000000

noncomputable section

namespace Cert.AttnVal

open Cert.KernelIdeal Cert.KernelIdeal.Gen Cert.Attn Idealize.ShloMosaic Idealize.ShloMosaic.TcCoe
open Idealize.ShloMosaic.ValueIdx
open scoped BigOperators

variable (m : (ℓ : Loc nD τ sig) → Buf (Elt Ideal) ℓ) (c : Dev nD)

/-- Columns `off ..` of a block. -/
theorem ld_cols {A B C : ℕ} {e : EltTy} (X : Vec Ideal (M2 A C) e) (off : ℕ)
    (inb : ∀ a, (![0, off] : Fin 2 → ℕ) a + (M2 A B).size a ≤ (M2 A C).size a) (x : Fin A) (b : Fin B) (h : off + b.val < C) :
    View.ld X (Rect.unit (s := M2 A C) ![0, off] (M2 A B).size inb) (ix2 x b) = X (ix2 x ⟨off + b.val, h⟩) := by
  show X ((Rect.unit (s := M2 A C) ![0, off] (M2 A B).size inb).idx (ix2 x b)) = _
  congr 1
  funext a; apply Fin.ext
  match a with
  | ⟨0, _⟩ => show 0 + 1 * x.val = x.val; omega
  | ⟨1, _⟩ => show off + 1 * b.val = off + b.val; omega

theorem ov_cols {A B C : ℕ} {e : EltTy} (X : Vec Ideal (M2 A C) e) (off : ℕ)
    (inb : ∀ a, (![0, off] : Fin 2 → ℕ) a + (M2 A B).size a ≤ (M2 A C).size a) (G : Vec Ideal (M2 A B) e) (x : Fin A) (b : Fin C) :
    (Rect.unit (s := M2 A C) ![0, off] (M2 A B).size inb).overlay X G (ix2 x b)
      = if h : off ≤ b.val ∧ b.val < off + B then G (ix2 x ⟨b.val - off, by omega⟩) else X (ix2 x b) := by
  split
  · rename_i h
    have e1 : (ix2 x b : (M2 A C).Idx) = (Rect.unit (s := M2 A C) ![0, off] (M2 A B).size inb).emb (ix2 x ⟨b.val - off, by omega⟩) := by
      funext a; apply Fin.ext
      match a with
      | ⟨0, _⟩ => show x.val = 0 + 1 * x.val; omega
      | ⟨1, _⟩ => show b.val = off + 1 * (b.val - off); omega
    rw [e1, Rect.overlay_emb]
  · rename_i h
    refine Rect.overlay_of_not_mem _ _ _ fun hm => h ?_
    rw [Rect.mem_set_unit] at hm
    exact hm 1

/-- The constant the kernel writes as a word is the logarithm of two. -/
abbrev ln2 : EReal := ((Real.log 2 : ℝ) : EReal)

theorem pay2_apply (v : FVec Ideal (M2 1024 128) .f32) (x : Fin 1024) (e : Fin 128) : k0_pay2 (F := Ideal) v (ix2 x e) = v (ix2 x e) * ln2 := by
  show v (ix2 x e) * Named.named (F := Ideal) κ "ln2" (φ := .f32) 0x3F317218#32 = _
  rw [show Named.named (F := Ideal) κ "ln2" (φ := .f32) 0x3F317218#32 = ln2 from IdealRules.named_const.ideal_named_scalar _ _ _ _ rfl]
theorem pay4_apply (v : FVec Ideal (M2 1024 128) .f32) (x : Fin 1024) (e : Fin 128) : k0_pay4 (F := Ideal) v (ix2 x e) = v (ix2 x e) * ln2 := by
  show v (ix2 x e) * Named.named (F := Ideal) κ "ln2" (φ := .f32) 0x3F317218#32 = _
  rw [show Named.named (F := Ideal) κ "ln2" (φ := .f32) 0x3F317218#32 = ln2 from IdealRules.named_const.ideal_named_scalar _ _ _ _ rfl]

theorem wG_apply (g : Vec Ideal (M2 1024 256) .bf16) (sk : Vec Ideal (M2 1024 256) .f32) (sv : Vec Ideal (M2 1024 128) .f32) (x : Fin 1024) (b : Fin 256) :
    wG (F := Ideal) g sk sv (ix2 x b) = if h : b.val < 128 then (sk (ix2 x b) * ln2 : EReal) else sv (ix2 x ⟨b.val - 128, by omega⟩) := by
  unfold wG
  refine (ov_cols (A := 1024) (B := 128) (C := 256) _ 128 _ _ x b).trans ?_
  by_cases h : b.val < 128
  · rw [dif_neg (by omega), dif_pos h]
    refine (ov_cols (A := 1024) (B := 128) (C := 256) _ 0 _ _ x b).trans ?_
    rw [dif_pos ⟨Nat.zero_le _, by omega⟩]
    refine (pay2_apply _ x _).trans ?_
    refine congrArg (· * ln2) ((ld_cols (A := 1024) (B := 128) (C := 256) sk 0 _ x _ (by show 0 + (b.val - 0) < 256; omega)).trans ?_)
    refine congrArg sk (congrArg (ix2 x) (Fin.ext ?_))
    show 0 + (b.val - 0) = b.val
    omega
  · rw [dif_neg h, dif_pos ⟨by omega, by have := b.isLt; omega⟩]
    rfl

theorem wGr_apply (sk : Vec Ideal (M2 1024 256) .f32) (x : Fin 1024) (b : Fin 128) :
    wGr (F := Ideal) sk (ix2 x b) = (sk (ix2 x ⟨128 + b.val, by omega⟩) * ln2 : EReal) := by
  unfold wGr
  refine (pay4_apply _ x b).trans ?_
  exact congrArg (· * ln2) (ld_cols (A := 1024) (B := 128) (C := 256) sk 128 _ x b _)

/-! ## The arrays -/

theorem fl6_iff : ∀ t : Fin grid0.N, fl6 t = true ↔ qOf (t.val % 36) = 7 := by decide +kernel
theorem fl8_iff : ∀ t : Fin grid0.N, fl8 t = true ↔ t.val % 36 = 35 := by decide +kernel

/-- The last pair of key block `j`. -/
def lastOf (j : ℕ) : ℕ := [7, 14, 20, 25, 29, 32, 34, 35].getD j 0
theorem last_facts : ∀ j : Fin 8, lastOf j.val < 36 ∧ qOf (lastOf j.val) = 7 ∧ kOf (lastOf j.val) = j.val := by decide

/-- Head `h`'s last pair of key block `j`. -/
def tl (h : Fin 16) (j : Fin 8) : Fin (cfgI).N := ⟨36 * h.val + lastOf j.val, by rw [N576]; have := (last_facts j).1; omega⟩
theorem tl_mod (h : Fin 16) (j : Fin 8) : (tl h j).val % 36 = lastOf j.val := by
  have := (last_facts j).1; show (36 * h.val + lastOf j.val) % 36 = _; omega
theorem tl_hh (h : Fin 16) (j : Fin 8) : hh (tl h j) = h := by
  have := (last_facts j).1; apply Fin.ext; show (36 * h.val + lastOf j.val) / 36 = _; omega
theorem tl_iq (h : Fin 16) (j : Fin 8) : qOf ((tl h j).val % 36) = 7 := by rw [tl_mod]; exact (last_facts j).2.1
theorem tl_jk (h : Fin 16) (j : Fin 8) : jk (tl h j) = j := by
  apply Fin.ext; show kOf ((tl h j).val % 36) = _; rw [tl_mod]; exact (last_facts j).2.2

theorem emb6 (t : Fin (cfgI).N) (x : Fin 1024) (b : Fin 256) :
    (((cfgI).win (6 : Fin 9)).blk t).view.emb (ix2 x b) = (ix2 (row (jk t) x) (cq (hh t) b) : S8192x4096.Idx) := by
  funext a; apply Fin.ext
  match a with
  | ⟨0, _⟩ => show (wK (crd (F := Ideal) t)).toNat * 1024 + 1 * x.val = 1024 * (jk t).val + x.val; rw [wK_nat]; omega
  | ⟨1, _⟩ => show (BitVec.ofNat 32 ((crd (F := Ideal) t) 0).val).toNat * 256 + 1 * b.val = 256 * (hh t).val + b.val; rw [wH_nat]; omega
theorem emb7 (t : Fin (cfgI).N) (x : Fin 1024) (b : Fin 128) :
    (((cfgI).win (7 : Fin 9)).blk t).view.emb (ix2 x b) = (ix2 (row (jk t) x) (co (hh t) b) : S8192x2048.Idx) := by
  funext a; apply Fin.ext
  match a with
  | ⟨0, _⟩ => show (wK (crd (F := Ideal) t)).toNat * 1024 + 1 * x.val = 1024 * (jk t).val + x.val; rw [wK_nat]; omega
  | ⟨1, _⟩ => show (BitVec.ofNat 32 ((crd (F := Ideal) t) 0).val).toNat * 128 + 1 * b.val = 128 * (hh t).val + b.val; rw [wH_nat]; omega
theorem emb8 (t : Fin (cfgI).N) (R : Fin 8192) (b : Fin 256) :
    (((cfgI).win (8 : Fin 9)).blk t).view.emb (ix2 R b) = (ix2 R (cq (hh t) b) : S8192x4096.Idx) := by
  funext a; apply Fin.ext
  match a with
  | ⟨0, _⟩ => show (0#32).toNat * 8192 + 1 * R.val = R.val; rw [show (0#32).toNat = 0 from rfl]; omega
  | ⟨1, _⟩ => show (BitVec.ofNat 32 ((crd (F := Ideal) t) 0).val).toNat * 256 + 1 * b.val = 256 * (hh t).val + b.val; rw [wH_nat]; omega

/-- A lane's head and place in it; a row's block and place in it. -/
def hd256 (C : Fin 4096) : Fin 16 := ⟨C.val / 256, by omega⟩
def pl256 (C : Fin 4096) : Fin 256 := ⟨C.val % 256, by omega⟩
def hd128 (C : Fin 2048) : Fin 16 := ⟨C.val / 128, by omega⟩
def pl128 (C : Fin 2048) : Fin 128 := ⟨C.val % 128, by omega⟩
def bl8 (R : Fin 8192) : Fin 8 := ⟨R.val / 1024, by omega⟩

theorem cq_hd (C : Fin 4096) : cq (hd256 C) (pl256 C) = C := Fin.ext (by show 256 * (C.val / 256) + C.val % 256 = C.val; omega)
theorem co_hd (C : Fin 2048) : co (hd128 C) (pl128 C) = C := Fin.ext (by show 128 * (C.val / 128) + C.val % 128 = C.val; omega)
theorem row_bl (R : Fin 8192) : row (bl8 R) (rl R) = R := Fin.ext (by show 1024 * (R.val / 1024) + R.val % 1024 = R.val; omega)
theorem hd_cq (h : Fin 16) (b : Fin 256) : hd256 (cq h b) = h := Fin.ext (by show (256 * h.val + b.val) / 256 = h.val; omega)
theorem pl_cq (h : Fin 16) (b : Fin 256) : pl256 (cq h b) = b := Fin.ext (by show (256 * h.val + b.val) % 256 = b.val; omega)
theorem hd_co (h : Fin 16) (b : Fin 128) : hd128 (co h b) = h := Fin.ext (by show (128 * h.val + b.val) / 128 = h.val; omega)
theorem pl_co (h : Fin 16) (b : Fin 128) : pl128 (co h b) = b := Fin.ext (by show (128 * h.val + b.val) % 128 = b.val; omega)

/-- The gradients of head `h`'s own keys and values, side by side. -/
def kv (h : Fin 16) (U : Fin 8192) (b : Fin 256) : EReal := if g : b.val < 128 then GK m c h U b * ln2 else GV m c h U ⟨b.val - 128, by omega⟩

def G6 : S8192x4096.Idx → EReal := fun i => kv m c (hd256 (i 1)) (i 0) (pl256 (i 1))
def G7 : S8192x2048.Idx → EReal := fun i => GK m c (hd128 (i 1)) (i 0) ⟨128 + (pl128 (i 1)).val, by have := (pl128 (i 1)).isLt; omega⟩ * ln2
def G8 : S8192x4096.Idx → EReal := fun i => GQ m c (hd256 (i 1)) (i 0) (pl256 (i 1))

theorem cov6 (R : Fin 8192) (C : Fin 4096) : ∃ t : Fin (cfgI).N, qOf (t.val % 36) = 7 ∧ ∃ y : (M2 1024 256).Idx,
    (((cfgI).win (6 : Fin 9)).blk t).view.emb y = (ix2 R C : S8192x4096.Idx) := by
  refine ⟨tl (hd256 C) (bl8 R), tl_iq _ _, ix2 (rl R) (pl256 C), ?_⟩
  rw [emb6, tl_hh, tl_jk, cq_hd, row_bl]

theorem final6 : (dats m 0 c).arrAt (6 : Fin 9) (cfgI).N = G6 m c := by
  refine (dats m 0 c).arrAt_eq_of_emb (6 : Fin 9) (G6 m c) (fun t hf y => ?_) (fun i => ?_)
  · have hq : (iq t).val = 7 := (fl6_iff t).1 hf
    obtain ⟨x, b, rfl⟩ : ∃ (x : Fin 1024) (b : Fin 256), y = (ix2 x b : (M2 1024 256).Idx) := ⟨y 0, y 1, eq_ix2 _⟩
    rw [emb6]
    show wG (F := Ideal) (bq m c t) (st m c (t.val + 1)).1 (st m c (t.val + 1)).2.1 (ix2 x b) = kv m c (hd256 (cq (hh t) b)) (row (jk t) x) (pl256 (cq (hh t) b))
    rw [hd_cq, pl_cq, wG_apply]
    unfold kv
    refine dite_congr rfl (fun h => ?_) (fun h => ?_)
    · rw [sk_last m c t hq]
    · rw [sv_last m c t hq]
  · obtain ⟨t, ht, y, hy⟩ := cov6 (i 0) (i 1)
    rw [show i = _ from (eq_ix2 i).trans hy.symm]
    exact ⟨t, (fl6_iff _).2 ht, View.emb_mem_set _ _⟩

theorem cov7 (R : Fin 8192) (C : Fin 2048) : ∃ t : Fin (cfgI).N, qOf (t.val % 36) = 7 ∧ ∃ y : (M2 1024 128).Idx,
    (((cfgI).win (7 : Fin 9)).blk t).view.emb y = (ix2 R C : S8192x2048.Idx) := by
  refine ⟨tl (hd128 C) (bl8 R), tl_iq _ _, ix2 (rl R) (pl128 C), ?_⟩
  rw [emb7, tl_hh, tl_jk, co_hd, row_bl]

theorem final7 : (dats m 0 c).arrAt (7 : Fin 9) (cfgI).N = G7 m c := by
  refine (dats m 0 c).arrAt_eq_of_emb (7 : Fin 9) (G7 m c) (fun t hf y => ?_) (fun i => ?_)
  · have hq : (iq t).val = 7 := (fl6_iff t).1 hf
    obtain ⟨x, b, rfl⟩ : ∃ (x : Fin 1024) (b : Fin 128), y = (ix2 x b : (M2 1024 128).Idx) := ⟨y 0, y 1, eq_ix2 _⟩
    rw [emb7]
    have h1 := hd_co (hh t) b
    have h2 := pl_co (hh t) b
    show wGr (F := Ideal) (st m c (t.val + 1)).1 (ix2 x b)
      = GK m c (hd128 (co (hh t) b)) (row (jk t) x) ⟨128 + (pl128 (co (hh t) b)).val, _⟩ * ln2
    rw [wGr_apply, sk_last m c t hq]
    refine congrArg (· * ln2) ?_
    rw [h1]
    refine congrArg (GK m c (hh t) (row (jk t) x)) (Fin.ext ?_)
    show 128 + b.val = 128 + (pl128 (co (hh t) b)).val
    rw [h2]
  · obtain ⟨t, ht, y, hy⟩ := cov7 (i 0) (i 1)
    rw [show i = _ from (eq_ix2 i).trans hy.symm]
    exact ⟨t, (fl6_iff _).2 ht, View.emb_mem_set _ _⟩

theorem cov8 (R : Fin 8192) (C : Fin 4096) : ∃ t : Fin (cfgI).N, t.val % 36 = 35 ∧ ∃ y : (M2 8192 256).Idx,
    (((cfgI).win (8 : Fin 9)).blk t).view.emb y = (ix2 R C : S8192x4096.Idx) := by
  refine ⟨tl (hd256 C) 7, tl_mod _ _, ix2 R (pl256 C), ?_⟩
  rw [emb8, tl_hh, cq_hd]

theorem final8 : (dats m 0 c).arrAt (8 : Fin 9) (cfgI).N = G8 m c := by
  refine (dats m 0 c).arrAt_eq_of_emb (8 : Fin 9) (G8 m c) (fun t hf y => ?_) (fun i => ?_)
  · have hq : t.val % 36 = 35 := (fl8_iff t).1 hf
    obtain ⟨x, b, rfl⟩ : ∃ (x : Fin 8192) (b : Fin 256), y = (ix2 x b : (M2 8192 256).Idx) := ⟨y 0, y 1, eq_ix2 _⟩
    rw [emb8]
    show (st m c (t.val + 1)).2.2 (ix2 x b) = GQ m c (hd256 (cq (hh t) b)) x (pl256 (cq (hh t) b))
    rw [hd_cq, pl_cq]
    exact dq_last m c t hq x b
  · obtain ⟨t, ht, y, hy⟩ := cov8 (i 0) (i 1)
    rw [show i = _ from (eq_ix2 i).trans hy.symm]
    exact ⟨t, (fl8_iff _).2 ht, View.emb_mem_set _ _⟩

end Cert.AttnVal
-- ==== Proof.AttnJoin.lean ====
/- The gradients the kernel sums, its arguments being real numbers: the reference's. -/
module

public import proofs.«01_k».proof.Proof.AttnHostVal
public import proofs.«01_k».proof.Proof.AttnArr

@[expose] public section

set_option maxRecDepth 16384

noncomputable section

namespace Cert.AttnVal

open Cert.KernelIdeal Cert.KernelIdeal.Gen Cert.Attn Cert.AttnReal Cert.Reals Idealize.ShloMosaic Idealize.ShloMosaic.TcCoe
open scoped BigOperators

variable (m : (ℓ : Loc nD τ sig) → Buf (Elt Ideal) ℓ) (c : Dev nD)
variable (qr kr : Fin 8192 → Fin 16 → Fin 192 → ℝ) (vr dr : Fin 8192 → Fin 16 → Fin 128 → ℝ)
variable (h : Fin 16) (x u : Fin 8192)

theorem vi2 {a b : ℕ} (i : Fin a) (j : Fin b) : ValueIdx.ix2 i j = Idealize.ShloMosaic.ix2 i j := by
  funext t
  match t with
  | ⟨0, _⟩ => rfl
  | ⟨1, _⟩ => rfl
theorem vi3 {a b d : ℕ} (i : Fin a) (j : Fin b) (l : Fin d) : ValueIdx.ix3 i j l = Idealize.ShloMosaic.ix3 i j l := by
  funext t
  match t with
  | ⟨0, _⟩ => rfl
  | ⟨1, _⟩ => rfl
  | ⟨2, _⟩ => rfl

theorem cq_div (e : Fin 256) : (cq h e).val / 256 = h.val := by show (256 * h.val + e.val) / 256 = _; omega
theorem cq_mod (e : Fin 256) : (cq h e).val % 256 = e.val := by show (256 * h.val + e.val) % 256 = _; omega
theorem cv_div (e : Fin 128) : (cv h e).val / 256 = h.val := by show (256 * h.val + 128 + e.val) / 256 = _; omega
theorem cv_mod (e : Fin 128) : (cv h e).val % 256 = 128 + e.val := by show (256 * h.val + 128 + e.val) % 256 = _; omega
theorem co_div (e : Fin 128) : (co h e).val / 128 = h.val := by show (128 * h.val + e.val) / 128 = _; omega
theorem co_mod (e : Fin 128) : (co h e).val % 128 = e.val := by show (128 * h.val + e.val) % 128 = _; omega

/-- A padded array at a head's lane. -/
theorem kPad_cq (w : AttnHost.A192) (e : Fin 256) :
    AttnHost.kPad w (Idealize.ShloMosaic.ix2 x (cq h e)) = if g : e.val < 192 then w (Idealize.ShloMosaic.ix3 x h ⟨e.val, g⟩) else (0 : EReal) := by
  refine (AttnHost.kPad_apply x w (cq h e)).trans ?_
  have e1 := cq_div h e
  have e2 := cq_mod h e
  by_cases g : e.val < 192
  · rw [dif_pos g, dif_pos (by rw [e2]; exact g)]
    exact congrArg w (congrArg₂ (Idealize.ShloMosaic.ix3 x) (Fin.ext e1) (Fin.ext e2))
  · rw [dif_neg g, dif_neg (by rw [e2]; exact g)]
theorem kFlat_co (w : AttnHost.A128) (e : Fin 128) : AttnHost.kFlat w (Idealize.ShloMosaic.ix2 x (co h e)) = w (Idealize.ShloMosaic.ix3 x h e) :=
  (AttnHost.kFlat_apply w x (co h e)).trans (congrArg w (congrArg₂ (Idealize.ShloMosaic.ix3 x) (Fin.ext (co_div h e)) (Fin.ext (co_mod h e))))
theorem kKv_cv (k : AttnHost.A192) (w : AttnHost.A128) (e : Fin 128) : AttnHost.kKv k w (Idealize.ShloMosaic.ix2 x (cv h e)) = w (Idealize.ShloMosaic.ix3 x h e) :=
  (AttnHost.kKv_apply k w x (cv h e) (by rw [cv_mod]; omega)).trans
    (congrArg w (congrArg₂ (Idealize.ShloMosaic.ix3 x) (Fin.ext (cv_div h e)) (Fin.ext (by show (cv h e).val % 256 - 128 = e.val; rw [cv_mod]; omega))))

/-- A sum over 256 lanes of which the last 64 are zero. -/
theorem sum_pad (f : Fin 192 → EReal) : ∑ e : Fin 256, (if g : e.val < 192 then f ⟨e.val, g⟩ else 0) = ∑ e, f e := by
  refine (Fin.sum_univ_add (a := 192) (b := 64) fun e : Fin (192 + 64) => if g : e.val < 192 then f ⟨e.val, g⟩ else (0 : EReal)).trans ?_
  have h1 : ∀ i : Fin 192, (if g : (Fin.castAdd 64 i).val < 192 then f ⟨(Fin.castAdd 64 i).val, g⟩ else (0 : EReal)) = f i := fun i => dif_pos i.isLt
  have h2 : ∀ j : Fin 64, (if g : (Fin.natAdd 192 j).val < 192 then f ⟨(Fin.natAdd 192 j).val, g⟩ else (0 : EReal)) = 0 := fun j =>
    dif_neg (by show ¬ 192 + j.val < 192; omega)
  rw [Finset.sum_congr rfl fun i _ => h1 i, Finset.sum_congr rfl fun j _ => h2 j, Finset.sum_const_zero, add_zero]

abbrev Q := AttnHost.Is192 (AttnHost.aq m c) qr
abbrev K := AttnHost.Is192 (AttnHost.ak m c) kr
abbrev Vv := AttnHost.Is128 (AttnHost.av m c) vr
abbrev D := AttnHost.Is128 (AttnHost.ad m c) dr

theorem Aq_apply (hq : Q m c qr) (e : Fin 256) :
    Aq m c (ValueIdx.ix2 x (cq h e)) = if g : e.val < 192 then ((qr x h ⟨e.val, g⟩ * (c1 * (1 / Real.log 2)) : ℝ) : EReal) else 0 := by
  rw [vi2]
  refine (congrFun (AttnHost.V_q m c) _).trans ((kPad_cq h x _ e).trans ?_)
  exact dite_congr rfl (fun g => AttnHost.kQs_apply _ qr h x hq _) (fun _ => rfl)
theorem Ak_apply (hk : K m c kr) (e : Fin 256) :
    Ak m c (ValueIdx.ix2 x (cq h e)) = if g : e.val < 192 then ((kr x h ⟨e.val, g⟩ : ℝ) : EReal) else 0 := by
  rw [vi2]
  refine (congrFun (AttnHost.V_k m c) _).trans ((kPad_cq h x _ e).trans ?_)
  exact dite_congr rfl (fun g => hk _ _ _) (fun _ => rfl)
theorem Av_apply (hv : Vv m c vr) (e : Fin 128) : Av m c (ValueIdx.ix2 x (cv h e)) = ((vr x h e : ℝ) : EReal) := by
  rw [vi2]
  exact (congrFun (AttnHost.V_v m c) _).trans ((kKv_cv h x _ _ e).trans (hv _ _ _))
theorem Ad_apply (hd : D m c dr) (e : Fin 128) : Ad m c (ValueIdx.ix2 x (co h e)) = ((dr x h e : ℝ) : EReal) := by
  rw [vi2]
  exact (congrFun (AttnHost.V_d m c) _).trans ((kFlat_co h x _ e).trans (hd _ _ _))
theorem Ao_apply (hq : Q m c qr) (hk : K m c kr) (hv : Vv m c vr) (e : Fin 128) :
    Ao m c (ValueIdx.ix2 x (co h e)) = ((∑ u, vr u h e * pr qr kr h x u : ℝ) : EReal) := by
  rw [vi2]
  exact (congrFun (AttnHost.V_o m c) _).trans ((kFlat_co h x _ e).trans (AttnHost.kO_apply _ _ _ qr kr vr h x hq hk hv e))

theorem score (hq : Q m c qr) (hk : K m c kr) :
    ∑ e : Fin 256, Aq m c (ValueIdx.ix2 x (cq h e)) * Ak m c (ValueIdx.ix2 u (cq h e)) = ((sc qr kr h x u * (1 / Real.log 2) : ℝ) : EReal) := by
  have e1 : ∀ e : Fin 256, Aq m c (ValueIdx.ix2 x (cq h e)) * Ak m c (ValueIdx.ix2 u (cq h e))
      = if g : e.val < 192 then ((qr x h ⟨e.val, g⟩ * (c1 * (1 / Real.log 2)) * kr u h ⟨e.val, g⟩ : ℝ) : EReal) else 0 := by
    intro e
    rw [Aq_apply m c qr h x hq, Ak_apply m c kr h u hk]
    by_cases g : e.val < 192
    · rw [dif_pos g, dif_pos g, dif_pos g, ← EReal.coe_mul]
    · rw [dif_neg g, dif_neg g, dif_neg g, zero_mul]
  rw [Finset.sum_congr rfl fun e _ => e1 e, sum_pad fun e => ((qr x h e * (c1 * (1 / Real.log 2)) * kr u h e : ℝ) : EReal), ← coe_sum]
  unfold sc
  rw [Finset.sum_mul]
  exact congrArg _ (Finset.sum_congr rfl fun e _ => by ring)

theorem mP_apply (hq : Q m c qr) (hk : K m c kr) : mP m c h x u = ((pr qr kr h x u : ℝ) : EReal) := by
  unfold mP
  by_cases g : u.val ≤ x.val
  · rw [if_pos g]
    obtain ⟨μ, hμ⟩ := Soft.max_real (sc qr kr h x) (sees x) (sees_some x)
    unfold wP
    rw [score m c qr kr h x u hq hk, vi3]
    have e1 : Al m c (Idealize.ShloMosaic.ix3 h x 0) = _ :=
      (congrFun (AttnHost.V_l m c) _).trans (AttnHost.kLse_apply _ _ qr kr h x μ hq hk hμ)
    rw [e1]
    exact Soft.exp2_lse (sc qr kr h x) (sees x) μ (sees_some x) u g
  · rw [if_neg g]
    unfold pr
    rw [Soft.prob_zero _ _ u g]; rfl

theorem wE_apply (hq : Q m c qr) (hk : K m c kr) (hv : Vv m c vr) (hd : D m c dr) :
    wE m c h x u = ((dp vr dr h x u - ∑ w, pr qr kr h x w * dp vr dr h x w : ℝ) : EReal) := by
  unfold wE
  have e1 : ∀ e : Fin 128, Ad m c (ValueIdx.ix2 x (co h e)) * Av m c (ValueIdx.ix2 u (cv h e)) = ((dr x h e * vr u h e : ℝ) : EReal) := fun e => by
    rw [Ad_apply m c dr h x hd, Av_apply m c vr h u hv, ← EReal.coe_mul]
  have e2 : ∀ e : Fin 128, Ad m c (ValueIdx.ix2 x (co h e)) * Ao m c (ValueIdx.ix2 x (co h e)) = ((dr x h e * ∑ w, vr w h e * pr qr kr h x w : ℝ) : EReal) := fun e => by
    rw [Ad_apply m c dr h x hd, Ao_apply m c qr kr vr h x hq hk hv, ← EReal.coe_mul]
  rw [Finset.sum_congr rfl fun e _ => e1 e, Finset.sum_congr rfl fun e _ => e2 e, ← coe_sum, ← coe_sum, ← EReal.coe_sub]
  have e3 : ∑ e : Fin 128, dr x h e * ∑ w, vr w h e * pr qr kr h x w = ∑ w, pr qr kr h x w * dp vr dr h x w := by
    unfold dp
    simp only [Finset.mul_sum]
    rw [Finset.sum_comm]
    exact Finset.sum_congr rfl fun w _ => Finset.sum_congr rfl fun e _ => by ring
  rw [e3]; rfl

section
variable (hq : Q m c qr) (hk : K m c kr) (hv : Vv m c vr) (hd : D m c dr)
include hq hk hv hd

theorem mD_apply : mD m c h x u = ((ds qr kr vr dr h x u : ℝ) : EReal) := by
  unfold mD
  rw [mP_apply m c qr kr h x u hq hk, wE_apply m c qr kr vr dr h x u hq hk hv hd, ← EReal.coe_mul]; rfl

omit hv in
theorem GV_apply (e : Fin 128) : GV m c h u e = ((gv qr kr dr h u e : ℝ) : EReal) := by
  unfold GV
  have e1 : ∀ x : Fin 8192, mP m c h x u * Ad m c (ValueIdx.ix2 x (co h e)) = ((pr qr kr h x u * dr x h e : ℝ) : EReal) := fun x => by
    rw [mP_apply m c qr kr h x u hq hk, Ad_apply m c dr h x hd, ← EReal.coe_mul]
  rw [Finset.sum_congr rfl fun x _ => e1 x, ← coe_sum]; rfl

theorem GQ_apply (e : Fin 256) : GQ m c h x e = if g : e.val < 192 then ((gq qr kr vr dr h x ⟨e.val, g⟩ : ℝ) : EReal) else 0 := by
  unfold GQ
  by_cases g : e.val < 192
  · rw [dif_pos g]
    have e1 : ∀ u : Fin 8192, mD m c h x u * Ak m c (ValueIdx.ix2 u (cq h e)) = ((ds qr kr vr dr h x u * kr u h ⟨e.val, g⟩ : ℝ) : EReal) := fun u => by
      rw [mD_apply m c qr kr vr dr h x u hq hk hv hd, Ak_apply m c kr h u hk, dif_pos g, ← EReal.coe_mul]
    rw [Finset.sum_congr rfl fun u _ => e1 u, ← coe_sum]; rfl
  · rw [dif_neg g]
    refine Finset.sum_eq_zero fun u _ => ?_
    rw [Ak_apply m c kr h u hk, dif_neg g, mul_zero]

theorem GK_apply (e : Fin 256) : GK m c h u e * ln2 = if g : e.val < 192 then ((gk qr kr vr dr h u ⟨e.val, g⟩ : ℝ) : EReal) else 0 := by
  unfold GK
  by_cases g : e.val < 192
  · rw [dif_pos g]
    have e1 : ∀ x : Fin 8192, mD m c h x u * Aq m c (ValueIdx.ix2 x (cq h e))
        = ((ds qr kr vr dr h x u * (qr x h ⟨e.val, g⟩ * (c1 * (1 / Real.log 2))) : ℝ) : EReal) := fun x => by
      rw [mD_apply m c qr kr vr dr h x u hq hk hv hd, Aq_apply m c qr h x hq, dif_pos g, ← EReal.coe_mul]
    rw [Finset.sum_congr rfl fun x _ => e1 x, ← coe_sum, ← EReal.coe_mul]
    unfold gk
    rw [Finset.sum_mul]
    refine congrArg _ (Finset.sum_congr rfl fun x _ => ?_)
    have hl := AttnHost.log2_pos.ne'
    field_simp
  · rw [dif_neg g, Finset.sum_eq_zero, zero_mul]
    intro x _
    rw [Aq_apply m c qr h x hq, dif_neg g, mul_zero]

theorem G8_apply (C : Fin 4096) : G8 m c (Idealize.ShloMosaic.ix2 x C)
    = if g : C.val % 256 < 192 then ((gq qr kr vr dr ⟨C.val / 256, by omega⟩ x ⟨C.val % 256, g⟩ : ℝ) : EReal) else 0 :=
  GQ_apply m c qr kr vr dr (hd256 C) x hq hk hv hd (pl256 C)
theorem G7_apply (C : Fin 2048) : G7 m c (Idealize.ShloMosaic.ix2 x C)
    = if g : C.val % 128 < 64 then ((gk qr kr vr dr ⟨C.val / 128, by omega⟩ x ⟨128 + C.val % 128, by omega⟩ : ℝ) : EReal) else 0 := by
  refine (GK_apply m c qr kr vr dr (hd128 C) x hq hk hv hd ⟨128 + C.val % 128, by omega⟩).trans ?_
  by_cases g : C.val % 128 < 64
  · rw [dif_pos g, dif_pos (show 128 + C.val % 128 < 192 by omega)]; rfl
  · rw [dif_neg g, dif_neg (show ¬ 128 + C.val % 128 < 192 by omega)]
theorem G6_apply (C : Fin 4096) : G6 m c (Idealize.ShloMosaic.ix2 x C)
    = if g : C.val % 256 < 128 then ((gk qr kr vr dr ⟨C.val / 256, by omega⟩ x ⟨C.val % 256, by omega⟩ : ℝ) : EReal)
      else ((gv qr kr dr ⟨C.val / 256, by omega⟩ x ⟨C.val % 256 - 128, by omega⟩ : ℝ) : EReal) := by
  show kv m c (hd256 C) x (pl256 C) = _
  unfold kv
  refine dite_congr rfl (fun g => ?_) (fun g => GV_apply m c qr kr dr (hd256 C) x hq hk hd _)
  refine (GK_apply m c qr kr vr dr (hd256 C) x hq hk hv hd (pl256 C)).trans ?_
  exact dif_pos (Nat.lt_of_lt_of_le g (by norm_num))
end

end Cert.AttnVal
-- ==== Proof.AttnAlg.lean ====
/- The gradients of the attention's q, k and v: the kernel's equal the reference's. -/
module

public import proofs.«01_k».proof.Defs
public import proofs.«01_k».proof.Proof.AttnLaunch
public import proofs.«01_k».proof.Proof.AttnRefVal
public import proofs.«01_k».proof.Proof.AttnJoin
public import proofs.«01_k».proof.Proof.AttnImports

@[expose] public section

set_option maxRecDepth 16384

noncomputable section

namespace Cert.AttnAlg

open Cert.KernelIdeal Cert.KernelIdeal.Gen Cert.Attn Cert.AttnVal Cert.Reals Idealize.ShloMosaic Idealize.ShloMosaic.TcCoe Idealize.SL.Sem

variable (m : (ℓ : Loc nD τ sig) → Buf (Elt Ideal) ℓ)

/-- What the precondition says of every element. -/
theorem finite_elim (h : Cert.Pre_KernelIdeal_finite m) (c : Dev nD) :
    (∀ i, IsR (AttnHost.aq m c i)) ∧ (∀ i, IsR (AttnHost.ak m c i)) ∧ (∀ i, IsR (AttnHost.av m c i)) ∧ (∀ i, IsR (AttnHost.ad m c i)) := by
  haveI : Subsingleton Cert.Pre_finite.S_.Idx := ⟨fun a b => funext fun x => x.elim0⟩
  have h0 := congrFun (h c) (fun x => x.elim0)
  obtain ⟨h1, h3⟩ := andi_one _ _ h0
  obtain ⟨h1, h2⟩ := andi_one _ _ h1
  obtain ⟨h0, h1⟩ := andi_one _ _ h1
  exact ⟨fun i => isR_of_abs_lt _ (Host.reduce_andi_all _ _ _ _ _ h0 i), fun i => isR_of_abs_lt _ (Host.reduce_andi_all _ _ _ _ _ h1 i),
    fun i => isR_of_abs_lt _ (Host.reduce_andi_all _ _ _ _ _ h2 i), fun i => isR_of_abs_lt _ (Host.reduce_andi_all _ _ _ _ _ h3 i)⟩

/-- An array of real numbers is one of `ℝ`. -/
theorem reals {a b d : ℕ} (w : (⟨3, ![a, b, d]⟩ : Shape).Idx → EReal) (h : ∀ i, IsR (w i)) :
    ∃ r : Fin a → Fin b → Fin d → ℝ, ∀ x y z, w (Idealize.ShloMosaic.ix3 x y z) = ((r x y z : ℝ) : EReal) :=
  ⟨fun x y z => (h (Idealize.ShloMosaic.ix3 x y z)).choose, fun x y z => (h (Idealize.ShloMosaic.ix3 x y z)).choose_spec⟩

theorem at2 {a b : ℕ} {w w' : (⟨2, ![a, b]⟩ : Shape).Idx → EReal}
    (h : ∀ x y, w (Idealize.ShloMosaic.ix2 x y) = w' (Idealize.ShloMosaic.ix2 x y)) : w = w' := by
  funext i
  have e : i = Idealize.ShloMosaic.ix2 (i 0) (i 1) := by
    funext t
    match t with
    | ⟨0, _⟩ => rfl
    | ⟨1, _⟩ => rfl
  rw [e]; exact h _ _

/-- The three results, the arguments being real numbers. -/
theorem results (hpre : Cert.Pre_KernelIdeal_finite m) (c : Dev nD) :
    AttnRef.rOut0 (AttnHost.aq m c) (AttnHost.ak m c) (AttnHost.av m c) (AttnHost.ad m c) = G6 m c
    ∧ AttnRef.rOut1 (AttnHost.aq m c) (AttnHost.ak m c) (AttnHost.av m c) (AttnHost.ad m c) = G7 m c
    ∧ AttnRef.rOut2 (AttnHost.aq m c) (AttnHost.ak m c) (AttnHost.av m c) (AttnHost.ad m c) = G8 m c := by
  obtain ⟨f0, f1, f2, f3⟩ := finite_elim m hpre c
  obtain ⟨qr, hq⟩ := reals _ f0
  obtain ⟨kr, hk⟩ := reals _ f1
  obtain ⟨vr, hv⟩ := reals _ f2
  obtain ⟨dr, hd⟩ := reals _ f3
  refine ⟨at2 fun x C => ?_, at2 fun x C => ?_, at2 fun x C => ?_⟩
  · exact (AttnRef.rOut0_apply _ _ _ _ qr kr vr dr x hq hk hv hd C).trans (G6_apply m c qr kr vr dr x hq hk hv hd C).symm
  · exact (AttnRef.rOut1_apply _ _ _ _ qr kr vr dr x hq hk hv hd C).trans (G7_apply m c qr kr vr dr x hq hk hv hd C).symm
  · exact (AttnRef.rOut2_apply _ _ _ _ qr kr vr dr x hq hk hv hd C).trans (G8_apply m c qr kr vr dr x hq hk hv hd C).symm

theorem algebraic : Cert.algebraic_KernelIdeal_ReferenceIdeal_pre_finite := by
  intro m ρ m' ρ' hpre hagree
  refine ⟨fun c => G6 m c, fun c => G7 m c, fun c => G8 m c, ?_, ?_⟩
  · exact (θ_run defs _ _).mono (fun r h c => ⟨((h.1 c).1 (6 : Fin 9)).trans (final6 m c), ((h.1 c).1 (7 : Fin 9)).trans (final7 m c),
      ((h.1 c).1 (8 : Fin 9)).trans (final8 m c), kept_arg m r h.1 c main_arg0 rfl (by decide) (by decide), kept_arg m r h.1 c main_arg1 rfl (by decide) (by decide),
      kept_arg m r h.1 c main_arg2 rfl (by decide) (by decide), kept_arg m r h.1 c main_arg3 rfl (by decide) (by decide)⟩) (run_main m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · refine (AttnRef.out0 m' c).trans (Eq.trans ?_ (results m hpre c).1)
      unfold AttnRef.bq AttnRef.bk AttnRef.bv AttnRef.bd
      rw [(hagree c).1, (hagree c).2.1, (hagree c).2.2.1, (hagree c).2.2.2]
    · refine (AttnRef.out1 m' c).trans (Eq.trans ?_ (results m hpre c).2.1)
      unfold AttnRef.bq AttnRef.bk AttnRef.bv AttnRef.bd
      rw [(hagree c).1, (hagree c).2.1, (hagree c).2.2.1, (hagree c).2.2.2]
    · refine (AttnRef.out2 m' c).trans (Eq.trans ?_ (results m hpre c).2.2)
      unfold AttnRef.bq AttnRef.bk AttnRef.bv AttnRef.bd
      rw [(hagree c).1, (hagree c).2.1, (hagree c).2.2.1, (hagree c).2.2.2]

end Cert.AttnAlg
-- ==== Proof.Up.lean ====
/- The up projections and the gate: block by block the kernel computes the same numbers as the whole arrays' reference. -/
module

public import proofs.«01_k».proof.Defs
public import proofs.«01_k».proof.Proof.Gen.UpKernel.Frame
public import proofs.«01_k».proof.Proof.Gen.UpKernelIdeal.Value
public import proofs.«01_k».proof.Proof.Gen.UpReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.Up

open Cert.UpKernelIdeal Cert.UpKernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- One element of the product of the tokens and the weights. -/
def pr (a : S8192x1024.Idx → EReal) (w : S1024x5632.Idx → EReal) (r : Fin 8192) (c : Fin 5632) : EReal :=
  ∑ k : Fin 1024, a (ix2 r k) * w (ix2 k c)

def lo (c : Fin 2816) : Fin 5632 := ⟨c.val, by have := c.isLt; omega⟩
def hi (c : Fin 2816) : Fin 5632 := ⟨2816 + c.val, by have := c.isLt; omega⟩

/-- The gate, the other factor, and their gated product. -/
def gateG (a : S8192x1024.Idx → EReal) (w : S1024x5632.Idx → EReal) : S8192x2816.Idx → EReal := fun j => pr a w (j 0) (lo (j 1))
def upG (a : S8192x1024.Idx → EReal) (w : S1024x5632.Idx → EReal) : S8192x2816.Idx → EReal := fun j => pr a w (j 0) (hi (j 1))
def sG (a : S8192x1024.Idx → EReal) (w : S1024x5632.Idx → EReal) : S8192x2816.Idx → EReal := fun j =>
  gateG a w j * Ideal.logistic (gateG a w j) * upG a w j

variable (m : (ℓ : Loc nD τ sig) → Buf (Elt Ideal) ℓ) (ρ : Dev nD → PrngReg)

theorem pay1_apply (x : Vec Ideal S1024x1024 .bf16) (w : Vec Ideal S1024x256 .bf16) (r : Fin 1024) (c : Fin 256) :
    k0_pay1 (F := Ideal) x w (ix2 r c) = ∑ k : Fin 1024, (x (ix2 r k) : EReal) * w (ix2 k c) := by
  show FloatOps.matmul (F := Ideal) (φ₁ := .bf16) (φ₂ := .bf16) (DotDims.plain 1024 1024 256) none x w (constant S1024x256 .f32 0x00000000#32) (ix2 r c) = _
  rw [Ideal.matmul_plain_apply]
  show Ideal.ofBits .f32 0x00000000#32 + _ = _
  rw [show Ideal.ofBits .f32 0x00000000#32 = 0 by simp [Ideal.ofBits, Ideal.ieee], zero_add]

theorem out3_apply (x0 : Vec Ideal S1024x1024 .bf16) (x1 x2 : Vec Ideal S1024x256 .bf16) (r : Fin 1024) (c : Fin 256) :
    out0_3 (F := Ideal) x0 x1 x2 (ix2 r c) = ∑ k : Fin 1024, (x0 (ix2 r k) : EReal) * x1 (ix2 k c) := by
  unfold out0_3
  rw [View.canon_unit_zero hz]
  simp only [View.ld_unit_zero (S := S1024x1024) hz, View.ld_unit_zero (S := S1024x256) hz]
  exact pay1_apply _ _ _ _

theorem out4_apply (x0 : Vec Ideal S1024x1024 .bf16) (x1 x2 : Vec Ideal S1024x256 .bf16) (r : Fin 1024) (c : Fin 256) :
    out0_4 (F := Ideal) x0 x1 x2 (ix2 r c) = ∑ k : Fin 1024, (x0 (ix2 r k) : EReal) * x2 (ix2 k c) := by
  unfold out0_4
  rw [View.canon_unit_zero hz]
  simp only [View.ld_unit_zero (S := S1024x1024) hz, View.ld_unit_zero (S := S1024x256) hz]
  exact pay1_apply _ _ _ _

theorem out5_apply (x0 : Vec Ideal S1024x1024 .bf16) (x1 x2 : Vec Ideal S1024x256 .bf16) (r : Fin 1024) (c : Fin 256) :
    out0_5 (F := Ideal) x0 x1 x2 (ix2 r c)
      = (∑ k : Fin 1024, (x0 (ix2 r k) : EReal) * x1 (ix2 k c)) * Ideal.logistic (∑ k : Fin 1024, (x0 (ix2 r k) : EReal) * x1 (ix2 k c))
        * ∑ k : Fin 1024, (x0 (ix2 r k) : EReal) * x2 (ix2 k c) := by
  unfold out0_5
  rw [View.canon_unit_zero hz]
  simp only [View.ld_unit_zero (S := S1024x1024) hz, View.ld_unit_zero (S := S1024x256) hz]
  rw [← pay1_apply, ← pay1_apply]
  rfl

/-- Where the windows' blocks lie: block row `t / 11`, block column `t % 11`, the second weights 11 blocks on. -/
theorem idx_facts : ∀ t : Fin grid0.N, win0_0.index t 0 = t.val / 11 ∧ win0_0.index t 1 = 0 ∧ win0_1.index t 0 = 0
    ∧ win0_1.index t 1 = t.val % 11 ∧ win0_2.index t 0 = 0 ∧ win0_2.index t 1 = t.val % 11 + 11
    ∧ win0_3.index t 0 = t.val / 11 ∧ win0_3.index t 1 = t.val % 11
    ∧ win0_4.index t 0 = t.val / 11 ∧ win0_4.index t 1 = t.val % 11
    ∧ win0_5.index t 0 = t.val / 11 ∧ win0_5.index t 1 = t.val % 11 := by decide +kernel

theorem N88 : cfg0.N = 88 := N_0

/-- The row of the whole array that row `r` of point `t`'s blocks is. -/
def row (t : Fin cfg0.N) (r : Fin 1024) : Fin 8192 := ⟨t.val / 11 * 1024 + r.val, by have := lt_of_lt_of_eq t.isLt N88; have := r.isLt; omega⟩
/-- The column. -/
def col (t : Fin cfg0.N) (c : Fin 256) : Fin 2816 := ⟨t.val % 11 * 256 + c.val, by have := c.isLt; omega⟩

theorem iblk0 (c : Dev nD) (t : Fin cfg0.N) (r k : Fin 1024) :
    iblk m c 0 t (ix2 r k) = m (c.tc.loc main_arg0) (ix2 (row t r) k) := by
  unfold iblk; rw [View.read_apply]
  show m (c.tc.loc main_arg0) _ = _
  congr 1; funext a; apply Fin.ext
  match a with
  | ⟨0, _⟩ => show win0_0.index t 0 * 1024 + 1 * r.val = t.val / 11 * 1024 + r.val; rw [(idx_facts t).1]; omega
  | ⟨1, _⟩ => show win0_0.index t 1 * 1024 + 1 * k.val = k.val; rw [(idx_facts t).2.1]; omega

theorem iblk1 (c : Dev nD) (t : Fin cfg0.N) (r : Fin 1024) (k : Fin 256) :
    iblk m c 1 t (ix2 r k) = m (c.tc.loc main_arg1) (ix2 r (lo (col t k))) := by
  unfold iblk; rw [View.read_apply]
  show m (c.tc.loc main_arg1) _ = _
  congr 1; funext a; apply Fin.ext
  match a with
  | ⟨0, _⟩ => show win0_1.index t 0 * 1024 + 1 * r.val = r.val; rw [(idx_facts t).2.2.1]; omega
  | ⟨1, _⟩ => show win0_1.index t 1 * 256 + 1 * k.val = t.val % 11 * 256 + k.val; rw [(idx_facts t).2.2.2.1]; omega

theorem iblk2 (c : Dev nD) (t : Fin cfg0.N) (r : Fin 1024) (k : Fin 256) :
    iblk m c 2 t (ix2 r k) = m (c.tc.loc main_arg1) (ix2 r (hi (col t k))) := by
  unfold iblk; rw [View.read_apply]
  show m (c.tc.loc main_arg1) _ = _
  congr 1; funext a; apply Fin.ext
  match a with
  | ⟨0, _⟩ => show win0_2.index t 0 * 1024 + 1 * r.val = r.val; rw [(idx_facts t).2.2.2.2.1]; omega
  | ⟨1, _⟩ => show win0_2.index t 1 * 256 + 1 * k.val = 2816 + (t.val % 11 * 256 + k.val); rw [(idx_facts t).2.2.2.2.2.1]; omega

/-- The three result arrays as functions of the arguments at launch. -/
abbrev res3 (c : Dev nD) : S8192x2816.Idx → EReal := gateG (m (c.tc.loc main_arg0)) (m (c.tc.loc main_arg1))
abbrev res4 (c : Dev nD) : S8192x2816.Idx → EReal := upG (m (c.tc.loc main_arg0)) (m (c.tc.loc main_arg1))
abbrev res5 (c : Dev nD) : S8192x2816.Idx → EReal := sG (m (c.tc.loc main_arg0)) (m (c.tc.loc main_arg1))

theorem emb3 (t : Fin cfg0.N) (r : Fin 1024) (k : Fin 256) : ((cfg0.win 3).blk t).view.emb (ix2 r k) = ix2 (row t r) (col t k) := by
  funext a; apply Fin.ext
  match a with
  | ⟨0, _⟩ => show win0_3.index t 0 * 1024 + 1 * r.val = t.val / 11 * 1024 + r.val; rw [(idx_facts t).2.2.2.2.2.2.1]; omega
  | ⟨1, _⟩ => show win0_3.index t 1 * 256 + 1 * k.val = t.val % 11 * 256 + k.val; rw [(idx_facts t).2.2.2.2.2.2.2.1]; omega

theorem emb4 (t : Fin cfg0.N) (r : Fin 1024) (k : Fin 256) : ((cfg0.win 4).blk t).view.emb (ix2 r k) = ix2 (row t r) (col t k) := by
  funext a; apply Fin.ext
  match a with
  | ⟨0, _⟩ => show win0_4.index t 0 * 1024 + 1 * r.val = t.val / 11 * 1024 + r.val; rw [(idx_facts t).2.2.2.2.2.2.2.2.1]; omega
  | ⟨1, _⟩ => show win0_4.index t 1 * 256 + 1 * k.val = t.val % 11 * 256 + k.val; rw [(idx_facts t).2.2.2.2.2.2.2.2.2.1]; omega

theorem emb5 (t : Fin cfg0.N) (r : Fin 1024) (k : Fin 256) : ((cfg0.win 5).blk t).view.emb (ix2 r k) = ix2 (row t r) (col t k) := by
  funext a; apply Fin.ext
  match a with
  | ⟨0, _⟩ => show win0_5.index t 0 * 1024 + 1 * r.val = t.val / 11 * 1024 + r.val; rw [(idx_facts t).2.2.2.2.2.2.2.2.2.2.1]; omega
  | ⟨1, _⟩ => show win0_5.index t 1 * 256 + 1 * k.val = t.val % 11 * 256 + k.val; rw [(idx_facts t).2.2.2.2.2.2.2.2.2.2.2]; omega

theorem flushed_eq3 (c : Dev nD) (t : Fin cfg0.N) :
    (dats m 0 c).flushed 3 t = ((cfg0.win 3).blk t).view.read (Elt Ideal) (res3 m c) := by
  rw [Value.flushed3]
  funext j
  obtain ⟨r, k, rfl⟩ : ∃ (r : Fin 1024) (k : Fin 256), j = ix2 r k := ⟨j 0, j 1, eq_ix2 _⟩
  rw [View.read_apply, emb3]
  refine (out3_apply _ _ _ r k).trans ?_
  simp only [iblk0, iblk1]
  rfl

theorem flushed_eq4 (c : Dev nD) (t : Fin cfg0.N) :
    (dats m 0 c).flushed 4 t = ((cfg0.win 4).blk t).view.read (Elt Ideal) (res4 m c) := by
  rw [Value.flushed4]
  funext j
  obtain ⟨r, k, rfl⟩ : ∃ (r : Fin 1024) (k : Fin 256), j = ix2 r k := ⟨j 0, j 1, eq_ix2 _⟩
  rw [View.read_apply, emb4]
  refine (out4_apply _ _ _ r k).trans ?_
  simp only [iblk0, iblk2]
  rfl

theorem flushed_eq5 (c : Dev nD) (t : Fin cfg0.N) :
    (dats m 0 c).flushed 5 t = ((cfg0.win 5).blk t).view.read (Elt Ideal) (res5 m c) := by
  rw [Value.flushed5]
  funext j
  obtain ⟨r, k, rfl⟩ : ∃ (r : Fin 1024) (k : Fin 256), j = ix2 r k := ⟨j 0, j 1, eq_ix2 _⟩
  rw [View.read_apply, emb5]
  refine (out5_apply _ _ _ r k).trans ?_
  simp only [iblk0, iblk1, iblk2]
  rfl

/-- Every index of a result lies in one point's block. -/
theorem cover (i : S8192x2816.Idx) : ∃ (t : Fin cfg0.N) (r : Fin 1024) (k : Fin 256), i = ix2 (row t r) (col t k) := by
  have h0 : (i 0 : Nat) < 8192 := (i 0).isLt
  have h1 : (i 1 : Nat) < 2816 := (i 1).isLt
  have hN : (i 0 : Nat) / 1024 * 11 + (i 1 : Nat) / 256 < cfg0.N := by rw [N88]; omega
  refine ⟨⟨(i 0 : Nat) / 1024 * 11 + (i 1 : Nat) / 256, hN⟩, ⟨(i 0 : Nat) % 1024, by omega⟩, ⟨(i 1 : Nat) % 256, by omega⟩, ?_⟩
  funext a; apply Fin.ext
  match a with
  | ⟨0, _⟩ => show (i 0 : Nat) = ((i 0 : Nat) / 1024 * 11 + (i 1 : Nat) / 256) / 11 * 1024 + (i 0 : Nat) % 1024; omega
  | ⟨1, _⟩ => show (i 1 : Nat) = ((i 0 : Nat) / 1024 * 11 + (i 1 : Nat) / 256) % 11 * 256 + (i 1 : Nat) % 256; omega

theorem final3 (c : Dev nD) : (dats m 0 c).arrAt 3 cfg0.N = res3 m c :=
  (dats m 0 c).arrAt_eq_of_cover 3 (res3 m c) (fun t _ => flushed_eq3 m c t) fun i => by
    obtain ⟨t, r, k, e⟩ := cover i
    exact ⟨t, flush0_3 t, by rw [e, ← emb3]; exact View.emb_mem_set _ _⟩

theorem final4 (c : Dev nD) : (dats m 0 c).arrAt 4 cfg0.N = res4 m c :=
  (dats m 0 c).arrAt_eq_of_cover 4 (res4 m c) (fun t _ => flushed_eq4 m c t) fun i => by
    obtain ⟨t, r, k, e⟩ := cover i
    exact ⟨t, flush0_4 t, by rw [e, ← emb4]; exact View.emb_mem_set _ _⟩

theorem final5 (c : Dev nD) : (dats m 0 c).arrAt 5 cfg0.N = res5 m c :=
  (dats m 0 c).arrAt_eq_of_cover 5 (res5 m c) (fun t _ => flushed_eq5 m c t) fun i => by
    obtain ⟨t, r, k, e⟩ := cover i
    exact ⟨t, flush0_5 t, by rw [e, ← emb5]; exact View.emb_mem_set _ _⟩

/-! ## The reference, element by element -/

theorem dot_apply (x : FVec Ideal Cert.UpReferenceIdeal.S8192x1024 .f32) (w : FVec Ideal Cert.UpReferenceIdeal.S1024x5632 .f32) (r : Fin 8192) (k : Fin 5632) :
    Host.dotGeneral Cert.UpReferenceIdeal.dot_S8192x1024_S1024x5632_S8192x5632_1_0_0_1_n_n none x w (ix2 r k) = pr x w r k := by
  rw [← matmul_zero_eq_dotGeneral]
  show FloatOps.matmul (DotDims.plain 8192 1024 5632) none x w (constant Cert.UpReferenceIdeal.S8192x5632 .f32 0x00000000#32) (ix2 r k) = _
  rw [Ideal.matmul_plain_apply]
  show Ideal.ofBits .f32 0x00000000#32 + _ = _
  rw [show Ideal.ofBits .f32 0x00000000#32 = 0 by simp [Ideal.ofBits, Ideal.ieee], zero_add]
  rfl

theorem low (X : FVec Ideal Cert.UpReferenceIdeal.S8192x5632 .f32) (h) (j : S8192x2816.Idx) :
    extractStridedSlice Cert.UpReferenceIdeal.S8192x2816 ![0, 0] X h j = X (ix2 (j 0) (lo (j 1))) :=
  congrArg X (funext fun a => Fin.ext (by
    match a with
    | ⟨0, _⟩ => exact Nat.zero_add _
    | ⟨1, _⟩ => exact Nat.zero_add _))
theorem high (X : FVec Ideal Cert.UpReferenceIdeal.S8192x5632 .f32) (h) (j : S8192x2816.Idx) :
    extractStridedSlice Cert.UpReferenceIdeal.S8192x2816 ![0, 2816] X h j = X (ix2 (j 0) (hi (j 1))) :=
  congrArg X (funext fun a => Fin.ext (by
    match a with
    | ⟨0, _⟩ => exact Nat.zero_add _
    | ⟨1, _⟩ => rfl))

theorem frame_p : Cert.quiescent_UpKernel := fun m ρ _ => Cert.UpKernel.Gen.frame m ρ
theorem frame_pi : Cert.quiescent_UpKernelIdeal := fun m ρ _ => Cert.UpKernelIdeal.Gen.frame m ρ
theorem frame_ri : Cert.quiescent_UpReferenceIdeal := fun m ρ _ =>
  (θ_run Cert.UpReferenceIdeal.defs _ _).mono (fun r h => ⟨fun c => (h c).2.2.2, sem_eq_zero_of_no_sems (by decide) r.2⟩)
    (Cert.UpReferenceIdeal.Value.run (F := Ideal) m ρ)

theorem preserves : Cert.preserves_UpKernel_UpKernelIdeal := trivial

theorem algebraic : Cert.algebraic_UpKernelIdeal_UpReferenceIdeal := by
  intro m ρ m' ρ' hpre hagree
  refine ⟨fun c => res3 m c, fun c => res4 m c, fun c => res5 m c, ?_, ?_⟩
  · exact (θ_run defs _ _).mono (fun r h c => ⟨(h c).1.trans (final3 m c), (h c).2.1.trans (final4 m c), (h c).2.2.1.trans (final5 m c), (h c).2.2.2⟩)
      (Value.run_blocks (F := Ideal) m ρ)
  · refine (θ_run Cert.UpReferenceIdeal.defs _ _).mono (fun r h c => ⟨(h c).1.trans ?_, (h c).2.1.trans ?_, (h c).2.2.1.trans ?_, (h c).2.2.2⟩)
      (Cert.UpReferenceIdeal.Value.run (F := Ideal) m' ρ')
    · rw [(hagree c).1, (hagree c).2]
      funext j
      exact (low _ _ j).trans (dot_apply _ _ _ _)
    · rw [(hagree c).1, (hagree c).2]
      funext j
      exact (high _ _ j).trans (dot_apply _ _ _ _)
    · rw [(hagree c).1, (hagree c).2]
      funext j
      have h1 : Ideal.ofBits .f32 0x3F800000#32 = 1 := Ideal.ofBits_one_f32
      have g := (low (Host.dotGeneral Cert.UpReferenceIdeal.dot_S8192x1024_S1024x5632_S8192x5632_1_0_0_1_n_n none
        (m (c.tc.loc main_arg0)) (m (c.tc.loc main_arg1))) Cert.UpReferenceIdeal.Facts₀.slices_S8192x5632_S8192x2816_0_0 j).trans (dot_apply _ _ _ _)
      have u := (high (Host.dotGeneral Cert.UpReferenceIdeal.dot_S8192x1024_S1024x5632_S8192x5632_1_0_0_1_n_n none
        (m (c.tc.loc main_arg0)) (m (c.tc.loc main_arg1))) Cert.UpReferenceIdeal.Facts₀.slices_S8192x5632_S8192x2816_0_2816 j).trans (dot_apply _ _ _ _)
      show _ = pr _ _ (j 0) (lo (j 1)) * (Ideal.div 1 (1 + Ideal.exp (-(pr _ _ (j 0) (lo (j 1)))))) * pr _ _ (j 0) (hi (j 1))
      rw [← g, ← u, ← h1]
      rfl

end Cert.Up

end
-- ==== Proof.Dw.lean ====
/- The gradient of the up projections' weights: the kernel's sum over eight blocks of tokens, kept in a scratch buffer, is the whole product. -/
module

public import proofs.«01_k».proof.Defs
public import proofs.«01_k».proof.Proof.AttnChunk
public import proofs.«01_k».proof.Proof.Gen.DwKernel.Frame
public import proofs.«01_k».proof.Proof.Gen.DwKernelIdeal.Value
public import proofs.«01_k».proof.Proof.Gen.DwReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.Dw

open Cert.DwKernelIdeal Cert.DwKernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-! ## What each kind of point leaves -/

section points
variable (c : Dev nD) (i : grid0.Coords) (arg3 : Memref sig .tc .vmem S1024x1024 .bf16) (harg3 : arg3.IsWhole)
  (arg4 : Memref sig .tc .vmem S1024x1408 .bf16) (harg4 : arg4.IsWhole) (arg5 : Memref sig .tc .vmem S1024x1408 .f32) (harg5 : arg5.IsWhole)
  (arg6 : Memref sig .tc .vmem S1024x1408 .f32) (harg6 : arg6.IsWhole)
  (x0 : Vec Ideal S1024x1024 .bf16) (x1 : Vec Ideal S1024x1408 .bf16) (xs : Vec Ideal S1024x1408 .f32)

/-- The first point of a column block stores the block's product. -/
theorem sA (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  rw [View.readAt_eq_ld, View.readAt_eq_ld, harg3.read_unread, harg4.read_unread, View.ld_unit_zero hz, View.ld_unit_zero hz,
    View.read_writes_junk_eq_canon, View.canon_unit_zero hz]

/-- A later point adds its product. -/
theorem sB (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0 kernelRun0_B
  dsimp only
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- So does the last one, -/
theorem sC (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0 kernelRun0_C
  dsimp only
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- which also stores the sum into the result's block. -/
theorem oC (hc0 : ¬cond0_0 i) (hc1 : cond0_1 i) (hc2 : cond0_2 i) :
    out0_C_2 c i arg3 harg3 arg4 harg4 arg5 harg5 arg6 harg6 hc0 hc1 hc2 x0 x1 xs = k0_pay3 x0 x1 xs := by
  unfold out0_C_2 kernelRun0_C
  dsimp only
  rw [View.read_writes_junk_eq_canon, View.canon_unit_zero hz]
  unfold kernelRun0_C.sl.v12
  unfold View.readCov
  rw [View.readAt_writes_junk_eq_canon]
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.canon_unit_zero hz]
  funext j
  refine congrArg (k0_pay3 x0 x1 xs) (funext fun a => Fin.ext ?_)
  match a with
  | ⟨0, _⟩ => show 0 + 1 * (j 0).val = (j 0).val; omega
  | ⟨1, _⟩ => show 0 + 1 * (j 1).val = (j 1).val; omega

end points

variable (m : (ℓ : Loc nD τ sig) → Buf (Elt Ideal) ℓ) (ρ : Dev nD → PrngReg)

/-! ## The sum over the blocks of tokens -/

/-- Token `x` of block `q`. -/
def row (q : Fin 8) (x : Fin 1024) : Fin 8192 := ⟨1024 * q.val + x.val, by omega⟩

theorem sum_rows (f : Fin 8192 → EReal) : ∑ x, f x = ∑ q : Fin 8, ∑ x : Fin 1024, f (row q x) := by
  rw [← Finset.sum_product', Finset.univ_product_univ]
  refine (Fintype.sum_equiv (finProdFinEquiv (m := 8) (n := 1024)) _ f fun p => congrArg f (Fin.ext ?_)).symm
  show 1024 * p.1.val + p.2.val = p.2.val + 1024 * p.1.val
  omega

theorem N16 : cfg0.N = 16 := N_0

/-- The block of tokens of a point, -/
def tk (t : Fin cfg0.N) : Fin 8 := ⟨t.val % 8, by omega⟩
/-- and the whole array's column that column `e` of its blocks is. -/
def col (t : Fin cfg0.N) (e : Fin 1408) : Fin 2816 := ⟨t.val / 8 * 1408 + e.val, by have := lt_of_lt_of_eq t.isLt N16; have := e.isLt; omega⟩

theorem idx_facts : ∀ t : Fin grid0.N, win0_0.index t 0 = t.val % 8 ∧ win0_0.index t 1 = 0 ∧ win0_1.index t 0 = t.val % 8
    ∧ win0_1.index t 1 = t.val / 8 ∧ win0_2.index t 0 = 0 ∧ win0_2.index t 1 = t.val / 8 := by decide +kernel

theorem iblk0 (c : Dev nD) (t : Fin cfg0.N) (x r : Fin 1024) :
    iblk m c 0 t (ix2 x r) = m (c.tc.loc main_arg0) (ix2 (row (tk t) x) r) := by
  unfold iblk; rw [View.read_apply]
  show m (c.tc.loc main_arg0) _ = _
  congr 1; funext a; apply Fin.ext
  match a with
  | ⟨0, _⟩ => show win0_0.index t 0 * 1024 + 1 * x.val = 1024 * (t.val % 8) + x.val; rw [(idx_facts t).1]; omega
  | ⟨1, _⟩ => show win0_0.index t 1 * 1024 + 1 * r.val = r.val; rw [(idx_facts t).2.1]; omega

theorem iblk1 (c : Dev nD) (t : Fin cfg0.N) (x : Fin 1024) (e : Fin 1408) :
    iblk m c 1 t (ix2 x e) = m (c.tc.loc main_arg1) (ix2 (row (tk t) x) (col t e)) := by
  unfold iblk; rw [View.read_apply]
  show m (c.tc.loc main_arg1) _ = _
  congr 1; funext a; apply Fin.ext
  match a with
  | ⟨0, _⟩ => show win0_1.index t 0 * 1024 + 1 * x.val = 1024 * (t.val % 8) + x.val; rw [(idx_facts t).2.2.1]; omega
  | ⟨1, _⟩ => show win0_1.index t 1 * 1408 + 1 * e.val = t.val / 8 * 1408 + e.val; rw [(idx_facts t).2.2.2.1]; omega

theorem emb2 (t : Fin cfg0.N) (r : Fin 1024) (e : Fin 1408) : ((cfg0.win 2).blk t).view.emb (ix2 r e) = ix2 r (col t e) := by
  funext a; apply Fin.ext
  match a with
  | ⟨0, _⟩ => show win0_2.index t 0 * 1024 + 1 * r.val = r.val; rw [(idx_facts t).2.2.2.2.1]; omega
  | ⟨1, _⟩ => show win0_2.index t 1 * 1408 + 1 * e.val = t.val / 8 * 1408 + e.val; rw [(idx_facts t).2.2.2.2.2]; omega

/-- One block of tokens' share of an element of the gradient. -/
def share (a : S8192x1024.Idx → EReal) (d : S8192x2816.Idx → EReal) (r : Fin 1024) (u : Fin 2816) (q : Fin 8) : EReal :=
  ∑ x : Fin 1024, a (ix2 (row q x) r) * d (ix2 (row q x) u)

/-- The gradient of the weights. -/
def dwG (a : S8192x1024.Idx → EReal) (d : S8192x2816.Idx → EReal) : S1024x2816.Idx → EReal := fun j =>
  ∑ x : Fin 8192, a (ix2 x (j 0)) * d (ix2 x (j 1))

abbrev res (c : Dev nD) : S1024x2816.Idx → EReal := dwG (m (c.tc.loc main_arg0)) (m (c.tc.loc main_arg1))

/-- One element of the product of two blocks. -/
def prod (x0 : Vec Ideal S1024x1024 .bf16) (x1 : Vec Ideal S1024x1408 .bf16) (r : Fin 1024) (e : Fin 1408) : EReal :=
  ∑ x : Fin 1024, (x0 (ix2 x r) : EReal) * x1 (ix2 x e)

theorem pay1_apply (x0 : Vec Ideal S1024x1024 .bf16) (x1 : Vec Ideal S1024x1408 .bf16) (r : Fin 1024) (e : Fin 1408) :
    k0_pay1 (F := Ideal) x0 x1 (ix2 r e) = prod x0 x1 r e := by
  refine (Cert.AttnVal.matT_apply Cert.DwKernelIdeal.Facts₀.dot_S1024x1024_S1024x1408_S1024x1408_0_0_1_1_n_n_wf x0 x1 (constant S1024x1408 .f32 0x00000000#32) r e).trans ?_
  show Ideal.ofBits .f32 0x00000000#32 + _ = _
  rw [show Ideal.ofBits .f32 0x00000000#32 = 0 by simp [Ideal.ofBits, Ideal.ieee], zero_add]
  rfl

theorem pay2_apply (x0 : Vec Ideal S1024x1024 .bf16) (x1 : Vec Ideal S1024x1408 .bf16) (r : Fin 1024) (e : Fin 1408) :
    k0_pay2 (F := Ideal) x0 x1 (ix2 r e) = prod x0 x1 r e := by
  unfold k0_pay2; rw [shapeCast_self]; exact pay1_apply _ _ _ _

theorem pay3_apply (x0 : Vec Ideal S1024x1024 .bf16) (x1 : Vec Ideal S1024x1408 .bf16) (xs : Vec Ideal S1024x1408 .f32) (r : Fin 1024) (e : Fin 1408) :
    k0_pay3 (F := Ideal) x0 x1 xs (ix2 r e) = (xs (ix2 r e) : EReal) + prod x0 x1 r e := by
  unfold k0_pay3; rw [shapeCast_self, ← pay1_apply]; rfl

theorem blk_share (c : Dev nD) (t : Fin cfg0.N) (r : Fin 1024) (e : Fin 1408) :
    prod (iblk m c 0 t) (iblk m c 1 t) r e
      = share (m (c.tc.loc main_arg0)) (m (c.tc.loc main_arg1)) r (col t e) (tk t) :=
  Finset.sum_congr rfl fun x _ => congrArg₂ (fun a b : EReal => a * b) (iblk0 m c t x r) (iblk1 m c t x e)

theorem sum_share (a : S8192x1024.Idx → EReal) (d : S8192x2816.Idx → EReal) (r : Fin 1024) (u : Fin 2816) :
    ∑ q, share a d r u q = dwG a d (ix2 r u) := (sum_rows fun x => a (ix2 x r) * d (ix2 x u)).symm

/-- A function of the eight blocks, continued by zero. -/
def nat8 (f : Fin 8 → EReal) (n : ℕ) : EReal := if h : n < 8 then f ⟨n, h⟩ else 0
theorem nat8_val (f : Fin 8 → EReal) (q : Fin 8) : nat8 f q.val = f q := dif_pos q.isLt
theorem sum_nat8 (f : Fin 8 → EReal) : ∑ n ∈ Finset.range 8, nat8 f n = ∑ q, f q := by
  rw [Finset.sum_range]; exact Finset.sum_congr rfl fun q _ => nat8_val f q

/-- The sum after a point: the shares of the blocks of tokens met in this column block. -/
abbrev part (c : Dev nD) (t : Fin cfg0.N) (r : Fin 1024) (e : Fin 1408) : EReal :=
  ∑ k ∈ Finset.range ((tk t).val + 1), nat8 (share (m (c.tc.loc main_arg0)) (m (c.tc.loc main_arg1)) r (col t e)) k

theorem part_first (c : Dev nD) (t : Fin cfg0.N) (h : t.val % 8 = 0) (r : Fin 1024) (e : Fin 1408) :
    share (m (c.tc.loc main_arg0)) (m (c.tc.loc main_arg1)) r (col t e) (tk t) = part m c t r e := by
  have h' : (tk t).val = 0 := h
  rw [← nat8_val (share _ _ r (col t e)) (tk t)]
  unfold part
  rw [h', Finset.sum_range_one]

theorem part_next (c : Dev nD) (n : ℕ) (hn : n + 1 < cfg0.N) (h : (n + 1) % 8 ≠ 0) (r : Fin 1024) (e : Fin 1408) :
    part m c ⟨n, Nat.lt_of_succ_lt hn⟩ r e
        + share (m (c.tc.loc main_arg0)) (m (c.tc.loc main_arg1)) r (col ⟨n + 1, hn⟩ e) (tk ⟨n + 1, hn⟩)
      = part m c ⟨n + 1, hn⟩ r e := by
  have e1 : (tk ⟨n + 1, hn⟩).val = (tk ⟨n, Nat.lt_of_succ_lt hn⟩).val + 1 := by show (n + 1) % 8 = n % 8 + 1; omega
  have e2 : col ⟨n, Nat.lt_of_succ_lt hn⟩ e = col ⟨n + 1, hn⟩ e := Fin.ext (by show n / 8 * 1408 + e.val = (n + 1) / 8 * 1408 + e.val; omega)
  unfold part
  rw [Finset.sum_range_succ _ (tk ⟨n + 1, hn⟩).val, nat8_val, e2, ← e1]

theorem scratch (c : Dev nD) (n : ℕ) : ∀ (hn : n < cfg0.N) (r : Fin 1024) (e : Fin 1408),
    (outsAt0 m c n hn).2 (ix2 r e) = part m c ⟨n, hn⟩ r e := by
  induction n with
  | zero =>
    intro hn r e
    rw [outsAt0_A m c ⟨0, hn⟩ (Nat.zero_mod _) (by show ¬1 ≤ 0 % 8; omega) (by show ¬0 % 8 = 7; omega)]
    dsimp only
    rw [sA]
    exact ((pay2_apply _ _ r e).trans (blk_share m c ⟨0, hn⟩ r e)).trans (part_first m c ⟨0, hn⟩ (Nat.zero_mod _) r e)
  | succ n ih =>
    intro hn r e
    by_cases h0 : (n + 1) % 8 = 0
    · rw [outsAt0_A m c ⟨n + 1, hn⟩ h0 (by show ¬1 ≤ (n + 1) % 8; omega) (by show ¬(n + 1) % 8 = 7; omega)]
      dsimp only
      rw [sA]
      exact ((pay2_apply _ _ r e).trans (blk_share m c ⟨n + 1, hn⟩ r e)).trans (part_first m c ⟨n + 1, hn⟩ h0 r e)
    · have h1 : 1 ≤ (n + 1) % 8 := by omega
      refine Eq.trans ?_ (part_next m c n hn h0 r e)
      rw [← ih (Nat.lt_of_succ_lt hn) r e, ← blk_share m c ⟨n + 1, hn⟩ r e]
      by_cases h2 : (n + 1) % 8 = 7
      · rw [outsAt0_C m c ⟨n + 1, hn⟩ h0 h1 h2]
        dsimp only
        rw [sC]
        exact pay3_apply _ _ _ r e
      · rw [outsAt0_B m c ⟨n + 1, hn⟩ h0 h1 h2]
        dsimp only
        rw [sB]
        exact pay3_apply _ _ _ r e

/-- The last point of a column block stores what the scratch buffer then holds. -/
theorem out_scratch (c : Dev nD) (t : Fin cfg0.N) (h : t.val % 8 = 7) : (outsAt0 m c t.val t.isLt).1 = (outsAt0 m c t.val t.isLt).2 := by
  rw [outsAt0_C m c t (by omega) (by omega) h]
  dsimp only
  rw [oC, sC]

theorem out_apply (c : Dev nD) (t : Fin cfg0.N) (h : t.val % 8 = 7) (r : Fin 1024) (e : Fin 1408) :
    (outsAt0 m c t.val t.isLt).1 (ix2 r e) = res m c (ix2 r (col t e)) := by
  rw [out_scratch m c t h, scratch m c t.val t.isLt r e]
  have h' : (tk t).val = 7 := h
  show ∑ k ∈ Finset.range ((tk t).val + 1), _ = _
  rw [h', sum_nat8]
  exact sum_share _ _ _ _

set_option maxRecDepth 16384 in
theorem flushed_eq (c : Dev nD) (t : Fin cfg0.N) (h : t.val % 8 = 7) :
    (dats m 0 c).flushed 2 t = ((cfg0.win 2).blk t).view.read (Elt Ideal) (res m c) := by
  rw [Value.flushed2]
  funext j
  obtain ⟨r, e, rfl⟩ : ∃ (r : Fin 1024) (e : Fin 1408), j = ix2 r e := ⟨j 0, j 1, eq_ix2 _⟩
  rw [View.read_apply, emb2]
  exact out_apply m c t h r e

/-- Every index of the result lies in the block of the last point of its column block. -/
theorem cover (i : S1024x2816.Idx) : ∃ (t : Fin cfg0.N) (r : Fin 1024) (e : Fin 1408), t.val % 8 = 7 ∧ i = ix2 r (col t e) := by
  have h0 : (i 0 : Nat) < 1024 := (i 0).isLt
  have h1 : (i 1 : Nat) < 2816 := (i 1).isLt
  have hN : (i 1 : Nat) / 1408 * 8 + 7 < cfg0.N := by rw [N16]; omega
  refine ⟨⟨(i 1 : Nat) / 1408 * 8 + 7, hN⟩, ⟨(i 0 : Nat), h0⟩, ⟨(i 1 : Nat) % 1408, by omega⟩, by show ((i 1 : Nat) / 1408 * 8 + 7) % 8 = 7; omega, ?_⟩
  funext a; apply Fin.ext
  match a with
  | ⟨0, _⟩ => rfl
  | ⟨1, _⟩ => show (i 1 : Nat) = ((i 1 : Nat) / 1408 * 8 + 7) / 8 * 1408 + (i 1 : Nat) % 1408; omega

theorem final (c : Dev nD) : (dats m 0 c).arrAt 2 cfg0.N = res m c :=
  (dats m 0 c).arrAt_eq_of_cover 2 (res m c) (fun t hf => flushed_eq m c t ((flush0_2 t).mp hf)) fun i => by
    obtain ⟨t, r, e, h, he⟩ := cover i
    exact ⟨t, (flush0_2 t).mpr h, by rw [he, ← emb2]; exact View.emb_mem_set _ _⟩

/-! ## The reference, element by element -/

theorem dot_apply (d : FVec Ideal Cert.DwReferenceIdeal.S8192x2816 .f32) (a : FVec Ideal Cert.DwReferenceIdeal.S8192x1024 .f32) (u : Fin 2816) (r : Fin 1024) :
    Host.dotGeneral Cert.DwReferenceIdeal.dot_S8192x2816_S8192x1024_S2816x1024_0_0_1_1_n_n none d a (ix2 u r)
      = ∑ x : Fin 8192, (d (ix2 x u) : EReal) * a (ix2 x r) := by
  rw [← matmul_zero_eq_dotGeneral]
  refine (Cert.AttnVal.matT_apply Cert.DwReferenceIdeal.Facts₀.dot_S8192x2816_S8192x1024_S2816x1024_0_0_1_1_n_n_wf d a (constant Cert.DwReferenceIdeal.S2816x1024 .f32 0x00000000#32) u r).trans ?_
  show Ideal.ofBits .f32 0x00000000#32 + _ = _
  rw [show Ideal.ofBits .f32 0x00000000#32 = 0 by simp [Ideal.ofBits, Ideal.ieee], zero_add]

theorem frame_p : Cert.quiescent_DwKernel := fun m ρ _ => Cert.DwKernel.Gen.frame m ρ
theorem frame_pi : Cert.quiescent_DwKernelIdeal := fun m ρ _ => Cert.DwKernelIdeal.Gen.frame m ρ
theorem frame_ri : Cert.quiescent_DwReferenceIdeal := fun m ρ _ =>
  (θ_run Cert.DwReferenceIdeal.defs _ _).mono (fun r h => ⟨fun c => (h c).2, sem_eq_zero_of_no_sems (by decide) r.2⟩)
    (Cert.DwReferenceIdeal.Value.run (F := Ideal) m ρ)

theorem preserves : Cert.preserves_DwKernel_DwKernelIdeal := trivial

theorem algebraic : Cert.algebraic_DwKernelIdeal_DwReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.DwReferenceIdeal.defs _ _).mono (fun r h c => ⟨(h c).1.trans ?_, (h c).2⟩)
      (Cert.DwReferenceIdeal.Value.run (F := Ideal) m' ρ')
    rw [(hagree c).1, (hagree c).2]
    funext j
    obtain ⟨r, u, rfl⟩ : ∃ (r : Fin 1024) (u : Fin 2816), j = ix2 r u := ⟨j 0, j 1, eq_ix2 _⟩
    rw [transpose_apply (k := ix2 u r)]
    · exact (dot_apply _ _ u r).trans (Finset.sum_congr rfl fun x _ => mul_comm _ _)
    · intro b
      match b with
      | ⟨0, _⟩ => rfl
      | ⟨1, _⟩ => rfl

end Cert.Dw

end
-- ==== Proof.HybDw.lean ====
/- The gradient of the input projection's weights: the kernel's sum over four blocks of tokens is the whole product. -/
module

public import proofs.«01_k».proof.Defs
public import proofs.«01_k».proof.Proof.Dw
public import proofs.«01_k».proof.Proof.Gen.HybDwKernel.Frame
public import proofs.«01_k».proof.Proof.Gen.HybDwKernelIdeal.Value
public import proofs.«01_k».proof.Proof.Gen.HybDwReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.HybDw

open Cert.HybDwKernelIdeal Cert.HybDwKernelIdeal.Gen Idealize.ShloMosaic Idealize.ShloMosaic.TcCoe Idealize.SL.Sem
open Idealize.ShloMosaic.ValueIdx
open Idealize.ShloMosaic.Pipeline (Dat)
open scoped BigOperators
open Cert.Dw (hz)

/-! ## What each kind of point leaves -/

section points
variable (c : Dev nD) (i : grid0.Coords) (arg3 : Memref sig .tc .vmem S2048x1024 .bf16) (harg3 : arg3.IsWhole)
  (arg4 : Memref sig .tc .vmem S2048x512 .bf16) (harg4 : arg4.IsWhole) (arg5 : Memref sig .tc .vmem S1024x512 .f32) (harg5 : arg5.IsWhole)
  (arg6 : Memref sig .tc .vmem S1024x512 .f32) (harg6 : arg6.IsWhole)
  (x0 : Vec Ideal S2048x1024 .bf16) (x1 : Vec Ideal S2048x512 .bf16) (xs : Vec Ideal S1024x512 .f32)

/-- The first point of a column block stores the block's product. -/
theorem sA (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  rw [View.readAt_eq_ld, View.readAt_eq_ld, harg3.read_unread, harg4.read_unread, View.ld_unit_zero hz, View.ld_unit_zero hz,
    View.read_writes_junk_eq_canon, View.canon_unit_zero hz]

/-- A later point adds its product. -/
theorem sB (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0 kernelRun0_B
  dsimp only
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- So does the last one, -/
theorem sC (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0 kernelRun0_C
  dsimp only
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- which also stores the sum into the result's block. -/
theorem oC (hc0 : ¬cond0_0 i) (hc1 : cond0_1 i) (hc2 : cond0_2 i) :
    out0_C_2 c i arg3 harg3 arg4 harg4 arg5 harg5 arg6 harg6 hc0 hc1 hc2 x0 x1 xs = k0_pay3 x0 x1 xs := by
  unfold out0_C_2 kernelRun0_C
  dsimp only
  rw [View.read_writes_junk_eq_canon, View.canon_unit_zero hz]
  unfold kernelRun0_C.sl.v12
  unfold View.readCov
  rw [View.readAt_writes_junk_eq_canon]
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.canon_unit_zero hz]
  funext j
  refine congrArg (k0_pay3 x0 x1 xs) (funext fun a => Fin.ext ?_)
  match a with
  | ⟨0, _⟩ => show 0 + 1 * (j 0).val = (j 0).val; omega
  | ⟨1, _⟩ => show 0 + 1 * (j 1).val = (j 1).val; omega

end points

variable (m : (ℓ : Loc nD τ sig) → Buf (Elt Ideal) ℓ) (ρ : Dev nD → PrngReg)

/-! ## The sum over the blocks of tokens -/

/-- Token `x` of block `q`. -/
def row (q : Fin 4) (x : Fin 2048) : Fin 8192 := ⟨2048 * q.val + x.val, by omega⟩

theorem sum_rows (f : Fin 8192 → EReal) : ∑ x, f x = ∑ q : Fin 4, ∑ x : Fin 2048, f (row q x) := by
  rw [← Finset.sum_product', Finset.univ_product_univ]
  refine (Fintype.sum_equiv (finProdFinEquiv (m := 4) (n := 2048)) _ f fun p => congrArg f (Fin.ext ?_)).symm
  show 2048 * p.1.val + p.2.val = p.2.val + 2048 * p.1.val
  omega

theorem N_all : cfg0.N = 36 := N_0

/-- The block of tokens of a point, -/
def tk (t : Fin cfg0.N) : Fin 4 := ⟨t.val % 4, by omega⟩
/-- and the whole array's column that column `e` of its blocks is. -/
def col (t : Fin cfg0.N) (e : Fin 512) : Fin 4608 := ⟨t.val / 4 % 9 * 512 + e.val, by have := lt_of_lt_of_eq t.isLt N_all; have := e.isLt; omega⟩
/-- The row. -/
def rw0 (t : Fin cfg0.N) (r : Fin 1024) : Fin 1024 := ⟨t.val / 36 * 1024 + r.val, by have := lt_of_lt_of_eq t.isLt N_all; have := r.isLt; omega⟩

theorem idx_facts : ∀ t : Fin grid0.N, win0_0.index t 0 = t.val % 4 ∧ win0_0.index t 1 = t.val / 36 ∧ win0_1.index t 0 = t.val % 4
    ∧ win0_1.index t 1 = t.val / 4 % 9 ∧ win0_2.index t 0 = t.val / 36 ∧ win0_2.index t 1 = t.val / 4 % 9 := by decide +kernel

theorem iblk0 (c : Dev nD) (t : Fin cfg0.N) (x : Fin 2048) (r : Fin 1024) :
    iblk m c 0 t (ix2 x r) = m (c.tc.loc main_arg0) (ix2 (row (tk t) x) (rw0 t r)) := by
  unfold iblk; rw [View.read_apply]
  show m (c.tc.loc main_arg0) _ = _
  congr 1; funext a; apply Fin.ext
  match a with
  | ⟨0, _⟩ => show win0_0.index t 0 * 2048 + 1 * x.val = 2048 * (t.val % 4) + x.val; rw [(idx_facts t).1]; omega
  | ⟨1, _⟩ => show win0_0.index t 1 * 1024 + 1 * r.val = t.val / 36 * 1024 + r.val; rw [(idx_facts t).2.1]; omega

theorem iblk1 (c : Dev nD) (t : Fin cfg0.N) (x : Fin 2048) (e : Fin 512) :
    iblk m c 1 t (ix2 x e) = m (c.tc.loc main_arg1) (ix2 (row (tk t) x) (col t e)) := by
  unfold iblk; rw [View.read_apply]
  show m (c.tc.loc main_arg1) _ = _
  congr 1; funext a; apply Fin.ext
  match a with
  | ⟨0, _⟩ => show win0_1.index t 0 * 2048 + 1 * x.val = 2048 * (t.val % 4) + x.val; rw [(idx_facts t).2.2.1]; omega
  | ⟨1, _⟩ => show win0_1.index t 1 * 512 + 1 * e.val = t.val / 4 % 9 * 512 + e.val; rw [(idx_facts t).2.2.2.1]; omega

theorem emb2 (t : Fin cfg0.N) (r : Fin 1024) (e : Fin 512) : ((cfg0.win 2).blk t).view.emb (ix2 r e) = ix2 (rw0 t r) (col t e) := by
  funext a; apply Fin.ext
  match a with
  | ⟨0, _⟩ => show win0_2.index t 0 * 1024 + 1 * r.val = t.val / 36 * 1024 + r.val; rw [(idx_facts t).2.2.2.2.1]; omega
  | ⟨1, _⟩ => show win0_2.index t 1 * 512 + 1 * e.val = t.val / 4 % 9 * 512 + e.val; rw [(idx_facts t).2.2.2.2.2]; omega

/-- One block of tokens' share of an element of the gradient. -/
def share (a : S8192x1024.Idx → EReal) (d : S8192x4608.Idx → EReal) (r : Fin 1024) (u : Fin 4608) (q : Fin 4) : EReal :=
  ∑ x : Fin 2048, a (ix2 (row q x) r) * d (ix2 (row q x) u)

/-- The gradient of the weights. -/
def dwG (a : S8192x1024.Idx → EReal) (d : S8192x4608.Idx → EReal) : S1024x4608.Idx → EReal := fun j =>
  ∑ x : Fin 8192, a (ix2 x (j 0)) * d (ix2 x (j 1))

abbrev res (c : Dev nD) : S1024x4608.Idx → EReal := dwG (m (c.tc.loc main_arg0)) (m (c.tc.loc main_arg1))

/-- One element of the product of two blocks. -/
def prod (x0 : Vec Ideal S2048x1024 .bf16) (x1 : Vec Ideal S2048x512 .bf16) (r : Fin 1024) (e : Fin 512) : EReal :=
  ∑ x : Fin 2048, (x0 (ix2 x r) : EReal) * x1 (ix2 x e)

theorem pay1_apply (x0 : Vec Ideal S2048x1024 .bf16) (x1 : Vec Ideal S2048x512 .bf16) (r : Fin 1024) (e : Fin 512) :
    k0_pay1 (F := Ideal) x0 x1 (ix2 r e) = prod x0 x1 r e := by
  refine (Cert.AttnVal.matT_apply Cert.HybDwKernelIdeal.Facts₀.dot_S2048x1024_S2048x512_S1024x512_0_0_1_1_n_n_wf x0 x1 (constant S1024x512 .f32 0x00000000#32) r e).trans ?_
  show Ideal.ofBits .f32 0x00000000#32 + _ = _
  rw [show Ideal.ofBits .f32 0x00000000#32 = 0 by simp [Ideal.ofBits, Ideal.ieee], zero_add]
  rfl

theorem pay2_apply (x0 : Vec Ideal S2048x1024 .bf16) (x1 : Vec Ideal S2048x512 .bf16) (r : Fin 1024) (e : Fin 512) :
    k0_pay2 (F := Ideal) x0 x1 (ix2 r e) = prod x0 x1 r e := by
  unfold k0_pay2; rw [shapeCast_self]; exact pay1_apply _ _ _ _

theorem pay3_apply (x0 : Vec Ideal S2048x1024 .bf16) (x1 : Vec Ideal S2048x512 .bf16) (xs : Vec Ideal S1024x512 .f32) (r : Fin 1024) (e : Fin 512) :
    k0_pay3 (F := Ideal) x0 x1 xs (ix2 r e) = (xs (ix2 r e) : EReal) + prod x0 x1 r e := by
  unfold k0_pay3; rw [shapeCast_self, ← pay1_apply]; rfl

theorem blk_share (c : Dev nD) (t : Fin cfg0.N) (r : Fin 1024) (e : Fin 512) :
    prod (iblk m c 0 t) (iblk m c 1 t) r e
      = share (m (c.tc.loc main_arg0)) (m (c.tc.loc main_arg1)) (rw0 t r) (col t e) (tk t) :=
  Finset.sum_congr rfl fun x _ => congrArg₂ (fun a b : EReal => a * b) (iblk0 m c t x r) (iblk1 m c t x e)

theorem sum_share (a : S8192x1024.Idx → EReal) (d : S8192x4608.Idx → EReal) (r : Fin 1024) (u : Fin 4608) :
    ∑ q, share a d r u q = dwG a d (ix2 r u) := (sum_rows fun x => a (ix2 x r) * d (ix2 x u)).symm

/-- A function of the four blocks, continued by zero. -/
def natq (f : Fin 4 → EReal) (n : ℕ) : EReal := if h : n < 4 then f ⟨n, h⟩ else 0
theorem natq_val (f : Fin 4 → EReal) (q : Fin 4) : natq f q.val = f q := dif_pos q.isLt
theorem sum_natq (f : Fin 4 → EReal) : ∑ n ∈ Finset.range 4, natq f n = ∑ q, f q := by
  rw [Finset.sum_range]; exact Finset.sum_congr rfl fun q _ => natq_val f q

/-- The sum after a point: the shares of the blocks of tokens met in this column block. -/
abbrev part (c : Dev nD) (t : Fin cfg0.N) (r : Fin 1024) (e : Fin 512) : EReal :=
  ∑ k ∈ Finset.range ((tk t).val + 1), natq (share (m (c.tc.loc main_arg0)) (m (c.tc.loc main_arg1)) (rw0 t r) (col t e)) k

theorem part_first (c : Dev nD) (t : Fin cfg0.N) (h : t.val % 4 = 0) (r : Fin 1024) (e : Fin 512) :
    share (m (c.tc.loc main_arg0)) (m (c.tc.loc main_arg1)) (rw0 t r) (col t e) (tk t) = part m c t r e := by
  have h' : (tk t).val = 0 := h
  rw [← natq_val (share _ _ (rw0 t r) (col t e)) (tk t)]
  unfold part
  rw [h', Finset.sum_range_one]

theorem part_next (c : Dev nD) (n : ℕ) (hn : n + 1 < cfg0.N) (h : (n + 1) % 4 ≠ 0) (r : Fin 1024) (e : Fin 512) :
    part m c ⟨n, Nat.lt_of_succ_lt hn⟩ r e
        + share (m (c.tc.loc main_arg0)) (m (c.tc.loc main_arg1)) (rw0 ⟨n + 1, hn⟩ r) (col ⟨n + 1, hn⟩ e) (tk ⟨n + 1, hn⟩)
      = part m c ⟨n + 1, hn⟩ r e := by
  have e1 : (tk ⟨n + 1, hn⟩).val = (tk ⟨n, Nat.lt_of_succ_lt hn⟩).val + 1 := by show (n + 1) % 4 = n % 4 + 1; omega
  have e3 : rw0 ⟨n, Nat.lt_of_succ_lt hn⟩ r = rw0 ⟨n + 1, hn⟩ r := Fin.ext (by show n / 36 * 1024 + r.val = (n + 1) / 36 * 1024 + r.val; omega)
  have e2 : col ⟨n, Nat.lt_of_succ_lt hn⟩ e = col ⟨n + 1, hn⟩ e := Fin.ext (by show n / 4 % 9 * 512 + e.val = (n + 1) / 4 % 9 * 512 + e.val; omega)
  unfold part
  rw [Finset.sum_range_succ _ (tk ⟨n + 1, hn⟩).val, natq_val, e2, e3, ← e1]

theorem scratch (c : Dev nD) (n : ℕ) : ∀ (hn : n < cfg0.N) (r : Fin 1024) (e : Fin 512),
    (outsAt0 m c n hn).2 (ix2 r e) = part m c ⟨n, hn⟩ r e := by
  induction n with
  | zero =>
    intro hn r e
    rw [outsAt0_A m c ⟨0, hn⟩ (Nat.zero_mod _) (by show ¬1 ≤ 0 % 4; omega) (by show ¬0 % 4 = 3; omega)]
    dsimp only
    rw [sA]
    exact ((pay2_apply _ _ r e).trans (blk_share m c ⟨0, hn⟩ r e)).trans (part_first m c ⟨0, hn⟩ (Nat.zero_mod _) r e)
  | succ n ih =>
    intro hn r e
    by_cases h0 : (n + 1) % 4 = 0
    · rw [outsAt0_A m c ⟨n + 1, hn⟩ h0 (by show ¬1 ≤ (n + 1) % 4; omega) (by show ¬(n + 1) % 4 = 3; omega)]
      dsimp only
      rw [sA]
      exact ((pay2_apply _ _ r e).trans (blk_share m c ⟨n + 1, hn⟩ r e)).trans (part_first m c ⟨n + 1, hn⟩ h0 r e)
    · have h1 : 1 ≤ (n + 1) % 4 := by omega
      refine Eq.trans ?_ (part_next m c n hn h0 r e)
      rw [← ih (Nat.lt_of_succ_lt hn) r e, ← blk_share m c ⟨n + 1, hn⟩ r e]
      by_cases h2 : (n + 1) % 4 = 3
      · rw [outsAt0_C m c ⟨n + 1, hn⟩ h0 h1 h2]
        dsimp only
        rw [sC]
        exact pay3_apply _ _ _ r e
      · rw [outsAt0_B m c ⟨n + 1, hn⟩ h0 h1 h2]
        dsimp only
        rw [sB]
        exact pay3_apply _ _ _ r e

/-- The last point of a column block stores what the scratch buffer then holds. -/
theorem out_scratch (c : Dev nD) (t : Fin cfg0.N) (h : t.val % 4 = 3) : (outsAt0 m c t.val t.isLt).1 = (outsAt0 m c t.val t.isLt).2 := by
  rw [outsAt0_C m c t (by omega) (by omega) h]
  dsimp only
  rw [oC, sC]

theorem out_apply (c : Dev nD) (t : Fin cfg0.N) (h : t.val % 4 = 3) (r : Fin 1024) (e : Fin 512) :
    (outsAt0 m c t.val t.isLt).1 (ix2 r e) = res m c (ix2 (rw0 t r) (col t e)) := by
  rw [out_scratch m c t h, scratch m c t.val t.isLt r e]
  have h' : (tk t).val = 3 := h
  show ∑ k ∈ Finset.range ((tk t).val + 1), _ = _
  rw [h', sum_natq]
  exact sum_share _ _ _ _

set_option maxRecDepth 16384 in
theorem flushed_eq (c : Dev nD) (t : Fin cfg0.N) (h : t.val % 4 = 3) :
    (dats m 0 c).flushed 2 t = ((cfg0.win 2).blk t).view.read (Elt Ideal) (res m c) := by
  rw [Value.flushed2]
  funext j
  obtain ⟨r, e, rfl⟩ : ∃ (r : Fin 1024) (e : Fin 512), j = ix2 r e := ⟨j 0, j 1, eq_ix2 _⟩
  rw [View.read_apply, emb2]
  exact out_apply m c t h r e

/-- Every index of the result lies in the block of the last point of its block. -/
theorem cover (i : S1024x4608.Idx) : ∃ (t : Fin cfg0.N) (r : Fin 1024) (e : Fin 512), t.val % 4 = 3 ∧ i = ix2 (rw0 t r) (col t e) := by
  have h0 : (i 0 : Nat) < 1024 := (i 0).isLt
  have h1 : (i 1 : Nat) < 4608 := (i 1).isLt
  have hN : ((i 0 : Nat) / 1024 * 9 + (i 1 : Nat) / 512) * 4 + 3 < cfg0.N := by rw [N_all]; omega
  refine ⟨⟨((i 0 : Nat) / 1024 * 9 + (i 1 : Nat) / 512) * 4 + 3, hN⟩, ⟨(i 0 : Nat) % 1024, by omega⟩, ⟨(i 1 : Nat) % 512, by omega⟩, by show (((i 0 : Nat) / 1024 * 9 + (i 1 : Nat) / 512) * 4 + 3) % 4 = 3; omega, ?_⟩
  funext a; apply Fin.ext
  match a with
  | ⟨0, _⟩ => show (i 0 : Nat) = (((i 0 : Nat) / 1024 * 9 + (i 1 : Nat) / 512) * 4 + 3) / 36 * 1024 + (i 0 : Nat) % 1024; omega
  | ⟨1, _⟩ => show (i 1 : Nat) = (((i 0 : Nat) / 1024 * 9 + (i 1 : Nat) / 512) * 4 + 3) / 4 % 9 * 512 + (i 1 : Nat) % 512; omega

theorem final (c : Dev nD) : (dats m 0 c).arrAt 2 cfg0.N = res m c :=
  (dats m 0 c).arrAt_eq_of_cover 2 (res m c) (fun t hf => flushed_eq m c t ((flush0_2 t).mp hf)) fun i => by
    obtain ⟨t, r, e, h, he⟩ := cover i
    exact ⟨t, (flush0_2 t).mpr h, by rw [he, ← emb2]; exact View.emb_mem_set _ _⟩

/-! ## The reference, element by element -/

theorem dot_apply (d : FVec Ideal Cert.HybDwReferenceIdeal.S8192x4608 .f32) (a : FVec Ideal Cert.HybDwReferenceIdeal.S8192x1024 .f32) (u : Fin 4608) (r : Fin 1024) :
    Host.dotGeneral Cert.HybDwReferenceIdeal.dot_S8192x4608_S8192x1024_S4608x1024_0_0_1_1_n_n none d a (ix2 u r)
      = ∑ x : Fin 8192, (d (ix2 x u) : EReal) * a (ix2 x r) := by
  rw [← matmul_zero_eq_dotGeneral]
  refine (Cert.AttnVal.matT_apply Cert.HybDwReferenceIdeal.Facts₀.dot_S8192x4608_S8192x1024_S4608x1024_0_0_1_1_n_n_wf d a (constant Cert.HybDwReferenceIdeal.S4608x1024 .f32 0x00000000#32) u r).trans ?_
  show Ideal.ofBits .f32 0x00000000#32 + _ = _
  rw [show Ideal.ofBits .f32 0x00000000#32 = 0 by simp [Ideal.ofBits, Ideal.ieee], zero_add]

theorem frame_p : Cert.quiescent_HybDwKernel := fun m ρ _ => Cert.HybDwKernel.Gen.frame m ρ
theorem frame_pi : Cert.quiescent_HybDwKernelIdeal := fun m ρ _ => Cert.HybDwKernelIdeal.Gen.frame m ρ
theorem frame_ri : Cert.quiescent_HybDwReferenceIdeal := fun m ρ _ =>
  (θ_run Cert.HybDwReferenceIdeal.defs _ _).mono (fun r h => ⟨fun c => (h c).2, sem_eq_zero_of_no_sems (by decide) r.2⟩)
    (Cert.HybDwReferenceIdeal.Value.run (F := Ideal) m ρ)

theorem preserves : Cert.preserves_HybDwKernel_HybDwKernelIdeal := trivial

theorem algebraic : Cert.algebraic_HybDwKernelIdeal_HybDwReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.HybDwReferenceIdeal.defs _ _).mono (fun r h c => ⟨(h c).1.trans ?_, (h c).2⟩)
      (Cert.HybDwReferenceIdeal.Value.run (F := Ideal) m' ρ')
    rw [(hagree c).1, (hagree c).2]
    funext j
    obtain ⟨r, u, rfl⟩ : ∃ (r : Fin 1024) (u : Fin 4608), j = ix2 r u := ⟨j 0, j 1, eq_ix2 _⟩
    rw [transpose_apply (k := ix2 u r)]
    · exact (dot_apply _ _ u r).trans (Finset.sum_congr rfl fun x _ => mul_comm _ _)
    · intro b
      match b with
      | ⟨0, _⟩ => rfl
      | ⟨1, _⟩ => rfl

end Cert.HybDw

end
-- ==== Proof.DxPoint.lean ====
/- What each kind of point of the feed-forward layer's input gradient leaves in its buffers. -/
module

public import proofs.«01_k».proof.Defs
public import proofs.«01_k».proof.Proof.Dw
public import proofs.«01_k».proof.Proof.Gen.DxKernelIdeal.Frame
public import Idealize.ShloMosaic.Lib.ValueIdx

@[expose] public section

noncomputable section

namespace Cert.Dx

open Cert.DxKernelIdeal Cert.DxKernelIdeal.Gen Idealize.ShloMosaic Idealize.ShloMosaic.TcCoe Idealize.SL.Sem
open Idealize.ShloMosaic.ValueIdx
open Cert.Dw (hz)

section points
variable (c : Dev nD) (i : grid0.Coords) (arg2 : Memref sig .tc .vmem S1024x1408 .bf16) (harg2 : arg2.IsWhole)
  (arg3 : Memref sig .tc .vmem S1024x1408 .bf16) (harg3 : arg3.IsWhole) (arg4 : Memref sig .tc .vmem S1024x1408 .bf16) (harg4 : arg4.IsWhole)
  (arg5 : Memref sig .tc .vmem S1024x1024 .f32) (harg5 : arg5.IsWhole) (arg6 : Memref sig .tc .vmem S1024x1024 .f32) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1x1024 .f32) (harg9 : arg9.IsWhole) (arg10 : Memref sig .tc .vmem S1024x1024 .f32) (harg10 : arg10.IsWhole)
  (x0 x1 x2 : Vec Ideal S1024x1408 .bf16) (x3 x4 : Vec Ideal S1024x1024 .f32) (x5 xo : Vec Ideal S1x1024 .f32) (xs : Vec Ideal S1024x1024 .f32)

theorem sA (hc0 : cond0_0 i) (hc1 : ¬cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 hc0 hc1 hc2 hc3 x0 x1 x2 x3 x4 x5 = k0_pay1 x0 x2 := by
  unfold sout0_A_0 kernelRun0_A
  dsimp only
  rw [View.read_writes_junk_eq_canon, View.canon_unit_zero hz]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

theorem sB (hc0 : ¬cond0_0 i) (hc1 : cond0_1 i) (hc2 : ¬cond0_2 i) (hc3 : ¬cond0_3 i) :
    sout0_B_0 c i arg2 harg2 arg3 harg3 arg4 harg4 arg5 harg5 arg6 harg6 arg7 harg7 arg8 harg8 arg9 harg9 arg10 harg10 hc0 hc1 hc2 hc3 x0 x1 x2 x3 x4 x5 xs = k0_pay2 xs x0 x2 := by
  unfold sout0_B_0 kernelRun0_B
  dsimp only
  rw [View.read_writes_junk_eq_canon, View.canon_unit_zero hz]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

theorem sC (hc0 : ¬cond0_0 i) (hc1 : ¬cond0_1 i) (hc2 : cond0_2 i) (hc3 : ¬cond0_3 i) :
    sout0_C_0 c i arg2 harg2 arg3 harg3 arg4 harg4 arg5 harg5 arg6 harg6 arg7 harg7 arg8 harg8 arg9 harg9 arg10 harg10 hc0 hc1 hc2 hc3 x0 x1 x2 x3 x4 x5 xs = k0_pay3 xs x1 x2 := by
  unfold sout0_C_0 kernelRun0_C
  dsimp only
  rw [View.read_writes_junk_eq_canon, View.canon_unit_zero hz]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

theorem sD (hc0 : ¬cond0_0 i) (hc1 : ¬cond0_1 i) (hc2 : cond0_2 i) (hc3 : cond0_3 i) (hc4 : cond0_4 i) (hc5 : ¬cond0_5 i) :
    sout0_D_0 c i arg2 harg2 arg3 harg3 arg4 harg4 arg5 harg5 arg6 harg6 arg7 harg7 arg8 harg8 arg9 harg9 arg10 harg10 hc0 hc1 hc2 hc3 hc4 hc5 x0 x1 x2 x3 x4 x5 xs = k0_pay3 xs x1 x2 := by
  unfold sout0_D_0 kernelRun0_D
  dsimp only
  unfold kernelRun0_D.sl.HS0_1
  rw [View.read_writes_junk_eq_canon, View.canon_unit_zero hz]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

/-- The sum read back by the last point of a row block. -/
theorem v18D : kernelRun0_D.sl.v18 c arg3 harg3 arg4 harg4 arg10 harg10 x1 x2 xs = k0_pay3 xs x1 x2 := by
  unfold kernelRun0_D.sl.v18
  unfold View.readCov
  rw [View.readAt_writes_junk_eq_canon]
  unfold kernelRun0_D.sl.HS0_1
  rw [View.canon_unit_zero hz]
  simp only [View.readAt_eq_ld, harg3.read_unread, harg4.read_unread, harg10.read_unread, View.ld_unit_zero (S := S1024x1408) hz, View.ld_unit_zero (S := S1024x1024) hz, View.ld_unit_zero (S := S1x1024) hz]
  funext j
  refine congrArg (k0_pay3 xs x1 x2) (funext fun a => Fin.ext ?_)
  match a with
  | ⟨0, _⟩ => show 0 + 1 * (j 0).val = (j 0).val; omega
  | ⟨1, _⟩ => show 0 + 1 * (j 1).val = (j 1).val; omega

theorem oD6 (hc0 : ¬cond0_0 i) (hc1 : ¬cond0_1 i) (hc2 : cond0_2 i) (hc3 : cond0_3 i) (hc4 : cond0_4 i) (hc5 : ¬cond0_5 i) :
    out0_D_6 c i arg2 harg2 arg3 harg3 arg4 harg4 arg5 harg5 arg6 harg6 arg7 harg7 arg8 harg8 arg9 harg9 arg10 harg10 hc0 hc1 hc2 hc3 hc4 hc5 x0 x1 x2 x3 x4 x5 xs = k0_pay6 x3 x5 (k0_pay3 xs x1 x2) x4 := by
  unfold out0_D_6 kernelRun0_D
  dsimp only
  rw [View.read_writes_junk_eq_canon, View.canon_unit_zero hz, v18D]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

theorem oD7 (hc0 : ¬cond0_0 i) (hc1 : ¬cond0_1 i) (hc2 : cond0_2 i) (hc3 : cond0_3 i) (hc4 : cond0_4 i) (hc5 : ¬cond0_5 i) :
    out0_D_7 c i arg2 harg2 arg3 harg3 arg4 harg4 arg5 harg5 arg6 harg6 arg7 harg7 arg8 harg8 arg9 harg9 arg10 harg10 hc0 hc1 hc2 hc3 hc4 hc5 x0 x1 x2 x3 x4 x5 xs = k0_pay7 x3 (k0_pay3 xs x1 x2) := by
  unfold out0_D_7 kernelRun0_D
  dsimp only
  rw [View.read_writes_junk_eq_canon, View.canon_unit_zero hz, v18D]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

theorem sE (hc0 : ¬cond0_0 i) (hc1 : ¬cond0_1 i) (hc2 : cond0_2 i) (hc3 : cond0_3 i) (hc4 : ¬cond0_4 i) (hc5 : cond0_5 i) :
    sout0_E_0 c i arg2 harg2 arg3 harg3 arg4 harg4 arg5 harg5 arg6 harg6 arg7 harg7 arg8 harg8 arg9 harg9 arg10 harg10 hc0 hc1 hc2 hc3 hc4 hc5 x0 x1 x2 x3 x4 x5 xo xs = k0_pay3 xs x1 x2 := by
  unfold sout0_E_0 kernelRun0_E
  dsimp only
  unfold kernelRun0_E.sl.HS0_1
  rw [View.read_writes_junk_eq_canon, View.canon_unit_zero hz]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

/-- The sum read back by the last point of a row block. -/
theorem v18E : kernelRun0_E.sl.v18 c arg3 harg3 arg4 harg4 arg10 harg10 x1 x2 xs = k0_pay3 xs x1 x2 := by
  unfold kernelRun0_E.sl.v18
  unfold View.readCov
  rw [View.readAt_writes_junk_eq_canon]
  unfold kernelRun0_E.sl.HS0_1
  rw [View.canon_unit_zero hz]
  simp only [View.readAt_eq_ld, harg3.read_unread, harg4.read_unread, harg10.read_unread, View.ld_unit_zero (S := S1024x1408) hz, View.ld_unit_zero (S := S1024x1024) hz, View.ld_unit_zero (S := S1x1024) hz]
  funext j
  refine congrArg (k0_pay3 xs x1 x2) (funext fun a => Fin.ext ?_)
  match a with
  | ⟨0, _⟩ => show 0 + 1 * (j 0).val = (j 0).val; omega
  | ⟨1, _⟩ => show 0 + 1 * (j 1).val = (j 1).val; omega

theorem oE6 (hc0 : ¬cond0_0 i) (hc1 : ¬cond0_1 i) (hc2 : cond0_2 i) (hc3 : cond0_3 i) (hc4 : ¬cond0_4 i) (hc5 : cond0_5 i) :
    out0_E_6 c i arg2 harg2 arg3 harg3 arg4 harg4 arg5 harg5 arg6 harg6 arg7 harg7 arg8 harg8 arg9 harg9 arg10 harg10 hc0 hc1 hc2 hc3 hc4 hc5 x0 x1 x2 x3 x4 x5 xo xs = k0_pay6 x3 x5 (k0_pay3 xs x1 x2) x4 := by
  unfold out0_E_6 kernelRun0_E
  dsimp only
  rw [View.read_writes_junk_eq_canon, View.canon_unit_zero hz, v18E]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

theorem oE7 (hc0 : ¬cond0_0 i) (hc1 : ¬cond0_1 i) (hc2 : cond0_2 i) (hc3 : cond0_3 i) (hc4 : ¬cond0_4 i) (hc5 : cond0_5 i) :
    out0_E_7 c i arg2 harg2 arg3 harg3 arg4 harg4 arg5 harg5 arg6 harg6 arg7 harg7 arg8 harg8 arg9 harg9 arg10 harg10 hc0 hc1 hc2 hc3 hc4 hc5 x0 x1 x2 x3 x4 x5 xo xs = k0_pay8 x3 (k0_pay3 xs x1 x2) xo := by
  unfold out0_E_7 kernelRun0_E
  dsimp only
  rw [View.read_writes_junk_eq_canon, View.canon_unit_zero hz, v18E]
  simp only [View.readAt_eq_ld, harg2.read_unread, harg3.read_unread, harg4.read_unread, harg5.read_unread, harg6.read_unread, harg7.read_unread, harg9.read_unread, harg10.read_unread, View.ld_unit_zero (S := S1024x1408) hz, View.ld_unit_zero (S := S1024x1024) hz, View.ld_unit_zero (S := S1x1024) hz]

end points

end Cert.Dx

end
-- ==== Proof.DxSum.lean ====
/- The feed-forward layer's input gradient, point by point: the scratch buffer's sum over four blocks of columns is the whole
   product, and the second result's column sum grows by one block of tokens every fourth point. -/
module

public import proofs.«01_k».proof.Proof.DxPoint

@[expose] public section

noncomputable section

namespace Cert.Dx

open Cert.DxKernelIdeal Cert.DxKernelIdeal.Gen Idealize.ShloMosaic Idealize.ShloMosaic.TcCoe Idealize.SL.Sem
open Idealize.ShloMosaic.ValueIdx
open scoped BigOperators

variable (m : (ℓ : Loc nD τ sig) → Buf (Elt Ideal) ℓ)

theorem zero_bits : Ideal.ofBits .f32 0x00000000#32 = 0 := by simp [Ideal.ofBits, Ideal.ieee]

/-! ## The payloads, element by element -/

/-- The number of columns, and the small constant under the root. -/
abbrev cN : EReal := Ideal.ofBits .f32 0x44800000#32
abbrev cE : EReal := Ideal.ofBits .f32 0x358637BD#32

/-- The mean square of a row plus the constant, -/
def vv (f : Fin 1024 → EReal) : EReal := Ideal.div (∑ k, f k * f k) cN + cE
/-- and its reciprocal root. -/
def rs (f : Fin 1024 → EReal) : EReal := Ideal.rsqrt (vv f)

/-- The gradient through the norm, for one row: `f` the row, `p` the incoming gradient, `g` the gains. -/
def bwd (f p g : Fin 1024 → EReal) (u : Fin 1024) : EReal :=
  rs f * (p u * g u - f u * rs f * Ideal.div (∑ k, p k * g k * (f k * rs f)) cN)

/-- One element of the product of two blocks. -/
def prod (x0 x1 : Vec Ideal S1024x1408 .bf16) (r u : Fin 1024) : EReal :=
  ∑ x : Fin 1408, (x0 (ix2 r x) : EReal) * x1 (ix2 u x)

theorem mm_apply (x0 x1 : Vec Ideal S1024x1408 .bf16) (r u : Fin 1024) :
    FloatOps.matmul (F := Ideal) (φ₁ := .bf16) (φ₂ := .bf16) (DotDims.transposedRhs 1024 1408 1024) none x0 x1 (constant S1024x1024 .f32 0x00000000#32) (ix2 r u)
      = prod x0 x1 r u := by
  rw [Ideal.matmul_transposedRhs_apply]
  show Ideal.ofBits .f32 0x00000000#32 + _ = _
  rw [zero_bits, zero_add]
  rfl

theorem pay1_apply (x0 x1 : Vec Ideal S1024x1408 .bf16) (r u : Fin 1024) : k0_pay1 (F := Ideal) x0 x1 (ix2 r u) = prod x0 x1 r u := by
  unfold k0_pay1; rw [shapeCast_self]; exact mm_apply _ _ _ _
theorem pay2_apply (xs : Vec Ideal S1024x1024 .f32) (x0 x1 : Vec Ideal S1024x1408 .bf16) (r u : Fin 1024) :
    k0_pay2 (F := Ideal) xs x0 x1 (ix2 r u) = (xs (ix2 r u) : EReal) + prod x0 x1 r u := by
  unfold k0_pay2; rw [shapeCast_self, ← mm_apply]; rfl
theorem pay3_apply (xs : Vec Ideal S1024x1024 .f32) (x0 x1 : Vec Ideal S1024x1408 .bf16) (r u : Fin 1024) :
    k0_pay3 (F := Ideal) xs x0 x1 (ix2 r u) = (xs (ix2 r u) : EReal) + prod x0 x1 r u := by
  unfold k0_pay3; rw [shapeCast_self, ← mm_apply]; rfl

/-- A row's sum, as a column. -/
theorem rowsum (y : FVec Ideal S1024x1024 .f32) (r : Fin 1024) :
    shapeCast S1024x1 (multiReduction (F := Ideal) .add [1] S1024 y 0x00000000#32 Facts₀.reduces_S1024x1024_S1024 (.inl rfl) rfl) Facts₀.shapeCasts_S1024_S1024x1 (ix2 r 0)
      = ∑ k : Fin 1024, (y (ix2 r k) : EReal) := by
  rw [shapeCast_apply _ _ _ (ix1 r) (by rw [Shape.rowMajor_val_one, Shape.rowMajor_val_two]; show r.val = r.val * 1 + 0; omega)]
  refine (Ideal.multiReduction_add_single _ _ _ _ _ _).trans ?_
  refine Finset.sum_congr rfl fun k _ => congrArg y ?_
  funext a; fin_cases a <;> rfl

/-- A column's sum, as a row. -/
theorem colsum (y : FVec Ideal S1024x1024 .f32) (u : Fin 1024) :
    shapeCast S1x1024 (multiReduction (F := Ideal) .add [0] S1024 y 0x00000000#32 Facts₀.reduces_S1024x1024_S1024_2 (.inl rfl) rfl) Facts₀.shapeCasts_S1024_S1x1024 (ix2 0 u)
      = ∑ k : Fin 1024, (y (ix2 k u) : EReal) := by
  rw [shapeCast_apply _ _ _ (ix1 u) (by rw [Shape.rowMajor_val_one, Shape.rowMajor_val_two]; show u.val = 0 * 1024 + u.val; omega)]
  refine (Ideal.multiReduction_add_single _ _ _ _ _ _).trans ?_
  refine Finset.sum_congr rfl fun k _ => congrArg y ?_
  funext a; fin_cases a <;> rfl

theorem bcol (y : FVec Ideal S1024x1 .f32) (r u : Fin 1024) :
    broadcastTo S1024x1024 y Facts₀.broadcasts_S1024x1_S1024x1024 (ix2 r u) = y (ix2 r 0) :=
  broadcastTo_apply _ _ (ix2 r u) (ix2 r 0) (by intro a; fin_cases a <;> rfl)

theorem brow (y : FVec Ideal S1x1024 .f32) (r u : Fin 1024) :
    broadcastTo S1024x1024 y Facts₀.broadcasts_S1x1024_S1024x1024 (ix2 r u) = y (ix2 0 u) :=
  broadcastTo_apply _ _ (ix2 r u) (ix2 0 u) (by intro a; fin_cases a <;> rfl)

theorem pay4_apply (x : Vec Ideal S1024x1024 .f32) (r : Fin 1024) : k0_pay4 (F := Ideal) x (ix2 r 0) = rs fun k => x (ix2 r k) := by
  unfold k0_pay4
  show Ideal.rsqrt (Ideal.div (shapeCast S1024x1 (multiReduction (F := Ideal) .add [1] S1024 (mulf x x) 0x00000000#32 Facts₀.reduces_S1024x1024_S1024 (.inl rfl) rfl) Facts₀.shapeCasts_S1024_S1024x1 (ix2 r 0)) cN + cE) = _
  rw [rowsum]
  rfl

theorem pay5_apply (x : Vec Ideal S1024x1024 .f32) (r u : Fin 1024) :
    k0_pay5 (F := Ideal) x (ix2 r u) = (x (ix2 r u) : EReal) * rs fun k => x (ix2 r k) := by
  unfold k0_pay5
  show (x (ix2 r u) : EReal) * broadcastTo S1024x1024 (k0_pay4 x) Facts₀.broadcasts_S1024x1_S1024x1024 (ix2 r u) = _
  rw [bcol, pay4_apply]

theorem pay6_apply (x : Vec Ideal S1024x1024 .f32) (g : Vec Ideal S1x1024 .f32) (p d : Vec Ideal S1024x1024 .f32) (r u : Fin 1024) :
    k0_pay6 (F := Ideal) x g p d (ix2 r u)
      = (d (ix2 r u) : EReal) + bwd (fun k => x (ix2 r k)) (fun k => p (ix2 r k)) (fun k => g (ix2 0 k)) u := by
  unfold k0_pay6
  show (d (ix2 r u) : EReal) + broadcastTo S1024x1024 (k0_pay4 x) Facts₀.broadcasts_S1024x1_S1024x1024 (ix2 r u)
    * ((p (ix2 r u) : EReal) * broadcastTo S1024x1024 g Facts₀.broadcasts_S1x1024_S1024x1024 (ix2 r u)
      - k0_pay5 (F := Ideal) x (ix2 r u) * broadcastTo S1024x1024 (divf (shapeCast S1024x1 (multiReduction (F := Ideal) .add [1] S1024
        (mulf (mulf p (broadcastTo S1024x1024 g Facts₀.broadcasts_S1x1024_S1024x1024)) (k0_pay5 x)) 0x00000000#32 Facts₀.reduces_S1024x1024_S1024 (.inl rfl) rfl) Facts₀.shapeCasts_S1024_S1024x1)
        (broadcast S1024x1 (Scalar.ofBits .f32 0x44800000#32))) Facts₀.broadcasts_S1024x1_S1024x1024 (ix2 r u)) = _
  rw [bcol, bcol, brow, pay4_apply, pay5_apply]
  show (d (ix2 r u) : EReal) + _ * (_ - _ * Ideal.div (shapeCast S1024x1 (multiReduction (F := Ideal) .add [1] S1024
        (mulf (mulf p (broadcastTo S1024x1024 g Facts₀.broadcasts_S1x1024_S1024x1024)) (k0_pay5 x)) 0x00000000#32 Facts₀.reduces_S1024x1024_S1024 (.inl rfl) rfl) Facts₀.shapeCasts_S1024_S1024x1 (ix2 r 0)) cN) = _
  rw [rowsum]
  have e : ∀ k : Fin 1024, (mulf (mulf p (broadcastTo S1024x1024 g Facts₀.broadcasts_S1x1024_S1024x1024)) (k0_pay5 (F := Ideal) x) (ix2 r k) : EReal)
      = (p (ix2 r k) : EReal) * g (ix2 0 k) * ((x (ix2 r k) : EReal) * rs fun k => x (ix2 r k)) := fun k => by
    show (p (ix2 r k) : EReal) * broadcastTo S1024x1024 g Facts₀.broadcasts_S1x1024_S1024x1024 (ix2 r k) * k0_pay5 (F := Ideal) x (ix2 r k) = _
    rw [brow, pay5_apply]
  rw [Finset.sum_congr rfl fun k _ => e k]
  rfl

theorem pay7_apply (x p : Vec Ideal S1024x1024 .f32) (u : Fin 1024) :
    k0_pay7 (F := Ideal) x p (ix2 0 u) = ∑ r : Fin 1024, (p (ix2 r u) : EReal) * ((x (ix2 r u) : EReal) * rs fun k => x (ix2 r k)) := by
  unfold k0_pay7
  refine (colsum _ u).trans (Finset.sum_congr rfl fun r _ => ?_)
  show (p (ix2 r u) : EReal) * k0_pay5 (F := Ideal) x (ix2 r u) = _
  rw [pay5_apply]

theorem pay8_apply (x p : Vec Ideal S1024x1024 .f32) (o : Vec Ideal S1x1024 .f32) (u : Fin 1024) :
    k0_pay8 (F := Ideal) x p o (ix2 0 u) = (o (ix2 0 u) : EReal) + k0_pay7 (F := Ideal) x p (ix2 0 u) := by
  unfold k0_pay8; rw [shapeCast_self]; rfl

/-! ## Where the blocks lie -/

theorem N_all : cfg0.N = 32 := N_0

/-- The block of columns of a point, -/
def tk (t : Fin cfg0.N) : Fin 4 := ⟨t.val % 4, by omega⟩
/-- and the token that row `r` of its blocks is. -/
def rw0 (t : Fin cfg0.N) (r : Fin 1024) : Fin 8192 := ⟨t.val / 4 * 1024 + r.val, by have := lt_of_lt_of_eq t.isLt N_all; have := r.isLt; omega⟩
/-- Column `x` of block `q` of the weights. -/
def col (q : Fin 4) (x : Fin 1408) : Fin 5632 := ⟨1408 * q.val + x.val, by omega⟩

theorem sum_cols (f : Fin 5632 → EReal) : ∑ x, f x = ∑ q : Fin 4, ∑ x : Fin 1408, f (col q x) := by
  rw [← Finset.sum_product', Finset.univ_product_univ]
  refine (Fintype.sum_equiv (finProdFinEquiv (m := 4) (n := 1408)) _ f fun p => congrArg f (Fin.ext ?_)).symm
  show 1408 * p.1.val + p.2.val = p.2.val + 1408 * p.1.val
  omega

theorem idx_facts : ∀ t : Fin grid0.N, (win0_0.index t 0 = t.val / 4 ∧ win0_0.index t 1 = min (t.val % 4) 1) ∧ (win0_1.index t 0 = t.val / 4
    ∧ win0_1.index t 1 = t.val % 4 - 2) ∧ (win0_2.index t 0 = 0 ∧ win0_2.index t 1 = t.val % 4) ∧ (win0_3.index t 0 = t.val / 4 ∧ win0_3.index t 1 = 0)
    ∧ (win0_4.index t 0 = t.val / 4 ∧ win0_4.index t 1 = 0) ∧ (win0_5.index t 0 = 0 ∧ win0_5.index t 1 = 0)
    ∧ (win0_6.index t 0 = t.val / 4 ∧ win0_6.index t 1 = 0) ∧ (win0_7.index t 0 = 0 ∧ win0_7.index t 1 = 0) := by decide +kernel

/-- The two gradients side by side, as the columns of the weights lie. -/
def cat (a d : S8192x2816.Idx → EReal) (r : Fin 8192) (k : Fin 5632) : EReal :=
  if h : k.val < 2816 then a (ix2 r ⟨k.val, h⟩) else d (ix2 r ⟨k.val - 2816, by have := k.isLt; omega⟩)

theorem iblk0 (c : Dev nD) (t : Fin cfg0.N) (h : t.val % 4 < 2) (r : Fin 1024) (x : Fin 1408) :
    iblk m c 0 t (ix2 r x) = cat (m (c.tc.loc main_arg0)) (m (c.tc.loc main_arg1)) (rw0 t r) (col (tk t) x) := by
  unfold iblk; rw [View.read_apply]
  unfold cat
  rw [dif_pos (show (col (tk t) x).val < 2816 by show 1408 * (t.val % 4) + x.val < 2816; have := x.isLt; omega)]
  show m (c.tc.loc main_arg0) _ = _
  congr 1; funext a; apply Fin.ext
  match a with
  | ⟨0, _⟩ => show win0_0.index t 0 * 1024 + 1 * r.val = t.val / 4 * 1024 + r.val; rw [(idx_facts t).1.1]; omega
  | ⟨1, _⟩ => show win0_0.index t 1 * 1408 + 1 * x.val = 1408 * (t.val % 4) + x.val; rw [(idx_facts t).1.2]; omega

theorem iblk1 (c : Dev nD) (t : Fin cfg0.N) (h : 2 ≤ t.val % 4) (r : Fin 1024) (x : Fin 1408) :
    iblk m c 1 t (ix2 r x) = cat (m (c.tc.loc main_arg0)) (m (c.tc.loc main_arg1)) (rw0 t r) (col (tk t) x) := by
  unfold iblk; rw [View.read_apply]
  unfold cat
  rw [dif_neg (show ¬(col (tk t) x).val < 2816 by show ¬1408 * (t.val % 4) + x.val < 2816; omega)]
  show m (c.tc.loc main_arg1) _ = _
  congr 1; funext a; apply Fin.ext
  match a with
  | ⟨0, _⟩ => show win0_1.index t 0 * 1024 + 1 * r.val = t.val / 4 * 1024 + r.val; rw [(idx_facts t).2.1.1]; omega
  | ⟨1, _⟩ => show win0_1.index t 1 * 1408 + 1 * x.val = 1408 * (t.val % 4) + x.val - 2816; rw [(idx_facts t).2.1.2]; omega

theorem iblk2 (c : Dev nD) (t : Fin cfg0.N) (u : Fin 1024) (x : Fin 1408) :
    iblk m c 2 t (ix2 u x) = m (c.tc.loc main_arg2) (ix2 u (col (tk t) x)) := by
  unfold iblk; rw [View.read_apply]
  show m (c.tc.loc main_arg2) _ = _
  congr 1; funext a; apply Fin.ext
  match a with
  | ⟨0, _⟩ => show win0_2.index t 0 * 1024 + 1 * u.val = u.val; rw [(idx_facts t).2.2.1.1]; omega
  | ⟨1, _⟩ => show win0_2.index t 1 * 1408 + 1 * x.val = 1408 * (t.val % 4) + x.val; rw [(idx_facts t).2.2.1.2]; omega

theorem iblk3 (c : Dev nD) (t : Fin cfg0.N) (r u : Fin 1024) :
    iblk m c 3 t (ix2 r u) = m (c.tc.loc main_arg3) (ix2 (rw0 t r) u) := by
  unfold iblk; rw [View.read_apply]
  show m (c.tc.loc main_arg3) _ = _
  congr 1; funext a; apply Fin.ext
  match a with
  | ⟨0, _⟩ => show win0_3.index t 0 * 1024 + 1 * r.val = t.val / 4 * 1024 + r.val; rw [(idx_facts t).2.2.2.1.1]; omega
  | ⟨1, _⟩ => show win0_3.index t 1 * 1024 + 1 * u.val = u.val; rw [(idx_facts t).2.2.2.1.2]; omega

theorem iblk4 (c : Dev nD) (t : Fin cfg0.N) (r u : Fin 1024) :
    iblk m c 4 t (ix2 r u) = m (c.tc.loc main_arg4) (ix2 (rw0 t r) u) := by
  unfold iblk; rw [View.read_apply]
  show m (c.tc.loc main_arg4) _ = _
  congr 1; funext a; apply Fin.ext
  match a with
  | ⟨0, _⟩ => show win0_4.index t 0 * 1024 + 1 * r.val = t.val / 4 * 1024 + r.val; rw [(idx_facts t).2.2.2.2.1.1]; omega
  | ⟨1, _⟩ => show win0_4.index t 1 * 1024 + 1 * u.val = u.val; rw [(idx_facts t).2.2.2.2.1.2]; omega

theorem iblk5 (c : Dev nD) (t : Fin cfg0.N) (u : Fin 1024) :
    iblk m c 5 t (ix2 0 u) = m (c.tc.loc main_arg5) (ix2 0 u) := by
  unfold iblk; rw [View.read_apply]
  show m (c.tc.loc main_arg5) _ = _
  congr 1; funext a; apply Fin.ext
  match a with
  | ⟨0, _⟩ => show win0_5.index t 0 * 1 + 1 * 0 = 0; rw [(idx_facts t).2.2.2.2.2.1.1]
  | ⟨1, _⟩ => show win0_5.index t 1 * 1024 + 1 * u.val = u.val; rw [(idx_facts t).2.2.2.2.2.1.2]; omega

theorem emb6 (t : Fin cfg0.N) (r u : Fin 1024) : ((cfg0.win 6).blk t).view.emb (ix2 r u) = ix2 (rw0 t r) u := by
  funext a; apply Fin.ext
  match a with
  | ⟨0, _⟩ => show win0_6.index t 0 * 1024 + 1 * r.val = t.val / 4 * 1024 + r.val; rw [(idx_facts t).2.2.2.2.2.2.1.1]; omega
  | ⟨1, _⟩ => show win0_6.index t 1 * 1024 + 1 * u.val = u.val; rw [(idx_facts t).2.2.2.2.2.2.1.2]; omega

theorem emb7 (t : Fin cfg0.N) (u : Fin 1024) : ((cfg0.win 7).blk t).view.emb (ix2 0 u) = ix2 0 u := by
  funext a; apply Fin.ext
  match a with
  | ⟨0, _⟩ => show win0_7.index t 0 * 1 + 1 * 0 = 0; rw [(idx_facts t).2.2.2.2.2.2.2.1]
  | ⟨1, _⟩ => show win0_7.index t 1 * 1024 + 1 * u.val = u.val; rw [(idx_facts t).2.2.2.2.2.2.2.2]; omega

/-! ## The scratch buffer -/

/-- One block of columns' share of an element of the product. -/
def share (a d : S8192x2816.Idx → EReal) (w : S1024x5632.Idx → EReal) (r : Fin 8192) (u : Fin 1024) (q : Fin 4) : EReal :=
  ∑ x : Fin 1408, cat a d r (col q x) * w (ix2 u (col q x))

/-- The gradient of the norm's output. -/
def dG (a d : S8192x2816.Idx → EReal) (w : S1024x5632.Idx → EReal) (r : Fin 8192) (u : Fin 1024) : EReal :=
  ∑ k : Fin 5632, cat a d r k * w (ix2 u k)

theorem sum_share (a d : S8192x2816.Idx → EReal) (w : S1024x5632.Idx → EReal) (r : Fin 8192) (u : Fin 1024) :
    ∑ q, share a d w r u q = dG a d w r u := (sum_cols fun k => cat a d r k * w (ix2 u k)).symm

abbrev shareM (c : Dev nD) : Fin 8192 → Fin 1024 → Fin 4 → EReal :=
  share (m (c.tc.loc main_arg0)) (m (c.tc.loc main_arg1)) (m (c.tc.loc main_arg2))
abbrev dM (c : Dev nD) : Fin 8192 → Fin 1024 → EReal :=
  dG (m (c.tc.loc main_arg0)) (m (c.tc.loc main_arg1)) (m (c.tc.loc main_arg2))

theorem blk02 (c : Dev nD) (t : Fin cfg0.N) (h : t.val % 4 < 2) (r u : Fin 1024) :
    prod (iblk m c 0 t) (iblk m c 2 t) r u = shareM m c (rw0 t r) u (tk t) :=
  Finset.sum_congr rfl fun x _ => congrArg₂ (fun a b : EReal => a * b) (iblk0 m c t h r x) (iblk2 m c t u x)

theorem blk12 (c : Dev nD) (t : Fin cfg0.N) (h : 2 ≤ t.val % 4) (r u : Fin 1024) :
    prod (iblk m c 1 t) (iblk m c 2 t) r u = shareM m c (rw0 t r) u (tk t) :=
  Finset.sum_congr rfl fun x _ => congrArg₂ (fun a b : EReal => a * b) (iblk1 m c t h r x) (iblk2 m c t u x)

/-- A function of the four blocks, continued by zero. -/
def natq (f : Fin 4 → EReal) (n : ℕ) : EReal := if h : n < 4 then f ⟨n, h⟩ else 0
theorem natq_val (f : Fin 4 → EReal) (q : Fin 4) : natq f q.val = f q := dif_pos q.isLt
theorem sum_natq (f : Fin 4 → EReal) : ∑ n ∈ Finset.range 4, natq f n = ∑ q, f q := by
  rw [Finset.sum_range]; exact Finset.sum_congr rfl fun q _ => natq_val f q

/-- The sum after a point: the shares of the blocks of columns met for these tokens. -/
abbrev part (c : Dev nD) (t : Fin cfg0.N) (r u : Fin 1024) : EReal :=
  ∑ k ∈ Finset.range ((tk t).val + 1), natq (shareM m c (rw0 t r) u) k

theorem part_first (c : Dev nD) (t : Fin cfg0.N) (h : t.val % 4 = 0) (r u : Fin 1024) : shareM m c (rw0 t r) u (tk t) = part m c t r u := by
  have h' : (tk t).val = 0 := h
  rw [← natq_val (shareM m c (rw0 t r) u) (tk t)]
  unfold part
  rw [h', Finset.sum_range_one]

theorem part_next (c : Dev nD) (n : ℕ) (hn : n + 1 < cfg0.N) (h : (n + 1) % 4 ≠ 0) (r u : Fin 1024) :
    part m c ⟨n, Nat.lt_of_succ_lt hn⟩ r u + shareM m c (rw0 ⟨n + 1, hn⟩ r) u (tk ⟨n + 1, hn⟩) = part m c ⟨n + 1, hn⟩ r u := by
  have e1 : (tk ⟨n + 1, hn⟩).val = (tk ⟨n, Nat.lt_of_succ_lt hn⟩).val + 1 := by show (n + 1) % 4 = n % 4 + 1; omega
  have e3 : rw0 ⟨n, Nat.lt_of_succ_lt hn⟩ r = rw0 ⟨n + 1, hn⟩ r := Fin.ext (by show n / 4 * 1024 + r.val = (n + 1) / 4 * 1024 + r.val; omega)
  unfold part
  rw [Finset.sum_range_succ _ (tk ⟨n + 1, hn⟩).val, natq_val, e3, ← e1]

theorem scratch (c : Dev nD) (n : ℕ) : ∀ (hn : n < cfg0.N) (r u : Fin 1024), (outsAt0 m c n hn).2.2 (ix2 r u) = part m c ⟨n, hn⟩ r u := by
  induction n with
  | zero =>
    intro hn r u
    rw [outsAt0_A m c ⟨0, hn⟩ (Nat.zero_mod _) (by show ¬0 % 4 = 1; omega) (by show ¬2 ≤ 0 % 4; omega) (by show ¬0 % 4 = 3; omega)]
    dsimp only
    rw [sA]
    exact ((pay1_apply _ _ r u).trans (blk02 m c ⟨0, hn⟩ (by show 0 % 4 < 2; omega) r u)).trans (part_first m c ⟨0, hn⟩ (Nat.zero_mod _) r u)
  | succ n ih =>
    intro hn r u
    by_cases h0 : (n + 1) % 4 = 0
    · rw [outsAt0_A m c ⟨n + 1, hn⟩ h0 (by show ¬(n + 1) % 4 = 1; omega) (by show ¬2 ≤ (n + 1) % 4; omega) (by show ¬(n + 1) % 4 = 3; omega)]
      dsimp only
      rw [sA]
      exact ((pay1_apply _ _ r u).trans (blk02 m c ⟨n + 1, hn⟩ (by show (n + 1) % 4 < 2; omega) r u)).trans (part_first m c ⟨n + 1, hn⟩ h0 r u)
    · refine Eq.trans ?_ (part_next m c n hn h0 r u)
      rw [← ih (Nat.lt_of_succ_lt hn) r u]
      by_cases h1 : (n + 1) % 4 = 1
      · rw [← blk02 m c ⟨n + 1, hn⟩ (by show (n + 1) % 4 < 2; omega) r u]
        rw [outsAt0_B m c ⟨n + 1, hn⟩ h0 h1 (by show ¬2 ≤ (n + 1) % 4; omega) (by show ¬(n + 1) % 4 = 3; omega)]
        dsimp only
        rw [sB]
        exact pay2_apply _ _ _ r u
      · have h2 : 2 ≤ (n + 1) % 4 := by omega
        rw [← blk12 m c ⟨n + 1, hn⟩ h2 r u]
        by_cases h3 : (n + 1) % 4 = 3
        · by_cases h4 : n + 1 < 4
          · rw [outsAt0_D m c ⟨n + 1, hn⟩ h0 h1 h2 h3 h4 (by show ¬4 ≤ n + 1; omega)]
            dsimp only
            rw [sD]
            exact pay3_apply _ _ _ r u
          · rw [outsAt0_E m c ⟨n + 1, hn⟩ h0 h1 h2 h3 h4 (by show 4 ≤ n + 1; omega)]
            dsimp only
            rw [sE]
            exact pay3_apply _ _ _ r u
        · rw [outsAt0_C m c ⟨n + 1, hn⟩ h0 h1 h2 h3]
          dsimp only
          rw [sC]
          exact pay3_apply _ _ _ r u

/-- At the last point of a row block the scratch buffer holds the whole product. -/
theorem scratch_last (c : Dev nD) (t : Fin cfg0.N) (h : t.val % 4 = 3) (r u : Fin 1024) :
    (outsAt0 m c t.val t.isLt).2.2 (ix2 r u) = dM m c (rw0 t r) u := by
  rw [scratch m c t.val t.isLt r u]
  have h' : (tk t).val = 3 := h
  show ∑ k ∈ Finset.range ((tk t).val + 1), _ = _
  rw [h', sum_natq]
  exact sum_share _ _ _ _ _

/-! ## The results -/

theorem out6_pay (c : Dev nD) (t : Fin cfg0.N) (h : t.val % 4 = 3) :
    (outsAt0 m c t.val t.isLt).1 = k0_pay6 (iblk m c 3 t) (iblk m c 5 t) ((outsAt0 m c t.val t.isLt).2.2) (iblk m c 4 t) := by
  by_cases h4 : t.val < 4
  · rw [outsAt0_D m c t (by omega) (by omega) (by omega) h h4 (by omega)]
    dsimp only
    rw [oD6, sD]
  · rw [outsAt0_E m c t (by omega) (by omega) (by omega) h h4 (by omega)]
    dsimp only
    rw [oE6, sE]

/-- The two results as functions of the arguments at launch. -/
abbrev h3 (c : Dev nD) (r : Fin 8192) : Fin 1024 → EReal := fun k => m (c.tc.loc main_arg3) (ix2 r k)
abbrev g5 (c : Dev nD) : Fin 1024 → EReal := fun k => m (c.tc.loc main_arg5) (ix2 0 k)
abbrev d4 (c : Dev nD) : S8192x1024.Idx → EReal := m (c.tc.loc main_arg4)
def res6 (c : Dev nD) : S8192x1024.Idx → EReal := fun j =>
  d4 m c j + bwd (h3 m c (j 0)) (dM m c (j 0)) (g5 m c) (j 1)
/-- One token's share of the second. -/
def gsh (c : Dev nD) (u : Fin 1024) (r : Fin 8192) : EReal := dM m c r u * (h3 m c r u * rs (h3 m c r))
def res7 (c : Dev nD) : S1x1024.Idx → EReal := fun j => ∑ r : Fin 8192, gsh m c (j 1) r

theorem hrow (c : Dev nD) (t : Fin cfg0.N) (r : Fin 1024) : (fun k : Fin 1024 => (iblk m c 3 t (ix2 r k) : EReal)) = h3 m c (rw0 t r) :=
  funext fun k => iblk3 m c t r k

theorem out6_apply (c : Dev nD) (t : Fin cfg0.N) (h : t.val % 4 = 3) (r u : Fin 1024) :
    (outsAt0 m c t.val t.isLt).1 (ix2 r u) = res6 m c (ix2 (rw0 t r) u) := by
  rw [out6_pay m c t h]
  refine (pay6_apply _ _ _ _ r u).trans ?_
  have e1 : (fun k : Fin 1024 => ((outsAt0 m c t.val t.isLt).2.2 (ix2 r k) : EReal)) = dM m c (rw0 t r) := funext fun k => scratch_last m c t h r k
  have e2 : (fun k : Fin 1024 => (iblk m c 5 t (ix2 0 k) : EReal)) = g5 m c := funext fun k => iblk5 m c t k
  have e3 : (iblk m c 4 t (ix2 r u) : EReal) = m (c.tc.loc main_arg4) (ix2 (rw0 t r) u) := iblk4 m c t r u
  rw [e3, hrow m c t r, e1, e2]
  rfl

/-- A row block's share of the column sum: row block `n` of the tokens, nothing beyond the last. -/
def csh (c : Dev nD) (u : Fin 1024) (n : ℕ) : EReal :=
  ∑ r : Fin 1024, if h : n * 1024 + r.val < 8192 then gsh m c u ⟨n * 1024 + r.val, h⟩ else 0

theorem csh_pay (c : Dev nD) (t : Fin cfg0.N) (h : t.val % 4 = 3) (u : Fin 1024) :
    k0_pay7 (F := Ideal) (iblk m c 3 t) ((outsAt0 m c t.val t.isLt).2.2) (ix2 0 u) = csh m c u (t.val / 4) := by
  refine (pay7_apply _ _ u).trans (Finset.sum_congr rfl fun r _ => ?_)
  rw [dif_pos (show t.val / 4 * 1024 + r.val < 8192 from (rw0 t r).isLt)]
  have e2 : (iblk m c 3 t (ix2 r u) : EReal) = m (c.tc.loc main_arg3) (ix2 (rw0 t r) u) := iblk3 m c t r u
  rw [hrow m c t r, e2]
  exact congrArg (fun a : EReal => a * _) (scratch_last m c t h r u)

theorem out7 (c : Dev nD) (u : Fin 1024) (n : ℕ) : ∀ (hn : n < cfg0.N), 3 ≤ n →
    (outsAt0 m c n hn).2.1 (ix2 0 u) = ∑ b ∈ Finset.range ((n + 1) / 4), csh m c u b := by
  induction n with
  | zero => intro hn h; omega
  | succ n ih =>
    intro hn h
    by_cases h3 : (n + 1) % 4 = 3
    · have key := csh_pay m c ⟨n + 1, hn⟩ h3 u
      have e : (n + 1 + 1) / 4 = (n + 1) / 4 + 1 := by omega
      rw [e, Finset.sum_range_succ, ← key]
      by_cases h4 : n + 1 < 4
      · have e0 : (n + 1) / 4 = 0 := by omega
        rw [e0, Finset.sum_range_zero, zero_add]
        rw [outsAt0_D m c ⟨n + 1, hn⟩ (by show ¬(n + 1) % 4 = 0; omega) (by show ¬(n + 1) % 4 = 1; omega) (by show 2 ≤ (n + 1) % 4; omega) h3 h4 (by show ¬4 ≤ n + 1; omega)]
        dsimp only
        rw [oD7, sD]
      · rw [← ih (Nat.lt_of_succ_lt hn) (by omega)]
        rw [outsAt0_E m c ⟨n + 1, hn⟩ (by show ¬(n + 1) % 4 = 0; omega) (by show ¬(n + 1) % 4 = 1; omega) (by show 2 ≤ (n + 1) % 4; omega) h3 h4 (by show 4 ≤ n + 1; omega)]
        dsimp only
        rw [oE7, sE]
        exact pay8_apply _ _ _ u
    · have e : (n + 1 + 1) / 4 = (n + 1) / 4 := by omega
      rw [e, ← ih (Nat.lt_of_succ_lt hn) (by omega)]
      by_cases h0 : (n + 1) % 4 = 0
      · rw [outsAt0_A m c ⟨n + 1, hn⟩ h0 (by show ¬(n + 1) % 4 = 1; omega) (by show ¬2 ≤ (n + 1) % 4; omega) h3]
        rfl
      · by_cases h1 : (n + 1) % 4 = 1
        · rw [outsAt0_B m c ⟨n + 1, hn⟩ h0 h1 (by show ¬2 ≤ (n + 1) % 4; omega) h3]
          rfl
        · rw [outsAt0_C m c ⟨n + 1, hn⟩ h0 h1 (by show 2 ≤ (n + 1) % 4; omega) h3]
          rfl

theorem sum_csh (c : Dev nD) (u : Fin 1024) : ∑ b ∈ Finset.range 8, csh m c u b = ∑ r : Fin 8192, gsh m c u r := by
  rw [Finset.sum_range]
  unfold csh
  rw [← Finset.sum_product', Finset.univ_product_univ]
  refine Fintype.sum_equiv (finProdFinEquiv (m := 8) (n := 1024)) _ _ fun p => ?_
  have hp : p.1.val * 1024 + p.2.val < 8192 := by have := p.1.isLt; have := p.2.isLt; omega
  rw [dif_pos hp]
  refine congrArg (gsh m c u) (Fin.ext ?_)
  show p.1.val * 1024 + p.2.val = p.2.val + 1024 * p.1.val
  omega

theorem out7_apply (c : Dev nD) (t : Fin cfg0.N) (h : t.val % 32 = 31) (u : Fin 1024) :
    (outsAt0 m c t.val t.isLt).2.1 (ix2 0 u) = res7 m c (ix2 0 u) := by
  have ht : t.val = 31 := by have := lt_of_lt_of_eq t.isLt N_all; omega
  rw [out7 m c u t.val t.isLt (by omega), ht]
  exact sum_csh m c u

end Cert.Dx

end
-- ==== Proof.DxRef.lean ====
/- The reference of the feed-forward layer's input gradient, element by element; and the norm's backward rule as it collects
   it, which over the real numbers is the kernel's. -/
module

public import proofs.«01_k».proof.Proof.DxSum
public import proofs.«01_k».proof.Proof.Reals
public import proofs.«01_k».proof.Proof.Gen.DxReferenceIdeal.Run
public import Idealize.ShloMosaic.Lib.MatmulPlain
public import Idealize.ShloMosaic.Lib.KernelVsHost
public import Idealize.ShloMosaic.Lib.IdealHost

@[expose] public section

noncomputable section

namespace Cert.DxRef

open Cert.DxReferenceIdeal Cert.DxReferenceIdeal.Gen Idealize.ShloMosaic Idealize.ShloMosaic.TcCoe Idealize.SL.Sem
open Idealize.ShloMosaic.ValueIdx Cert.Reals
open Cert.Dx (cN cE vv rs bwd cat dG zero_bits)
open scoped BigOperators

/-! ## The constants -/

theorem cN_eq : cN = ((1024 : ℝ) : EReal) := by simp [cN, Ideal.ofBits, Ideal.ieee]; rw [← EReal.coe_mul]; norm_num
theorem cH_eq : Ideal.ofBits .f32 0xBF000000#32 = ((-(1 / 2) : ℝ) : EReal) := by simp [Ideal.ofBits, Ideal.ieee]; rw [← EReal.coe_mul]; norm_num
theorem cE_pos : ∃ e : ℝ, 0 < e ∧ cE = (e : EReal) := by
  refine ⟨_, ?_, by simp [cE, Ideal.ofBits, Ideal.ieee]; rfl⟩
  positivity

/-! ## The backward rule of the norm -/

/-- What the reference multiplies a row's elements by, twice. -/
def zz (f p g : Fin 1024 → EReal) : EReal :=
  Ideal.div ((∑ k, f k * (p k * g k)) * (Ideal.ofBits .f32 0xBF000000#32 * Ideal.div (rs f) (vv f))) cN

theorem bwd_eq (f p g : Fin 1024 → ℝ) (u : Fin 1024) :
    bwd (fun k => (f k : EReal)) (fun k => (p k : EReal)) (fun k => (g k : EReal)) u
      = (p u : EReal) * g u * rs (fun k => (f k : EReal))
        + (f u : EReal) * zz (fun k => (f k : EReal)) (fun k => (p k : EReal)) (fun k => (g k : EReal))
        + zz (fun k => (f k : EReal)) (fun k => (p k : EReal)) (fun k => (g k : EReal)) * (f u : EReal) := by
  obtain ⟨e, he, hE⟩ := cE_pos
  have hs : ∑ k, (f k : EReal) * (f k : EReal) = ((∑ k, f k * f k : ℝ) : EReal) := by
    rw [coe_sum]; exact Finset.sum_congr rfl fun k _ => (EReal.coe_mul _ _).symm
  have hs0 : 0 ≤ ∑ k, f k * f k := Finset.sum_nonneg fun k _ => mul_self_nonneg _
  obtain ⟨v, hv0⟩ : ∃ v : ℝ, v = (∑ k, f k * f k) * (1 / 1024) + e := ⟨_, rfl⟩
  have vpos : 0 < v := by rw [hv0]; positivity
  have hv : vv (fun k => (f k : EReal)) = (v : EReal) := by
    unfold vv
    rw [hE, cN_eq, Ideal.div_coe (by norm_num), hs, ← EReal.coe_mul, ← EReal.coe_add, hv0]
  obtain ⟨q, hq⟩ : ∃ q : ℝ, q = (Real.sqrt v)⁻¹ := ⟨_, rfl⟩
  have hr : rs (fun k => (f k : EReal)) = (q : EReal) := by
    unfold rs
    rw [hv, Ideal.rsqrt_coe, if_neg (not_lt.mpr vpos.le), if_neg vpos.ne', hq]
  have hqq : 1 / v = q * q := by
    rw [hq, ← mul_inv, Real.mul_self_sqrt vpos.le, one_div]
  have hS : ∑ k, (f k : EReal) * ((p k : EReal) * (g k : EReal)) = ((∑ k, f k * (p k * g k) : ℝ) : EReal) := by
    rw [coe_sum]; exact Finset.sum_congr rfl fun k _ => by rw [EReal.coe_mul, EReal.coe_mul]
  have hT : ∑ k, (p k : EReal) * (g k : EReal) * ((f k : EReal) * (q : EReal)) = ((q * ∑ k, f k * (p k * g k) : ℝ) : EReal) := by
    rw [Finset.mul_sum, coe_sum]
    refine Finset.sum_congr rfl fun k _ => ?_
    rw [← EReal.coe_mul, ← EReal.coe_mul, ← EReal.coe_mul]
    exact congrArg (fun x : ℝ => (x : EReal)) (by ring)
  have hz : zz (fun k => (f k : EReal)) (fun k => (p k : EReal)) (fun k => (g k : EReal))
      = (((∑ k, f k * (p k * g k)) * (-(1 / 2) * (q * (q * q))) * (1 / 1024) : ℝ) : EReal) := by
    unfold zz
    rw [hr, hv, hS, cH_eq, cN_eq, Ideal.div_coe (by norm_num), Ideal.div_coe vpos.ne', hqq]
    simp only [← EReal.coe_mul]
  unfold bwd
  rw [hz, hr, hT, cN_eq, Ideal.div_coe (by norm_num)]
  simp only [← EReal.coe_mul, ← EReal.coe_sub, ← EReal.coe_add]
  exact congrArg (fun x : ℝ => (x : EReal)) (by ring)

/-! ## The reference's arrays -/

section ref
variable (a d : FVec Ideal S8192x2816 .bf16) (w : FVec Ideal S1024x5632 .bf16) (h : FVec Ideal S8192x1024 .f32) (g : FVec Ideal S1x1024 .f32)

def kD : FVec Ideal S8192x1024 .f32 :=
  extf .f32 (truncf .bf16 (addf
    (Host.dotGeneral dot_S8192x2816_S1024x2816_S8192x1024_1_1_0_0_n_n none (extf .f32 d bitsLt_bf16_f32) (extractStridedSlice S1024x2816 ![0, 2816] (extf .f32 w bitsLt_bf16_f32) slices_S1024x5632_S1024x2816_0_2816))
    (Host.dotGeneral dot_S8192x2816_S1024x2816_S8192x1024_1_1_0_0_n_n none (extf .f32 a bitsLt_bf16_f32) (extractStridedSlice S1024x2816 ![0, 0] (extf .f32 w bitsLt_bf16_f32) slices_S1024x5632_S1024x2816_0_0))) bitsLt_bf16_f32) bitsLt_bf16_f32
def kV : FVec Ideal S8192x1 .f32 :=
  addf (Host.divf (broadcastInDim S8192x1 ![0] bcast_S8192_S8192x1_0 (Host.reduceAdd (mulf h h) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
def kP : FVec Ideal S8192x1024 .f32 := mulf (kD a d w) (broadcastInDim S8192x1024 ![0, 1] bcast_S1x1024_S8192x1024_0_1 g)
def kS : FVec Ideal S8192x1 .f32 :=
  shapeCast _ (Host.reduceAdd (mulf h (kP a d w g)) (constant S_ .f32 0x00000000#32) reducesTo_S8192x1024_S8192_d1 h_S_) shapeCasts_S8192_S8192x1
def kZ : FVec Ideal S8192 .f32 :=
  Host.reduceAdd (Host.divf (mulf (kS a d w h g) (mulf (broadcastInDim S8192x1 ![] bcast_S_S8192x1 (constant S_ .f32 0xBF000000#32)) (Host.divf (Host.rsqrt (kV h)) (kV h))))
    (broadcastInDim S8192x1 ![] bcast_S_S8192x1 (constant S_ .f32 0x44800000#32))) (constant S_ .f32 0x00000000#32) reducesTo_S8192x1_S8192_d1 h_S_

theorem hsum1 (y : FVec Ideal S8192x1024 .f32) (r : Fin 8192) :
    Host.reduceAdd y (constant S_ .f32 0x00000000#32) reducesTo_S8192x1024_S8192_d1 h_S_ (ix1 r) = ∑ k : Fin 1024, (y (ix2 r k) : EReal) := by
  refine (Ideal.hostReduceAdd_single reducesTo_S8192x1024_S8192_d1 (by decide : S8192x1024.Reduces [1] S8192) y _ (ix1 r)).trans ?_
  show Ideal.ofBits .f32 0x00000000#32 + _ = _
  rw [zero_bits, zero_add]
  refine Finset.sum_congr rfl fun k _ => congrArg y ?_
  funext a; fin_cases a <;> rfl

theorem hsum0 (y : FVec Ideal S8192x1024 .f32) (u : Fin 1024) :
    Host.reduceAdd y (constant S_ .f32 0x00000000#32) reducesTo_S8192x1024_S1024_d0 h_S_ (ix1 u) = ∑ r : Fin 8192, (y (ix2 r u) : EReal) := by
  refine (Ideal.hostReduceAdd_single reducesTo_S8192x1024_S1024_d0 (by decide : S8192x1024.Reduces [0] S1024) y _ (ix1 u)).trans ?_
  show Ideal.ofBits .f32 0x00000000#32 + _ = _
  rw [zero_bits, zero_add]
  refine Finset.sum_congr rfl fun k _ => congrArg y ?_
  funext a; fin_cases a <;> rfl

theorem hsumZ (y : FVec Ideal S8192x1 .f32) (r : Fin 8192) :
    Host.reduceAdd y (constant S_ .f32 0x00000000#32) reducesTo_S8192x1_S8192_d1 h_S_ (ix1 r) = (y (ix2 r 0) : EReal) := by
  refine (Ideal.hostReduceAdd_single reducesTo_S8192x1_S8192_d1 (by decide : S8192x1.Reduces [1] S8192) y _ (ix1 r)).trans ?_
  show Ideal.ofBits .f32 0x00000000#32 + _ = _
  rw [zero_bits, zero_add]
  refine (Fin.sum_univ_one _).trans (congrArg y ?_)
  funext a; fin_cases a <;> rfl

theorem bc0 (y : FVec Ideal S8192 .f32) (r : Fin 8192) : broadcastInDim S8192x1 ![0] bcast_S8192_S8192x1_0 y (ix2 r 0) = y (ix1 r) :=
  broadcastInDim_apply _ _ _ _ _ (by intro a; fin_cases a; rfl)
theorem bcC (y : FVec Ideal S8192x1 .f32) (r : Fin 8192) (u : Fin 1024) :
    broadcastInDim S8192x1024 ![0, 1] bcast_S8192x1_S8192x1024_0_1 y (ix2 r u) = y (ix2 r 0) :=
  broadcastInDim_apply _ _ _ _ _ (by intro a; fin_cases a <;> rfl)
theorem bcR (y : FVec Ideal S1x1024 .f32) (r : Fin 8192) (u : Fin 1024) :
    broadcastInDim S8192x1024 ![0, 1] bcast_S1x1024_S8192x1024_0_1 y (ix2 r u) = y (ix2 0 u) :=
  broadcastInDim_apply _ _ _ _ _ (by intro a; fin_cases a <;> rfl)
theorem bcZ (y : FVec Ideal S8192 .f32) (r : Fin 8192) (u : Fin 1024) :
    broadcastInDim S8192x1024 ![0] bcast_S8192_S8192x1024_0 y (ix2 r u) = y (ix1 r) :=
  broadcastInDim_apply _ _ _ _ _ (by intro a; fin_cases a; rfl)

theorem dot_apply (x : FVec Ideal S8192x2816 .f32) (y : FVec Ideal S1024x2816 .f32) (r : Fin 8192) (u : Fin 1024) :
    Host.dotGeneral dot_S8192x2816_S1024x2816_S8192x1024_1_1_0_0_n_n none x y (ix2 r u) = ∑ k : Fin 2816, (x (ix2 r k) : EReal) * y (ix2 u k) := by
  rw [← matmul_zero_eq_dotGeneral]
  show FloatOps.matmul (DotDims.transposedRhs 8192 2816 1024) none x y (constant S8192x1024 .f32 0x00000000#32) (ix2 r u) = _
  rw [Ideal.matmul_transposedRhs_apply]
  show Ideal.ofBits .f32 0x00000000#32 + _ = _
  rw [zero_bits, zero_add]

theorem kD_apply (r : Fin 8192) (u : Fin 1024) : kD a d w (ix2 r u) = dG a d w r u := by
  show Host.dotGeneral dot_S8192x2816_S1024x2816_S8192x1024_1_1_0_0_n_n none (extf .f32 d bitsLt_bf16_f32) (extractStridedSlice S1024x2816 ![0, 2816] (extf .f32 w bitsLt_bf16_f32) slices_S1024x5632_S1024x2816_0_2816) (ix2 r u)
    + Host.dotGeneral dot_S8192x2816_S1024x2816_S8192x1024_1_1_0_0_n_n none (extf .f32 a bitsLt_bf16_f32) (extractStridedSlice S1024x2816 ![0, 0] (extf .f32 w bitsLt_bf16_f32) slices_S1024x5632_S1024x2816_0_0) (ix2 r u) = _
  rw [dot_apply, dot_apply]
  unfold dG
  refine Eq.trans ?_ (Fin.sum_univ_add (a := 2816) (b := 2816) fun k : Fin (2816 + 2816) => (cat a d r k * w (ix2 u k) : EReal)).symm
  rw [add_comm]
  refine congrArg₂ (fun a b : EReal => a + b) (Finset.sum_congr rfl fun k _ => ?_) (Finset.sum_congr rfl fun k _ => ?_)
  · rw [extractStridedSlice_apply _ _ _ (ix2 u k) (ix2 u (Fin.castAdd 2816 k)) (by intro a; fin_cases a <;> simp [ix2])]
    unfold cat
    rw [dif_pos (show (Fin.castAdd 2816 k).val < 2816 from k.isLt)]
    rfl
  · rw [extractStridedSlice_apply _ _ _ (ix2 u k) (ix2 u (Fin.natAdd 2816 k)) (by intro a; fin_cases a <;> simp [ix2] <;> omega)]
    unfold cat
    rw [dif_neg (show ¬(Fin.natAdd 2816 k).val < 2816 by simp)]
    have e : (⟨(Fin.natAdd 2816 k).val - 2816, by simp⟩ : Fin 2816) = k := Fin.ext (by simp)
    refine congrArg (fun a : EReal => a * _) ?_
    show (d (ix2 r k) : EReal) = d (ix2 r ⟨(Fin.natAdd 2816 k).val - 2816, _⟩)
    rw [e]

theorem kV_apply (r : Fin 8192) : kV h (ix2 r 0) = vv fun k => h (ix2 r k) := by
  unfold kV
  show Ideal.div (broadcastInDim S8192x1 ![0] bcast_S8192_S8192x1_0 (Host.reduceAdd (mulf h h) (constant S_ .f32 0x00000000#32) reducesTo_S8192x1024_S8192_d1 h_S_) (ix2 r 0)) cN + cE = _
  rw [bc0, hsum1]
  rfl

theorem kR_apply (r : Fin 8192) : Host.rsqrt (kV h) (ix2 r 0) = rs fun k => h (ix2 r k) := by
  show Ideal.rsqrt (kV h (ix2 r 0)) = _
  rw [kV_apply]; rfl

theorem kP_apply (r : Fin 8192) (u : Fin 1024) : kP a d w g (ix2 r u) = dG a d w r u * g (ix2 0 u) := by
  show kD a d w (ix2 r u) * broadcastInDim S8192x1024 ![0, 1] bcast_S1x1024_S8192x1024_0_1 g (ix2 r u) = _
  rw [kD_apply, bcR]

theorem kS_apply (r : Fin 8192) : kS a d w h g (ix2 r 0) = ∑ k : Fin 1024, (h (ix2 r k) : EReal) * (dG a d w r k * g (ix2 0 k)) := by
  unfold kS
  rw [shapeCast_apply _ _ _ (ix1 r) (by rw [Shape.rowMajor_val_one, Shape.rowMajor_val_two]; show r.val = r.val * 1 + 0; omega)]
  rw [hsum1]
  refine Finset.sum_congr rfl fun k _ => ?_
  show (h (ix2 r k) : EReal) * kP a d w g (ix2 r k) = _
  rw [kP_apply]

theorem kZ_apply (r : Fin 8192) : kZ a d w h g (ix1 r) = zz (fun k => h (ix2 r k)) (dG a d w r) (fun k => g (ix2 0 k)) := by
  unfold kZ
  rw [hsumZ]
  show Ideal.div (kS a d w h g (ix2 r 0) * (Ideal.ofBits .f32 0xBF000000#32 * Ideal.div (Host.rsqrt (kV h) (ix2 r 0)) (kV h (ix2 r 0)))) cN = _
  rw [kS_apply, kR_apply, kV_apply]
  rfl

/-- An element of the first result. -/
theorem out0_apply (dh : FVec Ideal S8192x1024 .f32) (r : Fin 8192) (u : Fin 1024) :
    addf dh (addf (addf (mulf (kP a d w g) (broadcastInDim S8192x1024 ![0, 1] bcast_S8192x1_S8192x1024_0_1 (Host.rsqrt (kV h))))
      (mulf h (broadcastInDim S8192x1024 ![0] bcast_S8192_S8192x1024_0 (kZ a d w h g)))) (mulf (broadcastInDim S8192x1024 ![0] bcast_S8192_S8192x1024_0 (kZ a d w h g)) h)) (ix2 r u)
    = (dh (ix2 r u) : EReal) + (dG a d w r u * g (ix2 0 u) * rs (fun k => h (ix2 r k))
        + (h (ix2 r u) : EReal) * zz (fun k => h (ix2 r k)) (dG a d w r) (fun k => g (ix2 0 k))
        + zz (fun k => h (ix2 r k)) (dG a d w r) (fun k => g (ix2 0 k)) * h (ix2 r u)) := by
  show (dh (ix2 r u) : EReal) + (kP a d w g (ix2 r u) * broadcastInDim S8192x1024 ![0, 1] bcast_S8192x1_S8192x1024_0_1 (Host.rsqrt (kV h)) (ix2 r u)
    + (h (ix2 r u) : EReal) * broadcastInDim S8192x1024 ![0] bcast_S8192_S8192x1024_0 (kZ a d w h g) (ix2 r u)
    + broadcastInDim S8192x1024 ![0] bcast_S8192_S8192x1024_0 (kZ a d w h g) (ix2 r u) * h (ix2 r u)) = _
  rw [bcC, bcZ, kP_apply, kR_apply, kZ_apply]

/-- An element of the second. -/
theorem out1_apply (u : Fin 1024) :
    shapeCast S1x1024 (Host.reduceAdd (mulf (mulf h (broadcastInDim S8192x1024 ![0, 1] bcast_S8192x1_S8192x1024_0_1 (Host.rsqrt (kV h)))) (kD a d w))
      (constant S_ .f32 0x00000000#32) reducesTo_S8192x1024_S1024_d0 h_S_) shapeCasts_S1024_S1x1024 (ix2 0 u)
    = ∑ r : Fin 8192, dG a d w r u * ((h (ix2 r u) : EReal) * rs fun k => h (ix2 r k)) := by
  rw [shapeCast_apply _ _ _ (ix1 u) (by rw [Shape.rowMajor_val_one, Shape.rowMajor_val_two]; show u.val = 0 * 1024 + u.val; omega)]
  rw [hsum0]
  refine Finset.sum_congr rfl fun r _ => ?_
  show (h (ix2 r u) : EReal) * broadcastInDim S8192x1024 ![0, 1] bcast_S8192x1_S8192x1024_0_1 (Host.rsqrt (kV h)) (ix2 r u) * kD a d w (ix2 r u) = _
  rw [bcC, kR_apply, kD_apply, mul_comm]

end ref

end Cert.DxRef

end
-- ==== Proof.Dx.lean ====
/- The feed-forward layer's input gradient: over finite arguments the kernel's two results are the reference's. -/
module

public import proofs.«01_k».proof.Defs
public import proofs.«01_k».proof.Proof.DxRef
public import proofs.«01_k».proof.Proof.Gen.DxKernel.Frame
public import proofs.«01_k».proof.Proof.Gen.Pre_dx_finite
public import Idealize.ShloMosaic.Lib.Pipeline.Value
public import Idealize.ShloMosaic.Lib.Quiescent

@[expose] public section

noncomputable section

namespace Cert.Dx

open Cert.DxKernelIdeal Cert.DxKernelIdeal.Gen Idealize.ShloMosaic Idealize.ShloMosaic.TcCoe Idealize.SL.Sem
open Idealize.ShloMosaic.ValueIdx Cert.Reals
open Idealize.ShloMosaic.Pipeline (Dat)
open scoped BigOperators

variable (m : (ℓ : Loc nD τ sig) → Buf (Elt Ideal) ℓ) (ρ : Dev nD → PrngReg)

/-! ## The two arrays after the run -/

set_option maxRecDepth 16384 in
theorem flushed_eq6 (c : Dev nD) (t : Fin cfg0.N) (h : t.val % 4 = 3) :
    (dats m 0 c).flushed 6 t = ((cfg0.win 6).blk t).view.read (Elt Ideal) (res6 m c) := by
  show (cfg0.win 6).cut (grid0.coords t) ((dats m 0 c).after 6 t) = _
  rw [after0_6]
  funext j
  obtain ⟨r, u, rfl⟩ : ∃ (r u : Fin 1024), j = ix2 r u := ⟨j 0, j 1, eq_ix2 _⟩
  rw [View.read_apply, emb6]
  exact out6_apply m c t h r u

set_option maxRecDepth 16384 in
theorem flushed_eq7 (c : Dev nD) (t : Fin cfg0.N) (h : t.val % 32 = 31) :
    (dats m 0 c).flushed 7 t = ((cfg0.win 7).blk t).view.read (Elt Ideal) (res7 m c) := by
  show (cfg0.win 7).cut (grid0.coords t) ((dats m 0 c).after 7 t) = _
  rw [after0_7]
  funext j
  obtain ⟨z, u, rfl⟩ : ∃ (z : Fin 1) (u : Fin 1024), j = ix2 z u := ⟨j 0, j 1, eq_ix2 _⟩
  obtain rfl : z = 0 := Subsingleton.elim _ _
  rw [View.read_apply, emb7]
  exact out7_apply m c t h u

theorem cover6 (i : S8192x1024.Idx) : ∃ (t : Fin cfg0.N) (r u : Fin 1024), t.val % 4 = 3 ∧ i = ix2 (rw0 t r) u := by
  have h0 : (i 0 : Nat) < 8192 := (i 0).isLt
  have hN : (i 0 : Nat) / 1024 * 4 + 3 < cfg0.N := by rw [N_all]; omega
  refine ⟨⟨(i 0 : Nat) / 1024 * 4 + 3, hN⟩, ⟨(i 0 : Nat) % 1024, by omega⟩, i 1, by show ((i 0 : Nat) / 1024 * 4 + 3) % 4 = 3; omega, ?_⟩
  funext a; apply Fin.ext
  match a with
  | ⟨0, _⟩ => show (i 0 : Nat) = ((i 0 : Nat) / 1024 * 4 + 3) / 4 * 1024 + (i 0 : Nat) % 1024; omega
  | ⟨1, _⟩ => rfl

theorem final6 (c : Dev nD) : (dats m 0 c).arrAt 6 cfg0.N = res6 m c :=
  (dats m 0 c).arrAt_eq_of_cover 6 (res6 m c) (fun t hf => flushed_eq6 m c t ((flush0_6 t).mp hf)) fun i => by
    obtain ⟨t, r, u, h, he⟩ := cover6 i
    exact ⟨t, (flush0_6 t).mpr h, by rw [he, ← emb6]; exact View.emb_mem_set _ _⟩

theorem final7 (c : Dev nD) : (dats m 0 c).arrAt 7 cfg0.N = res7 m c :=
  (dats m 0 c).arrAt_eq_of_cover 7 (res7 m c) (fun t hf => flushed_eq7 m c t ((flush0_7 t).mp hf)) fun i => by
    have hN : 31 < cfg0.N := by rw [N_all]; omega
    obtain ⟨z, u, rfl⟩ : ∃ (z : Fin 1) (u : Fin 1024), i = ix2 z u := ⟨i 0, i 1, eq_ix2 _⟩
    obtain rfl : z = 0 := Subsingleton.elim _ _
    exact ⟨⟨31, hN⟩, (flush0_7 _).mpr rfl, by rw [← emb7 ⟨31, hN⟩ u]; exact View.emb_mem_set _ _⟩

/-- The run with both result arrays named, the arguments unchanged. -/
theorem run_blocks : θ_run defs (onTc (τ := τ) (main (F := Ideal))) ⟨m, fun _ => 0, ρ⟩ fun r => ∀ c : Dev nD,
      r.2.mem (c.tc.loc main_v0_0) = (dats m 0 c).arrAt 6 cfg0.N
      ∧ r.2.mem (c.tc.loc main_v0_1) = (dats m 0 c).arrAt 7 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun _ h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

/-! ## Finite arguments -/

/-- What the precondition says of every element. -/
theorem finite_elim (h : Cert.Pre_DxKernelIdeal_dx_finite m) (c : Dev nD) :
    (∀ i, IsR (m (c.tc.loc main_arg0) i)) ∧ (∀ i, IsR (m (c.tc.loc main_arg1) i))
    ∧ (∀ i, IsR (m (c.tc.loc main_arg2) i)) ∧ (∀ i, IsR (m (c.tc.loc main_arg3) i))
    ∧ (∀ i, IsR (m (c.tc.loc main_arg5) i)) := by
  haveI : Subsingleton Cert.Pre_dx_finite.S_.Idx := ⟨fun a b => funext fun x => x.elim0⟩
  have h0 := congrFun (h c) (fun x => x.elim0)
  obtain ⟨h1, h5⟩ := andi_one _ _ h0
  obtain ⟨h1, h3⟩ := andi_one _ _ h1
  obtain ⟨h1, h2⟩ := andi_one _ _ h1
  obtain ⟨h0, h1⟩ := andi_one _ _ h1
  exact ⟨fun i => isR_of_abs_lt _ (Host.reduce_andi_all _ _ _ _ _ h0 i), fun i => isR_of_abs_lt _ (Host.reduce_andi_all _ _ _ _ _ h1 i),
    fun i => isR_of_abs_lt _ (Host.reduce_andi_all _ _ _ _ _ h2 i), fun i => isR_of_abs_lt _ (Host.reduce_andi_all _ _ _ _ _ h3 i),
    fun i => isR_of_abs_lt _ (Host.reduce_andi_all _ _ _ _ _ h5 i)⟩

theorem dG_real {a d : S8192x2816.Idx → EReal} {w : S1024x5632.Idx → EReal} (h0 : ∀ i, IsR (a i)) (h1 : ∀ i, IsR (d i)) (h2 : ∀ i, IsR (w i))
    (r : Fin 8192) (u : Fin 1024) : IsR (dG a d w r u) := by
  refine IsR.sum _ _ fun k _ => IsR.mul ?_ (h2 _)
  unfold cat
  split
  · exact h0 _
  · exact h1 _

/-- A row of the backward rule, the elements real. -/
theorem bwd_row {f p g : Fin 1024 → EReal} (hf : ∀ k, IsR (f k)) (hp : ∀ k, IsR (p k)) (hg : ∀ k, IsR (g k)) (u : Fin 1024) :
    p u * g u * rs f + f u * Cert.DxRef.zz f p g + Cert.DxRef.zz f p g * f u = bwd f p g u := by
  choose f' hf using hf
  choose p' hp using hp
  choose g' hg using hg
  obtain rfl : f = fun k => (f' k : EReal) := funext hf
  obtain rfl : p = fun k => (p' k : EReal) := funext hp
  obtain rfl : g = fun k => (g' k : EReal) := funext hg
  exact (Cert.DxRef.bwd_eq f' p' g' u).symm

/-! ## The claims -/

theorem frame_p : Cert.quiescent_DxKernel := fun m ρ _ => Cert.DxKernel.Gen.frame m ρ
theorem frame_pi : Cert.quiescent_DxKernelIdeal := fun m ρ _ => Cert.DxKernelIdeal.Gen.frame m ρ
theorem frame_pi' : Cert.quiescent_DxKernelIdeal_pre_dx_finite := fun m ρ _ => Cert.DxKernelIdeal.Gen.frame m ρ
theorem frame_ri : Cert.quiescent_DxReferenceIdeal := fun m ρ _ =>
  (θ_run Cert.DxReferenceIdeal.defs _ _).mono (fun r h => ⟨fun c => (h c).2.2, sem_eq_zero_of_no_sems (by decide) r.2⟩)
    (Cert.DxReferenceIdeal.Value.run (F := Ideal) m ρ)
theorem frame_ri' : Cert.quiescent_DxReferenceIdeal_pre_dx_finite := fun m ρ _ => frame_ri m ρ trivial

theorem preserves : Cert.preserves_DxKernel_DxKernelIdeal := trivial

theorem algebraic : Cert.algebraic_DxKernelIdeal_DxReferenceIdeal_pre_dx_finite := by
  intro m ρ m' ρ' hpre hagree
  refine ⟨fun c => res6 m c, fun c => res7 m c, ?_, ?_⟩
  · exact (θ_run defs _ _).mono (fun r h c => ⟨(h c).1.trans (final6 m c), (h c).2.1.trans (final7 m c), (h c).2.2⟩)
      (run_blocks m ρ)
  · refine (θ_run Cert.DxReferenceIdeal.defs _ _).mono (fun r h c => ⟨(h c).1.trans ?_, (h c).2.1.trans ?_, (h c).2.2⟩)
      (Cert.DxReferenceIdeal.Value.run (F := Ideal) m' ρ')
    · unfold Cert.DxReferenceIdeal.Value.res_main_v48
      rw [(hagree c).1, (hagree c).2.1, (hagree c).2.2.1, (hagree c).2.2.2.1, (hagree c).2.2.2.2.1, (hagree c).2.2.2.2.2]
      obtain ⟨f0, f1, f2, f3, f5⟩ := finite_elim m hpre c
      funext j
      obtain ⟨r, u, rfl⟩ : ∃ (r : Fin 8192) (u : Fin 1024), j = ix2 r u := ⟨j 0, j 1, eq_ix2 _⟩
      refine (Cert.DxRef.out0_apply (m (c.tc.loc main_arg0)) (m (c.tc.loc main_arg1)) (m (c.tc.loc main_arg2))
        (m (c.tc.loc main_arg3)) (m (c.tc.loc main_arg5)) (m (c.tc.loc main_arg4)) r u).trans ?_
      exact congrArg (fun x : EReal => d4 m c (ix2 r u) + x)
        (bwd_row (f := h3 m c r) (p := dM m c r) (g := g5 m c) (fun k => f3 _) (fun k => dG_real f0 f1 f2 r k) (fun k => f5 _) u)
    · rw [(hagree c).1, (hagree c).2.1, (hagree c).2.2.1, (hagree c).2.2.2.1]
      funext j
      obtain ⟨z, u, rfl⟩ : ∃ (z : Fin 1) (u : Fin 1024), j = ix2 z u := ⟨j 0, j 1, eq_ix2 _⟩
      obtain rfl : z = 0 := Subsingleton.elim _ _
      exact Cert.DxRef.out1_apply (m (c.tc.loc main_arg0)) (m (c.tc.loc main_arg1)) (m (c.tc.loc main_arg2))
        (m (c.tc.loc main_arg3)) u

end Cert.Dx

end
-- ==== Proof.Hyb.lean ====
/- The hybrid mixer's input projection: block by block the kernel computes the whole product. -/
module

public import proofs.«01_k».proof.Defs
public import proofs.«01_k».proof.Proof.Gen.HybKernel.Frame
public import proofs.«01_k».proof.Proof.Gen.HybKernelIdeal.Value
public import proofs.«01_k».proof.Proof.Gen.HybReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.Hyb

open Cert.HybKernelIdeal Cert.HybKernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The whole arrays' product. -/
def pr (a : S8192x1024.Idx → EReal) (w : S1024x4608.Idx → EReal) : S8192x4608.Idx → EReal := fun j => ∑ k : Fin 1024, a (ix2 (j 0) k) * w (ix2 k (j 1))

variable (m : (ℓ : Loc nD τ sig) → Buf (Elt Ideal) ℓ) (ρ : Dev nD → PrngReg)

theorem pay1_apply (x : Vec Ideal S1024x1024 .bf16) (w : Vec Ideal S1024x512 .bf16) (r : Fin 1024) (c : Fin 512) :
    k0_pay1 (F := Ideal) x w (ix2 r c) = ∑ k : Fin 1024, (x (ix2 r k) : EReal) * w (ix2 k c) := by
  show FloatOps.matmul (F := Ideal) (φ₁ := .bf16) (φ₂ := .bf16) (DotDims.plain 1024 1024 512) none x w (constant S1024x512 .f32 0x00000000#32) (ix2 r c) = _
  rw [Ideal.matmul_plain_apply]
  show Ideal.ofBits .f32 0x00000000#32 + _ = _
  rw [show Ideal.ofBits .f32 0x00000000#32 = 0 by simp [Ideal.ofBits, Ideal.ieee], zero_add]

theorem out_apply (x0 : Vec Ideal S1024x1024 .bf16) (x1 : Vec Ideal S1024x512 .bf16) (r : Fin 1024) (c : Fin 512) :
    out0_2 (F := Ideal) x0 x1 (ix2 r c) = ∑ k : Fin 1024, (x0 (ix2 r k) : EReal) * x1 (ix2 k c) := by
  unfold out0_2
  rw [View.canon_unit_zero hz]
  simp only [View.ld_unit_zero (S := S1024x1024) hz, View.ld_unit_zero (S := S1024x512) hz]
  exact pay1_apply _ _ _ _

/-- Where the windows' blocks lie. -/
theorem idx_facts : ∀ t : Fin grid0.N, win0_0.index t 0 = t.val / 9 ∧ win0_0.index t 1 = 0 ∧ win0_1.index t 0 = 0 ∧ win0_1.index t 1 = t.val % 9
    ∧ win0_2.index t 0 = t.val / 9 ∧ win0_2.index t 1 = t.val % 9 := by decide +kernel

theorem NN : cfg0.N = 72 := N_0

/-- The row of the whole array that row `r` of point `t`'s blocks is, and the column. -/
def row (t : Fin cfg0.N) (r : Fin 1024) : Fin 8192 := ⟨t.val / 9 * 1024 + r.val, by have := lt_of_lt_of_eq t.isLt NN; have := r.isLt; omega⟩
def col (t : Fin cfg0.N) (e : Fin 512) : Fin 4608 := ⟨t.val % 9 * 512 + e.val, by have := e.isLt; omega⟩

theorem iblk0 (c : Dev nD) (t : Fin cfg0.N) (r : Fin 1024) (k : Fin 1024) :
    iblk m c 0 t (ix2 r k) = m (c.tc.loc main_arg0) (ix2 (row t r) k) := by
  unfold iblk; rw [View.read_apply]
  show m (c.tc.loc main_arg0) _ = _
  congr 1; funext a; apply Fin.ext
  match a with
  | ⟨0, _⟩ => show win0_0.index t 0 * 1024 + 1 * r.val = t.val / 9 * 1024 + r.val; rw [(idx_facts t).1]; omega
  | ⟨1, _⟩ => show win0_0.index t 1 * 1024 + 1 * k.val = k.val; rw [(idx_facts t).2.1]; omega

theorem iblk1 (c : Dev nD) (t : Fin cfg0.N) (k : Fin 1024) (e : Fin 512) :
    iblk m c 1 t (ix2 k e) = m (c.tc.loc main_arg1) (ix2 k (col t e)) := by
  unfold iblk; rw [View.read_apply]
  show m (c.tc.loc main_arg1) _ = _
  congr 1; funext a; apply Fin.ext
  match a with
  | ⟨0, _⟩ => show win0_1.index t 0 * 1024 + 1 * k.val = k.val; rw [(idx_facts t).2.2.1]; omega
  | ⟨1, _⟩ => show win0_1.index t 1 * 512 + 1 * e.val = t.val % 9 * 512 + e.val; rw [(idx_facts t).2.2.2.1]; omega

/-- The result array as a function of the arguments at launch. -/
abbrev res (c : Dev nD) : S8192x4608.Idx → EReal := pr (m (c.tc.loc main_arg0)) (m (c.tc.loc main_arg1))

theorem emb (t : Fin cfg0.N) (r : Fin 1024) (e : Fin 512) : ((cfg0.win 2).blk t).view.emb (ix2 r e) = ix2 (row t r) (col t e) := by
  funext a; apply Fin.ext
  match a with
  | ⟨0, _⟩ => show win0_2.index t 0 * 1024 + 1 * r.val = t.val / 9 * 1024 + r.val; rw [(idx_facts t).2.2.2.2.1]; omega
  | ⟨1, _⟩ => show win0_2.index t 1 * 512 + 1 * e.val = t.val % 9 * 512 + e.val; rw [(idx_facts t).2.2.2.2.2]; omega

theorem flushed_eq (c : Dev nD) (t : Fin cfg0.N) :
    (dats m 0 c).flushed 2 t = ((cfg0.win 2).blk t).view.read (Elt Ideal) (res m c) := by
  rw [Value.flushed2]
  funext j
  obtain ⟨r, e, rfl⟩ : ∃ (r : Fin 1024) (e : Fin 512), j = ix2 r e := ⟨j 0, j 1, eq_ix2 _⟩
  rw [View.read_apply, emb]
  refine (out_apply _ _ r e).trans ?_
  simp only [iblk0, iblk1]
  rfl

/-- Every index of the result lies in one point's block. -/
theorem cover (i : S8192x4608.Idx) : ∃ (t : Fin cfg0.N) (r : Fin 1024) (e : Fin 512), i = ix2 (row t r) (col t e) := by
  have h0 : (i 0 : Nat) < 8192 := (i 0).isLt
  have h1 : (i 1 : Nat) < 4608 := (i 1).isLt
  have hN : (i 0 : Nat) / 1024 * 9 + (i 1 : Nat) / 512 < cfg0.N := by rw [NN]; omega
  refine ⟨⟨(i 0 : Nat) / 1024 * 9 + (i 1 : Nat) / 512, hN⟩, ⟨(i 0 : Nat) % 1024, by omega⟩, ⟨(i 1 : Nat) % 512, by omega⟩, ?_⟩
  funext a; apply Fin.ext
  match a with
  | ⟨0, _⟩ => show (i 0 : Nat) = ((i 0 : Nat) / 1024 * 9 + (i 1 : Nat) / 512) / 9 * 1024 + (i 0 : Nat) % 1024; omega
  | ⟨1, _⟩ => show (i 1 : Nat) = ((i 0 : Nat) / 1024 * 9 + (i 1 : Nat) / 512) % 9 * 512 + (i 1 : Nat) % 512; omega

theorem final (c : Dev nD) : (dats m 0 c).arrAt 2 cfg0.N = res m c :=
  (dats m 0 c).arrAt_eq_of_cover 2 (res m c) (fun t _ => flushed_eq m c t) fun i => by
    obtain ⟨t, r, e, he⟩ := cover i
    exact ⟨t, flush0_2 t, by rw [he, ← emb]; exact View.emb_mem_set _ _⟩

/-- The reference's product, element by element. -/
theorem dot_apply (x : FVec Ideal Cert.HybReferenceIdeal.S8192x1024 .f32) (w : FVec Ideal Cert.HybReferenceIdeal.S1024x4608 .f32) :
    Host.dotGeneral Cert.HybReferenceIdeal.dot_S8192x1024_S1024x4608_S8192x4608_1_0_0_1_n_n none x w = pr x w := by
  funext j
  obtain ⟨r, c, rfl⟩ : ∃ (r : Fin 8192) (c : Fin 4608), j = ix2 r c := ⟨j 0, j 1, eq_ix2 _⟩
  rw [← matmul_zero_eq_dotGeneral]
  show FloatOps.matmul (DotDims.plain 8192 1024 4608) none x w (constant Cert.HybReferenceIdeal.S8192x4608 .f32 0x00000000#32) (ix2 r c) = _
  rw [Ideal.matmul_plain_apply]
  show Ideal.ofBits .f32 0x00000000#32 + _ = _
  rw [show Ideal.ofBits .f32 0x00000000#32 = 0 by simp [Ideal.ofBits, Ideal.ieee], zero_add]
  rfl

theorem frame_p : Cert.quiescent_HybKernel := fun m ρ _ => Cert.HybKernel.Gen.frame m ρ
theorem frame_pi : Cert.quiescent_HybKernelIdeal := fun m ρ _ => Cert.HybKernelIdeal.Gen.frame m ρ
theorem frame_ri : Cert.quiescent_HybReferenceIdeal := fun m ρ _ =>
  (θ_run Cert.HybReferenceIdeal.defs _ _).mono (fun r h => ⟨fun c => (h c).2, sem_eq_zero_of_no_sems (by decide) r.2⟩)
    (Cert.HybReferenceIdeal.Value.run (F := Ideal) m ρ)

theorem preserves : Cert.preserves_HybKernel_HybKernelIdeal := trivial

theorem algebraic : Cert.algebraic_HybKernelIdeal_HybReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.HybReferenceIdeal.defs _ _).mono (fun r h c => ⟨(h c).1.trans ?_, (h c).2⟩)
      (Cert.HybReferenceIdeal.Value.run (F := Ideal) m' ρ')
    rw [(hagree c).1, (hagree c).2]
    exact dot_apply _ _

end Cert.Hyb

end
-- ==== Proof.HybDx.lean ====
/- The gradient of the hybrid mixer's output projection by its input: block by block the kernel computes the whole product. -/
module

public import proofs.«01_k».proof.Defs
public import proofs.«01_k».proof.Proof.Gen.HybDxKernel.Frame
public import proofs.«01_k».proof.Proof.Gen.HybDxKernelIdeal.Value
public import proofs.«01_k».proof.Proof.Gen.HybDxReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.HybDx

open Cert.HybDxKernelIdeal Cert.HybDxKernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The whole arrays' product. -/
def pr (a : S8192x1024.Idx → EReal) (w : S2048x1024.Idx → EReal) : S8192x2048.Idx → EReal := fun j => ∑ k : Fin 1024, a (ix2 (j 0) k) * w (ix2 (j 1) k)

variable (m : (ℓ : Loc nD τ sig) → Buf (Elt Ideal) ℓ) (ρ : Dev nD → PrngReg)

theorem pay1_apply (x : Vec Ideal S1024x1024 .bf16) (w : Vec Ideal S1024x1024 .bf16) (r : Fin 1024) (c : Fin 1024) :
    k0_pay1 (F := Ideal) x w (ix2 r c) = ∑ k : Fin 1024, (x (ix2 r k) : EReal) * w (ix2 c k) := by
  show FloatOps.matmul (F := Ideal) (φ₁ := .bf16) (φ₂ := .bf16) (DotDims.transposedRhs 1024 1024 1024) none x w (constant S1024x1024 .f32 0x00000000#32) (ix2 r c) = _
  rw [Ideal.matmul_transposedRhs_apply]
  show Ideal.ofBits .f32 0x00000000#32 + _ = _
  rw [show Ideal.ofBits .f32 0x00000000#32 = 0 by simp [Ideal.ofBits, Ideal.ieee], zero_add]

theorem out_apply (x0 : Vec Ideal S1024x1024 .bf16) (x1 : Vec Ideal S1024x1024 .bf16) (r : Fin 1024) (c : Fin 1024) :
    out0_2 (F := Ideal) x0 x1 (ix2 r c) = ∑ k : Fin 1024, (x0 (ix2 r k) : EReal) * x1 (ix2 c k) := by
  unfold out0_2
  rw [View.canon_unit_zero hz]
  simp only [View.ld_unit_zero (S := S1024x1024) hz, View.ld_unit_zero (S := S1024x1024) hz]
  exact pay1_apply _ _ _ _

/-- Where the windows' blocks lie. -/
theorem idx_facts : ∀ t : Fin grid0.N, win0_0.index t 0 = t.val / 2 ∧ win0_0.index t 1 = 0 ∧ win0_1.index t 0 = t.val % 2 ∧ win0_1.index t 1 = 0
    ∧ win0_2.index t 0 = t.val / 2 ∧ win0_2.index t 1 = t.val % 2 := by decide +kernel

theorem NN : cfg0.N = 16 := N_0

/-- The row of the whole array that row `r` of point `t`'s blocks is, and the column. -/
def row (t : Fin cfg0.N) (r : Fin 1024) : Fin 8192 := ⟨t.val / 2 * 1024 + r.val, by have := lt_of_lt_of_eq t.isLt NN; have := r.isLt; omega⟩
def col (t : Fin cfg0.N) (e : Fin 1024) : Fin 2048 := ⟨t.val % 2 * 1024 + e.val, by have := e.isLt; omega⟩

theorem iblk0 (c : Dev nD) (t : Fin cfg0.N) (r : Fin 1024) (k : Fin 1024) :
    iblk m c 0 t (ix2 r k) = m (c.tc.loc main_arg0) (ix2 (row t r) k) := by
  unfold iblk; rw [View.read_apply]
  show m (c.tc.loc main_arg0) _ = _
  congr 1; funext a; apply Fin.ext
  match a with
  | ⟨0, _⟩ => show win0_0.index t 0 * 1024 + 1 * r.val = t.val / 2 * 1024 + r.val; rw [(idx_facts t).1]; omega
  | ⟨1, _⟩ => show win0_0.index t 1 * 1024 + 1 * k.val = k.val; rw [(idx_facts t).2.1]; omega

theorem iblk1 (c : Dev nD) (t : Fin cfg0.N) (e : Fin 1024) (k : Fin 1024) :
    iblk m c 1 t (ix2 e k) = m (c.tc.loc main_arg1) (ix2 (col t e) k) := by
  unfold iblk; rw [View.read_apply]
  show m (c.tc.loc main_arg1) _ = _
  congr 1; funext a; apply Fin.ext
  match a with
  | ⟨0, _⟩ => show win0_1.index t 0 * 1024 + 1 * e.val = t.val % 2 * 1024 + e.val; rw [(idx_facts t).2.2.1]; omega
  | ⟨1, _⟩ => show win0_1.index t 1 * 1024 + 1 * k.val = k.val; rw [(idx_facts t).2.2.2.1]; omega

/-- The result array as a function of the arguments at launch. -/
abbrev res (c : Dev nD) : S8192x2048.Idx → EReal := pr (m (c.tc.loc main_arg0)) (m (c.tc.loc main_arg1))

theorem emb (t : Fin cfg0.N) (r : Fin 1024) (e : Fin 1024) : ((cfg0.win 2).blk t).view.emb (ix2 r e) = ix2 (row t r) (col t e) := by
  funext a; apply Fin.ext
  match a with
  | ⟨0, _⟩ => show win0_2.index t 0 * 1024 + 1 * r.val = t.val / 2 * 1024 + r.val; rw [(idx_facts t).2.2.2.2.1]; omega
  | ⟨1, _⟩ => show win0_2.index t 1 * 1024 + 1 * e.val = t.val % 2 * 1024 + e.val; rw [(idx_facts t).2.2.2.2.2]; omega

theorem flushed_eq (c : Dev nD) (t : Fin cfg0.N) :
    (dats m 0 c).flushed 2 t = ((cfg0.win 2).blk t).view.read (Elt Ideal) (res m c) := by
  rw [Value.flushed2]
  funext j
  obtain ⟨r, e, rfl⟩ : ∃ (r : Fin 1024) (e : Fin 1024), j = ix2 r e := ⟨j 0, j 1, eq_ix2 _⟩
  rw [View.read_apply, emb]
  refine (out_apply _ _ r e).trans ?_
  simp only [iblk0, iblk1]
  rfl

/-- Every index of the result lies in one point's block. -/
theorem cover (i : S8192x2048.Idx) : ∃ (t : Fin cfg0.N) (r : Fin 1024) (e : Fin 1024), i = ix2 (row t r) (col t e) := by
  have h0 : (i 0 : Nat) < 8192 := (i 0).isLt
  have h1 : (i 1 : Nat) < 2048 := (i 1).isLt
  have hN : (i 0 : Nat) / 1024 * 2 + (i 1 : Nat) / 1024 < cfg0.N := by rw [NN]; omega
  refine ⟨⟨(i 0 : Nat) / 1024 * 2 + (i 1 : Nat) / 1024, hN⟩, ⟨(i 0 : Nat) % 1024, by omega⟩, ⟨(i 1 : Nat) % 1024, by omega⟩, ?_⟩
  funext a; apply Fin.ext
  match a with
  | ⟨0, _⟩ => show (i 0 : Nat) = ((i 0 : Nat) / 1024 * 2 + (i 1 : Nat) / 1024) / 2 * 1024 + (i 0 : Nat) % 1024; omega
  | ⟨1, _⟩ => show (i 1 : Nat) = ((i 0 : Nat) / 1024 * 2 + (i 1 : Nat) / 1024) % 2 * 1024 + (i 1 : Nat) % 1024; omega

theorem final (c : Dev nD) : (dats m 0 c).arrAt 2 cfg0.N = res m c :=
  (dats m 0 c).arrAt_eq_of_cover 2 (res m c) (fun t _ => flushed_eq m c t) fun i => by
    obtain ⟨t, r, e, he⟩ := cover i
    exact ⟨t, flush0_2 t, by rw [he, ← emb]; exact View.emb_mem_set _ _⟩

/-- The reference's product, element by element. -/
theorem dot_apply (x : FVec Ideal Cert.HybDxReferenceIdeal.S8192x1024 .f32) (w : FVec Ideal Cert.HybDxReferenceIdeal.S2048x1024 .f32) :
    Host.dotGeneral Cert.HybDxReferenceIdeal.dot_S8192x1024_S2048x1024_S8192x2048_1_1_0_0_n_n none x w = pr x w := by
  funext j
  obtain ⟨r, c, rfl⟩ : ∃ (r : Fin 8192) (c : Fin 2048), j = ix2 r c := ⟨j 0, j 1, eq_ix2 _⟩
  rw [← matmul_zero_eq_dotGeneral]
  show FloatOps.matmul (DotDims.transposedRhs 8192 1024 2048) none x w (constant Cert.HybDxReferenceIdeal.S8192x2048 .f32 0x00000000#32) (ix2 r c) = _
  rw [Ideal.matmul_transposedRhs_apply]
  show Ideal.ofBits .f32 0x00000000#32 + _ = _
  rw [show Ideal.ofBits .f32 0x00000000#32 = 0 by simp [Ideal.ofBits, Ideal.ieee], zero_add]
  rfl

theorem frame_p : Cert.quiescent_HybDxKernel := fun m ρ _ => Cert.HybDxKernel.Gen.frame m ρ
theorem frame_pi : Cert.quiescent_HybDxKernelIdeal := fun m ρ _ => Cert.HybDxKernelIdeal.Gen.frame m ρ
theorem frame_ri : Cert.quiescent_HybDxReferenceIdeal := fun m ρ _ =>
  (θ_run Cert.HybDxReferenceIdeal.defs _ _).mono (fun r h => ⟨fun c => (h c).2, sem_eq_zero_of_no_sems (by decide) r.2⟩)
    (Cert.HybDxReferenceIdeal.Value.run (F := Ideal) m ρ)

theorem preserves : Cert.preserves_HybDxKernel_HybDxKernelIdeal := trivial

theorem algebraic : Cert.algebraic_HybDxKernelIdeal_HybDxReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.HybDxReferenceIdeal.defs _ _).mono (fun r h c => ⟨(h c).1.trans ?_, (h c).2⟩)
      (Cert.HybDxReferenceIdeal.Value.run (F := Ideal) m' ρ')
    rw [(hagree c).1, (hagree c).2]
    exact dot_apply _ _

end Cert.HybDx

end
-- ==== Proof.MlaDx.lean ====
/- The gradient of the attention's output projection by its input: block by block the kernel computes the whole product. -/
module

public import proofs.«01_k».proof.Defs
public import proofs.«01_k».proof.Proof.Gen.MlaDxKernel.Frame
public import proofs.«01_k».proof.Proof.Gen.MlaDxKernelIdeal.Value
public import proofs.«01_k».proof.Proof.Gen.MlaDxReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.MlaDx

open Cert.MlaDxKernelIdeal Cert.MlaDxKernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The whole arrays' product. -/
def pr (a : S8192x1024.Idx → EReal) (w : S2048x1024.Idx → EReal) : S8192x2048.Idx → EReal := fun j => ∑ k : Fin 1024, a (ix2 (j 0) k) * w (ix2 (j 1) k)

variable (m : (ℓ : Loc nD τ sig) → Buf (Elt Ideal) ℓ) (ρ : Dev nD → PrngReg)

theorem pay1_apply (x : Vec Ideal S1024x1024 .bf16) (w : Vec Ideal S1024x1024 .bf16) (r : Fin 1024) (c : Fin 1024) :
    k0_pay1 (F := Ideal) x w (ix2 r c) = ∑ k : Fin 1024, (x (ix2 r k) : EReal) * w (ix2 c k) := by
  show FloatOps.matmul (F := Ideal) (φ₁ := .bf16) (φ₂ := .bf16) (DotDims.transposedRhs 1024 1024 1024) none x w (constant S1024x1024 .f32 0x00000000#32) (ix2 r c) = _
  rw [Ideal.matmul_transposedRhs_apply]
  show Ideal.ofBits .f32 0x00000000#32 + _ = _
  rw [show Ideal.ofBits .f32 0x00000000#32 = 0 by simp [Ideal.ofBits, Ideal.ieee], zero_add]

theorem out_apply (x0 : Vec Ideal S1024x1024 .bf16) (x1 : Vec Ideal S1024x1024 .bf16) (r : Fin 1024) (c : Fin 1024) :
    out0_2 (F := Ideal) x0 x1 (ix2 r c) = ∑ k : Fin 1024, (x0 (ix2 r k) : EReal) * x1 (ix2 c k) := by
  unfold out0_2
  rw [View.canon_unit_zero hz]
  simp only [View.ld_unit_zero (S := S1024x1024) hz, View.ld_unit_zero (S := S1024x1024) hz]
  exact pay1_apply _ _ _ _

/-- Where the windows' blocks lie. -/
theorem idx_facts : ∀ t : Fin grid0.N, win0_0.index t 0 = t.val / 2 ∧ win0_0.index t 1 = 0 ∧ win0_1.index t 0 = t.val % 2 ∧ win0_1.index t 1 = 0
    ∧ win0_2.index t 0 = t.val / 2 ∧ win0_2.index t 1 = t.val % 2 := by decide +kernel

theorem NN : cfg0.N = 16 := N_0

/-- The row of the whole array that row `r` of point `t`'s blocks is, and the column. -/
def row (t : Fin cfg0.N) (r : Fin 1024) : Fin 8192 := ⟨t.val / 2 * 1024 + r.val, by have := lt_of_lt_of_eq t.isLt NN; have := r.isLt; omega⟩
def col (t : Fin cfg0.N) (e : Fin 1024) : Fin 2048 := ⟨t.val % 2 * 1024 + e.val, by have := e.isLt; omega⟩

theorem iblk0 (c : Dev nD) (t : Fin cfg0.N) (r : Fin 1024) (k : Fin 1024) :
    iblk m c 0 t (ix2 r k) = m (c.tc.loc main_arg0) (ix2 (row t r) k) := by
  unfold iblk; rw [View.read_apply]
  show m (c.tc.loc main_arg0) _ = _
  congr 1; funext a; apply Fin.ext
  match a with
  | ⟨0, _⟩ => show win0_0.index t 0 * 1024 + 1 * r.val = t.val / 2 * 1024 + r.val; rw [(idx_facts t).1]; omega
  | ⟨1, _⟩ => show win0_0.index t 1 * 1024 + 1 * k.val = k.val; rw [(idx_facts t).2.1]; omega

theorem iblk1 (c : Dev nD) (t : Fin cfg0.N) (e : Fin 1024) (k : Fin 1024) :
    iblk m c 1 t (ix2 e k) = m (c.tc.loc main_arg1) (ix2 (col t e) k) := by
  unfold iblk; rw [View.read_apply]
  show m (c.tc.loc main_arg1) _ = _
  congr 1; funext a; apply Fin.ext
  match a with
  | ⟨0, _⟩ => show win0_1.index t 0 * 1024 + 1 * e.val = t.val % 2 * 1024 + e.val; rw [(idx_facts t).2.2.1]; omega
  | ⟨1, _⟩ => show win0_1.index t 1 * 1024 + 1 * k.val = k.val; rw [(idx_facts t).2.2.2.1]; omega

/-- The result array as a function of the arguments at launch. -/
abbrev res (c : Dev nD) : S8192x2048.Idx → EReal := pr (m (c.tc.loc main_arg0)) (m (c.tc.loc main_arg1))

theorem emb (t : Fin cfg0.N) (r : Fin 1024) (e : Fin 1024) : ((cfg0.win 2).blk t).view.emb (ix2 r e) = ix2 (row t r) (col t e) := by
  funext a; apply Fin.ext
  match a with
  | ⟨0, _⟩ => show win0_2.index t 0 * 1024 + 1 * r.val = t.val / 2 * 1024 + r.val; rw [(idx_facts t).2.2.2.2.1]; omega
  | ⟨1, _⟩ => show win0_2.index t 1 * 1024 + 1 * e.val = t.val % 2 * 1024 + e.val; rw [(idx_facts t).2.2.2.2.2]; omega

theorem flushed_eq (c : Dev nD) (t : Fin cfg0.N) :
    (dats m 0 c).flushed 2 t = ((cfg0.win 2).blk t).view.read (Elt Ideal) (res m c) := by
  rw [Value.flushed2]
  funext j
  obtain ⟨r, e, rfl⟩ : ∃ (r : Fin 1024) (e : Fin 1024), j = ix2 r e := ⟨j 0, j 1, eq_ix2 _⟩
  rw [View.read_apply, emb]
  refine (out_apply _ _ r e).trans ?_
  simp only [iblk0, iblk1]
  rfl

/-- Every index of the result lies in one point's block. -/
theorem cover (i : S8192x2048.Idx) : ∃ (t : Fin cfg0.N) (r : Fin 1024) (e : Fin 1024), i = ix2 (row t r) (col t e) := by
  have h0 : (i 0 : Nat) < 8192 := (i 0).isLt
  have h1 : (i 1 : Nat) < 2048 := (i 1).isLt
  have hN : (i 0 : Nat) / 1024 * 2 + (i 1 : Nat) / 1024 < cfg0.N := by rw [NN]; omega
  refine ⟨⟨(i 0 : Nat) / 1024 * 2 + (i 1 : Nat) / 1024, hN⟩, ⟨(i 0 : Nat) % 1024, by omega⟩, ⟨(i 1 : Nat) % 1024, by omega⟩, ?_⟩
  funext a; apply Fin.ext
  match a with
  | ⟨0, _⟩ => show (i 0 : Nat) = ((i 0 : Nat) / 1024 * 2 + (i 1 : Nat) / 1024) / 2 * 1024 + (i 0 : Nat) % 1024; omega
  | ⟨1, _⟩ => show (i 1 : Nat) = ((i 0 : Nat) / 1024 * 2 + (i 1 : Nat) / 1024) % 2 * 1024 + (i 1 : Nat) % 1024; omega

theorem final (c : Dev nD) : (dats m 0 c).arrAt 2 cfg0.N = res m c :=
  (dats m 0 c).arrAt_eq_of_cover 2 (res m c) (fun t _ => flushed_eq m c t) fun i => by
    obtain ⟨t, r, e, he⟩ := cover i
    exact ⟨t, flush0_2 t, by rw [he, ← emb]; exact View.emb_mem_set _ _⟩

/-- The reference's product, element by element. -/
theorem dot_apply (x : FVec Ideal Cert.MlaDxReferenceIdeal.S8192x1024 .f32) (w : FVec Ideal Cert.MlaDxReferenceIdeal.S2048x1024 .f32) :
    Host.dotGeneral Cert.MlaDxReferenceIdeal.dot_S8192x1024_S2048x1024_S8192x2048_1_1_0_0_n_n none x w = pr x w := by
  funext j
  obtain ⟨r, c, rfl⟩ : ∃ (r : Fin 8192) (c : Fin 2048), j = ix2 r c := ⟨j 0, j 1, eq_ix2 _⟩
  rw [← matmul_zero_eq_dotGeneral]
  show FloatOps.matmul (DotDims.transposedRhs 8192 1024 2048) none x w (constant Cert.MlaDxReferenceIdeal.S8192x2048 .f32 0x00000000#32) (ix2 r c) = _
  rw [Ideal.matmul_transposedRhs_apply]
  show Ideal.ofBits .f32 0x00000000#32 + _ = _
  rw [show Ideal.ofBits .f32 0x00000000#32 = 0 by simp [Ideal.ofBits, Ideal.ieee], zero_add]
  rfl

theorem frame_p : Cert.quiescent_MlaDxKernel := fun m ρ _ => Cert.MlaDxKernel.Gen.frame m ρ
theorem frame_pi : Cert.quiescent_MlaDxKernelIdeal := fun m ρ _ => Cert.MlaDxKernelIdeal.Gen.frame m ρ
theorem frame_ri : Cert.quiescent_MlaDxReferenceIdeal := fun m ρ _ =>
  (θ_run Cert.MlaDxReferenceIdeal.defs _ _).mono (fun r h => ⟨fun c => (h c).2, sem_eq_zero_of_no_sems (by decide) r.2⟩)
    (Cert.MlaDxReferenceIdeal.Value.run (F := Ideal) m ρ)

theorem preserves : Cert.preserves_MlaDxKernel_MlaDxKernelIdeal := trivial

theorem algebraic : Cert.algebraic_MlaDxKernelIdeal_MlaDxReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.MlaDxReferenceIdeal.defs _ _).mono (fun r h c => ⟨(h c).1.trans ?_, (h c).2⟩)
      (Cert.MlaDxReferenceIdeal.Value.run (F := Ideal) m' ρ')
    rw [(hagree c).1, (hagree c).2]
    exact dot_apply _ _

end Cert.MlaDx

end
-- ==== Proof.MixDw.lean ====
/- The gradient of the output projections' weights: the kernel's sum over four blocks of tokens is the whole product. -/
module

public import proofs.«01_k».proof.Defs
public import proofs.«01_k».proof.Proof.Dw
public import proofs.«01_k».proof.Proof.Gen.MixDwKernel.Frame
public import proofs.«01_k».proof.Proof.Gen.MixDwKernelIdeal.Value
public import proofs.«01_k».proof.Proof.Gen.MixDwReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.MixDw

open Cert.MixDwKernelIdeal Cert.MixDwKernelIdeal.Gen Idealize.ShloMosaic Idealize.ShloMosaic.TcCoe Idealize.SL.Sem
open Idealize.ShloMosaic.ValueIdx
open Idealize.ShloMosaic.Pipeline (Dat)
open scoped BigOperators
open Cert.Dw (hz)

/-! ## What each kind of point leaves -/

section points
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (arg6 : Memref sig .tc .vmem S1024x1024 .f32) (harg6 : arg6.IsWhole)
  (x0 : Vec Ideal S2048x1024 .bf16) (x1 : Vec Ideal S2048x1024 .bf16) (xs : Vec Ideal S1024x1024 .f32)

/-- The first point of a column block stores the block's product. -/
theorem sA (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  rw [View.readAt_eq_ld, View.readAt_eq_ld, harg3.read_unread, harg4.read_unread, View.ld_unit_zero hz, View.ld_unit_zero hz,
    View.read_writes_junk_eq_canon, View.canon_unit_zero hz]

/-- A later point adds its product. -/
theorem sB (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0 kernelRun0_B
  dsimp only
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- So does the last one, -/
theorem sC (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0 kernelRun0_C
  dsimp only
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- which also stores the sum into the result's block. -/
theorem oC (hc0 : ¬cond0_0 i) (hc1 : cond0_1 i) (hc2 : cond0_2 i) :
    out0_C_2 c i arg3 harg3 arg4 harg4 arg5 harg5 arg6 harg6 hc0 hc1 hc2 x0 x1 xs = k0_pay3 x0 x1 xs := by
  unfold out0_C_2 kernelRun0_C
  dsimp only
  rw [View.read_writes_junk_eq_canon, View.canon_unit_zero hz]
  unfold kernelRun0_C.sl.v12
  unfold View.readCov
  rw [View.readAt_writes_junk_eq_canon]
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.canon_unit_zero hz]
  funext j
  refine congrArg (k0_pay3 x0 x1 xs) (funext fun a => Fin.ext ?_)
  match a with
  | ⟨0, _⟩ => show 0 + 1 * (j 0).val = (j 0).val; omega
  | ⟨1, _⟩ => show 0 + 1 * (j 1).val = (j 1).val; omega

end points

variable (m : (ℓ : Loc nD τ sig) → Buf (Elt Ideal) ℓ) (ρ : Dev nD → PrngReg)

/-! ## The sum over the blocks of tokens -/

/-- Token `x` of block `q`. -/
def row (q : Fin 4) (x : Fin 2048) : Fin 8192 := ⟨2048 * q.val + x.val, by omega⟩

theorem sum_rows (f : Fin 8192 → EReal) : ∑ x, f x = ∑ q : Fin 4, ∑ x : Fin 2048, f (row q x) := by
  rw [← Finset.sum_product', Finset.univ_product_univ]
  refine (Fintype.sum_equiv (finProdFinEquiv (m := 4) (n := 2048)) _ f fun p => congrArg f (Fin.ext ?_)).symm
  show 2048 * p.1.val + p.2.val = p.2.val + 2048 * p.1.val
  omega

theorem N_all : cfg0.N = 8 := N_0

/-- The block of tokens of a point, -/
def tk (t : Fin cfg0.N) : Fin 4 := ⟨t.val % 4, by omega⟩
/-- and the whole array's column that column `e` of its blocks is. -/
def col (t : Fin cfg0.N) (e : Fin 1024) : Fin 1024 := ⟨t.val / 4 % 1 * 1024 + e.val, by have := lt_of_lt_of_eq t.isLt N_all; have := e.isLt; omega⟩
/-- The row. -/
def rw0 (t : Fin cfg0.N) (r : Fin 1024) : Fin 2048 := ⟨t.val / 4 * 1024 + r.val, by have := lt_of_lt_of_eq t.isLt N_all; have := r.isLt; omega⟩

theorem idx_facts : ∀ t : Fin grid0.N, win0_0.index t 0 = t.val % 4 ∧ win0_0.index t 1 = t.val / 4 ∧ win0_1.index t 0 = t.val % 4
    ∧ win0_1.index t 1 = t.val / 4 % 1 ∧ win0_2.index t 0 = t.val / 4 ∧ win0_2.index t 1 = t.val / 4 % 1 := by decide +kernel

theorem iblk0 (c : Dev nD) (t : Fin cfg0.N) (x : Fin 2048) (r : Fin 1024) :
    iblk m c 0 t (ix2 x r) = m (c.tc.loc main_arg0) (ix2 (row (tk t) x) (rw0 t r)) := by
  unfold iblk; rw [View.read_apply]
  show m (c.tc.loc main_arg0) _ = _
  congr 1; funext a; apply Fin.ext
  match a with
  | ⟨0, _⟩ => show win0_0.index t 0 * 2048 + 1 * x.val = 2048 * (t.val % 4) + x.val; rw [(idx_facts t).1]; omega
  | ⟨1, _⟩ => show win0_0.index t 1 * 1024 + 1 * r.val = t.val / 4 * 1024 + r.val; rw [(idx_facts t).2.1]; omega

theorem iblk1 (c : Dev nD) (t : Fin cfg0.N) (x : Fin 2048) (e : Fin 1024) :
    iblk m c 1 t (ix2 x e) = m (c.tc.loc main_arg1) (ix2 (row (tk t) x) (col t e)) := by
  unfold iblk; rw [View.read_apply]
  show m (c.tc.loc main_arg1) _ = _
  congr 1; funext a; apply Fin.ext
  match a with
  | ⟨0, _⟩ => show win0_1.index t 0 * 2048 + 1 * x.val = 2048 * (t.val % 4) + x.val; rw [(idx_facts t).2.2.1]; omega
  | ⟨1, _⟩ => show win0_1.index t 1 * 1024 + 1 * e.val = t.val / 4 % 1 * 1024 + e.val; rw [(idx_facts t).2.2.2.1]; omega

theorem emb2 (t : Fin cfg0.N) (r : Fin 1024) (e : Fin 1024) : ((cfg0.win 2).blk t).view.emb (ix2 r e) = ix2 (rw0 t r) (col t e) := by
  funext a; apply Fin.ext
  match a with
  | ⟨0, _⟩ => show win0_2.index t 0 * 1024 + 1 * r.val = t.val / 4 * 1024 + r.val; rw [(idx_facts t).2.2.2.2.1]; omega
  | ⟨1, _⟩ => show win0_2.index t 1 * 1024 + 1 * e.val = t.val / 4 % 1 * 1024 + e.val; rw [(idx_facts t).2.2.2.2.2]; omega

/-- One block of tokens' share of an element of the gradient. -/
def share (a : S8192x2048.Idx → EReal) (d : S8192x1024.Idx → EReal) (r : Fin 2048) (u : Fin 1024) (q : Fin 4) : EReal :=
  ∑ x : Fin 2048, a (ix2 (row q x) r) * d (ix2 (row q x) u)

/-- The gradient of the weights. -/
def dwG (a : S8192x2048.Idx → EReal) (d : S8192x1024.Idx → EReal) : S2048x1024.Idx → EReal := fun j =>
  ∑ x : Fin 8192, a (ix2 x (j 0)) * d (ix2 x (j 1))

abbrev res (c : Dev nD) : S2048x1024.Idx → EReal := dwG (m (c.tc.loc main_arg0)) (m (c.tc.loc main_arg1))

/-- One element of the product of two blocks. -/
def prod (x0 : Vec Ideal S2048x1024 .bf16) (x1 : Vec Ideal S2048x1024 .bf16) (r : Fin 1024) (e : Fin 1024) : EReal :=
  ∑ x : Fin 2048, (x0 (ix2 x r) : EReal) * x1 (ix2 x e)

theorem pay1_apply (x0 : Vec Ideal S2048x1024 .bf16) (x1 : Vec Ideal S2048x1024 .bf16) (r : Fin 1024) (e : Fin 1024) :
    k0_pay1 (F := Ideal) x0 x1 (ix2 r e) = prod x0 x1 r e := by
  refine (Cert.AttnVal.matT_apply Cert.MixDwKernelIdeal.Facts₀.dot_S2048x1024_S2048x1024_S1024x1024_0_0_1_1_n_n_wf x0 x1 (constant S1024x1024 .f32 0x00000000#32) r e).trans ?_
  show Ideal.ofBits .f32 0x00000000#32 + _ = _
  rw [show Ideal.ofBits .f32 0x00000000#32 = 0 by simp [Ideal.ofBits, Ideal.ieee], zero_add]
  rfl

theorem pay2_apply (x0 : Vec Ideal S2048x1024 .bf16) (x1 : Vec Ideal S2048x1024 .bf16) (r : Fin 1024) (e : Fin 1024) :
    k0_pay2 (F := Ideal) x0 x1 (ix2 r e) = prod x0 x1 r e := by
  unfold k0_pay2; rw [shapeCast_self]; exact pay1_apply _ _ _ _

theorem pay3_apply (x0 : Vec Ideal S2048x1024 .bf16) (x1 : Vec Ideal S2048x1024 .bf16) (xs : Vec Ideal S1024x1024 .f32) (r : Fin 1024) (e : Fin 1024) :
    k0_pay3 (F := Ideal) x0 x1 xs (ix2 r e) = (xs (ix2 r e) : EReal) + prod x0 x1 r e := by
  unfold k0_pay3; rw [shapeCast_self, ← pay1_apply]; rfl

theorem blk_share (c : Dev nD) (t : Fin cfg0.N) (r : Fin 1024) (e : Fin 1024) :
    prod (iblk m c 0 t) (iblk m c 1 t) r e
      = share (m (c.tc.loc main_arg0)) (m (c.tc.loc main_arg1)) (rw0 t r) (col t e) (tk t) :=
  Finset.sum_congr rfl fun x _ => congrArg₂ (fun a b : EReal => a * b) (iblk0 m c t x r) (iblk1 m c t x e)

theorem sum_share (a : S8192x2048.Idx → EReal) (d : S8192x1024.Idx → EReal) (r : Fin 2048) (u : Fin 1024) :
    ∑ q, share a d r u q = dwG a d (ix2 r u) := (sum_rows fun x => a (ix2 x r) * d (ix2 x u)).symm

/-- A function of the four blocks, continued by zero. -/
def natq (f : Fin 4 → EReal) (n : ℕ) : EReal := if h : n < 4 then f ⟨n, h⟩ else 0
theorem natq_val (f : Fin 4 → EReal) (q : Fin 4) : natq f q.val = f q := dif_pos q.isLt
theorem sum_natq (f : Fin 4 → EReal) : ∑ n ∈ Finset.range 4, natq f n = ∑ q, f q := by
  rw [Finset.sum_range]; exact Finset.sum_congr rfl fun q _ => natq_val f q

/-- The sum after a point: the shares of the blocks of tokens met in this column block. -/
abbrev part (c : Dev nD) (t : Fin cfg0.N) (r : Fin 1024) (e : Fin 1024) : EReal :=
  ∑ k ∈ Finset.range ((tk t).val + 1), natq (share (m (c.tc.loc main_arg0)) (m (c.tc.loc main_arg1)) (rw0 t r) (col t e)) k

theorem part_first (c : Dev nD) (t : Fin cfg0.N) (h : t.val % 4 = 0) (r : Fin 1024) (e : Fin 1024) :
    share (m (c.tc.loc main_arg0)) (m (c.tc.loc main_arg1)) (rw0 t r) (col t e) (tk t) = part m c t r e := by
  have h' : (tk t).val = 0 := h
  rw [← natq_val (share _ _ (rw0 t r) (col t e)) (tk t)]
  unfold part
  rw [h', Finset.sum_range_one]

theorem part_next (c : Dev nD) (n : ℕ) (hn : n + 1 < cfg0.N) (h : (n + 1) % 4 ≠ 0) (r : Fin 1024) (e : Fin 1024) :
    part m c ⟨n, Nat.lt_of_succ_lt hn⟩ r e
        + share (m (c.tc.loc main_arg0)) (m (c.tc.loc main_arg1)) (rw0 ⟨n + 1, hn⟩ r) (col ⟨n + 1, hn⟩ e) (tk ⟨n + 1, hn⟩)
      = part m c ⟨n + 1, hn⟩ r e := by
  have e1 : (tk ⟨n + 1, hn⟩).val = (tk ⟨n, Nat.lt_of_succ_lt hn⟩).val + 1 := by show (n + 1) % 4 = n % 4 + 1; omega
  have e3 : rw0 ⟨n, Nat.lt_of_succ_lt hn⟩ r = rw0 ⟨n + 1, hn⟩ r := Fin.ext (by show n / 4 * 1024 + r.val = (n + 1) / 4 * 1024 + r.val; omega)
  have e2 : col ⟨n, Nat.lt_of_succ_lt hn⟩ e = col ⟨n + 1, hn⟩ e := Fin.ext (by show n / 4 % 1 * 1024 + e.val = (n + 1) / 4 % 1 * 1024 + e.val; omega)
  unfold part
  rw [Finset.sum_range_succ _ (tk ⟨n + 1, hn⟩).val, natq_val, e2, e3, ← e1]

theorem scratch (c : Dev nD) (n : ℕ) : ∀ (hn : n < cfg0.N) (r : Fin 1024) (e : Fin 1024),
    (outsAt0 m c n hn).2 (ix2 r e) = part m c ⟨n, hn⟩ r e := by
  induction n with
  | zero =>
    intro hn r e
    rw [outsAt0_A m c ⟨0, hn⟩ (Nat.zero_mod _) (by show ¬1 ≤ 0 % 4; omega) (by show ¬0 % 4 = 3; omega)]
    dsimp only
    rw [sA]
    exact ((pay2_apply _ _ r e).trans (blk_share m c ⟨0, hn⟩ r e)).trans (part_first m c ⟨0, hn⟩ (Nat.zero_mod _) r e)
  | succ n ih =>
    intro hn r e
    by_cases h0 : (n + 1) % 4 = 0
    · rw [outsAt0_A m c ⟨n + 1, hn⟩ h0 (by show ¬1 ≤ (n + 1) % 4; omega) (by show ¬(n + 1) % 4 = 3; omega)]
      dsimp only
      rw [sA]
      exact ((pay2_apply _ _ r e).trans (blk_share m c ⟨n + 1, hn⟩ r e)).trans (part_first m c ⟨n + 1, hn⟩ h0 r e)
    · have h1 : 1 ≤ (n + 1) % 4 := by omega
      refine Eq.trans ?_ (part_next m c n hn h0 r e)
      rw [← ih (Nat.lt_of_succ_lt hn) r e, ← blk_share m c ⟨n + 1, hn⟩ r e]
      by_cases h2 : (n + 1) % 4 = 3
      · rw [outsAt0_C m c ⟨n + 1, hn⟩ h0 h1 h2]
        dsimp only
        rw [sC]
        exact pay3_apply _ _ _ r e
      · rw [outsAt0_B m c ⟨n + 1, hn⟩ h0 h1 h2]
        dsimp only
        rw [sB]
        exact pay3_apply _ _ _ r e

/-- The last point of a column block stores what the scratch buffer then holds. -/
theorem out_scratch (c : Dev nD) (t : Fin cfg0.N) (h : t.val % 4 = 3) : (outsAt0 m c t.val t.isLt).1 = (outsAt0 m c t.val t.isLt).2 := by
  rw [outsAt0_C m c t (by omega) (by omega) h]
  dsimp only
  rw [oC, sC]

theorem out_apply (c : Dev nD) (t : Fin cfg0.N) (h : t.val % 4 = 3) (r : Fin 1024) (e : Fin 1024) :
    (outsAt0 m c t.val t.isLt).1 (ix2 r e) = res m c (ix2 (rw0 t r) (col t e)) := by
  rw [out_scratch m c t h, scratch m c t.val t.isLt r e]
  have h' : (tk t).val = 3 := h
  show ∑ k ∈ Finset.range ((tk t).val + 1), _ = _
  rw [h', sum_natq]
  exact sum_share _ _ _ _

set_option maxRecDepth 16384 in
theorem flushed_eq (c : Dev nD) (t : Fin cfg0.N) (h : t.val % 4 = 3) :
    (dats m 0 c).flushed 2 t = ((cfg0.win 2).blk t).view.read (Elt Ideal) (res m c) := by
  rw [Value.flushed2]
  funext j
  obtain ⟨r, e, rfl⟩ : ∃ (r : Fin 1024) (e : Fin 1024), j = ix2 r e := ⟨j 0, j 1, eq_ix2 _⟩
  rw [View.read_apply, emb2]
  exact out_apply m c t h r e

/-- Every index of the result lies in the block of the last point of its block. -/
theorem cover (i : S2048x1024.Idx) : ∃ (t : Fin cfg0.N) (r : Fin 1024) (e : Fin 1024), t.val % 4 = 3 ∧ i = ix2 (rw0 t r) (col t e) := by
  have h0 : (i 0 : Nat) < 2048 := (i 0).isLt
  have h1 : (i 1 : Nat) < 1024 := (i 1).isLt
  have hN : ((i 0 : Nat) / 1024 * 1 + (i 1 : Nat) / 1024) * 4 + 3 < cfg0.N := by rw [N_all]; omega
  refine ⟨⟨((i 0 : Nat) / 1024 * 1 + (i 1 : Nat) / 1024) * 4 + 3, hN⟩, ⟨(i 0 : Nat) % 1024, by omega⟩, ⟨(i 1 : Nat) % 1024, by omega⟩, by show (((i 0 : Nat) / 1024 * 1 + (i 1 : Nat) / 1024) * 4 + 3) % 4 = 3; omega, ?_⟩
  funext a; apply Fin.ext
  match a with
  | ⟨0, _⟩ => show (i 0 : Nat) = (((i 0 : Nat) / 1024 * 1 + (i 1 : Nat) / 1024) * 4 + 3) / 4 * 1024 + (i 0 : Nat) % 1024; omega
  | ⟨1, _⟩ => show (i 1 : Nat) = (((i 0 : Nat) / 1024 * 1 + (i 1 : Nat) / 1024) * 4 + 3) / 4 % 1 * 1024 + (i 1 : Nat) % 1024; omega

theorem final (c : Dev nD) : (dats m 0 c).arrAt 2 cfg0.N = res m c :=
  (dats m 0 c).arrAt_eq_of_cover 2 (res m c) (fun t hf => flushed_eq m c t ((flush0_2 t).mp hf)) fun i => by
    obtain ⟨t, r, e, h, he⟩ := cover i
    exact ⟨t, (flush0_2 t).mpr h, by rw [he, ← emb2]; exact View.emb_mem_set _ _⟩

/-! ## The reference, element by element -/

theorem dot_apply (d : FVec Ideal Cert.MixDwReferenceIdeal.S8192x1024 .f32) (a : FVec Ideal Cert.MixDwReferenceIdeal.S8192x2048 .f32) (u : Fin 1024) (r : Fin 2048) :
    Host.dotGeneral Cert.MixDwReferenceIdeal.dot_S8192x1024_S8192x2048_S1024x2048_0_0_1_1_n_n none d a (ix2 u r)
      = ∑ x : Fin 8192, (d (ix2 x u) : EReal) * a (ix2 x r) := by
  rw [← matmul_zero_eq_dotGeneral]
  refine (Cert.AttnVal.matT_apply Cert.MixDwReferenceIdeal.Facts₀.dot_S8192x1024_S8192x2048_S1024x2048_0_0_1_1_n_n_wf d a (constant Cert.MixDwReferenceIdeal.S1024x2048 .f32 0x00000000#32) u r).trans ?_
  show Ideal.ofBits .f32 0x00000000#32 + _ = _
  rw [show Ideal.ofBits .f32 0x00000000#32 = 0 by simp [Ideal.ofBits, Ideal.ieee], zero_add]

theorem frame_p : Cert.quiescent_MixDwKernel := fun m ρ _ => Cert.MixDwKernel.Gen.frame m ρ
theorem frame_pi : Cert.quiescent_MixDwKernelIdeal := fun m ρ _ => Cert.MixDwKernelIdeal.Gen.frame m ρ
theorem frame_ri : Cert.quiescent_MixDwReferenceIdeal := fun m ρ _ =>
  (θ_run Cert.MixDwReferenceIdeal.defs _ _).mono (fun r h => ⟨fun c => (h c).2, sem_eq_zero_of_no_sems (by decide) r.2⟩)
    (Cert.MixDwReferenceIdeal.Value.run (F := Ideal) m ρ)

theorem preserves : Cert.preserves_MixDwKernel_MixDwKernelIdeal := trivial

theorem algebraic : Cert.algebraic_MixDwKernelIdeal_MixDwReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.MixDwReferenceIdeal.defs _ _).mono (fun r h c => ⟨(h c).1.trans ?_, (h c).2⟩)
      (Cert.MixDwReferenceIdeal.Value.run (F := Ideal) m' ρ')
    rw [(hagree c).1, (hagree c).2]
    funext j
    obtain ⟨r, u, rfl⟩ : ∃ (r : Fin 2048) (u : Fin 1024), j = ix2 r u := ⟨j 0, j 1, eq_ix2 _⟩
    rw [transpose_apply (k := ix2 u r)]
    · exact (dot_apply _ _ u r).trans (Finset.sum_congr rfl fun x _ => mul_comm _ _)
    · intro b
      match b with
      | ⟨0, _⟩ => rfl
      | ⟨1, _⟩ => rfl

end Cert.MixDw

end
-- ==== Proof.Mix.lean ====
/- The mixers' output projections: block by block the kernel computes the whole product. -/
module

public import proofs.«01_k».proof.Defs
public import proofs.«01_k».proof.Proof.Gen.MixKernel.Frame
public import proofs.«01_k».proof.Proof.Gen.MixKernelIdeal.Value
public import proofs.«01_k».proof.Proof.Gen.MixReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.Mix

open Cert.MixKernelIdeal Cert.MixKernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The whole arrays' product. -/
def pr (a : S8192x2048.Idx → EReal) (w : S2048x1024.Idx → EReal) : S8192x1024.Idx → EReal := fun j => ∑ k : Fin 2048, a (ix2 (j 0) k) * w (ix2 k (j 1))

variable (m : (ℓ : Loc nD τ sig) → Buf (Elt Ideal) ℓ) (ρ : Dev nD → PrngReg)

theorem pay1_apply (x : Vec Ideal S1024x2048 .bf16) (w : Vec Ideal S2048x1024 .bf16) (r : Fin 1024) (c : Fin 1024) :
    k0_pay1 (F := Ideal) x w (ix2 r c) = ∑ k : Fin 2048, (x (ix2 r k) : EReal) * w (ix2 k c) := by
  show FloatOps.matmul (F := Ideal) (φ₁ := .bf16) (φ₂ := .bf16) (DotDims.plain 1024 2048 1024) none x w (constant S1024x1024 .f32 0x00000000#32) (ix2 r c) = _
  rw [Ideal.matmul_plain_apply]
  show Ideal.ofBits .f32 0x00000000#32 + _ = _
  rw [show Ideal.ofBits .f32 0x00000000#32 = 0 by simp [Ideal.ofBits, Ideal.ieee], zero_add]

theorem out_apply (x0 : Vec Ideal S1024x2048 .bf16) (x1 : Vec Ideal S2048x1024 .bf16) (r : Fin 1024) (c : Fin 1024) :
    out0_2 (F := Ideal) x0 x1 (ix2 r c) = ∑ k : Fin 2048, (x0 (ix2 r k) : EReal) * x1 (ix2 k c) := by
  unfold out0_2
  rw [View.canon_unit_zero hz]
  simp only [View.ld_unit_zero (S := S1024x2048) hz, View.ld_unit_zero (S := S2048x1024) hz]
  exact pay1_apply _ _ _ _

/-- Where the windows' blocks lie. -/
theorem idx_facts : ∀ t : Fin grid0.N, win0_0.index t 0 = t.val / 1 ∧ win0_0.index t 1 = 0 ∧ win0_1.index t 0 = 0 ∧ win0_1.index t 1 = t.val % 1
    ∧ win0_2.index t 0 = t.val / 1 ∧ win0_2.index t 1 = t.val % 1 := by decide +kernel

theorem NN : cfg0.N = 8 := N_0

/-- The row of the whole array that row `r` of point `t`'s blocks is, and the column. -/
def row (t : Fin cfg0.N) (r : Fin 1024) : Fin 8192 := ⟨t.val / 1 * 1024 + r.val, by have := lt_of_lt_of_eq t.isLt NN; have := r.isLt; omega⟩
def col (t : Fin cfg0.N) (e : Fin 1024) : Fin 1024 := ⟨t.val % 1 * 1024 + e.val, by have := e.isLt; omega⟩

theorem iblk0 (c : Dev nD) (t : Fin cfg0.N) (r : Fin 1024) (k : Fin 2048) :
    iblk m c 0 t (ix2 r k) = m (c.tc.loc main_arg0) (ix2 (row t r) k) := by
  unfold iblk; rw [View.read_apply]
  show m (c.tc.loc main_arg0) _ = _
  congr 1; funext a; apply Fin.ext
  match a with
  | ⟨0, _⟩ => show win0_0.index t 0 * 1024 + 1 * r.val = t.val / 1 * 1024 + r.val; rw [(idx_facts t).1]; omega
  | ⟨1, _⟩ => show win0_0.index t 1 * 2048 + 1 * k.val = k.val; rw [(idx_facts t).2.1]; omega

theorem iblk1 (c : Dev nD) (t : Fin cfg0.N) (k : Fin 2048) (e : Fin 1024) :
    iblk m c 1 t (ix2 k e) = m (c.tc.loc main_arg1) (ix2 k (col t e)) := by
  unfold iblk; rw [View.read_apply]
  show m (c.tc.loc main_arg1) _ = _
  congr 1; funext a; apply Fin.ext
  match a with
  | ⟨0, _⟩ => show win0_1.index t 0 * 2048 + 1 * k.val = k.val; rw [(idx_facts t).2.2.1]; omega
  | ⟨1, _⟩ => show win0_1.index t 1 * 1024 + 1 * e.val = t.val % 1 * 1024 + e.val; rw [(idx_facts t).2.2.2.1]; omega

/-- The result array as a function of the arguments at launch. -/
abbrev res (c : Dev nD) : S8192x1024.Idx → EReal := pr (m (c.tc.loc main_arg0)) (m (c.tc.loc main_arg1))

theorem emb (t : Fin cfg0.N) (r : Fin 1024) (e : Fin 1024) : ((cfg0.win 2).blk t).view.emb (ix2 r e) = ix2 (row t r) (col t e) := by
  funext a; apply Fin.ext
  match a with
  | ⟨0, _⟩ => show win0_2.index t 0 * 1024 + 1 * r.val = t.val / 1 * 1024 + r.val; rw [(idx_facts t).2.2.2.2.1]; omega
  | ⟨1, _⟩ => show win0_2.index t 1 * 1024 + 1 * e.val = t.val % 1 * 1024 + e.val; rw [(idx_facts t).2.2.2.2.2]; omega

theorem flushed_eq (c : Dev nD) (t : Fin cfg0.N) :
    (dats m 0 c).flushed 2 t = ((cfg0.win 2).blk t).view.read (Elt Ideal) (res m c) := by
  rw [Value.flushed2]
  funext j
  obtain ⟨r, e, rfl⟩ : ∃ (r : Fin 1024) (e : Fin 1024), j = ix2 r e := ⟨j 0, j 1, eq_ix2 _⟩
  rw [View.read_apply, emb]
  refine (out_apply _ _ r e).trans ?_
  simp only [iblk0, iblk1]
  rfl

/-- Every index of the result lies in one point's block. -/
theorem cover (i : S8192x1024.Idx) : ∃ (t : Fin cfg0.N) (r : Fin 1024) (e : Fin 1024), i = ix2 (row t r) (col t e) := by
  have h0 : (i 0 : Nat) < 8192 := (i 0).isLt
  have h1 : (i 1 : Nat) < 1024 := (i 1).isLt
  have hN : (i 0 : Nat) / 1024 * 1 + (i 1 : Nat) / 1024 < cfg0.N := by rw [NN]; omega
  refine ⟨⟨(i 0 : Nat) / 1024 * 1 + (i 1 : Nat) / 1024, hN⟩, ⟨(i 0 : Nat) % 1024, by omega⟩, ⟨(i 1 : Nat) % 1024, by omega⟩, ?_⟩
  funext a; apply Fin.ext
  match a with
  | ⟨0, _⟩ => show (i 0 : Nat) = ((i 0 : Nat) / 1024 * 1 + (i 1 : Nat) / 1024) / 1 * 1024 + (i 0 : Nat) % 1024; omega
  | ⟨1, _⟩ => show (i 1 : Nat) = ((i 0 : Nat) / 1024 * 1 + (i 1 : Nat) / 1024) % 1 * 1024 + (i 1 : Nat) % 1024; omega

theorem final (c : Dev nD) : (dats m 0 c).arrAt 2 cfg0.N = res m c :=
  (dats m 0 c).arrAt_eq_of_cover 2 (res m c) (fun t _ => flushed_eq m c t) fun i => by
    obtain ⟨t, r, e, he⟩ := cover i
    exact ⟨t, flush0_2 t, by rw [he, ← emb]; exact View.emb_mem_set _ _⟩

/-- The reference's product, element by element. -/
theorem dot_apply (x : FVec Ideal Cert.MixReferenceIdeal.S8192x2048 .f32) (w : FVec Ideal Cert.MixReferenceIdeal.S2048x1024 .f32) :
    Host.dotGeneral Cert.MixReferenceIdeal.dot_S8192x2048_S2048x1024_S8192x1024_1_0_0_1_n_n none x w = pr x w := by
  funext j
  obtain ⟨r, c, rfl⟩ : ∃ (r : Fin 8192) (c : Fin 1024), j = ix2 r c := ⟨j 0, j 1, eq_ix2 _⟩
  rw [← matmul_zero_eq_dotGeneral]
  show FloatOps.matmul (DotDims.plain 8192 2048 1024) none x w (constant Cert.MixReferenceIdeal.S8192x1024 .f32 0x00000000#32) (ix2 r c) = _
  rw [Ideal.matmul_plain_apply]
  show Ideal.ofBits .f32 0x00000000#32 + _ = _
  rw [show Ideal.ofBits .f32 0x00000000#32 = 0 by simp [Ideal.ofBits, Ideal.ieee], zero_add]
  rfl

theorem frame_p : Cert.quiescent_MixKernel := fun m ρ _ => Cert.MixKernel.Gen.frame m ρ
theorem frame_pi : Cert.quiescent_MixKernelIdeal := fun m ρ _ => Cert.MixKernelIdeal.Gen.frame m ρ
theorem frame_ri : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

theorem preserves : Cert.preserves_MixKernel_MixKernelIdeal := trivial

theorem algebraic : Cert.algebraic_MixKernelIdeal_MixReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.MixReferenceIdeal.defs _ _).mono (fun r h c => ⟨(h c).1.trans ?_, (h c).2⟩)
      (Cert.MixReferenceIdeal.Value.run (F := Ideal) m' ρ')
    rw [(hagree c).1, (hagree c).2]
    exact dot_apply _ _

end Cert.Mix

end
-- ==== Proof.DownDw.lean ====
/- The gradient of the down projection's weights: the kernel's sum over eight blocks of tokens is the whole product. -/
module

public import proofs.«01_k».proof.Defs
public import proofs.«01_k».proof.Proof.Dw
public import proofs.«01_k».proof.Proof.Gen.DownDwKernel.Frame
public import proofs.«01_k».proof.Proof.Gen.DownDwKernelIdeal.Value
public import proofs.«01_k».proof.Proof.Gen.DownDwReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.DownDw

open Cert.DownDwKernelIdeal Cert.DownDwKernelIdeal.Gen Idealize.ShloMosaic Idealize.ShloMosaic.TcCoe Idealize.SL.Sem
open Idealize.ShloMosaic.ValueIdx
open Idealize.ShloMosaic.Pipeline (Dat)
open scoped BigOperators
open Cert.Dw (hz row sum_rows nat8 nat8_val sum_nat8)

/-! ## What each kind of point leaves -/

section points
variable (c : Dev nD) (i : grid0.Coords) (arg3 : Memref sig .tc .vmem S1024x1408 .bf16) (harg3 : arg3.IsWhole)
  (arg4 : Memref sig .tc .vmem S1024x1024 .bf16) (harg4 : arg4.IsWhole) (arg5 : Memref sig .tc .vmem S1408x1024 .f32) (harg5 : arg5.IsWhole)
  (arg6 : Memref sig .tc .vmem S1408x1024 .f32) (harg6 : arg6.IsWhole)
  (x0 : Vec Ideal S1024x1408 .bf16) (x1 : Vec Ideal S1024x1024 .bf16) (xs : Vec Ideal S1408x1024 .f32)

/-- The first point of a column block stores the block's product. -/
theorem sA (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  rw [View.readAt_eq_ld, View.readAt_eq_ld, harg3.read_unread, harg4.read_unread, View.ld_unit_zero hz, View.ld_unit_zero hz,
    View.read_writes_junk_eq_canon, View.canon_unit_zero hz]

/-- A later point adds its product. -/
theorem sB (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0 kernelRun0_B
  dsimp only
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- So does the last one, -/
theorem sC (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0 kernelRun0_C
  dsimp only
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.read_writes_junk_eq_canon, View.canon_unit_zero hz]

/-- which also stores the sum into the result's block. -/
theorem oC (hc0 : ¬cond0_0 i) (hc1 : cond0_1 i) (hc2 : cond0_2 i) :
    out0_C_2 c i arg3 harg3 arg4 harg4 arg5 harg5 arg6 harg6 hc0 hc1 hc2 x0 x1 xs = k0_pay3 x0 x1 xs := by
  unfold out0_C_2 kernelRun0_C
  dsimp only
  rw [View.read_writes_junk_eq_canon, View.canon_unit_zero hz]
  unfold kernelRun0_C.sl.v12
  unfold View.readCov
  rw [View.readAt_writes_junk_eq_canon]
  unfold kernelRun0_C.sl.HS0_1
  rw [View.readAt_eq_ld, View.readAt_eq_ld, View.readAt_eq_ld, harg3.read_unread, harg4.read_unread, harg6.read_unread,
    View.ld_unit_zero hz, View.ld_unit_zero hz, View.ld_unit_zero hz, View.canon_unit_zero hz]
  funext j
  refine congrArg (k0_pay3 x0 x1 xs) (funext fun a => Fin.ext ?_)
  match a with
  | ⟨0, _⟩ => show 0 + 1 * (j 0).val = (j 0).val; omega
  | ⟨1, _⟩ => show 0 + 1 * (j 1).val = (j 1).val; omega

end points

variable (m : (ℓ : Loc nD τ sig) → Buf (Elt Ideal) ℓ) (ρ : Dev nD → PrngReg)

/-! ## The sum over the blocks of tokens -/

theorem N_all : cfg0.N = 16 := N_0

/-- The block of tokens of a point, -/
def tk (t : Fin cfg0.N) : Fin 8 := ⟨t.val % 8, by omega⟩
/-- and the whole array's column that column `e` of its blocks is. -/
def col (t : Fin cfg0.N) (e : Fin 1024) : Fin 1024 := ⟨t.val / 8 % 1 * 1024 + e.val, by have := lt_of_lt_of_eq t.isLt N_all; have := e.isLt; omega⟩
/-- The row. -/
def rw0 (t : Fin cfg0.N) (r : Fin 1408) : Fin 2816 := ⟨t.val / 8 * 1408 + r.val, by have := lt_of_lt_of_eq t.isLt N_all; have := r.isLt; omega⟩

theorem idx_facts : ∀ t : Fin grid0.N, win0_0.index t 0 = t.val % 8 ∧ win0_0.index t 1 = t.val / 8 ∧ win0_1.index t 0 = t.val % 8
    ∧ win0_1.index t 1 = t.val / 8 % 1 ∧ win0_2.index t 0 = t.val / 8 ∧ win0_2.index t 1 = t.val / 8 % 1 := by decide +kernel

theorem iblk0 (c : Dev nD) (t : Fin cfg0.N) (x : Fin 1024) (r : Fin 1408) :
    iblk m c 0 t (ix2 x r) = m (c.tc.loc main_arg0) (ix2 (row (tk t) x) (rw0 t r)) := by
  unfold iblk; rw [View.read_apply]
  show m (c.tc.loc main_arg0) _ = _
  congr 1; funext a; apply Fin.ext
  match a with
  | ⟨0, _⟩ => show win0_0.index t 0 * 1024 + 1 * x.val = 1024 * (t.val % 8) + x.val; rw [(idx_facts t).1]; omega
  | ⟨1, _⟩ => show win0_0.index t 1 * 1408 + 1 * r.val = t.val / 8 * 1408 + r.val; rw [(idx_facts t).2.1]; omega

theorem iblk1 (c : Dev nD) (t : Fin cfg0.N) (x : Fin 1024) (e : Fin 1024) :
    iblk m c 1 t (ix2 x e) = m (c.tc.loc main_arg1) (ix2 (row (tk t) x) (col t e)) := by
  unfold iblk; rw [View.read_apply]
  show m (c.tc.loc main_arg1) _ = _
  congr 1; funext a; apply Fin.ext
  match a with
  | ⟨0, _⟩ => show win0_1.index t 0 * 1024 + 1 * x.val = 1024 * (t.val % 8) + x.val; rw [(idx_facts t).2.2.1]; omega
  | ⟨1, _⟩ => show win0_1.index t 1 * 1024 + 1 * e.val = t.val / 8 % 1 * 1024 + e.val; rw [(idx_facts t).2.2.2.1]; omega

theorem emb2 (t : Fin cfg0.N) (r : Fin 1408) (e : Fin 1024) : ((cfg0.win 2).blk t).view.emb (ix2 r e) = ix2 (rw0 t r) (col t e) := by
  funext a; apply Fin.ext
  match a with
  | ⟨0, _⟩ => show win0_2.index t 0 * 1408 + 1 * r.val = t.val / 8 * 1408 + r.val; rw [(idx_facts t).2.2.2.2.1]; omega
  | ⟨1, _⟩ => show win0_2.index t 1 * 1024 + 1 * e.val = t.val / 8 % 1 * 1024 + e.val; rw [(idx_facts t).2.2.2.2.2]; omega

/-- One block of tokens' share of an element of the gradient. -/
def share (a : S8192x2816.Idx → EReal) (d : S8192x1024.Idx → EReal) (r : Fin 2816) (u : Fin 1024) (q : Fin 8) : EReal :=
  ∑ x : Fin 1024, a (ix2 (row q x) r) * d (ix2 (row q x) u)

/-- The gradient of the weights. -/
def dwG (a : S8192x2816.Idx → EReal) (d : S8192x1024.Idx → EReal) : S2816x1024.Idx → EReal := fun j =>
  ∑ x : Fin 8192, a (ix2 x (j 0)) * d (ix2 x (j 1))

abbrev res (c : Dev nD) : S2816x1024.Idx → EReal := dwG (m (c.tc.loc main_arg0)) (m (c.tc.loc main_arg1))

/-- One element of the product of two blocks. -/
def prod (x0 : Vec Ideal S1024x1408 .bf16) (x1 : Vec Ideal S1024x1024 .bf16) (r : Fin 1408) (e : Fin 1024) : EReal :=
  ∑ x : Fin 1024, (x0 (ix2 x r) : EReal) * x1 (ix2 x e)

theorem pay1_apply (x0 : Vec Ideal S1024x1408 .bf16) (x1 : Vec Ideal S1024x1024 .bf16) (r : Fin 1408) (e : Fin 1024) :
    k0_pay1 (F := Ideal) x0 x1 (ix2 r e) = prod x0 x1 r e := by
  refine (Cert.AttnVal.matT_apply Cert.DownDwKernelIdeal.Facts₀.dot_S1024x1408_S1024x1024_S1408x1024_0_0_1_1_n_n_wf x0 x1 (constant S1408x1024 .f32 0x00000000#32) r e).trans ?_
  show Ideal.ofBits .f32 0x00000000#32 + _ = _
  rw [show Ideal.ofBits .f32 0x00000000#32 = 0 by simp [Ideal.ofBits, Ideal.ieee], zero_add]
  rfl

theorem pay2_apply (x0 : Vec Ideal S1024x1408 .bf16) (x1 : Vec Ideal S1024x1024 .bf16) (r : Fin 1408) (e : Fin 1024) :
    k0_pay2 (F := Ideal) x0 x1 (ix2 r e) = prod x0 x1 r e := by
  unfold k0_pay2; rw [shapeCast_self]; exact pay1_apply _ _ _ _

theorem pay3_apply (x0 : Vec Ideal S1024x1408 .bf16) (x1 : Vec Ideal S1024x1024 .bf16) (xs : Vec Ideal S1408x1024 .f32) (r : Fin 1408) (e : Fin 1024) :
    k0_pay3 (F := Ideal) x0 x1 xs (ix2 r e) = (xs (ix2 r e) : EReal) + prod x0 x1 r e := by
  unfold k0_pay3; rw [shapeCast_self, ← pay1_apply]; rfl

theorem blk_share (c : Dev nD) (t : Fin cfg0.N) (r : Fin 1408) (e : Fin 1024) :
    prod (iblk m c 0 t) (iblk m c 1 t) r e
      = share (m (c.tc.loc main_arg0)) (m (c.tc.loc main_arg1)) (rw0 t r) (col t e) (tk t) :=
  Finset.sum_congr rfl fun x _ => congrArg₂ (fun a b : EReal => a * b) (iblk0 m c t x r) (iblk1 m c t x e)

theorem sum_share (a : S8192x2816.Idx → EReal) (d : S8192x1024.Idx → EReal) (r : Fin 2816) (u : Fin 1024) :
    ∑ q, share a d r u q = dwG a d (ix2 r u) := (sum_rows fun x => a (ix2 x r) * d (ix2 x u)).symm

/-- The sum after a point: the shares of the blocks of tokens met in this column block. -/
abbrev part (c : Dev nD) (t : Fin cfg0.N) (r : Fin 1408) (e : Fin 1024) : EReal :=
  ∑ k ∈ Finset.range ((tk t).val + 1), nat8 (share (m (c.tc.loc main_arg0)) (m (c.tc.loc main_arg1)) (rw0 t r) (col t e)) k

theorem part_first (c : Dev nD) (t : Fin cfg0.N) (h : t.val % 8 = 0) (r : Fin 1408) (e : Fin 1024) :
    share (m (c.tc.loc main_arg0)) (m (c.tc.loc main_arg1)) (rw0 t r) (col t e) (tk t) = part m c t r e := by
  have h' : (tk t).val = 0 := h
  rw [← nat8_val (share _ _ (rw0 t r) (col t e)) (tk t)]
  unfold part
  rw [h', Finset.sum_range_one]

theorem part_next (c : Dev nD) (n : ℕ) (hn : n + 1 < cfg0.N) (h : (n + 1) % 8 ≠ 0) (r : Fin 1408) (e : Fin 1024) :
    part m c ⟨n, Nat.lt_of_succ_lt hn⟩ r e
        + share (m (c.tc.loc main_arg0)) (m (c.tc.loc main_arg1)) (rw0 ⟨n + 1, hn⟩ r) (col ⟨n + 1, hn⟩ e) (tk ⟨n + 1, hn⟩)
      = part m c ⟨n + 1, hn⟩ r e := by
  have e1 : (tk ⟨n + 1, hn⟩).val = (tk ⟨n, Nat.lt_of_succ_lt hn⟩).val + 1 := by show (n + 1) % 8 = n % 8 + 1; omega
  have e3 : rw0 ⟨n, Nat.lt_of_succ_lt hn⟩ r = rw0 ⟨n + 1, hn⟩ r := Fin.ext (by show n / 8 * 1408 + r.val = (n + 1) / 8 * 1408 + r.val; omega)
  have e2 : col ⟨n, Nat.lt_of_succ_lt hn⟩ e = col ⟨n + 1, hn⟩ e := Fin.ext (by show n / 8 % 1 * 1024 + e.val = (n + 1) / 8 % 1 * 1024 + e.val; omega)
  unfold part
  rw [Finset.sum_range_succ _ (tk ⟨n + 1, hn⟩).val, nat8_val, e2, e3, ← e1]

theorem scratch (c : Dev nD) (n : ℕ) : ∀ (hn : n < cfg0.N) (r : Fin 1408) (e : Fin 1024),
    (outsAt0 m c n hn).2 (ix2 r e) = part m c ⟨n, hn⟩ r e := by
  induction n with
  | zero =>
    intro hn r e
    rw [outsAt0_A m c ⟨0, hn⟩ (Nat.zero_mod _) (by show ¬1 ≤ 0 % 8; omega) (by show ¬0 % 8 = 7; omega)]
    dsimp only
    rw [sA]
    exact ((pay2_apply _ _ r e).trans (blk_share m c ⟨0, hn⟩ r e)).trans (part_first m c ⟨0, hn⟩ (Nat.zero_mod _) r e)
  | succ n ih =>
    intro hn r e
    by_cases h0 : (n + 1) % 8 = 0
    · rw [outsAt0_A m c ⟨n + 1, hn⟩ h0 (by show ¬1 ≤ (n + 1) % 8; omega) (by show ¬(n + 1) % 8 = 7; omega)]
      dsimp only
      rw [sA]
      exact ((pay2_apply _ _ r e).trans (blk_share m c ⟨n + 1, hn⟩ r e)).trans (part_first m c ⟨n + 1, hn⟩ h0 r e)
    · have h1 : 1 ≤ (n + 1) % 8 := by omega
      refine Eq.trans ?_ (part_next m c n hn h0 r e)
      rw [← ih (Nat.lt_of_succ_lt hn) r e, ← blk_share m c ⟨n + 1, hn⟩ r e]
      by_cases h2 : (n + 1) % 8 = 7
      · rw [outsAt0_C m c ⟨n + 1, hn⟩ h0 h1 h2]
        dsimp only
        rw [sC]
        exact pay3_apply _ _ _ r e
      · rw [outsAt0_B m c ⟨n + 1, hn⟩ h0 h1 h2]
        dsimp only
        rw [sB]
        exact pay3_apply _ _ _ r e

/-- The last point of a column block stores what the scratch buffer then holds. -/
theorem out_scratch (c : Dev nD) (t : Fin cfg0.N) (h : t.val % 8 = 7) : (outsAt0 m c t.val t.isLt).1 = (outsAt0 m c t.val t.isLt).2 := by
  rw [outsAt0_C m c t (by omega) (by omega) h]
  dsimp only
  rw [oC, sC]

theorem out_apply (c : Dev nD) (t : Fin cfg0.N) (h : t.val % 8 = 7) (r : Fin 1408) (e : Fin 1024) :
    (outsAt0 m c t.val t.isLt).1 (ix2 r e) = res m c (ix2 (rw0 t r) (col t e)) := by
  rw [out_scratch m c t h, scratch m c t.val t.isLt r e]
  have h' : (tk t).val = 7 := h
  show ∑ k ∈ Finset.range ((tk t).val + 1), _ = _
  rw [h', sum_nat8]
  exact sum_share _ _ _ _

set_option maxRecDepth 16384 in
theorem flushed_eq (c : Dev nD) (t : Fin cfg0.N) (h : t.val % 8 = 7) :
    (dats m 0 c).flushed 2 t = ((cfg0.win 2).blk t).view.read (Elt Ideal) (res m c) := by
  rw [Value.flushed2]
  funext j
  obtain ⟨r, e, rfl⟩ : ∃ (r : Fin 1408) (e : Fin 1024), j = ix2 r e := ⟨j 0, j 1, eq_ix2 _⟩
  rw [View.read_apply, emb2]
  exact out_apply m c t h r e

/-- Every index of the result lies in the block of the last point of its block. -/
theorem cover (i : S2816x1024.Idx) : ∃ (t : Fin cfg0.N) (r : Fin 1408) (e : Fin 1024), t.val % 8 = 7 ∧ i = ix2 (rw0 t r) (col t e) := by
  have h0 : (i 0 : Nat) < 2816 := (i 0).isLt
  have h1 : (i 1 : Nat) < 1024 := (i 1).isLt
  have hN : ((i 0 : Nat) / 1408 * 1 + (i 1 : Nat) / 1024) * 8 + 7 < cfg0.N := by rw [N_all]; omega
  refine ⟨⟨((i 0 : Nat) / 1408 * 1 + (i 1 : Nat) / 1024) * 8 + 7, hN⟩, ⟨(i 0 : Nat) % 1408, by omega⟩, ⟨(i 1 : Nat) % 1024, by omega⟩, by show (((i 0 : Nat) / 1408 * 1 + (i 1 : Nat) / 1024) * 8 + 7) % 8 = 7; omega, ?_⟩
  funext a; apply Fin.ext
  match a with
  | ⟨0, _⟩ => show (i 0 : Nat) = (((i 0 : Nat) / 1408 * 1 + (i 1 : Nat) / 1024) * 8 + 7) / 8 * 1408 + (i 0 : Nat) % 1408; omega
  | ⟨1, _⟩ => show (i 1 : Nat) = (((i 0 : Nat) / 1408 * 1 + (i 1 : Nat) / 1024) * 8 + 7) / 8 % 1 * 1024 + (i 1 : Nat) % 1024; omega

theorem final (c : Dev nD) : (dats m 0 c).arrAt 2 cfg0.N = res m c :=
  (dats m 0 c).arrAt_eq_of_cover 2 (res m c) (fun t hf => flushed_eq m c t ((flush0_2 t).mp hf)) fun i => by
    obtain ⟨t, r, e, h, he⟩ := cover i
    exact ⟨t, (flush0_2 t).mpr h, by rw [he, ← emb2]; exact View.emb_mem_set _ _⟩

/-! ## The reference, element by element -/

theorem dot_apply (d : FVec Ideal Cert.DownDwReferenceIdeal.S8192x1024 .f32) (a : FVec Ideal Cert.DownDwReferenceIdeal.S8192x2816 .f32) (u : Fin 1024) (r : Fin 2816) :
    Host.dotGeneral Cert.DownDwReferenceIdeal.dot_S8192x1024_S8192x2816_S1024x2816_0_0_1_1_n_n none d a (ix2 u r)
      = ∑ x : Fin 8192, (d (ix2 x u) : EReal) * a (ix2 x r) := by
  rw [← matmul_zero_eq_dotGeneral]
  refine (Cert.AttnVal.matT_apply Cert.DownDwReferenceIdeal.Facts₀.dot_S8192x1024_S8192x2816_S1024x2816_0_0_1_1_n_n_wf d a (constant Cert.DownDwReferenceIdeal.S1024x2816 .f32 0x00000000#32) u r).trans ?_
  show Ideal.ofBits .f32 0x00000000#32 + _ = _
  rw [show Ideal.ofBits .f32 0x00000000#32 = 0 by simp [Ideal.ofBits, Ideal.ieee], zero_add]

theorem frame_p : Cert.quiescent_DownDwKernel := fun m ρ _ => Cert.DownDwKernel.Gen.frame m ρ
theorem frame_pi : Cert.quiescent_DownDwKernelIdeal := fun m ρ _ => Cert.DownDwKernelIdeal.Gen.frame m ρ
theorem frame_ri : Cert.quiescent_DownDwReferenceIdeal := fun m ρ _ =>
  (θ_run Cert.DownDwReferenceIdeal.defs _ _).mono (fun r h => ⟨fun c => (h c).2, sem_eq_zero_of_no_sems (by decide) r.2⟩)
    (Cert.DownDwReferenceIdeal.Value.run (F := Ideal) m ρ)

theorem preserves : Cert.preserves_DownDwKernel_DownDwKernelIdeal := trivial

theorem algebraic : Cert.algebraic_DownDwKernelIdeal_DownDwReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.DownDwReferenceIdeal.defs _ _).mono (fun r h c => ⟨(h c).1.trans ?_, (h c).2⟩)
      (Cert.DownDwReferenceIdeal.Value.run (F := Ideal) m' ρ')
    rw [(hagree c).1, (hagree c).2]
    funext j
    obtain ⟨r, u, rfl⟩ : ∃ (r : Fin 2816) (u : Fin 1024), j = ix2 r u := ⟨j 0, j 1, eq_ix2 _⟩
    rw [transpose_apply (k := ix2 u r)]
    · exact (dot_apply _ _ u r).trans (Finset.sum_congr rfl fun x _ => mul_comm _ _)
    · intro b
      match b with
      | ⟨0, _⟩ => rfl
      | ⟨1, _⟩ => rfl

end Cert.DownDw

end
-- ==== Proof.Down.lean ====
/- The down projection: block by block the kernel computes the whole product. -/
module

public import proofs.«01_k».proof.Defs
public import proofs.«01_k».proof.Proof.Gen.DownKernel.Frame
public import proofs.«01_k».proof.Proof.Gen.DownKernelIdeal.Value
public import proofs.«01_k».proof.Proof.Gen.DownReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Quiescent

@[expose] public section

noncomputable section

namespace Cert.Down

open Cert.DownKernelIdeal Cert.DownKernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The whole arrays' product. -/
def pr (a : S8192x2816.Idx → EReal) (w : S2816x1024.Idx → EReal) : S8192x1024.Idx → EReal := fun j => ∑ k : Fin 2816, a (ix2 (j 0) k) * w (ix2 k (j 1))

variable (m : (ℓ : Loc nD τ sig) → Buf (Elt Ideal) ℓ) (ρ : Dev nD → PrngReg)

theorem pay1_apply (x : Vec Ideal S1024x2816 .bf16) (w : Vec Ideal S2816x1024 .bf16) (r : Fin 1024) (c : Fin 1024) :
    k0_pay1 (F := Ideal) x w (ix2 r c) = ∑ k : Fin 2816, (x (ix2 r k) : EReal) * w (ix2 k c) := by
  show FloatOps.matmul (F := Ideal) (φ₁ := .bf16) (φ₂ := .bf16) (DotDims.plain 1024 2816 1024) none x w (constant S1024x1024 .f32 0x00000000#32) (ix2 r c) = _
  rw [Ideal.matmul_plain_apply]
  show Ideal.ofBits .f32 0x00000000#32 + _ = _
  rw [show Ideal.ofBits .f32 0x00000000#32 = 0 by simp [Ideal.ofBits, Ideal.ieee], zero_add]

theorem out_apply (x0 : Vec Ideal S1024x2816 .bf16) (x1 : Vec Ideal S2816x1024 .bf16) (r : Fin 1024) (c : Fin 1024) :
    out0_2 (F := Ideal) x0 x1 (ix2 r c) = ∑ k : Fin 2816, (x0 (ix2 r k) : EReal) * x1 (ix2 k c) := by
  unfold out0_2
  rw [View.canon_unit_zero hz]
  simp only [View.ld_unit_zero (S := S1024x2816) hz, View.ld_unit_zero (S := S2816x1024) hz]
  exact pay1_apply _ _ _ _

/-- Where the windows' blocks lie. -/
theorem idx_facts : ∀ t : Fin grid0.N, win0_0.index t 0 = t.val / 1 ∧ win0_0.index t 1 = 0 ∧ win0_1.index t 0 = 0 ∧ win0_1.index t 1 = t.val % 1
    ∧ win0_2.index t 0 = t.val / 1 ∧ win0_2.index t 1 = t.val % 1 := by decide +kernel

theorem NN : cfg0.N = 8 := N_0

/-- The row of the whole array that row `r` of point `t`'s blocks is, and the column. -/
def row (t : Fin cfg0.N) (r : Fin 1024) : Fin 8192 := ⟨t.val / 1 * 1024 + r.val, by have := lt_of_lt_of_eq t.isLt NN; have := r.isLt; omega⟩
def col (t : Fin cfg0.N) (e : Fin 1024) : Fin 1024 := ⟨t.val % 1 * 1024 + e.val, by have := e.isLt; omega⟩

theorem iblk0 (c : Dev nD) (t : Fin cfg0.N) (r : Fin 1024) (k : Fin 2816) :
    iblk m c 0 t (ix2 r k) = m (c.tc.loc main_arg0) (ix2 (row t r) k) := by
  unfold iblk; rw [View.read_apply]
  show m (c.tc.loc main_arg0) _ = _
  congr 1; funext a; apply Fin.ext
  match a with
  | ⟨0, _⟩ => show win0_0.index t 0 * 1024 + 1 * r.val = t.val / 1 * 1024 + r.val; rw [(idx_facts t).1]; omega
  | ⟨1, _⟩ => show win0_0.index t 1 * 2816 + 1 * k.val = k.val; rw [(idx_facts t).2.1]; omega

theorem iblk1 (c : Dev nD) (t : Fin cfg0.N) (k : Fin 2816) (e : Fin 1024) :
    iblk m c 1 t (ix2 k e) = m (c.tc.loc main_arg1) (ix2 k (col t e)) := by
  unfold iblk; rw [View.read_apply]
  show m (c.tc.loc main_arg1) _ = _
  congr 1; funext a; apply Fin.ext
  match a with
  | ⟨0, _⟩ => show win0_1.index t 0 * 2816 + 1 * k.val = k.val; rw [(idx_facts t).2.2.1]; omega
  | ⟨1, _⟩ => show win0_1.index t 1 * 1024 + 1 * e.val = t.val % 1 * 1024 + e.val; rw [(idx_facts t).2.2.2.1]; omega

/-- The result array as a function of the arguments at launch. -/
abbrev res (c : Dev nD) : S8192x1024.Idx → EReal := pr (m (c.tc.loc main_arg0)) (m (c.tc.loc main_arg1))

theorem emb (t : Fin cfg0.N) (r : Fin 1024) (e : Fin 1024) : ((cfg0.win 2).blk t).view.emb (ix2 r e) = ix2 (row t r) (col t e) := by
  funext a; apply Fin.ext
  match a with
  | ⟨0, _⟩ => show win0_2.index t 0 * 1024 + 1 * r.val = t.val / 1 * 1024 + r.val; rw [(idx_facts t).2.2.2.2.1]; omega
  | ⟨1, _⟩ => show win0_2.index t 1 * 1024 + 1 * e.val = t.val % 1 * 1024 + e.val; rw [(idx_facts t).2.2.2.2.2]; omega

theorem flushed_eq (c : Dev nD) (t : Fin cfg0.N) :
    (dats m 0 c).flushed 2 t = ((cfg0.win 2).blk t).view.read (Elt Ideal) (res m c) := by
  rw [Value.flushed2]
  funext j
  obtain ⟨r, e, rfl⟩ : ∃ (r : Fin 1024) (e : Fin 1024), j = ix2 r e := ⟨j 0, j 1, eq_ix2 _⟩
  rw [View.read_apply, emb]
  refine (out_apply _ _ r e).trans ?_
  simp only [iblk0, iblk1]
  rfl

/-- Every index of the result lies in one point's block. -/
theorem cover (i : S8192x1024.Idx) : ∃ (t : Fin cfg0.N) (r : Fin 1024) (e : Fin 1024), i = ix2 (row t r) (col t e) := by
  have h0 : (i 0 : Nat) < 8192 := (i 0).isLt
  have h1 : (i 1 : Nat) < 1024 := (i 1).isLt
  have hN : (i 0 : Nat) / 1024 * 1 + (i 1 : Nat) / 1024 < cfg0.N := by rw [NN]; omega
  refine ⟨⟨(i 0 : Nat) / 1024 * 1 + (i 1 : Nat) / 1024, hN⟩, ⟨(i 0 : Nat) % 1024, by omega⟩, ⟨(i 1 : Nat) % 1024, by omega⟩, ?_⟩
  funext a; apply Fin.ext
  match a with
  | ⟨0, _⟩ => show (i 0 : Nat) = ((i 0 : Nat) / 1024 * 1 + (i 1 : Nat) / 1024) / 1 * 1024 + (i 0 : Nat) % 1024; omega
  | ⟨1, _⟩ => show (i 1 : Nat) = ((i 0 : Nat) / 1024 * 1 + (i 1 : Nat) / 1024) % 1 * 1024 + (i 1 : Nat) % 1024; omega

theorem final (c : Dev nD) : (dats m 0 c).arrAt 2 cfg0.N = res m c :=
  (dats m 0 c).arrAt_eq_of_cover 2 (res m c) (fun t _ => flushed_eq m c t) fun i => by
    obtain ⟨t, r, e, he⟩ := cover i
    exact ⟨t, flush0_2 t, by rw [he, ← emb]; exact View.emb_mem_set _ _⟩

/-- The reference's product, element by element. -/
theorem dot_apply (x : FVec Ideal Cert.DownReferenceIdeal.S8192x2816 .f32) (w : FVec Ideal Cert.DownReferenceIdeal.S2816x1024 .f32) :
    Host.dotGeneral Cert.DownReferenceIdeal.dot_S8192x2816_S2816x1024_S8192x1024_1_0_0_1_n_n none x w = pr x w := by
  funext j
  obtain ⟨r, c, rfl⟩ : ∃ (r : Fin 8192) (c : Fin 1024), j = ix2 r c := ⟨j 0, j 1, eq_ix2 _⟩
  rw [← matmul_zero_eq_dotGeneral]
  show FloatOps.matmul (DotDims.plain 8192 2816 1024) none x w (constant Cert.DownReferenceIdeal.S8192x1024 .f32 0x00000000#32) (ix2 r c) = _
  rw [Ideal.matmul_plain_apply]
  show Ideal.ofBits .f32 0x00000000#32 + _ = _
  rw [show Ideal.ofBits .f32 0x00000000#32 = 0 by simp [Ideal.ofBits, Ideal.ieee], zero_add]
  rfl

theorem frame_p : Cert.quiescent_DownKernel := fun m ρ _ => Cert.DownKernel.Gen.frame m ρ
theorem frame_pi : Cert.quiescent_DownKernelIdeal := fun m ρ _ => Cert.DownKernelIdeal.Gen.frame m ρ
theorem frame_ri : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem preserves : Cert.preserves_DownKernel_DownKernelIdeal := trivial

theorem algebraic : Cert.algebraic_DownKernelIdeal_DownReferenceIdeal := by
  intro m ρ m' ρ' hpre hagree
  refine ⟨fun c => res m c, ?_, ?_⟩
  · exact (θ_run defs _ _).mono (fun r h c => ⟨(h c).1.trans (final m c), (h c).2⟩) (Value.run_blocks (F := Ideal) m ρ)
  · refine (θ_run Cert.DownReferenceIdeal.defs _ _).mono (fun r h c => ⟨(h c).1.trans ?_, (h c).2⟩)
      (Cert.DownReferenceIdeal.Value.run (F := Ideal) m' ρ')
    rw [(hagree c).1, (hagree c).2]
    exact dot_apply _ _

end Cert.Down

end
-- ==== Proof.lean ====
module

public import proofs.«01_k».proof.Defs
public import proofs.«01_k».proof.Proof.Ffn
public import proofs.«01_k».proof.Proof.AttnImports
public import proofs.«01_k».proof.Proof.AttnClaims
public import proofs.«01_k».proof.Proof.AttnAlg
public import proofs.«01_k».proof.Proof.Up
public import proofs.«01_k».proof.Proof.Dw
public import proofs.«01_k».proof.Proof.HybDw
public import proofs.«01_k».proof.Proof.Dx
public import proofs.«01_k».proof.Proof.Hyb
public import proofs.«01_k».proof.Proof.HybDx
public import proofs.«01_k».proof.Proof.MlaDx
public import proofs.«01_k».proof.Proof.MixDw
public import proofs.«01_k».proof.Proof.Mix
public import proofs.«01_k».proof.Proof.DownDw
public import proofs.«01_k».proof.Proof.Down

@[expose] public section

namespace Cert.Proof

theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.UpKernel.Gen.facts, Cert.UpKernelIdeal.Gen.facts, Cert.UpReferenceIdeal.Gen.facts,
    Cert.DwKernel.Gen.facts, Cert.DwKernelIdeal.Gen.facts, Cert.DwReferenceIdeal.Gen.facts,
    Cert.DownKernel.Gen.facts, Cert.DownKernelIdeal.Gen.facts, Cert.DownReferenceIdeal.Gen.facts,
    Cert.DownDwKernel.Gen.facts, Cert.DownDwKernelIdeal.Gen.facts, Cert.DownDwReferenceIdeal.Gen.facts,
    Cert.MixKernel.Gen.facts, Cert.MixKernelIdeal.Gen.facts, Cert.MixReferenceIdeal.Gen.facts,
    Cert.MixDwKernel.Gen.facts, Cert.MixDwKernelIdeal.Gen.facts, Cert.MixDwReferenceIdeal.Gen.facts,
    Cert.MlaDxKernel.Gen.facts, Cert.MlaDxKernelIdeal.Gen.facts, Cert.MlaDxReferenceIdeal.Gen.facts,
    Cert.HybDxKernel.Gen.facts, Cert.HybDxKernelIdeal.Gen.facts, Cert.HybDxReferenceIdeal.Gen.facts,
    Cert.HybKernel.Gen.facts, Cert.HybKernelIdeal.Gen.facts, Cert.HybReferenceIdeal.Gen.facts,
    Cert.HybDwKernel.Gen.facts, Cert.HybDwKernelIdeal.Gen.facts, Cert.HybDwReferenceIdeal.Gen.facts,
    Cert.DxKernel.Gen.facts, Cert.DxKernelIdeal.Gen.facts, Cert.DxReferenceIdeal.Gen.facts,
    Cert.Pre_finite.Gen.facts, Cert.Pre_ffn_finite.Gen.facts, Cert.Pre_dx_finite.Gen.facts,
    Cert.Attn.frame_p, Cert.Attn.frame_pi, Cert.Attn.frame_pi', Cert.Attn.frame_ri, Cert.Attn.frame_ri',
    Cert.Ffn.frame_p, Cert.Ffn.frame_pi, Cert.Ffn.frame_pi', Cert.Ffn.frame_ri, Cert.Ffn.frame_ri',
    Cert.Up.frame_p, Cert.Up.frame_pi, Cert.Up.frame_ri, Cert.Dw.frame_p, Cert.Dw.frame_pi, Cert.Dw.frame_ri,
    Cert.Down.frame_p, Cert.Down.frame_pi, Cert.Down.frame_ri,
    Cert.DownDw.frame_p, Cert.DownDw.frame_pi, Cert.DownDw.frame_ri,
    Cert.Mix.frame_p, Cert.Mix.frame_pi, Cert.Mix.frame_ri,
    Cert.MixDw.frame_p, Cert.MixDw.frame_pi, Cert.MixDw.frame_ri,
    Cert.MlaDx.frame_p, Cert.MlaDx.frame_pi, Cert.MlaDx.frame_ri,
    Cert.HybDx.frame_p, Cert.HybDx.frame_pi, Cert.HybDx.frame_ri,
    Cert.Hyb.frame_p, Cert.Hyb.frame_pi, Cert.Hyb.frame_ri,
    Cert.HybDw.frame_p, Cert.HybDw.frame_pi, Cert.HybDw.frame_ri,
    Cert.Dx.frame_p, Cert.Dx.frame_pi, Cert.Dx.frame_pi', Cert.Dx.frame_ri, Cert.Dx.frame_ri',
    Cert.Attn.preserves, Cert.AttnAlg.algebraic, Cert.Ffn.preserves, Cert.Ffn.algebraic,
    Cert.Up.preserves, Cert.Up.algebraic, Cert.Dw.preserves, Cert.Dw.algebraic,
    Cert.Down.preserves, Cert.Down.algebraic,
    Cert.DownDw.preserves, Cert.DownDw.algebraic,
    Cert.Mix.preserves, Cert.Mix.algebraic,
    Cert.MixDw.preserves, Cert.MixDw.algebraic,
    Cert.MlaDx.preserves, Cert.MlaDx.algebraic,
    Cert.HybDx.preserves, Cert.HybDx.algebraic,
    Cert.Hyb.preserves, Cert.Hyb.algebraic,
    Cert.HybDw.preserves, Cert.HybDw.algebraic,
    Cert.Dx.preserves, Cert.Dx.algebraic⟩

end Cert.Proof

end
